-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_features [hPre_features : Cert.Pre_features.Facts] (m : (ℓ : Loc Cert.KernelIdeal.nD Cert.KernelIdeal.τ Cert.KernelIdeal.sig) → Buf (Elt Ideal) ℓ) : Prop :=
  ∀ c : Dev Cert.KernelIdeal.nD,
    (Cert.Pre_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_features [hPre_features : Cert.Pre_features.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_features [hKernelIdeal : Cert.KernelIdeal.Facts] [hPre_features : Cert.Pre_features.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_features m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_features [hReferenceIdeal : Cert.ReferenceIdeal.Facts] [hPre_features : Cert.Pre_features.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_features m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.truncf_extf.Statement Cert.KernelIdeal.S192x128 .f32 .bf16
  ∧ IdealRules.truncf_extf.Statement Cert.KernelIdeal.S4x192 .f32 .bf16
  ∧ IdealRules.bf16_pair.Statement Cert.KernelIdeal.S1x128x2x128 Cert.KernelIdeal.S1x128x1x128
  ∧ IdealRules.bf16_pair.HalfStatement Cert.KernelIdeal.S128x128
  ∧ IdealRules.truncf_extf.Statement Cert.KernelIdeal.S64x128 .f32 .bf16
  ∧ IdealRules.bf16_pair.PackStatement Cert.KernelIdeal.S128x128

def algebraic_KernelIdeal_ReferenceIdeal_pre_features [hKernelIdeal : Cert.KernelIdeal.Facts] [hReferenceIdeal : Cert.ReferenceIdeal.Facts] [hPre_features : Cert.Pre_features.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_features m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_features : Cert.Pre_features.Facts),
    quiescent_Kernel (hKernel := hKernel)
    ∧ quiescent_KernelIdeal (hKernelIdeal := hKernelIdeal)
    ∧ quiescent_KernelIdeal_pre_features (hKernelIdeal := hKernelIdeal) (hPre_features := hPre_features)
    ∧ quiescent_ReferenceIdeal (hReferenceIdeal := hReferenceIdeal)
    ∧ quiescent_ReferenceIdeal_pre_features (hReferenceIdeal := hReferenceIdeal) (hPre_features := hPre_features)
    ∧ preserves_Kernel_KernelIdeal
    ∧ algebraic_KernelIdeal_ReferenceIdeal_pre_features (hKernelIdeal := hKernelIdeal) (hReferenceIdeal := hReferenceIdeal) (hPre_features := hPre_features)
-- ==== Pre_features.lean ====
abbrev S3x4608x56x192 : Shape := ⟨4, ![3, 4608, 56, 192]⟩
abbrev S3x4608x56x128 : Shape := ⟨4, ![3, 4608, 56, 128]⟩
abbrev S3x56x192x128 : Shape := ⟨4, ![3, 56, 192, 128]⟩
abbrev S3x56x192 : Shape := ⟨3, ![3, 56, 192]⟩
abbrev S_ : Shape := ⟨0, ![]⟩

class Facts : Prop where
  bcast_S_S3x4608x56x192 : S_.BroadcastsInDim S3x4608x56x192 (![] : Fin 0 → Fin S3x4608x56x192.rank)
  bcast_S_S3x4608x56x128 : S_.BroadcastsInDim S3x4608x56x128 (![] : Fin 0 → Fin S3x4608x56x128.rank)
  bcast_S_S3x56x192x128 : S_.BroadcastsInDim S3x56x192x128 (![] : Fin 0 → Fin S3x56x192x128.rank)
  bcast_S_S3x56x192 : S_.BroadcastsInDim S3x56x192 (![] : Fin 0 → Fin S3x56x192.rank)

variable [Facts]

def fn_part1 {F : FTy → Type} [FloatOps F] (main_arg4 : FVec F S3x56x192 .f32) (main_v5 : IVec S3x4608x56x192 1) (main_v11 : IVec S3x4608x56x192 1) (main_v14 : IVec S3x4608x56x128 1) (main_v17 : IVec S3x56x192x128 1) : IVec S3x4608x56x192 1 × IVec S3x4608x56x192 1 × IVec S3x4608x56x128 1 × IVec S3x56x192x128 1 × IVec S3x56x192 1 :=
  let main_cst_5 : FVec F S_ .f32 := constant S_ .f32 0x00000000#32
  let main_v18 : FVec F S3x56x192 .f32 := broadcastInDim S3x56x192 ![] bcast_S_S3x56x192 main_cst_5
  let main_v19 : IVec S3x56x192 1 := cmpf .oge main_arg4 main_v18
  let main_v20 : FVec F S3x56x192 .f32 := Host.absf main_arg4
  let main_cst_6 : FVec F S_ .f32 := constant S_ .f32 0x7F800000#32
  let main_v21 : FVec F S3x56x192 .f32 := broadcastInDim S3x56x192 ![] bcast_S_S3x56x192 main_cst_6
  let main_v22 : IVec S3x56x192 1 := cmpf .olt main_v20 main_v21
  let main_v23 : IVec S3x56x192 1 := andi main_v19 main_v22
  (main_v5, main_v11, main_v14, main_v17, main_v23)

def fn {F : FTy → Type} [FloatOps F] (main_arg0 : FVec F S3x4608x56x192 .bf16) (main_arg1 : FVec F S3x4608x56x192 .bf16) (main_arg2 : FVec F S3x4608x56x128 .bf16) (main_arg3 : FVec F S3x56x192x128 .f32) (main_arg4 : FVec F S3x56x192 .f32) : IVec S3x4608x56x192 1 × IVec S3x4608x56x192 1 × IVec S3x4608x56x128 1 × IVec S3x56x192x128 1 × IVec S3x56x192 1 :=
  let main_cst : FVec F S_ .bf16 := constant S_ .bf16 0x0000#16
  let main_v0 : FVec F S3x4608x56x192 .bf16 := broadcastInDim S3x4608x56x192 ![] bcast_S_S3x4608x56x192 main_cst
  let main_v1 : IVec S3x4608x56x192 1 := cmpf .ogt main_arg0 main_v0
  let main_v2 : FVec F S3x4608x56x192 .bf16 := Host.absf main_arg0
  let main_cst_0 : FVec F S_ .bf16 := constant S_ .bf16 0x7F80#16
  let main_v3 : FVec F S3x4608x56x192 .bf16 := broadcastInDim S3x4608x56x192 ![] bcast_S_S3x4608x56x192 main_cst_0
  let main_v4 : IVec S3x4608x56x192 1 := cmpf .olt main_v2 main_v3
  let main_v5 : IVec S3x4608x56x192 1 := andi main_v1 main_v4
  let main_cst_1 : FVec F S_ .bf16 := constant S_ .bf16 0x0000#16
  let main_v6 : FVec F S3x4608x56x192 .bf16 := broadcastInDim S3x4608x56x192 ![] bcast_S_S3x4608x56x192 main_cst_1
  let main_v7 : IVec S3x4608x56x192 1 := cmpf .ogt main_arg1 main_v6
  let main_v8 : FVec F S3x4608x56x192 .bf16 := Host.absf main_arg1
  let main_cst_2 : FVec F S_ .bf16 := constant S_ .bf16 0x7F80#16
  let main_v9 : FVec F S3x4608x56x192 .bf16 := broadcastInDim S3x4608x56x192 ![] bcast_S_S3x4608x56x192 main_cst_2
  let main_v10 : IVec S3x4608x56x192 1 := cmpf .olt main_v8 main_v9
  let main_v11 : IVec S3x4608x56x192 1 := andi main_v7 main_v10
  let main_v12 : FVec F S3x4608x56x128 .bf16 := Host.absf main_arg2
  let main_cst_3 : FVec F S_ .bf16 := constant S_ .bf16 0x7F80#16
  let main_v13 : FVec F S3x4608x56x128 .bf16 := broadcastInDim S3x4608x56x128 ![] bcast_S_S3x4608x56x128 main_cst_3
  let main_v14 : IVec S3x4608x56x128 1 := cmpf .olt main_v12 main_v13
  let main_v15 : FVec F S3x56x192x128 .f32 := Host.absf main_arg3
  let main_cst_4 : FVec F S_ .f32 := constant S_ .f32 0x7F800000#32
  let main_v16 : FVec F S3x56x192x128 .f32 := broadcastInDim S3x56x192x128 ![] bcast_S_S3x56x192x128 main_cst_4
  let main_v17 : IVec S3x56x192x128 1 := cmpf .olt main_v15 main_v16
  fn_part1 (F := F) main_arg4 main_v5 main_v11 main_v14 main_v17
-- ==== Kernel.lean ====
abbrev S3x4608x56x192 : Shape := ⟨4, ![3, 4608, 56, 192]⟩
abbrev S3x4608x56x128 : Shape := ⟨4, ![3, 4608, 56, 128]⟩
abbrev S3x56x192x128 : Shape := ⟨4, ![3, 56, 192, 128]⟩
abbrev S3x56x192 : Shape := ⟨3, ![3, 56, 192]⟩
abbrev S3x56x192x4608 : Shape := ⟨4, ![3, 56, 192, 4608]⟩
abbrev S1x8x192x512 : Shape := ⟨4, ![1, 8, 192, 512]⟩
abbrev S1x512x8x128 : Shape := ⟨4, ![1, 512, 8, 128]⟩
abbrev S1x8x192x128 : Shape := ⟨4, ![1, 8, 192, 128]⟩
abbrev S1x8x192 : Shape := ⟨3, ![1, 8, 192]⟩
abbrev S8x3x192x128 : Shape := ⟨4, ![8, 3, 192, 128]⟩
abbrev S2x4x192 : Shape := ⟨3, ![2, 4, 192]⟩
abbrev S2x4x2x192x128 : Shape := ⟨5, ![2, 4, 2, 192, 128]⟩
abbrev S2x4x2x128x192 : Shape := ⟨5, ![2, 4, 2, 128, 192]⟩
abbrev S2x2x2x256x128 : Shape := ⟨5, ![2, 2, 2, 256, 128]⟩
abbrev S1x4x192 : Shape := ⟨3, ![1, 4, 192]⟩
abbrev S4x192 : Shape := ⟨2, ![4, 192]⟩
abbrev S1x1x192x128 : Shape := ⟨4, ![1, 1, 192, 128]⟩
abbrev S192x128 : Shape := ⟨2, ![192, 128]⟩
abbrev S128x128 : Shape := ⟨2, ![128, 128]⟩
abbrev S64x128 : Shape := ⟨2, ![64, 128]⟩
abbrev S16x256 : Shape := ⟨2, ![16, 256]⟩
abbrev S1x4x2x192x128 : Shape := ⟨5, ![1, 4, 2, 192, 128]⟩
abbrev S4x2x192x128 : Shape := ⟨4, ![4, 2, 192, 128]⟩
abbrev S1x1x1x192x128 : Shape := ⟨5, ![1, 1, 1, 192, 128]⟩
abbrev S128x192 : Shape := ⟨2, ![128, 192]⟩
abbrev S1x4x2x128x192 : Shape := ⟨5, ![1, 4, 2, 128, 192]⟩
abbrev S4x2x128x192 : Shape := ⟨4, ![4, 2, 128, 192]⟩
abbrev S1x1x128x192 : Shape := ⟨4, ![1, 1, 128, 192]⟩
abbrev S1x1x1x128x192 : Shape := ⟨5, ![1, 1, 1, 128, 192]⟩
abbrev S16x192 : Shape := ⟨2, ![16, 192]⟩
abbrev S1x256x8x128 : Shape := ⟨4, ![1, 256, 8, 128]⟩
abbrev S256x8x128 : Shape := ⟨3, ![256, 8, 128]⟩
abbrev S256x4x128 : Shape := ⟨3, ![256, 4, 128]⟩
abbrev S1024x128 : Shape := ⟨2, ![1024, 128]⟩
abbrev S1x128x2x128 : Shape := ⟨4, ![1, 128, 2, 128]⟩
abbrev S1x128x1x128 : Shape := ⟨4, ![1, 128, 1, 128]⟩
abbrev S1x2x2x256x128 : Shape := ⟨5, ![1, 2, 2, 256, 128]⟩
abbrev S2x2x256x128 : Shape := ⟨4, ![2, 2, 256, 128]⟩
abbrev S1x1x128x128 : Shape := ⟨4, ![1, 1, 128, 128]⟩
abbrev S1x1x1x128x128 : Shape := ⟨5, ![1, 1, 1, 128, 128]⟩
abbrev S192x256 : Shape := ⟨2, ![192, 256]⟩
abbrev S1x3x192x128 : Shape := ⟨4, ![1, 3, 192, 128]⟩
abbrev S3x192x128 : Shape := ⟨3, ![3, 192, 128]⟩
abbrev S1x192x128 : Shape := ⟨3, ![1, 192, 128]⟩
abbrev S128x256 : Shape := ⟨2, ![128, 256]⟩
abbrev S256x128 : Shape := ⟨2, ![256, 128]⟩
abbrev S16x128 : Shape := ⟨2, ![16, 128]⟩
abbrev S1x128 : Shape := ⟨2, ![1, 128]⟩
abbrev S128 : Shape := ⟨1, ![128]⟩
abbrev S128x1 : Shape := ⟨2, ![128, 1]⟩
abbrev S1x1x256x128 : Shape := ⟨4, ![1, 1, 256, 128]⟩
abbrev S256x256 : Shape := ⟨2, ![256, 256]⟩

abbrev nBuf : Space → Nat
  | .hbm => 10
  | .vmem => 22
  | .smem => 0
  | _ => 0

abbrev bufTy : (tb : Table) → Fin (tcTables nBuf tb) → BufTy
  | .hbm, ⟨0, _⟩ => ⟨S3x4608x56x192, .bf16⟩
  | .hbm, ⟨1, _⟩ => ⟨S3x4608x56x192, .bf16⟩
  | .hbm, ⟨2, _⟩ => ⟨S3x4608x56x128, .bf16⟩
  | .hbm, ⟨3, _⟩ => ⟨S3x56x192x128, .f32⟩
  | .hbm, ⟨4, _⟩ => ⟨S3x56x192, .f32⟩
  | .hbm, ⟨5, _⟩ => ⟨S3x56x192x4608, .bf16⟩
  | .hbm, ⟨6, _⟩ => ⟨S3x56x192x4608, .bf16⟩
  | .hbm, ⟨7, _⟩ => ⟨S3x4608x56x128, .bf16⟩
  | .hbm, ⟨8, _⟩ => ⟨S3x56x192x128, .f32⟩
  | .hbm, ⟨9, _⟩ => ⟨S3x56x192, .f32⟩
  | .local _ .vmem, ⟨0, _⟩ => ⟨S1x8x192x512, .bf16⟩
  | .local _ .vmem, ⟨1, _⟩ => ⟨S1x8x192x512, .bf16⟩
  | .local _ .vmem, ⟨2, _⟩ => ⟨S1x8x192x512, .bf16⟩
  | .local _ .vmem, ⟨3, _⟩ => ⟨S1x8x192x512, .bf16⟩
  | .local _ .vmem, ⟨4, _⟩ => ⟨S1x512x8x128, .bf16⟩
  | .local _ .vmem, ⟨5, _⟩ => ⟨S1x512x8x128, .bf16⟩
  | .local _ .vmem, ⟨6, _⟩ => ⟨S1x8x192x128, .f32⟩
  | .local _ .vmem, ⟨7, _⟩ => ⟨S1x8x192x128, .f32⟩
  | .local _ .vmem, ⟨8, _⟩ => ⟨S1x8x192, .f32⟩
  | .local _ .vmem, ⟨9, _⟩ => ⟨S1x8x192, .f32⟩
  | .local _ .vmem, ⟨10, _⟩ => ⟨S1x512x8x128, .bf16⟩
  | .local _ .vmem, ⟨11, _⟩ => ⟨S1x512x8x128, .bf16⟩
  | .local _ .vmem, ⟨12, _⟩ => ⟨S1x8x192x128, .f32⟩
  | .local _ .vmem, ⟨13, _⟩ => ⟨S1x8x192x128, .f32⟩
  | .local _ .vmem, ⟨14, _⟩ => ⟨S1x8x192, .f32⟩
  | .local _ .vmem, ⟨15, _⟩ => ⟨S1x8x192, .f32⟩
  | .local _ .vmem, ⟨16, _⟩ => ⟨S8x3x192x128, .bf16⟩
  | .local _ .vmem, ⟨17, _⟩ => ⟨S2x4x192, .f32⟩
  | .local _ .vmem, ⟨18, _⟩ => ⟨S2x4x2x192x128, .bf16⟩
  | .local _ .vmem, ⟨19, _⟩ => ⟨S2x4x2x128x192, .bf16⟩
  | .local _ .vmem, ⟨20, _⟩ => ⟨S2x4x2x192x128, .bf16⟩
  | .local _ .vmem, ⟨21, _⟩ => ⟨S2x2x2x256x128, .bf16⟩
  | _, _ => ⟨S3x4608x56x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨3, ![7, 3, 9], ![false, false, false]⟩

@[reducible] def k0_t1_loop : Scf.Loop 32 :=
  let c0_i32_1 : BitVec 32 := 0#32
  let c2_i32 : BitVec 32 := 2#32
  let v12 : BitVec 32 := Scalar.addi c0_i32_1 c2_i32
  let c1_i32 : BitVec 32 := 1#32
  ⟨c0_i32_1, v12, c1_i32⟩
def k0_mult1 (k0_t1 : Fin k0_t1_loop.trips) : BitVec 32 :=
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  v23
def k0_off1 (k0_t1 : Fin k0_t1_loop.trips) (c0_i32_12 : BitVec 32) : Fin 4 → Nat :=
  let c0_13 : Index := 0#32
  let c0_14 : Index := 0#32
  let c0_15 : Index := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let v25 : BitVec 32 := Scalar.addi v24 c0_i32_12
  let v26 : Index := Scalar.indexCast v25
  ![0, 0, 0, v26.toNat]
def k0_off2 (k0_t1 : Fin k0_t1_loop.trips) (c0_i32_19 : BitVec 32) : Fin 4 → Nat :=
  let c0_20 : Index := 0#32
  let c1_21 : Index := 1#32
  let c0_22 : Index := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let v33 : BitVec 32 := Scalar.addi v24 c0_i32_19
  let v34 : Index := Scalar.indexCast v33
  ![0, 1, 0, v34.toNat]
def k0_off3 (k0_t1 : Fin k0_t1_loop.trips) (c0_i32_151 : BitVec 32) : Fin 4 → Nat :=
  let c0_152 : Index := 0#32
  let c2 : Index := 2#32
  let c0_153 : Index := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let v121 : BitVec 32 := Scalar.addi v24 c0_i32_151
  let v122 : Index := Scalar.indexCast v121
  ![0, 2, 0, v122.toNat]
def k0_off4 (k0_t1 : Fin k0_t1_loop.trips) (c0_i32_158 : BitVec 32) : Fin 4 → Nat :=
  let c0_159 : Index := 0#32
  let c3 : Index := 3#32
  let c0_160 : Index := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let v129 : BitVec 32 := Scalar.addi v24 c0_i32_158
  let v130 : Index := Scalar.indexCast v129
  ![0, 3, 0, v130.toNat]
def k0_off5 (k0_t1 : Fin k0_t1_loop.trips) : Fin 4 → Nat :=
  let c0_i32_292 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_293 : BitVec 32 := 0#32
  let c0_i32_294 : BitVec 32 := 0#32
  ![0, v24.toNat, 0, 0]
def k0_off6 (k0_t1 : Fin k0_t1_loop.trips) : Fin 4 → Nat :=
  let c0_i32_292 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_293 : BitVec 32 := 0#32
  let c0_i32_294 : BitVec 32 := 0#32
  ![0, v24.toNat, 0, 0]
def k0_off7 (k0_t1 : Fin k0_t1_loop.trips) : Fin 4 → Nat :=
  let c0_i32_522 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_524 : BitVec 32 := 0#32
  ![0, v24.toNat, 2, 0]
def k0_off8 (k0_t1 : Fin k0_t1_loop.trips) : Fin 4 → Nat :=
  let c0_i32_760 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_761 : BitVec 32 := 0#32
  let c0_i32_762 : BitVec 32 := 0#32
  ![0, Nat.add v24.toNat 128, 0, 0]
def k0_off9 (k0_t1 : Fin k0_t1_loop.trips) : Fin 4 → Nat :=
  let c0_i32_991 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_993 : BitVec 32 := 0#32
  ![0, Nat.add v24.toNat 128, 2, 0]
def k0_off10 (k0_t1 : Fin k0_t1_loop.trips) (c0_i32_1225 : BitVec 32) : Fin 4 → Nat :=
  let c0_1226 : Index := 0#32
  let c4_1227 : Index := 4#32
  let c0_1228 : Index := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let v1339 : BitVec 32 := Scalar.addi v24 c0_i32_1225
  let v1340 : Index := Scalar.indexCast v1339
  ![0, 4, 0, v1340.toNat]
def k0_off11 (k0_t1 : Fin k0_t1_loop.trips) (c0_i32_1233 : BitVec 32) : Fin 4 → Nat :=
  let c0_1234 : Index := 0#32
  let c5 : Index := 5#32
  let c0_1235 : Index := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let v1347 : BitVec 32 := Scalar.addi v24 c0_i32_1233
  let v1348 : Index := Scalar.indexCast v1347
  ![0, 5, 0, v1348.toNat]
def k0_off12 (k0_t1 : Fin k0_t1_loop.trips) (c0_i32_1364 : BitVec 32) : Fin 4 → Nat :=
  let c0_1365 : Index := 0#32
  let c6 : Index := 6#32
  let c0_1366 : Index := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let v1435 : BitVec 32 := Scalar.addi v24 c0_i32_1364
  let v1436 : Index := Scalar.indexCast v1435
  ![0, 6, 0, v1436.toNat]
def k0_off13 (k0_t1 : Fin k0_t1_loop.trips) (c0_i32_1371 : BitVec 32) : Fin 4 → Nat :=
  let c0_1372 : Index := 0#32
  let c7 : Index := 7#32
  let c0_1373 : Index := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let v1443 : BitVec 32 := Scalar.addi v24 c0_i32_1371
  let v1444 : Index := Scalar.indexCast v1443
  ![0, 7, 0, v1444.toNat]
def k0_off14 (k0_t1 : Fin k0_t1_loop.trips) : Fin 4 → Nat :=
  let c0_i32_1506 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_1508 : BitVec 32 := 0#32
  ![0, v24.toNat, 4, 0]
def k0_off15 (k0_t1 : Fin k0_t1_loop.trips) : Fin 4 → Nat :=
  let c0_i32_1736 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_1738 : BitVec 32 := 0#32
  ![0, v24.toNat, 6, 0]
def k0_off16 (k0_t1 : Fin k0_t1_loop.trips) : Fin 4 → Nat :=
  let c0_i32_1973 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_1975 : BitVec 32 := 0#32
  ![0, Nat.add v24.toNat 128, 4, 0]
def k0_off17 (k0_t1 : Fin k0_t1_loop.trips) : Fin 4 → Nat :=
  let c0_i32_2204 : BitVec 32 := 0#32
  let c0_i32_1 : BitVec 32 := 0#32
  let c1_i32 : BitVec 32 := 1#32
  let arg17 : BitVec 32 := Scf.iv c0_i32_1 c1_i32 k0_t1
  let c256_i32 : BitVec 32 := 256#32
  let v23 : BitVec 32 := Scalar.muli arg17 c256_i32
  let v24 : BitVec 32 := v23
  let c0_i32_2206 : BitVec 32 := 0#32
  ![0, Nat.add v24.toNat 128, 6, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1x8x192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== KernelIdeal.lean ====
variable {F : FTy → Type} [FloatOps F]
-- ==== ReferenceIdeal.lean ====
abbrev S3x4608x56x192 : Shape := ⟨4, ![3, 4608, 56, 192]⟩
abbrev S3x4608x56x128 : Shape := ⟨4, ![3, 4608, 56, 128]⟩
abbrev S3x56x192x128 : Shape := ⟨4, ![3, 56, 192, 128]⟩
abbrev S3x56x192 : Shape := ⟨3, ![3, 56, 192]⟩
abbrev S4608 : Shape := ⟨1, ![4608]⟩
abbrev S4608x1 : Shape := ⟨2, ![4608, 1]⟩
abbrev S1x4608 : Shape := ⟨2, ![1, 4608]⟩
abbrev S4608x4608 : Shape := ⟨2, ![4608, 4608]⟩
abbrev S3x56x4608x4608 : Shape := ⟨4, ![3, 56, 4608, 4608]⟩
abbrev S_ : Shape := ⟨0, ![]⟩
abbrev S3x56x128x4608 : Shape := ⟨4, ![3, 56, 128, 4608]⟩
abbrev S3x56x4608 : Shape := ⟨3, ![3, 56, 4608]⟩
abbrev S3x4608x56 : Shape := ⟨3, ![3, 4608, 56]⟩
abbrev S3x4608x56x1 : Shape := ⟨4, ![3, 4608, 56, 1]⟩

abbrev nBuf : Space → Nat
  | .hbm => 40
  | .vmem => 0
  | .smem => 0
  | _ => 0

abbrev bufTy : (tb : Table) → Fin (tcTables nBuf tb) → BufTy
  | .hbm, ⟨0, _⟩ => ⟨S3x4608x56x192, .bf16⟩
  | .hbm, ⟨1, _⟩ => ⟨S3x4608x56x192, .bf16⟩
  | .hbm, ⟨2, _⟩ => ⟨S3x4608x56x128, .bf16⟩
  | .hbm, ⟨3, _⟩ => ⟨S3x56x192x128, .f32⟩
  | .hbm, ⟨4, _⟩ => ⟨S3x56x192, .f32⟩
  | .hbm, ⟨5, _⟩ => ⟨S4608, .i32⟩
  | .hbm, ⟨6, _⟩ => ⟨S4608x1, .i32⟩
  | .hbm, ⟨7, _⟩ => ⟨S1x4608, .i32⟩
  | .hbm, ⟨8, _⟩ => ⟨S4608x4608, .i32⟩
  | .hbm, ⟨9, _⟩ => ⟨S4608x4608, .i32⟩
  | .hbm, ⟨10, _⟩ => ⟨S4608x4608, .i1⟩
  | .hbm, ⟨11, _⟩ => ⟨S3x56x4608x4608, .f32⟩
  | .hbm, ⟨12, _⟩ => ⟨S_, .f32⟩
  | .hbm, ⟨13, _⟩ => ⟨S_, .f32⟩
  | .hbm, ⟨14, _⟩ => ⟨S3x56x4608x4608, .i1⟩
  | .hbm, ⟨15, _⟩ => ⟨S3x56x4608x4608, .f32⟩
  | .hbm, ⟨16, _⟩ => ⟨S3x56x4608x4608, .f32⟩
  | .hbm, ⟨17, _⟩ => ⟨S3x56x4608x4608, .bf16⟩
  | .hbm, ⟨18, _⟩ => ⟨S3x56x128x4608, .f32⟩
  | .hbm, ⟨19, _⟩ => ⟨S3x4608x56x128, .f32⟩
  | .hbm, ⟨20, _⟩ => ⟨S_, .f32⟩
  | .hbm, ⟨21, _⟩ => ⟨S3x56x4608, .f32⟩
  | .hbm, ⟨22, _⟩ => ⟨S3x4608x56, .f32⟩
  | .hbm, ⟨23, _⟩ => ⟨S3x4608x56x192, .f32⟩
  | .hbm, ⟨24, _⟩ => ⟨S3x56x128x4608, .f32⟩
  | .hbm, ⟨25, _⟩ => ⟨S3x4608x56x128, .f32⟩
  | .hbm, ⟨26, _⟩ => ⟨S3x56x4608, .f32⟩
  | .hbm, ⟨27, _⟩ => ⟨S3x4608x56, .f32⟩
  | .hbm, ⟨28, _⟩ => ⟨S3x4608x56x128, .f32⟩
  | .hbm, ⟨29, _⟩ => ⟨S3x4608x56, .f32⟩
  | .hbm, ⟨30, _⟩ => ⟨S3x4608x56x1, .f32⟩
  | .hbm, ⟨31, _⟩ => ⟨S3x4608x56x128, .f32⟩
  | .hbm, ⟨32, _⟩ => ⟨S3x4608x56x128, .f32⟩
  | .hbm, ⟨33, _⟩ => ⟨S3x4608x56x128, .bf16⟩
  | .hbm, ⟨34, _⟩ => ⟨S3x56x192x128, .f32⟩
  | .hbm, ⟨35, _⟩ => ⟨S3x4608x56x192, .f32⟩
  | .hbm, ⟨36, _⟩ => ⟨S_, .f32⟩
  | .hbm, ⟨37, _⟩ => ⟨S3x56x192, .f32⟩
  | .hbm, ⟨38, _⟩ => ⟨S3x56x192x128, .f32⟩
  | .hbm, ⟨39, _⟩ => ⟨S3x56x192, .f32⟩
  | _, _ => ⟨S3x4608x56x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.SafeKernel.lean ====
/-
  The memory-safety run of `Kernel`: one trip of the token loop and the whole body are run symbolically, every buffer
  held at some contents before and after, and the launch theorem of the pipeline library turns that into a run of `main`
  in which the arguments end as they began and every semaphore counter ends at zero. Nothing is said here of what the
  results hold.
-/
module

public import proofs.«01_k».proof.Proof.Gen.Kernel.Frame
public import proofs.«01_k».proof.Proof.Gen.Kernel.Loops

@[expose] public section

set_option maxRecDepth 16384

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

/-- A whole buffer held at some contents. -/
abbrev Held {s : Shape} {e : EltTy} (a : Memref sig .tc .vmem s e) (c : Dev nD) : sProp 𝕄 :=
  iprop(∃ f : Buf (Elt F) (a.view.loc (c : Thread nD τ)), a.view.loc (c : Thread nD τ) ↦[a.view.set]{fullShare} f)

section Body

variable (c : Dev nD) (i : grid0.Coords)
  (arg3 : Memref sig .tc .vmem S1x8x192x512 .bf16) (harg3 : arg3.IsWhole)
  (arg4 : Memref sig .tc .vmem S1x8x192x512 .bf16) (harg4 : arg4.IsWhole)
  (arg5 : Memref sig .tc .vmem S1x512x8x128 .bf16) (harg5 : arg5.IsWhole)
  (arg6 : Memref sig .tc .vmem S1x8x192x128 .f32) (harg6 : arg6.IsWhole)
  (arg7 : Memref sig .tc .vmem S1x8x192 .f32) (harg7 : arg7.IsWhole)
  (arg8 : Memref sig .tc .vmem S1x512x8x128 .bf16) (harg8 : arg8.IsWhole)
  (arg9 : Memref sig .tc .vmem S1x8x192x128 .f32) (harg9 : arg9.IsWhole)
  (arg10 : Memref sig .tc .vmem S1x8x192 .f32) (harg10 : arg10.IsWhole)
  (arg11 : Memref sig .tc .vmem S8x3x192x128 .bf16) (harg11 : arg11.IsWhole)
  (arg12 : Memref sig .tc .vmem S2x4x192 .f32) (harg12 : arg12.IsWhole)
  (arg13 : Memref sig .tc .vmem S2x4x2x192x128 .bf16) (harg13 : arg13.IsWhole)
  (arg14 : Memref sig .tc .vmem S2x4x2x128x192 .bf16) (harg14 : arg14.IsWhole)
  (arg15 : Memref sig .tc .vmem S2x4x2x192x128 .bf16) (harg15 : arg15.IsWhole)
  (arg16 : Memref sig .tc .vmem S2x2x2x256x128 .bf16) (harg16 : arg16.IsWhole)

set_option warn.classDefReducibility false in
set_option maxHeartbeats 2000000 in
/-- One trip of the token loop needs the three operand blocks, the two results it writes and the six scratch buffers, and
    hands them all back. -/
@[sl_loop] def loopInv (v10 v11 : IVec S16x256 32) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 v10 v11 where
  inv _ _ := iprop(Held (F := F) arg3 c ∗ Held (F := F) arg4 c ∗ Held (F := F) arg5 c ∗ Held (F := F) arg8 c ∗ Held (F := F) arg9 c ∗ Held (F := F) arg11 c ∗ Held (F := F) arg12 c ∗ Held (F := F) arg13 c ∗ Held (F := F) arg14 c ∗ Held (F := F) arg15 c ∗ Held (F := F) arg16 c)
  step k acc := by
    iintro ⟨⟨%f3, H3⟩, ⟨%f4, H4⟩, ⟨%f5, H5⟩, ⟨%f8, H8⟩, ⟨%f9, H9⟩, ⟨%f11, H11⟩, ⟨%f12, H12⟩, ⟨%f13, H13⟩, ⟨%f14, H14⟩, ⟨%f15, H15⟩, ⟨%f16, H16⟩⟩
    unfold k0_t1_body
    sl_exec_parts
    sl_step
    isplitl [H3]; · iexists _; iexact H3
    isplitl [H4]; · iexists _; iexact H4
    isplitl [H5]; · iexists _; iexact H5
    isplitl [H8]; · iexists _; iexact H8
    isplitl [H9]; · iexists _; iexact H9
    isplitl [H11]; · iexists _; iexact H11
    isplitl [H12]; · iexists _; iexact H12
    isplitl [H13]; · iexists _; iexact H13
    isplitl [H14]; · iexists _; iexact H14
    isplitl [H15]; · iexists _; iexact H15
    iexists _; iexact H16

set_option maxHeartbeats 2000000 in
/-- The body, from every buffer held at some contents, hands every buffer back. -/
theorem body_held (K : PUnit → sProp 𝕄) :
    iprop((Held (F := F) arg3 c ∗ Held (F := F) arg4 c ∗ Held (F := F) arg5 c ∗ Held (F := F) arg6 c ∗ Held (F := F) arg7 c ∗ Held (F := F) arg8 c ∗ Held (F := F) arg9 c ∗ Held (F := F) arg10 c ∗ Held (F := F) arg11 c ∗ Held (F := F) arg12 c ∗ Held (F := F) arg13 c ∗ Held (F := F) arg14 c ∗ Held (F := F) arg15 c ∗ Held (F := F) arg16 c) ∗ ((Held (F := F) arg3 c ∗ Held (F := F) arg4 c ∗ Held (F := F) arg5 c ∗ Held (F := F) arg6 c ∗ Held (F := F) arg7 c ∗ Held (F := F) arg8 c ∗ Held (F := F) arg9 c ∗ Held (F := F) arg10 c ∗ Held (F := F) arg11 c ∗ Held (F := F) arg12 c ∗ Held (F := F) arg13 c ∗ Held (F := F) arg14 c ∗ Held (F := F) arg15 c ∗ Held (F := F) arg16 c) -∗ K ⟨⟩))
      ⊢ wp frame (wpE (defs₀ (F := F)) Variants.none (c : Thread nD τ) none) Set.univ (cc0_hedgehog (F := F) i arg3 harg3 arg4 harg4 arg5 harg5 arg6 harg6 arg7 harg7 arg8 harg8 arg9 harg9 arg10 harg10 arg11 harg11 arg12 harg12 arg13 harg13 arg14 harg14 arg15 harg15 arg16 harg16) K := by
  rw [cc0_hedgehog_eq_skeleton]
  iintro ⟨⟨⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  unfold cc0_hedgehog_skel
  by_cases hc : Scalar.cmpi .ne (Scalar.extui (Scalar.cmpi .eq (BitVec.ofNat 32 (i 2).val) 0#32) : BitVec 32) 0#32 = 1#1
  all_goals
    sl_exec_parts
    sl_step
    iapply Hk
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Body

end Cert.Kernel.Safe

end
-- ==== Proof.SafeKernelRun.lean ====
/-
  `Kernel`: the body theorem of `SafeKernel` at every grid point, and the run of `main` the launch theorem makes of it.
-/
module

public import proofs.«01_k».proof.Proof.SafeKernel

@[expose] public section

set_option maxRecDepth 16384

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

/-- A buffer owned at some contents is held at some contents. -/
theorem held_eq {s : Shape} {e : EltTy} (a : Memref sig .tc .vmem s e) (c : Dev nD) :
    Held (F := F) a c = iprop(∃ X, owns (c : Thread nD τ) a fullShare X) := by
  have h₁ : (Held (F := F) a c : sProp 𝕄) ⊢ (iprop(∃ X, owns (c : Thread nD τ) a fullShare X) : sProp 𝕄) := by
    iintro ⟨%f, H⟩; iexists (a.view.read (Elt F) f); unfold owns; iexists f; isplitr; · ipureintro; rfl
    iexact H
  have h₂ : (iprop(∃ X, owns (c : Thread nD τ) a fullShare X) : sProp 𝕄) ⊢ (Held (F := F) a c : sProp 𝕄) := by
    unfold owns; iintro ⟨%X, %f, %e, H⟩; iexists f; iexact H
  exact BI.equiv_iff.mp ⟨h₁, h₂⟩

/-- A buffer owned at some contents. -/
def Own {s : Shape} {e : EltTy} (a : Memref sig .tc .vmem s e) (c : Dev nD) : sProp 𝕄 := iprop(∃ X, owns (c : Thread nD τ) a fullShare X)

/-- `body_held` with every buffer owned through its memref. -/
theorem body_own (c : Dev nD) (i : grid0.Coords)
    (arg3 : Memref sig .tc .vmem S1x8x192x512 .bf16) (harg3 : arg3.IsWhole)
    (arg4 : Memref sig .tc .vmem S1x8x192x512 .bf16) (harg4 : arg4.IsWhole)
    (arg5 : Memref sig .tc .vmem S1x512x8x128 .bf16) (harg5 : arg5.IsWhole)
    (arg6 : Memref sig .tc .vmem S1x8x192x128 .f32) (harg6 : arg6.IsWhole)
    (arg7 : Memref sig .tc .vmem S1x8x192 .f32) (harg7 : arg7.IsWhole)
    (arg8 : Memref sig .tc .vmem S1x512x8x128 .bf16) (harg8 : arg8.IsWhole)
    (arg9 : Memref sig .tc .vmem S1x8x192x128 .f32) (harg9 : arg9.IsWhole)
    (arg10 : Memref sig .tc .vmem S1x8x192 .f32) (harg10 : arg10.IsWhole)
    (arg11 : Memref sig .tc .vmem S8x3x192x128 .bf16) (harg11 : arg11.IsWhole)
    (arg12 : Memref sig .tc .vmem S2x4x192 .f32) (harg12 : arg12.IsWhole)
    (arg13 : Memref sig .tc .vmem S2x4x2x192x128 .bf16) (harg13 : arg13.IsWhole)
    (arg14 : Memref sig .tc .vmem S2x4x2x128x192 .bf16) (harg14 : arg14.IsWhole)
    (arg15 : Memref sig .tc .vmem S2x4x2x192x128 .bf16) (harg15 : arg15.IsWhole)
    (arg16 : Memref sig .tc .vmem S2x2x2x256x128 .bf16) (harg16 : arg16.IsWhole)
    (K : PUnit → sProp 𝕄) :
    iprop((Own (F := F) arg3 c ∗ Own (F := F) arg4 c ∗ Own (F := F) arg5 c ∗ Own (F := F) arg6 c ∗ Own (F := F) arg7 c ∗ Own (F := F) arg8 c ∗ Own (F := F) arg9 c ∗ Own (F := F) arg10 c ∗ Own (F := F) arg11 c ∗ Own (F := F) arg12 c ∗ Own (F := F) arg13 c ∗ Own (F := F) arg14 c ∗ Own (F := F) arg15 c ∗ Own (F := F) arg16 c) ∗ ((Own (F := F) arg3 c ∗ Own (F := F) arg4 c ∗ Own (F := F) arg5 c ∗ Own (F := F) arg6 c ∗ Own (F := F) arg7 c ∗ Own (F := F) arg8 c ∗ Own (F := F) arg9 c ∗ Own (F := F) arg10 c ∗ Own (F := F) arg11 c ∗ Own (F := F) arg12 c ∗ Own (F := F) arg13 c ∗ Own (F := F) arg14 c ∗ Own (F := F) arg15 c ∗ Own (F := F) arg16 c) -∗ K ⟨⟩))
      ⊢ wp frame (wpE (defs₀ (F := F)) Variants.none (c : Thread nD τ) none) Set.univ (cc0_hedgehog (F := F) i arg3 harg3 arg4 harg4 arg5 harg5 arg6 harg6 arg7 harg7 arg8 harg8 arg9 harg9 arg10 harg10 arg11 harg11 arg12 harg12 arg13 harg13 arg14 harg14 arg15 harg15 arg16 harg16) K := by
  have h := body_held (F := F) c i arg3 harg3 arg4 harg4 arg5 harg5 arg6 harg6 arg7 harg7 arg8 harg8 arg9 harg9 arg10 harg10 arg11 harg11 arg12 harg12 arg13 harg13 arg14 harg14 arg15 harg15 arg16 harg16 K
  simp only [held_eq] at h
  exact h

variable (m : (ℓ : Loc nD τ sig) → Buf (Elt F) ℓ) (ρ : Dev nD → PrngReg)

/-- Relational proof data that constrains nothing of what the body leaves. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- A whole scratch buffer at some contents is its points-to at some contents. -/
theorem scratch_eq (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole]

/-- The configuration's row at a point is the body at that point. -/
theorem defs₀_row (t : Fin cfg0.N) : defs₀ (F := F) .tc cfg0.body (cfg0.bodyArgs t (cfg0.slots t)) = bodyAt0 t := by
  unfold defs₀; rw [Defs.onTc_tc]

set_option backward.isDefEq.respectTransparency.types false in
set_option maxHeartbeats 2000000 in
theorem body_obligation (c : Dev nD) : (rdats (F := F) m c).BodyObligation defs₀ Variants.none () Set.univ := fun t Y _ => by
  rw [bigSep_W0, bigSep_W0, defs₀_row]
  rw [show (rdats (F := F) m c).Φ t.castSucc = Pipeline.ΦA spec0 c from rfl, show (rdats (F := F) m c).Φ t.succ = Pipeline.ΦA spec0 c from rfl,
    show (rdats (F := F) m c).owesAt () t.succ = (rdats (F := F) m c).owesAt () t.castSucc from rfl]
  unfold Pipeline.ΦA
  rw [scopedRest0_eq]
  rw [scratch_eq c cc0_scratch0, scratch_eq c cc0_scratch1, scratch_eq c cc0_scratch2, scratch_eq c cc0_scratch3,
    scratch_eq c cc0_scratch4, scratch_eq c cc0_scratch5]
  iintro ⟨⟨⟨S0, S1, S2, S3, S4, S5⟩, HP⟩, HO, WW⟩
  icases WW with ⟨W0, W1, W2, W3, W4, W5, W6, W7⟩
  unfold bodyAt0
  iapply (body_own c (grid0.coords t) _ _ _ _ _ _ _ _ _ _ _ _ _ _ _ _ _ _ _ _ _ _ _ _ _ _ _ _ _)
  isplitl [W0 W1 W2 W3 W4 W5 W6 W7 S0 S1 S2 S3 S4 S5]
  · isplitl [W0]; · unfold Own; iexists _; iexact W0
    isplitl [W1]; · unfold Own; iexists _; iexact W1
    isplitl [W2]; · unfold Own; iexists _; iexact W2
    isplitl [W3]; · unfold Own; iexists _; iexact W3
    isplitl [W4]; · unfold Own; iexists _; iexact W4
    isplitl [W5]; · unfold Own; iexists _; iexact W5
    isplitl [W6]; · unfold Own; iexists _; iexact W6
    isplitl [W7]; · unfold Own; iexists _; iexact W7
    isplitl [S0]; · unfold Own; iexact S0
    isplitl [S1]; · unfold Own; iexact S1
    isplitl [S2]; · unfold Own; iexact S2
    isplitl [S3]; · unfold Own; iexact S3
    isplitl [S4]; · unfold Own; iexact S4
    unfold Own; iexact S5
  unfold Own
  iintro ⟨⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  isplitl [H11 H12 H13 H14 H15 H16 HP]
  · isplitl [H11 H12 H13 H14 H15 H16]
    · isplitl [H11]; · iexists f11; iexact H11
      isplitl [H12]; · iexists f12; iexact H12
      isplitl [H13]; · iexists f13; iexact H13
      isplitl [H14]; · iexists f14; iexact H14
      isplitl [H15]; · iexists f15; iexact H15
      iexists f16; iexact H16
    · iexact HP
  isplitl [HO]; · iexact HO
  isplitl [H3]
  · iexists f3
    isplitl []
    · ipureintro; trivial
    iexact H3
  isplitl [H4]
  · iexists f4
    isplitl []
    · ipureintro; trivial
    iexact H4
  isplitl [H5]
  · iexists f5
    isplitl []
    · ipureintro; trivial
    iexact H5
  isplitl [H6]
  · iexists f6
    isplitl []
    · ipureintro; trivial
    iexact H6
  isplitl [H7]
  · iexists f7
    isplitl []
    · ipureintro; trivial
    iexact H7
  isplitl [H8]
  · iexists f8
    isplitl []
    · ipureintro; trivial
    iexact H8
  isplitl [H9]
  · iexists f9
    isplitl []
    · ipureintro; trivial
    iexact H9
  iexists f10
  isplitl []
  · ipureintro; trivial
  iexact H10
set_option backward.isDefEq.respectTransparency.types false in
theorem run_main :
    θ_run defs (onTc (τ := τ) (main (F := F))) (s₀ m ρ)
      (fun r => RDat.FramePost (cfgs 0) (fun c => rdats m c) (V m) r ∧ r.2.sem = fun _ => 0) :=
  RDat.θ_run_frame (Q' := _) cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- `main` terminates without a fault, its arguments end as they began and every semaphore counter reads zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r ⟨h, hs⟩ => ⟨fun c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (RDat.FramePost.arr_in h c 2 rfl).trans (V_main_arg2 m c),
      (RDat.FramePost.arr_in h c 3 rfl).trans (V_main_arg3 m c),
      (RDat.FramePost.arr_in h c 4 rfl).trans (V_main_arg4 m c)⟩, hs⟩) (run_main m ρ)

end Cert.Kernel.Safe

end
-- ==== Proof.SafeKernelIdeal.lean ====
/-
  The memory-safety run of `KernelIdeal`: one trip of the token loop and the whole body are run symbolically, every buffer
  held at some contents before and after, and the launch theorem of the pipeline library turns that into a run of `main`
  in which the arguments end as they began and every semaphore counter ends at zero. Nothing is said here of what the
  results hold.
-/
module

public import proofs.«01_k».proof.Proof.Gen.KernelIdeal.Frame
public import proofs.«01_k».proof.Proof.Gen.KernelIdeal.Loops

@[expose] public section

set_option maxRecDepth 16384

noncomputable section

namespace Cert.KernelIdeal.Safe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

/-- A whole buffer held at some contents. -/
abbrev Held {s : Shape} {e : EltTy} (a : Memref sig .tc .vmem s e) (c : Dev nD) : sProp 𝕄 :=
  iprop(∃ f : Buf (Elt F) (a.view.loc (c : Thread nD τ)), a.view.loc (c : Thread nD τ) ↦[a.view.set]{fullShare} f)

section Body

variable (c : Dev nD) (i : grid0.Coords)
  (arg3 : Memref sig .tc .vmem S1x8x192x512 .bf16) (harg3 : arg3.IsWhole)
  (arg4 : Memref sig .tc .vmem S1x8x192x512 .bf16) (harg4 : arg4.IsWhole)
  (arg5 : Memref sig .tc .vmem S1x512x8x128 .bf16) (harg5 : arg5.IsWhole)
  (arg6 : Memref sig .tc .vmem S1x8x192x128 .f32) (harg6 : arg6.IsWhole)
  (arg7 : Memref sig .tc .vmem S1x8x192 .f32) (harg7 : arg7.IsWhole)
  (arg8 : Memref sig .tc .vmem S1x512x8x128 .bf16) (harg8 : arg8.IsWhole)
  (arg9 : Memref sig .tc .vmem S1x8x192x128 .f32) (harg9 : arg9.IsWhole)
  (arg10 : Memref sig .tc .vmem S1x8x192 .f32) (harg10 : arg10.IsWhole)
  (arg11 : Memref sig .tc .vmem S8x3x192x128 .bf16) (harg11 : arg11.IsWhole)
  (arg12 : Memref sig .tc .vmem S2x4x192 .f32) (harg12 : arg12.IsWhole)
  (arg13 : Memref sig .tc .vmem S2x4x2x192x128 .bf16) (harg13 : arg13.IsWhole)
  (arg14 : Memref sig .tc .vmem S2x4x2x128x192 .bf16) (harg14 : arg14.IsWhole)
  (arg15 : Memref sig .tc .vmem S2x4x2x192x128 .bf16) (harg15 : arg15.IsWhole)
  (arg16 : Memref sig .tc .vmem S2x2x2x256x128 .bf16) (harg16 : arg16.IsWhole)

set_option warn.classDefReducibility false in
set_option maxHeartbeats 2000000 in
/-- One trip of the token loop needs the three operand blocks, the two results it writes and the six scratch buffers, and
    hands them all back. -/
@[sl_loop] def loopInv (v10 v11 : IVec S16x256 32) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 v10 v11 where
  inv _ _ := iprop(Held (F := F) arg3 c ∗ Held (F := F) arg4 c ∗ Held (F := F) arg5 c ∗ Held (F := F) arg8 c ∗ Held (F := F) arg9 c ∗ Held (F := F) arg11 c ∗ Held (F := F) arg12 c ∗ Held (F := F) arg13 c ∗ Held (F := F) arg14 c ∗ Held (F := F) arg15 c ∗ Held (F := F) arg16 c)
  step k acc := by
    iintro ⟨⟨%f3, H3⟩, ⟨%f4, H4⟩, ⟨%f5, H5⟩, ⟨%f8, H8⟩, ⟨%f9, H9⟩, ⟨%f11, H11⟩, ⟨%f12, H12⟩, ⟨%f13, H13⟩, ⟨%f14, H14⟩, ⟨%f15, H15⟩, ⟨%f16, H16⟩⟩
    unfold k0_t1_body
    sl_exec_parts
    sl_step
    isplitl [H3]; · iexists _; iexact H3
    isplitl [H4]; · iexists _; iexact H4
    isplitl [H5]; · iexists _; iexact H5
    isplitl [H8]; · iexists _; iexact H8
    isplitl [H9]; · iexists _; iexact H9
    isplitl [H11]; · iexists _; iexact H11
    isplitl [H12]; · iexists _; iexact H12
    isplitl [H13]; · iexists _; iexact H13
    isplitl [H14]; · iexists _; iexact H14
    isplitl [H15]; · iexists _; iexact H15
    iexists _; iexact H16

set_option maxHeartbeats 2000000 in
/-- The body, from every buffer held at some contents, hands every buffer back. -/
theorem body_held (K : PUnit → sProp 𝕄) :
    iprop((Held (F := F) arg3 c ∗ Held (F := F) arg4 c ∗ Held (F := F) arg5 c ∗ Held (F := F) arg6 c ∗ Held (F := F) arg7 c ∗ Held (F := F) arg8 c ∗ Held (F := F) arg9 c ∗ Held (F := F) arg10 c ∗ Held (F := F) arg11 c ∗ Held (F := F) arg12 c ∗ Held (F := F) arg13 c ∗ Held (F := F) arg14 c ∗ Held (F := F) arg15 c ∗ Held (F := F) arg16 c) ∗ ((Held (F := F) arg3 c ∗ Held (F := F) arg4 c ∗ Held (F := F) arg5 c ∗ Held (F := F) arg6 c ∗ Held (F := F) arg7 c ∗ Held (F := F) arg8 c ∗ Held (F := F) arg9 c ∗ Held (F := F) arg10 c ∗ Held (F := F) arg11 c ∗ Held (F := F) arg12 c ∗ Held (F := F) arg13 c ∗ Held (F := F) arg14 c ∗ Held (F := F) arg15 c ∗ Held (F := F) arg16 c) -∗ K ⟨⟩))
      ⊢ wp frame (wpE (defs₀ (F := F)) Variants.none (c : Thread nD τ) none) Set.univ (cc0_hedgehog (F := F) i arg3 harg3 arg4 harg4 arg5 harg5 arg6 harg6 arg7 harg7 arg8 harg8 arg9 harg9 arg10 harg10 arg11 harg11 arg12 harg12 arg13 harg13 arg14 harg14 arg15 harg15 arg16 harg16) K := by
  rw [cc0_hedgehog_eq_skeleton]
  iintro ⟨⟨⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  unfold cc0_hedgehog_skel
  by_cases hc : Scalar.cmpi .ne (Scalar.extui (Scalar.cmpi .eq (BitVec.ofNat 32 (i 2).val) 0#32) : BitVec 32) 0#32 = 1#1
  all_goals
    sl_exec_parts
    sl_step
    iapply Hk
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Body

end Cert.KernelIdeal.Safe

end
-- ==== Proof.SafeKernelIdealRun.lean ====
/-
  `KernelIdeal`: the body theorem of `SafeKernelIdeal` at every grid point, and the run of `main` the launch theorem makes of it.
-/
module

public import proofs.«01_k».proof.Proof.SafeKernelIdeal

@[expose] public section

set_option maxRecDepth 16384

noncomputable section

namespace Cert.KernelIdeal.Safe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

/-- A buffer owned at some contents is held at some contents. -/
theorem held_eq {s : Shape} {e : EltTy} (a : Memref sig .tc .vmem s e) (c : Dev nD) :
    Held (F := F) a c = iprop(∃ X, owns (c : Thread nD τ) a fullShare X) := by
  have h₁ : (Held (F := F) a c : sProp 𝕄) ⊢ (iprop(∃ X, owns (c : Thread nD τ) a fullShare X) : sProp 𝕄) := by
    iintro ⟨%f, H⟩; iexists (a.view.read (Elt F) f); unfold owns; iexists f; isplitr; · ipureintro; rfl
    iexact H
  have h₂ : (iprop(∃ X, owns (c : Thread nD τ) a fullShare X) : sProp 𝕄) ⊢ (Held (F := F) a c : sProp 𝕄) := by
    unfold owns; iintro ⟨%X, %f, %e, H⟩; iexists f; iexact H
  exact BI.equiv_iff.mp ⟨h₁, h₂⟩

/-- A buffer owned at some contents. -/
def Own {s : Shape} {e : EltTy} (a : Memref sig .tc .vmem s e) (c : Dev nD) : sProp 𝕄 := iprop(∃ X, owns (c : Thread nD τ) a fullShare X)

/-- `body_held` with every buffer owned through its memref. -/
theorem body_own (c : Dev nD) (i : grid0.Coords)
    (arg3 : Memref sig .tc .vmem S1x8x192x512 .bf16) (harg3 : arg3.IsWhole)
    (arg4 : Memref sig .tc .vmem S1x8x192x512 .bf16) (harg4 : arg4.IsWhole)
    (arg5 : Memref sig .tc .vmem S1x512x8x128 .bf16) (harg5 : arg5.IsWhole)
    (arg6 : Memref sig .tc .vmem S1x8x192x128 .f32) (harg6 : arg6.IsWhole)
    (arg7 : Memref sig .tc .vmem S1x8x192 .f32) (harg7 : arg7.IsWhole)
    (arg8 : Memref sig .tc .vmem S1x512x8x128 .bf16) (harg8 : arg8.IsWhole)
    (arg9 : Memref sig .tc .vmem S1x8x192x128 .f32) (harg9 : arg9.IsWhole)
    (arg10 : Memref sig .tc .vmem S1x8x192 .f32) (harg10 : arg10.IsWhole)
    (arg11 : Memref sig .tc .vmem S8x3x192x128 .bf16) (harg11 : arg11.IsWhole)
    (arg12 : Memref sig .tc .vmem S2x4x192 .f32) (harg12 : arg12.IsWhole)
    (arg13 : Memref sig .tc .vmem S2x4x2x192x128 .bf16) (harg13 : arg13.IsWhole)
    (arg14 : Memref sig .tc .vmem S2x4x2x128x192 .bf16) (harg14 : arg14.IsWhole)
    (arg15 : Memref sig .tc .vmem S2x4x2x192x128 .bf16) (harg15 : arg15.IsWhole)
    (arg16 : Memref sig .tc .vmem S2x2x2x256x128 .bf16) (harg16 : arg16.IsWhole)
    (K : PUnit → sProp 𝕄) :
    iprop((Own (F := F) arg3 c ∗ Own (F := F) arg4 c ∗ Own (F := F) arg5 c ∗ Own (F := F) arg6 c ∗ Own (F := F) arg7 c ∗ Own (F := F) arg8 c ∗ Own (F := F) arg9 c ∗ Own (F := F) arg10 c ∗ Own (F := F) arg11 c ∗ Own (F := F) arg12 c ∗ Own (F := F) arg13 c ∗ Own (F := F) arg14 c ∗ Own (F := F) arg15 c ∗ Own (F := F) arg16 c) ∗ ((Own (F := F) arg3 c ∗ Own (F := F) arg4 c ∗ Own (F := F) arg5 c ∗ Own (F := F) arg6 c ∗ Own (F := F) arg7 c ∗ Own (F := F) arg8 c ∗ Own (F := F) arg9 c ∗ Own (F := F) arg10 c ∗ Own (F := F) arg11 c ∗ Own (F := F) arg12 c ∗ Own (F := F) arg13 c ∗ Own (F := F) arg14 c ∗ Own (F := F) arg15 c ∗ Own (F := F) arg16 c) -∗ K ⟨⟩))
      ⊢ wp frame (wpE (defs₀ (F := F)) Variants.none (c : Thread nD τ) none) Set.univ (cc0_hedgehog (F := F) i arg3 harg3 arg4 harg4 arg5 harg5 arg6 harg6 arg7 harg7 arg8 harg8 arg9 harg9 arg10 harg10 arg11 harg11 arg12 harg12 arg13 harg13 arg14 harg14 arg15 harg15 arg16 harg16) K := by
  have h := body_held (F := F) c i arg3 harg3 arg4 harg4 arg5 harg5 arg6 harg6 arg7 harg7 arg8 harg8 arg9 harg9 arg10 harg10 arg11 harg11 arg12 harg12 arg13 harg13 arg14 harg14 arg15 harg15 arg16 harg16 K
  simp only [held_eq] at h
  exact h

variable (m : (ℓ : Loc nD τ sig) → Buf (Elt F) ℓ) (ρ : Dev nD → PrngReg)

/-- Relational proof data that constrains nothing of what the body leaves. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- A whole scratch buffer at some contents is its points-to at some contents. -/
theorem scratch_eq (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole]

/-- The configuration's row at a point is the body at that point. -/
theorem defs₀_row (t : Fin cfg0.N) : defs₀ (F := F) .tc cfg0.body (cfg0.bodyArgs t (cfg0.slots t)) = bodyAt0 t := by
  unfold defs₀; rw [Defs.onTc_tc]

set_option backward.isDefEq.respectTransparency.types false in
set_option maxHeartbeats 2000000 in
theorem body_obligation (c : Dev nD) : (rdats (F := F) m c).BodyObligation defs₀ Variants.none () Set.univ := fun t Y _ => by
  rw [bigSep_W0, bigSep_W0, defs₀_row]
  rw [show (rdats (F := F) m c).Φ t.castSucc = Pipeline.ΦA spec0 c from rfl, show (rdats (F := F) m c).Φ t.succ = Pipeline.ΦA spec0 c from rfl,
    show (rdats (F := F) m c).owesAt () t.succ = (rdats (F := F) m c).owesAt () t.castSucc from rfl]
  unfold Pipeline.ΦA
  rw [scopedRest0_eq]
  rw [scratch_eq c cc0_scratch0, scratch_eq c cc0_scratch1, scratch_eq c cc0_scratch2, scratch_eq c cc0_scratch3,
    scratch_eq c cc0_scratch4, scratch_eq c cc0_scratch5]
  iintro ⟨⟨⟨S0, S1, S2, S3, S4, S5⟩, HP⟩, HO, WW⟩
  icases WW with ⟨W0, W1, W2, W3, W4, W5, W6, W7⟩
  unfold bodyAt0
  iapply (body_own c (grid0.coords t) _ _ _ _ _ _ _ _ _ _ _ _ _ _ _ _ _ _ _ _ _ _ _ _ _ _ _ _ _)
  isplitl [W0 W1 W2 W3 W4 W5 W6 W7 S0 S1 S2 S3 S4 S5]
  · isplitl [W0]; · unfold Own; iexists _; iexact W0
    isplitl [W1]; · unfold Own; iexists _; iexact W1
    isplitl [W2]; · unfold Own; iexists _; iexact W2
    isplitl [W3]; · unfold Own; iexists _; iexact W3
    isplitl [W4]; · unfold Own; iexists _; iexact W4
    isplitl [W5]; · unfold Own; iexists _; iexact W5
    isplitl [W6]; · unfold Own; iexists _; iexact W6
    isplitl [W7]; · unfold Own; iexists _; iexact W7
    isplitl [S0]; · unfold Own; iexact S0
    isplitl [S1]; · unfold Own; iexact S1
    isplitl [S2]; · unfold Own; iexact S2
    isplitl [S3]; · unfold Own; iexact S3
    isplitl [S4]; · unfold Own; iexact S4
    unfold Own; iexact S5
  unfold Own
  iintro ⟨⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  isplitl [H11 H12 H13 H14 H15 H16 HP]
  · isplitl [H11 H12 H13 H14 H15 H16]
    · isplitl [H11]; · iexists f11; iexact H11
      isplitl [H12]; · iexists f12; iexact H12
      isplitl [H13]; · iexists f13; iexact H13
      isplitl [H14]; · iexists f14; iexact H14
      isplitl [H15]; · iexists f15; iexact H15
      iexists f16; iexact H16
    · iexact HP
  isplitl [HO]; · iexact HO
  isplitl [H3]
  · iexists f3
    isplitl []
    · ipureintro; trivial
    iexact H3
  isplitl [H4]
  · iexists f4
    isplitl []
    · ipureintro; trivial
    iexact H4
  isplitl [H5]
  · iexists f5
    isplitl []
    · ipureintro; trivial
    iexact H5
  isplitl [H6]
  · iexists f6
    isplitl []
    · ipureintro; trivial
    iexact H6
  isplitl [H7]
  · iexists f7
    isplitl []
    · ipureintro; trivial
    iexact H7
  isplitl [H8]
  · iexists f8
    isplitl []
    · ipureintro; trivial
    iexact H8
  isplitl [H9]
  · iexists f9
    isplitl []
    · ipureintro; trivial
    iexact H9
  iexists f10
  isplitl []
  · ipureintro; trivial
  iexact H10
set_option backward.isDefEq.respectTransparency.types false in
theorem run_main :
    θ_run defs (onTc (τ := τ) (main (F := F))) (s₀ m ρ)
      (fun r => RDat.FramePost (cfgs 0) (fun c => rdats m c) (V m) r ∧ r.2.sem = fun _ => 0) :=
  RDat.θ_run_frame (Q' := _) cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- `main` terminates without a fault, its arguments end as they began and every semaphore counter reads zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r ⟨h, hs⟩ => ⟨fun c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (RDat.FramePost.arr_in h c 2 rfl).trans (V_main_arg2 m c),
      (RDat.FramePost.arr_in h c 3 rfl).trans (V_main_arg3 m c),
      (RDat.FramePost.arr_in h c 4 rfl).trans (V_main_arg4 m c)⟩, hs⟩) (run_main m ρ)

end Cert.KernelIdeal.Safe

end
-- ==== Proof.TripRun.lean ====
/-
  One trip of the token loop of `KernelIdeal`, run symbolically from any contents of its buffers: what each buffer holds
  afterwards is the witness the run finds, and `tripRun` pairs it with the proof of the run.
-/
module

public import proofs.«01_k».proof.Proof.Gen.KernelIdeal.Frame
public import proofs.«01_k».proof.Proof.Gen.KernelIdeal.Loops

@[expose] public section

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The contents of a memref's buffer on core `c`. -/
abbrev Bf {s : Shape} {e : EltTy} (c : Dev nD) (a : Memref sig .tc .vmem s e) : Type := Buf (Elt F) (a.view.loc (c : Thread nD τ))

/-- A memref's buffer held whole at the contents `f`. -/
abbrev H {s : Shape} {e : EltTy} (c : Dev nD) (a : Memref sig .tc .vmem s e) (f : Bf (F := F) c a) : sProp 𝕄 :=
  a.view.loc (c : Thread nD τ) ↦[a.view.set]{fullShare} f

set_option maxHeartbeats 2000000 in
/-- What one trip leaves in the buffers it writes, with the run that leaves it. -/
noncomputable def tripRun (c : Dev nD) (i : grid0.Coords)
  (arg3 : Memref sig .tc .vmem S1x8x192x512 .bf16) (harg3 : arg3.IsWhole)
  (arg4 : Memref sig .tc .vmem S1x8x192x512 .bf16) (harg4 : arg4.IsWhole)
  (arg5 : Memref sig .tc .vmem S1x512x8x128 .bf16) (harg5 : arg5.IsWhole)
  (arg6 : Memref sig .tc .vmem S1x8x192x128 .f32) (harg6 : arg6.IsWhole)
  (arg7 : Memref sig .tc .vmem S1x8x192 .f32) (harg7 : arg7.IsWhole)
  (arg8 : Memref sig .tc .vmem S1x512x8x128 .bf16) (harg8 : arg8.IsWhole)
  (arg9 : Memref sig .tc .vmem S1x8x192x128 .f32) (harg9 : arg9.IsWhole)
  (arg10 : Memref sig .tc .vmem S1x8x192 .f32) (harg10 : arg10.IsWhole)
  (arg11 : Memref sig .tc .vmem S8x3x192x128 .bf16) (harg11 : arg11.IsWhole)
  (arg12 : Memref sig .tc .vmem S2x4x192 .f32) (harg12 : arg12.IsWhole)
  (arg13 : Memref sig .tc .vmem S2x4x2x192x128 .bf16) (harg13 : arg13.IsWhole)
  (arg14 : Memref sig .tc .vmem S2x4x2x128x192 .bf16) (harg14 : arg14.IsWhole)
  (arg15 : Memref sig .tc .vmem S2x4x2x192x128 .bf16) (harg15 : arg15.IsWhole)
  (arg16 : Memref sig .tc .vmem S2x2x2x256x128 .bf16) (harg16 : arg16.IsWhole)
  (v10 v11 : IVec S16x256 32) (k : Fin k0_t1_loop.trips)
  (f3 : Bf (F := F) c arg3) (f4 : Bf (F := F) c arg4) (f5 : Bf (F := F) c arg5) (f8 : Bf (F := F) c arg8) (f9 : Bf (F := F) c arg9) (f11 : Bf (F := F) c arg11) (f12 : Bf (F := F) c arg12) (f13 : Bf (F := F) c arg13) (f14 : Bf (F := F) c arg14) (f15 : Bf (F := F) c arg15) (f16 : Bf (F := F) c arg16) :
  { W : Bf (F := F) c arg8 × Bf (F := F) c arg9 × Bf (F := F) c arg11 × Bf (F := F) c arg12 × Bf (F := F) c arg13 × Bf (F := F) c arg14 × Bf (F := F) c arg15 × Bf (F := F) c arg16 //
    iprop(H c arg3 f3 ∗ H c arg4 f4 ∗ H c arg5 f5 ∗ H c arg8 f8 ∗ H c arg9 f9 ∗ H c arg11 f11 ∗ H c arg12 f12 ∗ H c arg13 f13 ∗ H c arg14 f14 ∗ H c arg15 f15 ∗ H c arg16 f16)
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v10 v11 k ())
        (fun _ => iprop(H c arg3 f3 ∗ H c arg4 f4 ∗ H c arg5 f5 ∗ H c arg8 W.1 ∗ H c arg9 W.2.1 ∗ H c arg11 W.2.2.1 ∗ H c arg12 W.2.2.2.1 ∗ H c arg13 W.2.2.2.2.1 ∗ H c arg14 W.2.2.2.2.2.1 ∗ H c arg15 W.2.2.2.2.2.2.1 ∗ H c arg16 W.2.2.2.2.2.2.2)) } := by
  refine ⟨⟨?_, ?_, ?_, ?_, ?_, ?_, ?_, ?_⟩, ?run⟩
  case run =>
    iintro ⟨H3, H4, H5, H8, H9, H11, H12, H13, H14, H15, H16⟩
    unfold k0_t1_body
    sl_exec_parts
    sl_step
    isplitl [H3]; · iexact H3
    isplitl [H4]; · iexact H4
    isplitl [H5]; · iexact H5
    isplitl [H8]; · iexact H8
    isplitl [H9]; · iexact H9
    isplitl [H11]; · iexact H11
    isplitl [H12]; · iexact H12
    isplitl [H13]; · iexact H13
    isplitl [H14]; · iexact H14
    isplitl [H15]; · iexact H15
    iexact H16

end Cert.KernelIdeal.Trip

end
-- ==== Proof.BodyRun.lean ====
/-
  The body of `KernelIdeal` in three pieces: what it does at the first token block of a sequence, the token loop, and what
  it does after the loop. Each piece is run symbolically from any contents of its buffers.
-/
module

public import proofs.«01_k».proof.Proof.TripRun

@[expose] public section

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The row and the column number of every lane of a mask word. -/
def rowIx : IVec S16x256 32 := iota .tc S16x256 32 [0] iota_S16x256_d0_w32
def colIx : IVec S16x256 32 := iota .tc S16x256 32 [1] iota_S16x256_d1_w32

section Body

variable (c : Dev nD) (i : grid0.Coords)
  (arg3 : Memref sig .tc .vmem S1x8x192x512 .bf16) (harg3 : arg3.IsWhole)
  (arg4 : Memref sig .tc .vmem S1x8x192x512 .bf16) (harg4 : arg4.IsWhole)
  (arg5 : Memref sig .tc .vmem S1x512x8x128 .bf16) (harg5 : arg5.IsWhole)
  (arg6 : Memref sig .tc .vmem S1x8x192x128 .f32) (harg6 : arg6.IsWhole)
  (arg7 : Memref sig .tc .vmem S1x8x192 .f32) (harg7 : arg7.IsWhole)
  (arg8 : Memref sig .tc .vmem S1x512x8x128 .bf16) (harg8 : arg8.IsWhole)
  (arg9 : Memref sig .tc .vmem S1x8x192x128 .f32) (harg9 : arg9.IsWhole)
  (arg10 : Memref sig .tc .vmem S1x8x192 .f32) (harg10 : arg10.IsWhole)
  (arg11 : Memref sig .tc .vmem S8x3x192x128 .bf16) (harg11 : arg11.IsWhole)
  (arg12 : Memref sig .tc .vmem S2x4x192 .f32) (harg12 : arg12.IsWhole)
  (arg13 : Memref sig .tc .vmem S2x4x2x192x128 .bf16) (harg13 : arg13.IsWhole)
  (arg14 : Memref sig .tc .vmem S2x4x2x128x192 .bf16) (harg14 : arg14.IsWhole)
  (arg15 : Memref sig .tc .vmem S2x4x2x192x128 .bf16) (harg15 : arg15.IsWhole)
  (arg16 : Memref sig .tc .vmem S2x2x2x256x128 .bf16) (harg16 : arg16.IsWhole)

/-- The token loop and what follows it. -/
def loopTail : Prog (TpuEff nD τ sig (Elt F) Λ₀ .tc) PUnit := do
  Scf.Loop.for k0_t1_loop k0_t1_ok ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 rowIx colIx)
  let v13 : Vec F S1x4x192 .f32 ← Prog.lift (.load arg12 (Rect.unit (s := S2x4x192) ![0, 0, 0] S1x4x192.size inb_S2x4x192_S1x4x192_0_0_0).toLoadRect (View.loadsAt_vmem h_S1x4x192))
  let v15 : Vec F S1x4x192 .f32 ← Prog.lift (.load arg10 (Rect.unit (s := S1x8x192) ![0, 0, 0] S1x4x192.size inb_S1x8x192_S1x4x192_0_0_0).toLoadRect (View.loadsAt_vmem h_S1x4x192))
  Prog.lift (.store arg10 (Rect.unit (s := S1x8x192) ![0, 0, 0] S1x4x192.size inb_S1x8x192_S1x4x192_0_0_0) (k0_pay10 v13) Finset.univ (View.stores_vmem_bits_univ h_S1x4x192 rfl) (.inl rfl))
  let v18 : Vec F S1x4x192 .f32 ← Prog.lift (.load arg12 (Rect.unit (s := S2x4x192) ![1, 0, 0] S1x4x192.size inb_S2x4x192_S1x4x192_1_0_0).toLoadRect (View.loadsAt_vmem h_S1x4x192))
  let v20 : Vec F S1x4x192 .f32 ← Prog.lift (.load arg10 (Rect.unit (s := S1x8x192) ![0, 4, 0] S1x4x192.size inb_S1x8x192_S1x4x192_0_4_0).toLoadRect (View.loadsAt_vmem h_S1x4x192))
  Prog.lift (.store arg10 (Rect.unit (s := S1x8x192) ![0, 4, 0] S1x4x192.size inb_S1x8x192_S1x4x192_0_4_0) (k0_pay11 v18) Finset.univ (View.stores_vmem_bits_univ h_S1x4x192 rfl) (.inl rfl))
  pure ⟨⟩

/-- The test the body makes for the first token block. -/
abbrev isHead : Prop := Scalar.cmpi .ne (Scalar.extui (Scalar.cmpi .eq (BitVec.ofNat 32 (i 2).val) 0#32) : BitVec 32) 0#32 = 1#1

set_option maxHeartbeats 2000000 in
theorem noHead (hc : ¬ isHead i) (K : PUnit → sProp 𝕄) :
    wp frame (wpE (defs₀ (F := F)) Variants.none (c : Thread nD τ) none) Set.univ (loopTail (F := F) i arg3 harg3 arg4 harg4 arg5 harg5 arg6 harg6 arg7 harg7 arg8 harg8 arg9 harg9 arg10 harg10 arg11 harg11 arg12 harg12 arg13 harg13 arg14 harg14 arg15 harg15 arg16 harg16) K
      ⊢ wp frame (wpE (defs₀ (F := F)) Variants.none (c : Thread nD τ) none) Set.univ (cc0_hedgehog_skel (F := F) i arg3 harg3 arg4 harg4 arg5 harg5 arg6 harg6 arg7 harg7 arg8 harg8 arg9 harg9 arg10 harg10 arg11 harg11 arg12 harg12 arg13 harg13 arg14 harg14 arg15 harg15 arg16 harg16) K := by
  iintro Hk
  unfold cc0_hedgehog_skel
  sl_exec_parts
  unfold loopTail rowIx colIx
  iexact Hk

variable (f6 : Bf (F := F) c arg6) (f7 : Bf (F := F) c arg7) (f9 : Bf (F := F) c arg9) (f11 : Bf (F := F) c arg11) (f12 : Bf (F := F) c arg12) (f16 : Bf (F := F) c arg16)

set_option maxHeartbeats 2000000 in
/-- What the body leaves in the buffers it sets up at the first token block, with the run that leaves it. -/
noncomputable def headRun (hc : isHead i) :
  { W : Bf (F := F) c arg9 × Bf (F := F) c arg11 × Bf (F := F) c arg12 × Bf (F := F) c arg16 //
    ∀ K : PUnit → sProp 𝕄, iprop(H c arg6 f6 ∗ H c arg7 f7 ∗ H c arg9 f9 ∗ H c arg11 f11 ∗ H c arg12 f12 ∗ H c arg16 f16 ∗ ((H c arg6 f6 ∗ H c arg7 f7 ∗ H c arg9 W.1 ∗ H c arg11 W.2.1 ∗ H c arg12 W.2.2.1 ∗ H c arg16 W.2.2.2) -∗ wp frame (wpE (defs₀ (F := F)) Variants.none (c : Thread nD τ) none) Set.univ (loopTail (F := F) i arg3 harg3 arg4 harg4 arg5 harg5 arg6 harg6 arg7 harg7 arg8 harg8 arg9 harg9 arg10 harg10 arg11 harg11 arg12 harg12 arg13 harg13 arg14 harg14 arg15 harg15 arg16 harg16) K))
      ⊢ wp frame (wpE (defs₀ (F := F)) Variants.none (c : Thread nD τ) none) Set.univ (cc0_hedgehog_skel (F := F) i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun K => ?run⟩
  case run =>
    iintro ⟨H6, H7, H9, H11, H12, H16, Hk⟩
    unfold cc0_hedgehog_skel
    sl_exec_parts
    ihave HK := Hk $$ [H6 H7 H9 H11 H12 H16]
    · isplitl [H6]; · iexact H6
      isplitl [H7]; · iexact H7
      isplitl [H9]; · iexact H9
      isplitl [H11]; · iexact H11
      isplitl [H12]; · iexact H12
      iexact H16
    unfold loopTail rowIx colIx
    iexact HK

end Body

end Cert.KernelIdeal.Trip

end
-- ==== Proof.Geo.lean ====
/-
  Where the copies and the stores of one trip of the token loop land: a buffer written block by block, read at an index
  of one block, gives that block's payload.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit

@[expose] public section

set_option maxRecDepth 16384

noncomputable section

namespace Cert.KernelIdeal.Geo

open Cert.KernelIdeal Cert.KernelIdeal.Gen
open Idealize.ShloMosaic Idealize.ShloMosaic.TcCoe

variable {sp : Space} {e : EltTy} {Val : EltTy → Type}

/-- A load of a unit-stride rectangle whose offsets are known in closed form. -/
theorem ld_unit {sg : RefSig} {κ : Kind} {s : Shape} (v : View sg κ sp s e) (g : v.ty.Contents Val) {off off' size : Fin s.rank → ℕ}
    (inb : ∀ a, off a + size a ≤ s.size a) (x : (Rect.unit off size inb).shape.Idx) (y : s.Idx) (heq : off = off')
    (hy : ∀ a, (y a).val = off' a + (x a).val) :
    v.readAt Val (Rect.unit off size inb).toLoadRect g x = v.read Val g y := by
  subst heq
  refine congrArg (v.read Val g) (funext fun a => Fin.ext ?_)
  show off a + 1 * (x a).val = (y a).val
  rw [hy a, Nat.one_mul]

/-! ## The packed blocks S2x4x2x192x128 -/

section P13
variable (M : Memref sig .tc sp S2x4x2x192x128 e) (g : M.view.ty.Contents Val)

theorem sq13 (q a b : ℕ) (hq : q < 2) (ha : a < 4) (hb : b < 2) (hs hp hsq hr) (f : Fin 192) (i : Fin 128) :
    ((M.slice (Rect.unit ![q, 0, 0, 0, 0] S1x4x2x192x128.size hs) hp).squeeze S4x2x192x128 hsq).view.readAt Val (Rect.unit (s := S4x2x192x128) ![a, b, 0, 0] S1x1x192x128.size hr).toLoadRect g (ix4 0 0 f i)
      = M.view.read Val g (ix5 ⟨q, hq⟩ ⟨a, ha⟩ ⟨b, hb⟩ f i) := by
  rw [ld_unit _ _ _ _ (ix4 ⟨a, ha⟩ ⟨b, hb⟩ f i) rfl (fun x => by
    match x with
    | 0 => rfl
    | 1 => rfl
    | 2 => exact (Nat.zero_add _).symm
    | 3 => exact (Nat.zero_add _).symm)]
  have hc : S1x4x2x192x128.ShapeCasts S4x2x192x128 := by decide
  rw [Memref.read_squeeze_slice M _ hp hsq hc g]
  have : ∀ u : S1x4x2x192x128.Idx → Val e, shapeCast S4x2x192x128 u hc (ix4 ⟨a, ha⟩ ⟨b, hb⟩ f i) = u (ix5 0 ⟨a, ha⟩ ⟨b, hb⟩ f i) := by
    intro u
    pointwise []
  rw [this]
  exact ld_unit _ _ _ _ (ix5 ⟨q, hq⟩ ⟨a, ha⟩ ⟨b, hb⟩ f i) rfl (fun x => by
    match x with
    | 0 => rfl
    | 1 => exact (Nat.zero_add _).symm
    | 2 => exact (Nat.zero_add _).symm
    | 3 => exact (Nat.zero_add _).symm
    | 4 => exact (Nat.zero_add _).symm)

theorem hit13 (q a b : ℕ) (hq : q < 2) (ha : a < 4) (hb : b < 2) (inb w L) (f : Fin 192) (i : Fin 128) :
    M.view.read Val (M.view.writes Val g ((⟨Rect.unit ![q, a, b, 0, 0] S1x1x1x192x128.size inb, w⟩ : View.Piece Val S2x4x2x192x128 e) :: L)) (ix5 ⟨q, hq⟩ ⟨a, ha⟩ ⟨b, hb⟩ f i)
      = w (ix5 0 0 0 f i) :=
  View.read_writes_cons_unit_of_mem _ _ inb w L _ (ix5 0 0 0 f i) rfl fun x => by
    match x with
    | 0 => rfl
    | 1 => rfl
    | 2 => rfl
    | 3 => exact (Nat.zero_add _).symm
    | 4 => exact (Nat.zero_add _).symm

theorem miss13 (q a b q' a' b' : ℕ) (hq : q < 2) (ha : a < 4) (hb : b < 2) (inb w L) (f : Fin 192) (i : Fin 128) (hne : ¬ (q = q' ∧ a = a' ∧ b = b')) :
    M.view.read Val (M.view.writes Val g ((⟨Rect.unit ![q', a', b', 0, 0] S1x1x1x192x128.size inb, w⟩ : View.Piece Val S2x4x2x192x128 e) :: L)) (ix5 ⟨q, hq⟩ ⟨a, ha⟩ ⟨b, hb⟩ f i)
      = M.view.read Val (M.view.writes Val g L) (ix5 ⟨q, hq⟩ ⟨a, ha⟩ ⟨b, hb⟩ f i) := by
  by_cases h0 : q = q'
  · by_cases h1 : a = a'
    · exact View.read_writes_cons_unit_of_not_mem _ _ inb w L _ rfl 2 (by show b < b' ∨ b' + 1 ≤ b; omega)
    · exact View.read_writes_cons_unit_of_not_mem _ _ inb w L _ rfl 1 (by show a < a' ∨ a' + 1 ≤ a; omega)
  · exact View.read_writes_cons_unit_of_not_mem _ _ inb w L _ rfl 0 (by show q < q' ∨ q' + 1 ≤ q; omega)
end P13

/-! ## The packed blocks S2x4x2x128x192 -/

section P14
variable (M : Memref sig .tc sp S2x4x2x128x192 e) (g : M.view.ty.Contents Val)

theorem sq14 (q a b : ℕ) (hq : q < 2) (ha : a < 4) (hb : b < 2) (hs hp hsq hr) (f : Fin 128) (i : Fin 192) :
    ((M.slice (Rect.unit ![q, 0, 0, 0, 0] S1x4x2x128x192.size hs) hp).squeeze S4x2x128x192 hsq).view.readAt Val (Rect.unit (s := S4x2x128x192) ![a, b, 0, 0] S1x1x128x192.size hr).toLoadRect g (ix4 0 0 f i)
      = M.view.read Val g (ix5 ⟨q, hq⟩ ⟨a, ha⟩ ⟨b, hb⟩ f i) := by
  rw [ld_unit _ _ _ _ (ix4 ⟨a, ha⟩ ⟨b, hb⟩ f i) rfl (fun x => by
    match x with
    | 0 => rfl
    | 1 => rfl
    | 2 => exact (Nat.zero_add _).symm
    | 3 => exact (Nat.zero_add _).symm)]
  have hc : S1x4x2x128x192.ShapeCasts S4x2x128x192 := by decide
  rw [Memref.read_squeeze_slice M _ hp hsq hc g]
  have : ∀ u : S1x4x2x128x192.Idx → Val e, shapeCast S4x2x128x192 u hc (ix4 ⟨a, ha⟩ ⟨b, hb⟩ f i) = u (ix5 0 ⟨a, ha⟩ ⟨b, hb⟩ f i) := by
    intro u
    pointwise []
  rw [this]
  exact ld_unit _ _ _ _ (ix5 ⟨q, hq⟩ ⟨a, ha⟩ ⟨b, hb⟩ f i) rfl (fun x => by
    match x with
    | 0 => rfl
    | 1 => exact (Nat.zero_add _).symm
    | 2 => exact (Nat.zero_add _).symm
    | 3 => exact (Nat.zero_add _).symm
    | 4 => exact (Nat.zero_add _).symm)

theorem hit14 (q a b : ℕ) (hq : q < 2) (ha : a < 4) (hb : b < 2) (inb w L) (f : Fin 128) (i : Fin 192) :
    M.view.read Val (M.view.writes Val g ((⟨Rect.unit ![q, a, b, 0, 0] S1x1x1x128x192.size inb, w⟩ : View.Piece Val S2x4x2x128x192 e) :: L)) (ix5 ⟨q, hq⟩ ⟨a, ha⟩ ⟨b, hb⟩ f i)
      = w (ix5 0 0 0 f i) :=
  View.read_writes_cons_unit_of_mem _ _ inb w L _ (ix5 0 0 0 f i) rfl fun x => by
    match x with
    | 0 => rfl
    | 1 => rfl
    | 2 => rfl
    | 3 => exact (Nat.zero_add _).symm
    | 4 => exact (Nat.zero_add _).symm

theorem miss14 (q a b q' a' b' : ℕ) (hq : q < 2) (ha : a < 4) (hb : b < 2) (inb w L) (f : Fin 128) (i : Fin 192) (hne : ¬ (q = q' ∧ a = a' ∧ b = b')) :
    M.view.read Val (M.view.writes Val g ((⟨Rect.unit ![q', a', b', 0, 0] S1x1x1x128x192.size inb, w⟩ : View.Piece Val S2x4x2x128x192 e) :: L)) (ix5 ⟨q, hq⟩ ⟨a, ha⟩ ⟨b, hb⟩ f i)
      = M.view.read Val (M.view.writes Val g L) (ix5 ⟨q, hq⟩ ⟨a, ha⟩ ⟨b, hb⟩ f i) := by
  by_cases h0 : q = q'
  · by_cases h1 : a = a'
    · exact View.read_writes_cons_unit_of_not_mem _ _ inb w L _ rfl 2 (by show b < b' ∨ b' + 1 ≤ b; omega)
    · exact View.read_writes_cons_unit_of_not_mem _ _ inb w L _ rfl 1 (by show a < a' ∨ a' + 1 ≤ a; omega)
  · exact View.read_writes_cons_unit_of_not_mem _ _ inb w L _ rfl 0 (by show q < q' ∨ q' + 1 ≤ q; omega)
end P14

/-! ## The values laid out on the block diagonal -/

section P16
variable (M : Memref sig .tc sp S2x2x2x256x128 e) (g : M.view.ty.Contents Val)

theorem sq16 (q p h : ℕ) (hq : q < 2) (hp' : p < 2) (hh : h < 2) (hs hp hsq hr) (l : Fin 256) (d : Fin 128) :
    ((M.slice (Rect.unit ![q, 0, 0, 0, 0] S1x2x2x256x128.size hs) hp).squeeze S2x2x256x128 hsq).view.readAt Val (Rect.unit (s := S2x2x256x128) ![p, h, 0, 0] S1x1x256x128.size hr).toLoadRect g (ix4 0 0 l d)
      = M.view.read Val g (ix5 ⟨q, hq⟩ ⟨p, hp'⟩ ⟨h, hh⟩ l d) := by
  rw [ld_unit _ _ _ _ (ix4 ⟨p, hp'⟩ ⟨h, hh⟩ l d) rfl (fun x => by
    match x with
    | 0 => rfl
    | 1 => rfl
    | 2 => exact (Nat.zero_add _).symm
    | 3 => exact (Nat.zero_add _).symm)]
  have hc : S1x2x2x256x128.ShapeCasts S2x2x256x128 := by decide
  rw [Memref.read_squeeze_slice M _ hp hsq hc g]
  have : ∀ u : S1x2x2x256x128.Idx → Val e, shapeCast S2x2x256x128 u hc (ix4 ⟨p, hp'⟩ ⟨h, hh⟩ l d) = u (ix5 0 ⟨p, hp'⟩ ⟨h, hh⟩ l d) := by
    intro u
    pointwise []
  rw [this]
  exact ld_unit _ _ _ _ (ix5 ⟨q, hq⟩ ⟨p, hp'⟩ ⟨h, hh⟩ l d) rfl (fun x => by
    match x with
    | 0 => rfl
    | 1 => exact (Nat.zero_add _).symm
    | 2 => exact (Nat.zero_add _).symm
    | 3 => exact (Nat.zero_add _).symm
    | 4 => exact (Nat.zero_add _).symm)

theorem hit16 (q p h r : ℕ) (hq : q < 2) (hp : p < 2) (hh : h < 2) (inb w L) (j d : Fin 128) (hr : r + j.val < 256) :
    M.view.read Val (M.view.writes Val g ((⟨Rect.unit ![q, p, h, r, 0] S1x1x1x128x128.size inb, w⟩ : View.Piece Val S2x2x2x256x128 e) :: L)) (ix5 ⟨q, hq⟩ ⟨p, hp⟩ ⟨h, hh⟩ ⟨r + j.val, hr⟩ d)
      = w (ix5 0 0 0 j d) :=
  View.read_writes_cons_unit_of_mem _ _ inb w L _ (ix5 0 0 0 j d) rfl fun x => by
    match x with
    | 0 => rfl
    | 1 => rfl
    | 2 => rfl
    | 3 => rfl
    | 4 => exact (Nat.zero_add _).symm

theorem miss16 (q p h q' p' h' r : ℕ) (hq : q < 2) (hp : p < 2) (hh : h < 2) (inb w L) (l : Fin 256) (d : Fin 128)
    (hne : ¬ (q = q' ∧ p = p' ∧ h = h') ∨ l.val < r ∨ r + 128 ≤ l.val) :
    M.view.read Val (M.view.writes Val g ((⟨Rect.unit ![q', p', h', r, 0] S1x1x1x128x128.size inb, w⟩ : View.Piece Val S2x2x2x256x128 e) :: L)) (ix5 ⟨q, hq⟩ ⟨p, hp⟩ ⟨h, hh⟩ l d)
      = M.view.read Val (M.view.writes Val g L) (ix5 ⟨q, hq⟩ ⟨p, hp⟩ ⟨h, hh⟩ l d) := by
  by_cases h0 : q = q'
  · by_cases h1 : p = p'
    · by_cases h2 : h = h'
      · exact View.read_writes_cons_unit_of_not_mem _ _ inb w L _ rfl 3 (by show l.val < r ∨ r + 128 ≤ l.val; omega)
      · exact View.read_writes_cons_unit_of_not_mem _ _ inb w L _ rfl 2 (by show h < h' ∨ h' + 1 ≤ h; omega)
    · exact View.read_writes_cons_unit_of_not_mem _ _ inb w L _ rfl 1 (by show p < p' ∨ p' + 1 ≤ p; omega)
  · exact View.read_writes_cons_unit_of_not_mem _ _ inb w L _ rfl 0 (by show q < q' ∨ q' + 1 ≤ q; omega)
end P16

/-! ## The split state -/

section P11
variable (M : Memref sig .tc sp S8x3x192x128 e) (g : M.view.ty.Contents Val)

theorem sq11 (h p : ℕ) (hh : h < 8) (hp' : p < 3) (hs hp hsq hr) (f : Fin 192) (d : Fin 128) :
    ((M.slice (Rect.unit ![h, 0, 0, 0] S1x3x192x128.size hs) hp).squeeze S3x192x128 hsq).view.readAt Val (Rect.unit (s := S3x192x128) ![p, 0, 0] S1x192x128.size hr).toLoadRect g (ix3 0 f d)
      = M.view.read Val g (ix4 ⟨h, hh⟩ ⟨p, hp'⟩ f d) := by
  rw [ld_unit _ _ _ _ (ix3 ⟨p, hp'⟩ f d) rfl (fun x => by
    match x with
    | 0 => rfl
    | 1 => exact (Nat.zero_add _).symm
    | 2 => exact (Nat.zero_add _).symm)]
  have hc : S1x3x192x128.ShapeCasts S3x192x128 := by decide
  rw [Memref.read_squeeze_slice M _ hp hsq hc g]
  have : ∀ u : S1x3x192x128.Idx → Val e, shapeCast S3x192x128 u hc (ix3 ⟨p, hp'⟩ f d) = u (ix4 0 ⟨p, hp'⟩ f d) := by
    intro u
    pointwise []
  rw [this]
  exact ld_unit _ _ _ _ (ix4 ⟨h, hh⟩ ⟨p, hp'⟩ f d) rfl (fun x => by
    match x with
    | 0 => rfl
    | 1 => exact (Nat.zero_add _).symm
    | 2 => exact (Nat.zero_add _).symm
    | 3 => exact (Nat.zero_add _).symm)

theorem hit11 (h p : ℕ) (hh : h < 8) (hp : p < 3) (inb w L) (f : Fin 192) (d : Fin 128) :
    M.view.read Val (M.view.writes Val g ((⟨Rect.unit ![h, p, 0, 0] S1x1x192x128.size inb, w⟩ : View.Piece Val S8x3x192x128 e) :: L)) (ix4 ⟨h, hh⟩ ⟨p, hp⟩ f d)
      = w (ix4 0 0 f d) :=
  View.read_writes_cons_unit_of_mem _ _ inb w L _ (ix4 0 0 f d) rfl fun x => by
    match x with
    | 0 => rfl
    | 1 => rfl
    | 2 => exact (Nat.zero_add _).symm
    | 3 => exact (Nat.zero_add _).symm

theorem miss11 (h p h' p' : ℕ) (hh : h < 8) (hp : p < 3) (inb w L) (f : Fin 192) (d : Fin 128) (hne : ¬ (h = h' ∧ p = p')) :
    M.view.read Val (M.view.writes Val g ((⟨Rect.unit ![h', p', 0, 0] S1x1x192x128.size inb, w⟩ : View.Piece Val S8x3x192x128 e) :: L)) (ix4 ⟨h, hh⟩ ⟨p, hp⟩ f d)
      = M.view.read Val (M.view.writes Val g L) (ix4 ⟨h, hh⟩ ⟨p, hp⟩ f d) := by
  by_cases h0 : h = h'
  · exact View.read_writes_cons_unit_of_not_mem _ _ inb w L _ rfl 1 (by show p < p' ∨ p' + 1 ≤ p; omega)
  · exact View.read_writes_cons_unit_of_not_mem _ _ inb w L _ rfl 0 (by show h < h' ∨ h' + 1 ≤ h; omega)
end P11

/-! ## The state -/

section P9
variable (M : Memref sig .tc sp S1x8x192x128 e) (g : M.view.ty.Contents Val)

theorem ld9 (h : ℕ) (hh : h < 8) (hr) (f : Fin 192) (d : Fin 128) :
    M.view.readAt Val (Rect.unit (s := S1x8x192x128) ![0, h, 0, 0] S1x1x192x128.size hr).toLoadRect g (ix4 0 0 f d) = M.view.read Val g (ix4 0 ⟨h, hh⟩ f d) :=
  ld_unit _ _ _ _ (ix4 0 ⟨h, hh⟩ f d) rfl (fun x => by
    match x with
    | 0 => rfl
    | 1 => rfl
    | 2 => exact (Nat.zero_add _).symm
    | 3 => exact (Nat.zero_add _).symm)

theorem hit9 (h : ℕ) (hh : h < 8) (inb w L) (f : Fin 192) (d : Fin 128) :
    M.view.read Val (M.view.writes Val g ((⟨Rect.unit ![0, h, 0, 0] S1x1x192x128.size inb, w⟩ : View.Piece Val S1x8x192x128 e) :: L)) (ix4 0 ⟨h, hh⟩ f d)
      = w (ix4 0 0 f d) :=
  View.read_writes_cons_unit_of_mem _ _ inb w L _ (ix4 0 0 f d) rfl fun x => by
    match x with
    | 0 => rfl
    | 1 => rfl
    | 2 => exact (Nat.zero_add _).symm
    | 3 => exact (Nat.zero_add _).symm

theorem miss9 (h h' : ℕ) (hh : h < 8) (inb w L) (f : Fin 192) (d : Fin 128) (hne : ¬ (h = h')) :
    M.view.read Val (M.view.writes Val g ((⟨Rect.unit ![0, h', 0, 0] S1x1x192x128.size inb, w⟩ : View.Piece Val S1x8x192x128 e) :: L)) (ix4 0 ⟨h, hh⟩ f d)
      = M.view.read Val (M.view.writes Val g L) (ix4 0 ⟨h, hh⟩ f d) :=
  View.read_writes_cons_unit_of_not_mem _ _ inb w L _ rfl 1 (by show h < h' ∨ h' + 1 ≤ h; omega)
end P9

/-! ## The key sums -/

section P12
variable (M : Memref sig .tc sp S2x4x192 e) (g : M.view.ty.Contents Val)

theorem ld12 (q : ℕ) (hq : q < 2) (hr) (a : Fin 4) (f : Fin 192) :
    M.view.readAt Val (Rect.unit (s := S2x4x192) ![q, 0, 0] S1x4x192.size hr).toLoadRect g (ix3 0 a f) = M.view.read Val g (ix3 ⟨q, hq⟩ a f) :=
  ld_unit _ _ _ _ (ix3 ⟨q, hq⟩ a f) rfl (fun x => by
    match x with
    | 0 => rfl
    | 1 => exact (Nat.zero_add _).symm
    | 2 => exact (Nat.zero_add _).symm)

theorem hit12 (q : ℕ) (hq : q < 2) (inb w L) (a : Fin 4) (f : Fin 192) :
    M.view.read Val (M.view.writes Val g ((⟨Rect.unit ![q, 0, 0] S1x4x192.size inb, w⟩ : View.Piece Val S2x4x192 e) :: L)) (ix3 ⟨q, hq⟩ a f)
      = w (ix3 0 a f) :=
  View.read_writes_cons_unit_of_mem _ _ inb w L _ (ix3 0 a f) rfl fun x => by
    match x with
    | 0 => rfl
    | 1 => exact (Nat.zero_add _).symm
    | 2 => exact (Nat.zero_add _).symm

theorem miss12 (q q' : ℕ) (hq : q < 2) (inb w L) (a : Fin 4) (f : Fin 192) (hne : ¬ (q = q')) :
    M.view.read Val (M.view.writes Val g ((⟨Rect.unit ![q', 0, 0] S1x4x192.size inb, w⟩ : View.Piece Val S2x4x192 e) :: L)) (ix3 ⟨q, hq⟩ a f)
      = M.view.read Val (M.view.writes Val g L) (ix3 ⟨q, hq⟩ a f) :=
  View.read_writes_cons_unit_of_not_mem _ _ inb w L _ rfl 0 (by show q < q' ∨ q' + 1 ≤ q; omega)
end P12

/-! ## The token blocks -/

section Tok

/-- Token `i` of sub-block `n` of unit `k`. -/
def tok (k : Fin k0_t1_loop.trips) (n : Fin 2) (i : Fin 128) : Fin 512 :=
  ⟨256 * k.val + 128 * n.val + i.val, by
    have h : k.val < 2 := k.isLt
    omega⟩

theorem ld3 (M : Memref sig .tc sp S1x8x192x512 e) (g : M.view.ty.Contents Val) (k : Fin k0_t1_loop.trips) (n : Fin 2) (h : Fin 8) (off) (heq : off = ![0, h.val, 0, 256 * k.val + 128 * n.val]) (hr) (f : Fin 192) (i : Fin 128) :
    M.view.readAt Val (Rect.unit (s := S1x8x192x512) off S1x1x192x128.size hr).toLoadRect g (ix4 0 0 f i) = M.view.read Val g (ix4 0 h f (tok k n i)) :=
  ld_unit _ _ _ _ (ix4 0 h f (tok k n i)) heq (fun x => by
    match x with
    | 0 => rfl
    | 1 => rfl
    | 2 => exact (Nat.zero_add _).symm
    | 3 => rfl)

theorem ld5 (M : Memref sig .tc sp S1x512x8x128 e) (g : M.view.ty.Contents Val) (k : Fin k0_t1_loop.trips) (n : Fin 2) (h : ℕ) (off) (heq : off = ![0, 256 * k.val + 128 * n.val, h, 0]) (hr) (i : Fin 128) (a : Fin 2) (ha : h + a.val < 8) (d : Fin 128) :
    M.view.readAt Val (Rect.unit (s := S1x512x8x128) off S1x128x2x128.size hr).toLoadRect g (ix4 0 i a d) = M.view.read Val g (ix4 0 (tok k n i) ⟨h + a.val, ha⟩ d) :=
  ld_unit _ _ _ _ (ix4 0 (tok k n i) ⟨h + a.val, ha⟩ d) heq (fun x => by
    match x with
    | 0 => rfl
    | 1 => rfl
    | 2 => rfl
    | 3 => exact (Nat.zero_add _).symm)

variable (M : Memref sig .tc sp S1x512x8x128 e) (g : M.view.ty.Contents Val)

theorem hit8 (k : Fin k0_t1_loop.trips) (n : Fin 2) (h : ℕ) (off) (heq : off = ![0, 256 * k.val + 128 * n.val, h, 0]) (inb w L) (i : Fin 128) (a : Fin 2) (ha : h + a.val < 8) (d : Fin 128) :
    M.view.read Val (M.view.writes Val g ((⟨Rect.unit off S1x128x2x128.size inb, w⟩ : View.Piece Val S1x512x8x128 e) :: L)) (ix4 0 (tok k n i) ⟨h + a.val, ha⟩ d)
      = w (ix4 0 i a d) :=
  View.read_writes_cons_unit_of_mem _ _ inb w L _ (ix4 0 i a d) heq fun x => by
    match x with
    | 0 => rfl
    | 1 => rfl
    | 2 => rfl
    | 3 => exact (Nat.zero_add _).symm

theorem miss8 (k : Fin k0_t1_loop.trips) (n : ℕ) (h : ℕ) (off) (heq : off = ![0, 256 * k.val + 128 * n, h, 0]) (inb w L) (t : Fin 512) (b : Fin 8) (d : Fin 128)
    (hne : (t.val < 256 * k.val + 128 * n ∨ 256 * k.val + 128 * n + 128 ≤ t.val) ∨ (b.val < h ∨ h + 2 ≤ b.val)) :
    M.view.read Val (M.view.writes Val g ((⟨Rect.unit off S1x128x2x128.size inb, w⟩ : View.Piece Val S1x512x8x128 e) :: L)) (ix4 0 t b d)
      = M.view.read Val (M.view.writes Val g L) (ix4 0 t b d) := by
  rcases hne with hne | hne
  · exact View.read_writes_cons_unit_of_not_mem _ _ inb w L _ heq 1 hne
  · exact View.read_writes_cons_unit_of_not_mem _ _ inb w L _ heq 2 hne

end Tok

end Cert.KernelIdeal.Geo

end
-- ==== Proof.HeadSem.lean ====
/-
  What the body leaves in its buffers at the first token block of a sequence, read over the reals: the state it starts from,
  its split, the key sums, and the values' buffer cleared.
-/
module

public import proofs.«01_k».proof.Proof.BodyRun
public import proofs.«01_k».proof.Proof.Geo

@[expose] public section

set_option maxRecDepth 16384

noncomputable section

namespace Cert.KernelIdeal.Trip

open Cert.KernelIdeal Cert.KernelIdeal.Gen Cert.KernelIdeal.Geo
open Idealize.ShloMosaic Idealize.ShloMosaic.TcCoe

variable {c : Dev nD} {arg6 : Memref sig .tc .vmem S1x8x192x128 .f32} {f6 : Bf (F := Ideal) c arg6}
  {arg7 : Memref sig .tc .vmem S1x8x192 .f32} {f7 : Bf (F := Ideal) c arg7}
  (arg9 : Memref sig .tc .vmem S1x8x192x128 .f32) (arg11 : Memref sig .tc .vmem S8x3x192x128 .bf16)
  (arg12 : Memref sig .tc .vmem S2x4x192 .f32) (arg16 : Memref sig .tc .vmem S2x2x2x256x128 .bf16)
  {sR : Fin 8 → Fin 192 → Fin 128 → ℝ} {zR : Fin 8 → Fin 192 → ℝ}

theorem coe_sub_self (x : ℝ) : (x : EReal) - (x : EReal) = 0 := by rw [← EReal.coe_sub, sub_self]; rfl

section S
variable (X : ∀ h f d, arg6.view.read (Elt Ideal) f6 (ix4 0 h f d) = ((sR h f d : ℝ) : EReal))
include X

theorem head9 (h : Fin 8) (f : Fin 192) (d : Fin 128) : arg9.view.read (Elt Ideal) (arg9.view.writes (Elt Ideal) arg9.view.junk (headRun.sl.H9_1 (F := Ideal) c arg6 f6)) (ix4 0 h f d) = ((sR h f d : ℝ) : EReal) := by
  simp only [headRun.sl.H9_1]
  refine (View.read_writes_cons_unit_of_mem _ _ _ _ _ _ (ix4 0 h f d) rfl fun x => ?_).trans ?_
  · match x with
    | 0 => rfl
    | 1 => exact (Nat.zero_add _).symm
    | 2 => exact (Nat.zero_add _).symm
    | 3 => exact (Nat.zero_add _).symm
  exact (ld_unit _ _ _ _ (ix4 0 h f d) rfl (fun x => by
    match x with
    | 0 => rfl
    | 1 => exact (Nat.zero_add _).symm
    | 2 => exact (Nat.zero_add _).symm
    | 3 => exact (Nat.zero_add _).symm)).trans (X h f d)

theorem head11_0_0 (f : Fin 192) (d : Fin 128) : arg11.view.read (Elt Ideal) (arg11.view.writes (Elt Ideal) arg11.view.junk (headRun.sl.H11_24 (F := Ideal) c arg6 f6)) (ix4 ⟨0, by decide⟩ ⟨0, by decide⟩ f d) = ((sR ⟨0, by decide⟩ f d : ℝ) : EReal) := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  exact (ld9 arg6 f6 0 (by decide) _ f d).trans (X _ f d)

theorem head11_0_1 (f : Fin 192) (d : Fin 128) : arg11.view.read (Elt Ideal) (arg11.view.writes (Elt Ideal) arg11.view.junk (headRun.sl.H11_24 (F := Ideal) c arg6 f6)) (ix4 ⟨0, by decide⟩ ⟨1, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 0 (by decide) inb_S1x8x192x128_S1x1x192x128_0_0_0_0 f d).trans (X _ f d)
  simp only [h0]
  exact coe_sub_self _

theorem head11_0_2 (f : Fin 192) (d : Fin 128) : arg11.view.read (Elt Ideal) (arg11.view.writes (Elt Ideal) arg11.view.junk (headRun.sl.H11_24 (F := Ideal) c arg6 f6)) (ix4 ⟨0, by decide⟩ ⟨2, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 0 (by decide) inb_S1x8x192x128_S1x1x192x128_0_0_0_0 f d).trans (X _ f d)
  simp only [h0]
  simp only [coe_sub_self]; exact sub_zero 0

theorem head11_1_0 (f : Fin 192) (d : Fin 128) : arg11.view.read (Elt Ideal) (arg11.view.writes (Elt Ideal) arg11.view.junk (headRun.sl.H11_24 (F := Ideal) c arg6 f6)) (ix4 ⟨1, by decide⟩ ⟨0, by decide⟩ f d) = ((sR ⟨1, by decide⟩ f d : ℝ) : EReal) := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  exact (ld9 arg6 f6 1 (by decide) _ f d).trans (X _ f d)

theorem head11_1_1 (f : Fin 192) (d : Fin 128) : arg11.view.read (Elt Ideal) (arg11.view.writes (Elt Ideal) arg11.view.junk (headRun.sl.H11_24 (F := Ideal) c arg6 f6)) (ix4 ⟨1, by decide⟩ ⟨1, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 1 (by decide) inb_S1x8x192x128_S1x1x192x128_0_1_0_0 f d).trans (X _ f d)
  simp only [h0]
  exact coe_sub_self _

theorem head11_1_2 (f : Fin 192) (d : Fin 128) : arg11.view.read (Elt Ideal) (arg11.view.writes (Elt Ideal) arg11.view.junk (headRun.sl.H11_24 (F := Ideal) c arg6 f6)) (ix4 ⟨1, by decide⟩ ⟨2, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 1 (by decide) inb_S1x8x192x128_S1x1x192x128_0_1_0_0 f d).trans (X _ f d)
  simp only [h0]
  simp only [coe_sub_self]; exact sub_zero 0

theorem head11_2_0 (f : Fin 192) (d : Fin 128) : arg11.view.read (Elt Ideal) (arg11.view.writes (Elt Ideal) arg11.view.junk (headRun.sl.H11_24 (F := Ideal) c arg6 f6)) (ix4 ⟨2, by decide⟩ ⟨0, by decide⟩ f d) = ((sR ⟨2, by decide⟩ f d : ℝ) : EReal) := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  exact (ld9 arg6 f6 2 (by decide) _ f d).trans (X _ f d)

theorem head11_2_1 (f : Fin 192) (d : Fin 128) : arg11.view.read (Elt Ideal) (arg11.view.writes (Elt Ideal) arg11.view.junk (headRun.sl.H11_24 (F := Ideal) c arg6 f6)) (ix4 ⟨2, by decide⟩ ⟨1, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 2 (by decide) inb_S1x8x192x128_S1x1x192x128_0_2_0_0 f d).trans (X _ f d)
  simp only [h0]
  exact coe_sub_self _

theorem head11_2_2 (f : Fin 192) (d : Fin 128) : arg11.view.read (Elt Ideal) (arg11.view.writes (Elt Ideal) arg11.view.junk (headRun.sl.H11_24 (F := Ideal) c arg6 f6)) (ix4 ⟨2, by decide⟩ ⟨2, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 2 (by decide) inb_S1x8x192x128_S1x1x192x128_0_2_0_0 f d).trans (X _ f d)
  simp only [h0]
  simp only [coe_sub_self]; exact sub_zero 0

theorem head11_3_0 (f : Fin 192) (d : Fin 128) : arg11.view.read (Elt Ideal) (arg11.view.writes (Elt Ideal) arg11.view.junk (headRun.sl.H11_24 (F := Ideal) c arg6 f6)) (ix4 ⟨3, by decide⟩ ⟨0, by decide⟩ f d) = ((sR ⟨3, by decide⟩ f d : ℝ) : EReal) := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  exact (ld9 arg6 f6 3 (by decide) _ f d).trans (X _ f d)

theorem head11_3_1 (f : Fin 192) (d : Fin 128) : arg11.view.read (Elt Ideal) (arg11.view.writes (Elt Ideal) arg11.view.junk (headRun.sl.H11_24 (F := Ideal) c arg6 f6)) (ix4 ⟨3, by decide⟩ ⟨1, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 3 (by decide) inb_S1x8x192x128_S1x1x192x128_0_3_0_0 f d).trans (X _ f d)
  simp only [h0]
  exact coe_sub_self _

theorem head11_3_2 (f : Fin 192) (d : Fin 128) : arg11.view.read (Elt Ideal) (arg11.view.writes (Elt Ideal) arg11.view.junk (headRun.sl.H11_24 (F := Ideal) c arg6 f6)) (ix4 ⟨3, by decide⟩ ⟨2, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 3 (by decide) inb_S1x8x192x128_S1x1x192x128_0_3_0_0 f d).trans (X _ f d)
  simp only [h0]
  simp only [coe_sub_self]; exact sub_zero 0

theorem head11_4_0 (f : Fin 192) (d : Fin 128) : arg11.view.read (Elt Ideal) (arg11.view.writes (Elt Ideal) arg11.view.junk (headRun.sl.H11_24 (F := Ideal) c arg6 f6)) (ix4 ⟨4, by decide⟩ ⟨0, by decide⟩ f d) = ((sR ⟨4, by decide⟩ f d : ℝ) : EReal) := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  exact (ld9 arg6 f6 4 (by decide) _ f d).trans (X _ f d)

theorem head11_4_1 (f : Fin 192) (d : Fin 128) : arg11.view.read (Elt Ideal) (arg11.view.writes (Elt Ideal) arg11.view.junk (headRun.sl.H11_24 (F := Ideal) c arg6 f6)) (ix4 ⟨4, by decide⟩ ⟨1, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 4 (by decide) inb_S1x8x192x128_S1x1x192x128_0_4_0_0 f d).trans (X _ f d)
  simp only [h0]
  exact coe_sub_self _

theorem head11_4_2 (f : Fin 192) (d : Fin 128) : arg11.view.read (Elt Ideal) (arg11.view.writes (Elt Ideal) arg11.view.junk (headRun.sl.H11_24 (F := Ideal) c arg6 f6)) (ix4 ⟨4, by decide⟩ ⟨2, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 4 (by decide) inb_S1x8x192x128_S1x1x192x128_0_4_0_0 f d).trans (X _ f d)
  simp only [h0]
  simp only [coe_sub_self]; exact sub_zero 0

theorem head11_5_0 (f : Fin 192) (d : Fin 128) : arg11.view.read (Elt Ideal) (arg11.view.writes (Elt Ideal) arg11.view.junk (headRun.sl.H11_24 (F := Ideal) c arg6 f6)) (ix4 ⟨5, by decide⟩ ⟨0, by decide⟩ f d) = ((sR ⟨5, by decide⟩ f d : ℝ) : EReal) := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  exact (ld9 arg6 f6 5 (by decide) _ f d).trans (X _ f d)

theorem head11_5_1 (f : Fin 192) (d : Fin 128) : arg11.view.read (Elt Ideal) (arg11.view.writes (Elt Ideal) arg11.view.junk (headRun.sl.H11_24 (F := Ideal) c arg6 f6)) (ix4 ⟨5, by decide⟩ ⟨1, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 5 (by decide) inb_S1x8x192x128_S1x1x192x128_0_5_0_0 f d).trans (X _ f d)
  simp only [h0]
  exact coe_sub_self _

theorem head11_5_2 (f : Fin 192) (d : Fin 128) : arg11.view.read (Elt Ideal) (arg11.view.writes (Elt Ideal) arg11.view.junk (headRun.sl.H11_24 (F := Ideal) c arg6 f6)) (ix4 ⟨5, by decide⟩ ⟨2, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 5 (by decide) inb_S1x8x192x128_S1x1x192x128_0_5_0_0 f d).trans (X _ f d)
  simp only [h0]
  simp only [coe_sub_self]; exact sub_zero 0

theorem head11_6_0 (f : Fin 192) (d : Fin 128) : arg11.view.read (Elt Ideal) (arg11.view.writes (Elt Ideal) arg11.view.junk (headRun.sl.H11_24 (F := Ideal) c arg6 f6)) (ix4 ⟨6, by decide⟩ ⟨0, by decide⟩ f d) = ((sR ⟨6, by decide⟩ f d : ℝ) : EReal) := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  exact (ld9 arg6 f6 6 (by decide) _ f d).trans (X _ f d)

theorem head11_6_1 (f : Fin 192) (d : Fin 128) : arg11.view.read (Elt Ideal) (arg11.view.writes (Elt Ideal) arg11.view.junk (headRun.sl.H11_24 (F := Ideal) c arg6 f6)) (ix4 ⟨6, by decide⟩ ⟨1, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 6 (by decide) inb_S1x8x192x128_S1x1x192x128_0_6_0_0 f d).trans (X _ f d)
  simp only [h0]
  exact coe_sub_self _

theorem head11_6_2 (f : Fin 192) (d : Fin 128) : arg11.view.read (Elt Ideal) (arg11.view.writes (Elt Ideal) arg11.view.junk (headRun.sl.H11_24 (F := Ideal) c arg6 f6)) (ix4 ⟨6, by decide⟩ ⟨2, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 6 (by decide) inb_S1x8x192x128_S1x1x192x128_0_6_0_0 f d).trans (X _ f d)
  simp only [h0]
  simp only [coe_sub_self]; exact sub_zero 0

theorem head11_7_0 (f : Fin 192) (d : Fin 128) : arg11.view.read (Elt Ideal) (arg11.view.writes (Elt Ideal) arg11.view.junk (headRun.sl.H11_24 (F := Ideal) c arg6 f6)) (ix4 ⟨7, by decide⟩ ⟨0, by decide⟩ f d) = ((sR ⟨7, by decide⟩ f d : ℝ) : EReal) := by
  simp only [headRun.sl.H11_1, headRun.sl.H11_6, headRun.sl.H11_11, headRun.sl.H11_15, headRun.sl.H11_24]
  rw [miss11 _ _ _ _ _ _ _ _ _ _ _ _ _ (by decide)]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  exact (ld9 arg6 f6 7 (by decide) _ f d).trans (X _ f d)

theorem head11_7_1 (f : Fin 192) (d : Fin 128) : arg11.view.read (Elt Ideal) (arg11.view.writes (Elt Ideal) arg11.view.junk (headRun.sl.H11_24 (F := Ideal) c arg6 f6)) (ix4 ⟨7, by decide⟩ ⟨1, by decide⟩ f d) = 0 := by
  simp only [headRun.sl.H11_1, headRun.sl.H11_6, headRun.sl.H11_11, headRun.sl.H11_15, headRun.sl.H11_24]
  rw [miss11 _ _ _ _ _ _ _ _ _ _ _ _ _ (by decide)]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 7 (by decide) inb_S1x8x192x128_S1x1x192x128_0_7_0_0 f d).trans (X _ f d)
  simp only [h0]
  exact coe_sub_self _

theorem head11_7_2 (f : Fin 192) (d : Fin 128) : arg11.view.read (Elt Ideal) (arg11.view.writes (Elt Ideal) arg11.view.junk (headRun.sl.H11_24 (F := Ideal) c arg6 f6)) (ix4 ⟨7, by decide⟩ ⟨2, by decide⟩ f d) = 0 := by
  simp only [headRun.sl.H11_1, headRun.sl.H11_6, headRun.sl.H11_11, headRun.sl.H11_15, headRun.sl.H11_24]
  rw [hit11]
  pointwise [headRun.sl.r, headRun.sl.r_1, headRun.sl.r_2, headRun.sl.r_3, headRun.sl.r_4, headRun.sl.r_5, headRun.sl.r_6, headRun.sl.r_7, headRun.sl.r_8, headRun.sl.r_9, headRun.sl.r_10, k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  have h0 := (ld9 arg6 f6 7 (by decide) inb_S1x8x192x128_S1x1x192x128_0_7_0_0 f d).trans (X _ f d)
  simp only [h0]
  simp only [coe_sub_self]; exact sub_zero 0

theorem head11_0 (h : Fin 8) (f : Fin 192) (d : Fin 128) : arg11.view.read (Elt Ideal) (arg11.view.writes (Elt Ideal) arg11.view.junk (headRun.sl.H11_24 (F := Ideal) c arg6 f6)) (ix4 h 0 f d) = ((sR h f d : ℝ) : EReal) := by
  match h with
  | 0 => exact head11_0_0 arg11 X f d
  | 1 => exact head11_1_0 arg11 X f d
  | 2 => exact head11_2_0 arg11 X f d
  | 3 => exact head11_3_0 arg11 X f d
  | 4 => exact head11_4_0 arg11 X f d
  | 5 => exact head11_5_0 arg11 X f d
  | 6 => exact head11_6_0 arg11 X f d
  | 7 => exact head11_7_0 arg11 X f d

theorem head11_1 (h : Fin 8) (f : Fin 192) (d : Fin 128) : arg11.view.read (Elt Ideal) (arg11.view.writes (Elt Ideal) arg11.view.junk (headRun.sl.H11_24 (F := Ideal) c arg6 f6)) (ix4 h 1 f d) = 0 := by
  match h with
  | 0 => exact head11_0_1 arg11 X f d
  | 1 => exact head11_1_1 arg11 X f d
  | 2 => exact head11_2_1 arg11 X f d
  | 3 => exact head11_3_1 arg11 X f d
  | 4 => exact head11_4_1 arg11 X f d
  | 5 => exact head11_5_1 arg11 X f d
  | 6 => exact head11_6_1 arg11 X f d
  | 7 => exact head11_7_1 arg11 X f d

theorem head11_2 (h : Fin 8) (f : Fin 192) (d : Fin 128) : arg11.view.read (Elt Ideal) (arg11.view.writes (Elt Ideal) arg11.view.junk (headRun.sl.H11_24 (F := Ideal) c arg6 f6)) (ix4 h 2 f d) = 0 := by
  match h with
  | 0 => exact head11_0_2 arg11 X f d
  | 1 => exact head11_1_2 arg11 X f d
  | 2 => exact head11_2_2 arg11 X f d
  | 3 => exact head11_3_2 arg11 X f d
  | 4 => exact head11_4_2 arg11 X f d
  | 5 => exact head11_5_2 arg11 X f d
  | 6 => exact head11_6_2 arg11 X f d
  | 7 => exact head11_7_2 arg11 X f d

end S

theorem head12 (X : ∀ h f, arg7.view.read (Elt Ideal) f7 (ix3 0 h f) = ((zR h f : ℝ) : EReal)) (q : Fin 2) (a : Fin 4) (f : Fin 192) :
    arg12.view.read (Elt Ideal) (arg12.view.writes (Elt Ideal) arg12.view.junk (headRun.sl.H12_2 (F := Ideal) c arg7 f7)) (ix3 q a f) = ((zR ⟨4 * q.val + a.val, by omega⟩ f : ℝ) : EReal) := by
  simp only [headRun.sl.H12_2]
  have hz : ∀ (b : ℕ) (hb : b + 4 ≤ 8) (hr), arg7.view.readAt (Elt Ideal) (Rect.unit (s := S1x8x192) ![0, b, 0] S1x4x192.size hr).toLoadRect f7 (ix3 0 a f) = ((zR ⟨b + a.val, by omega⟩ f : ℝ) : EReal) := fun b hb hr =>
    (ld_unit _ _ _ _ (ix3 0 ⟨b + a.val, by omega⟩ f) rfl (fun x => by
      match x with
      | 0 => rfl
      | 1 => rfl
      | 2 => exact (Nat.zero_add _).symm)).trans (X _ f)
  match q with
  | 0 =>
    refine (miss12 arg12 _ 0 1 (by decide) _ _ _ a f (by decide)).trans ((hit12 arg12 _ 0 (by decide) _ _ _ a f).trans ?_)
    pointwise [k0_pay12]
    exact (hz 0 (by decide) _).trans (congrArg (fun x => ((zR x f : ℝ) : EReal)) (Fin.ext (Nat.zero_add _)))
  | 1 =>
    refine (hit12 arg12 _ 1 (by decide) _ _ _ a f).trans ?_
    pointwise [k0_pay13]
    exact hz 4 (by decide) _

theorem head16 (q p h : Fin 2) (l : Fin 256) (d : Fin 128) :
    arg16.view.read (Elt Ideal) (arg16.view.writes (Elt Ideal) arg16.view.junk (headRun.sl.H16_1 (F := Ideal))) (ix5 q p h l d) = 0 := by
  simp only [headRun.sl.H16_1]
  refine (View.read_writes_cons_unit_of_mem _ _ _ _ _ _ (ix5 q p h l d) rfl fun x => ?_).trans ?_
  · match x with
    | 0 => exact (Nat.zero_add _).symm
    | 1 => exact (Nat.zero_add _).symm
    | 2 => exact (Nat.zero_add _).symm
    | 3 => exact (Nat.zero_add _).symm
    | 4 => exact (Nat.zero_add _).symm
  pointwise [k0_pay5]

end Cert.KernelIdeal.Trip

end
-- ==== Proof.Head.lean ====
/-
  The values of one head's part of a sub-block of 128 tokens, read over the reals: what the printed payloads compute from
  the feature maps, the values and the carried state, when all of them are real numbers.
-/
module

public import proofs.«01_k».proof.Proof.Gen.KernelIdeal.Frame
public import proofs.«01_k».proof.Proof.Gen.KernelIdeal.Skeleton
public import Idealize.ShloMosaic.Lib.Pointwise

@[expose] public section

set_option maxRecDepth 16384

noncomputable section

namespace Cert.KernelIdeal.Head

open Cert.KernelIdeal Cert.KernelIdeal.Gen
open Idealize.ShloMosaic Idealize.ShloMosaic.TcCoe

/-- The causal scores of a sub-block. -/
def sc (pq : Vec Ideal S1x1x128x192 .bf16) (pkt : Vec Ideal S1x1x192x128 .bf16) (sp0 : Vec Ideal S1x192x128 .bf16) : FVec Ideal S128x128 .f32 :=
  k0_pay112 k0_pay6 (k0_pay111 pq pkt sp0)

/-- The numerator of a head. -/
def num (v : FVec Ideal S128x128 .bf16) (pq : Vec Ideal S1x1x128x192 .bf16) (pkt : Vec Ideal S1x1x192x128 .bf16)
    (sp0 sp1 sp2 : Vec Ideal S1x192x128 .bf16) : FVec Ideal S128x128 .f32 :=
  k0_pay113 k0_pay6 k0_pay8 v (k0_pay110 pq) (k0_pay111 pq pkt sp0) sp1 sp2

/-- The three parts of the carried key sums, stacked. -/
def z3 (z : Vec Ideal S1x4x192 .f32) : FVec Ideal S16x192 .bf16 :=
  k0_pay104 (k0_pay101 z) (k0_pay102 z) (k0_pay103 z) (FloatOps.ofBits FTy.f32 0#32)

def denT (z : Vec Ideal S1x4x192 .f32) (a b : Vec Ideal S1x1x192x128 .bf16) : FVec Ideal S16x256 .f32 := k0_pay109 (z3 z) a b

/-- The running sums of the keys at each token, one head's row: the three parts put together. -/
def dRow (den : FVec Ideal S16x256 .f32) (o o1 o2 c : Nat) (hc : S16x256.Slices ![0, c] S16x128) (h : S16x128.Slices ![o, 0] S1x128)
    (h1 : S16x128.Slices ![o1, 0] S1x128) (h2 : S16x128.Slices ![o2, 0] S1x128) : FVec Ideal S1x128 .f32 :=
  have t : FVec Ideal S16x128 .f32 := extractStridedSlice S16x128 ![0, c] den hc
  addf (extractStridedSlice S1x128 ![o, 0] t h) (addf (extractStridedSlice S1x128 ![o1, 0] t h1) (extractStridedSlice S1x128 ![o2, 0] t h2))

/-- A head's numerator over its denominator. -/
def quot (s nm : FVec Ideal S128x128 .f32) (d : FVec Ideal S1x128 .f32) : FVec Ideal S128x128 .f32 := k0_pay115 k0_pay7 s nm d

/-- The two heads' results, row by row. -/
def pairUp (a b : FVec Ideal S128x128 .f32) : Vec Ideal S1x128x2x128 .bf16 :=
  interleaveRows S1x128x2x128 (shapeCast S1x128x1x128 (truncf .bf16 a bitsLt_bf16_f32 : FVec Ideal S128x128 .bf16) shapeCasts_S128x128_S1x128x1x128)
    (shapeCast S1x128x1x128 (truncf .bf16 b bitsLt_bf16_f32 : FVec Ideal S128x128 .bf16) shapeCasts_S128x128_S1x128x1x128) bitcasts_S1x128x2x128_w16_S1x128x1x128_w32

/-- The two heads' keys side by side. -/
def keys (a b : Vec Ideal S1x1x192x128 .bf16) : FVec Ideal S192x256 .bf16 := k0_pay123 a b
/-- The increment of the two heads' states. -/
def incr (a b : Vec Ideal S1x1x192x128 .bf16) (v0 v1 : Vec Ideal S1x1x256x128 .bf16) : FVec Ideal S192x256 .f32 := k0_pay124 (keys a b) v0 v1
/-- A head's new state. -/
def st (c : Nat) (h : S192x256.Slices ![0, c] S192x128) (ds : FVec Ideal S192x256 .f32) (s : Vec Ideal S1x1x192x128 .f32) : FVec Ideal S192x128 .f32 :=
  addf (shapeCast S192x128 s shapeCasts_S1x1x192x128_S192x128 : FVec Ideal S192x128 .f32) (extractStridedSlice S192x128 ![0, c] ds h)
/-- A block of the state as it is stored. -/
def put32 (x : FVec Ideal S192x128 .f32) : FVec Ideal S1x1x192x128 .f32 := shapeCast S1x1x192x128 x shapeCasts_S192x128_S1x1x192x128
/-- A part of the split state as it is stored. -/
def put16 (x : FVec Ideal S192x128 .f32) : FVec Ideal S1x1x192x128 .bf16 :=
  shapeCast S1x1x192x128 (truncf .bf16 x bitsLt_bf16_f32 : FVec Ideal S192x128 .bf16) shapeCasts_S192x128_S1x1x192x128
/-- What the first bf16 part leaves, read exactly. -/
def rest (x : FVec Ideal S192x128 .f32) : FVec Ideal S192x128 .f32 := subf x x
/-- The key sums of a quad after two pairs of heads. -/
def zNew (v10 v11 : IVec S16x256 32) (z : Vec Ideal S1x4x192 .f32) (a b : FVec Ideal S192x256 .bf16) : FVec Ideal S1x4x192 .f32 :=
  k0_pay180 (k0_pay99 z) (k0_pay140 v11 a (k0_pay138 v10) 128#32 (k0_pay139 v11)) b (k0_pay176 v10) (k0_pay177 v11) (k0_pay178 v11) k0_pay179

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sub_coe (x : ℝ) : (x : EReal) - (x : EReal) = 0 := by
  rw [← EReal.coe_sub, sub_self, EReal.coe_zero]

/-- A sum over 256 in two halves. -/
theorem sum_halves {M : Type*} [AddCommMonoid M] (f : Fin 256 → M) :
    ∑ x, f x = ∑ j : Fin 128, f ⟨j.val, by omega⟩ + ∑ j : Fin 128, f ⟨128 + j.val, by omega⟩ :=
  Fin.sum_univ_add (a := 128) (b := 128) f

variable (Q : Fin 128 → Fin 192 → ℝ) (K : Fin 192 → Fin 128 → ℝ) (S : Fin 192 → Fin 128 → ℝ) (V : Fin 128 → Fin 128 → ℝ)

theorem sge_cond (i j : Fin 128) : (IntOp.cmpi .sge (BitVec.ofNat 32 i.val) (BitVec.ofNat 32 j.val) : BitVec 1) = if j ≤ i then 1#1 else 0#1 := by
  revert i j; decide +kernel

theorem sc_val (pq : Vec Ideal S1x1x128x192 .bf16) (pkt : Vec Ideal S1x1x192x128 .bf16) (sp0 : Vec Ideal S1x192x128 .bf16)
    (hq : ∀ i f, pq (ix4 0 0 i f) = ((Q i f : ℝ) : EReal)) (hk : ∀ f j, pkt (ix4 0 0 f j) = ((K f j : ℝ) : EReal)) (i j : Fin 128) :
    sc pq pkt sp0 (ix2 i j) = ((if j ≤ i then ∑ f, Q i f * K f j else 0 : ℝ) : EReal) := by
  pointwise [sc, k0_pay112, k0_pay111, k0_pay110, k0_pay6]
  rw [sge_cond]
  simp only [hq, hk, ← EReal.coe_mul, ← coe_sum]
  split <;> simp [Scalar.select]

theorem num_val (v : FVec Ideal S128x128 .bf16) (pq : Vec Ideal S1x1x128x192 .bf16) (pkt : Vec Ideal S1x1x192x128 .bf16)
    (sp0 sp1 sp2 : Vec Ideal S1x192x128 .bf16) (hv : ∀ j d, v (ix2 j d) = ((V j d : ℝ) : EReal))
    (hq : ∀ i f, pq (ix4 0 0 i f) = ((Q i f : ℝ) : EReal)) (hk : ∀ f j, pkt (ix4 0 0 f j) = ((K f j : ℝ) : EReal))
    (h0 : ∀ f d, sp0 (ix3 0 f d) = ((S f d : ℝ) : EReal)) (h1 : ∀ f d, sp1 (ix3 0 f d) = 0) (h2 : ∀ f d, sp2 (ix3 0 f d) = 0) (i d : Fin 128) :
    num v pq pkt sp0 sp1 sp2 (ix2 i d)
      = ((∑ j, (if j ≤ i then ∑ f, Q i f * K f j else 0) * V j d + ∑ f, Q i f * S f d : ℝ) : EReal) := by
  have hsc := sc_val Q K pq pkt sp0 hq hk
  unfold num k0_pay113
  rw [show k0_pay112 k0_pay6 (k0_pay111 pq pkt sp0) = sc pq pkt sp0 from rfl]
  generalize sc pq pkt sp0 = SC at hsc
  pointwise [k0_pay111, k0_pay110, k0_pay8]
  rw [sum_halves]
  have sel : ∀ c : BitVec 1, Scalar.select c (0 : EReal) 0 = 0 := by intro c; simp [Scalar.select]
  simp only [sel, dite_eq_ite, ite_self, zero_mul, hsc, hq, hv, h0, h1, h2, mul_zero, Finset.sum_const_zero, add_zero, sub_coe, sub_zero, Fin.is_lt, dite_true, if_true, Fin.eta,
    Nat.not_lt.mpr (Nat.le_add_right 128 _), dite_false]
  simp only [← EReal.coe_mul, ← coe_sum, ← EReal.coe_add]

variable (Z : Fin 192 → ℝ) (QT : Fin 192 → Fin 128 → ℝ)

theorem dRow_val (den : FVec Ideal S16x256 .f32) (o o1 o2 c : Nat) (hc h h1 h2) (ho : o < 16) (ho1 : o1 < 16) (ho2 : o2 < 16) (hcc : c ≤ 128) (i : Fin 128) :
    dRow den o o1 o2 c hc h h1 h2 (ix2 0 i)
      = den (ix2 ⟨o, ho⟩ ⟨c + i.val, by omega⟩) + (den (ix2 ⟨o1, ho1⟩ ⟨c + i.val, by omega⟩) + den (ix2 ⟨o2, ho2⟩ ⟨c + i.val, by omega⟩)) := by
  have hs : ∀ (o : Nat) (ho : o < 16) (h : S16x128.Slices ![o, 0] S1x128),
      (extractStridedSlice S1x128 ![o, 0] (extractStridedSlice S16x128 ![0, c] den hc : FVec Ideal S16x128 .f32) h : FVec Ideal S1x128 .f32) (ix2 0 i)
        = den (ix2 ⟨o, ho⟩ ⟨c + i.val, by omega⟩) := by
    intro o ho h
    refine congrArg den ?_
    funext a
    refine Fin.ext ?_
    match a with
    | 0 => show 0 + (o + 0) = o; omega
    | 1 => show c + (0 + i.val) = c + i.val; omega
  show _ + (_ + _) = _
  rw [hs o ho h, hs o1 ho1 h1, hs o2 ho2 h2]

/-- Reading the stacked parts: the first four rows carry the sums, the others nothing. -/
theorem denT_row (zr : Fin 4 → Fin 192 → ℝ) (z : Vec Ideal S1x4x192 .f32) (a b : Vec Ideal S1x1x192x128 .bf16) (A B : Fin 192 → Fin 128 → ℝ)
    (hz : ∀ r f, z (ix3 0 r f) = ((zr r f : ℝ) : EReal)) (ha : ∀ f i, a (ix4 0 0 f i) = ((A f i : ℝ) : EReal))
    (hb : ∀ f i, b (ix4 0 0 f i) = ((B f i : ℝ) : EReal)) (i : Fin 16) (l : Fin 256) :
    denT z a b (ix2 i l) = ((∑ f, (if h : i.val < 4 then zr ⟨i.val, h⟩ f else 0) * (if h : l.val < 128 then A f ⟨l.val, h⟩ else B f ⟨l.val - 128, by omega⟩) : ℝ) : EReal) := by
  pointwise [denT, z3, k0_pay104, k0_pay101, k0_pay102, k0_pay103, k0_pay109, k0_pay99, k0_pay100]
  rw [coe_sum]
  refine Finset.sum_congr rfl fun x _ => ?_
  rw [EReal.coe_mul]
  congr 1
  · simp only [hz, sub_coe, sub_zero]
    split
    · rfl
    · simp
  · split
    · rw [ha]
    · rw [hb]

theorem den0 (zr : Fin 4 → Fin 192 → ℝ) (z : Vec Ideal S1x4x192 .f32) (a b : Vec Ideal S1x1x192x128 .bf16) (A B : Fin 192 → Fin 128 → ℝ)
    (hz : ∀ r f, z (ix3 0 r f) = ((zr r f : ℝ) : EReal)) (ha : ∀ f i, a (ix4 0 0 f i) = ((A f i : ℝ) : EReal))
    (hb : ∀ f i, b (ix4 0 0 f i) = ((B f i : ℝ) : EReal)) (o : Fin 4) (o1 o2 : Nat) (hc h h1 h2) (h41 : 4 ≤ o1) (h42 : 4 ≤ o2) (ho1 : o1 < 16) (ho2 : o2 < 16) (i : Fin 128) :
    dRow (denT z a b) o.val o1 o2 0 hc h h1 h2 (ix2 0 i) = ((∑ f, zr o f * A f i : ℝ) : EReal) := by
  rw [dRow_val _ _ _ _ _ hc h h1 h2 (by omega) ho1 ho2 (by omega)]
  simp only [denT_row zr z a b A B hz ha hb, o.isLt, Nat.not_lt.mpr h41, Nat.not_lt.mpr h42, dite_true, dite_false, zero_mul, Finset.sum_const_zero, zero_add, Fin.is_lt, Fin.eta, EReal.coe_zero, add_zero]

theorem den1 (zr : Fin 4 → Fin 192 → ℝ) (z : Vec Ideal S1x4x192 .f32) (a b : Vec Ideal S1x1x192x128 .bf16) (A B : Fin 192 → Fin 128 → ℝ)
    (hz : ∀ r f, z (ix3 0 r f) = ((zr r f : ℝ) : EReal)) (ha : ∀ f i, a (ix4 0 0 f i) = ((A f i : ℝ) : EReal))
    (hb : ∀ f i, b (ix4 0 0 f i) = ((B f i : ℝ) : EReal)) (o : Fin 4) (o1 o2 : Nat) (hc h h1 h2) (h41 : 4 ≤ o1) (h42 : 4 ≤ o2) (ho1 : o1 < 16) (ho2 : o2 < 16) (i : Fin 128) :
    dRow (denT z a b) o.val o1 o2 128 hc h h1 h2 (ix2 0 i) = ((∑ f, zr o f * B f i : ℝ) : EReal) := by
  rw [dRow_val _ _ _ _ _ hc h h1 h2 (by omega) ho1 ho2 (by omega)]
  simp only [denT_row zr z a b A B hz ha hb, o.isLt, Nat.not_lt.mpr h41, Nat.not_lt.mpr h42, dite_true, dite_false, zero_mul, Finset.sum_const_zero, Nat.not_lt.mpr (Nat.le_add_right 128 _), Nat.add_sub_cancel_left, Fin.eta, EReal.coe_zero, add_zero]

theorem eq_cond (i j : Fin 128) : (IntOp.cmpi .eq (BitVec.ofNat 32 i.val) (BitVec.ofNat 32 j.val) : BitVec 1) = if i = j then 1#1 else 0#1 := by
  revert i j; decide +kernel

theorem quot_val (s nm : FVec Ideal S128x128 .f32) (d : FVec Ideal S1x128 .f32) (A N : Fin 128 → Fin 128 → ℝ) (D : Fin 128 → ℝ)
    (hs : ∀ i j, s (ix2 i j) = ((A i j : ℝ) : EReal)) (hn : ∀ i j, nm (ix2 i j) = ((N i j : ℝ) : EReal)) (hd : ∀ i, d (ix2 0 i) = ((D i : ℝ) : EReal))
    (i e : Fin 128) (h0 : ∑ j, A i j + D i ≠ 0) : quot s nm d (ix2 i e) = ((N i e / (∑ j, A i j + D i) : ℝ) : EReal) := by
  pointwise [quot, k0_pay115, k0_pay7]
  have one : ∀ (P : Prop) [Decidable P] (u : EReal), Scalar.select (if P then 1#1 else 0#1) u 0 = if P then u else 0 := by
    intro P _ u; split <;> simp [Scalar.select]
  simp only [hs, hn, hd, eq_cond, one]
  rw [Finset.sum_add_distrib, Finset.sum_ite_eq, if_pos (Finset.mem_univ _), ← coe_sum, ← EReal.coe_add, Ideal.div_coe h0, one_mul,
    ← EReal.coe_mul, mul_one_div]

theorem pairUp_val (a b : FVec Ideal S128x128 .f32) (i : Fin 128) (h : Fin 2) (d : Fin 128) :
    pairUp a b (ix4 0 i h d) = if h = 0 then a (ix2 i d) else b (ix2 i d) := by
  pointwise [pairUp]
  match h with
  | 0 => rfl
  | 1 => rfl

theorem incr_val0 (a b : Vec Ideal S1x1x192x128 .bf16) (v0 v1 : Vec Ideal S1x1x256x128 .bf16) (A : Fin 192 → Fin 128 → ℝ)
    (ha : ∀ f j, a (ix4 0 0 f j) = ((A f j : ℝ) : EReal)) (hv : ∀ (j d : Fin 128), v0 (ix4 0 0 ⟨j.val, by omega⟩ d) = ((V j d : ℝ) : EReal))
    (hv' : ∀ (j d : Fin 128), v0 (ix4 0 0 ⟨128 + j.val, by omega⟩ d) = 0) (h) (s : Vec Ideal S1x1x192x128 .f32)
    (hS : ∀ f d, s (ix4 0 0 f d) = ((S f d : ℝ) : EReal)) (f : Fin 192) (d : Fin 128) :
    st 0 h (incr a b v0 v1) s (ix2 f d) = ((S f d + ∑ j, A f j * V j d : ℝ) : EReal) := by
  pointwise [st, incr, keys, k0_pay123, k0_pay124]
  simp only [ha, hv, hv', hS, mul_zero, Finset.sum_const_zero, add_zero, ← EReal.coe_mul, ← coe_sum, ← EReal.coe_add]

theorem incr_val1 (a b : Vec Ideal S1x1x192x128 .bf16) (v0 v1 : Vec Ideal S1x1x256x128 .bf16) (B : Fin 192 → Fin 128 → ℝ)
    (hb : ∀ f j, b (ix4 0 0 f j) = ((B f j : ℝ) : EReal)) (hv : ∀ (j d : Fin 128), v1 (ix4 0 0 ⟨128 + j.val, by omega⟩ d) = ((V j d : ℝ) : EReal))
    (hv' : ∀ (j d : Fin 128), v1 (ix4 0 0 ⟨j.val, by omega⟩ d) = 0) (h) (s : Vec Ideal S1x1x192x128 .f32)
    (hS : ∀ f d, s (ix4 0 0 f d) = ((S f d : ℝ) : EReal)) (f : Fin 192) (d : Fin 128) :
    st 128 h (incr a b v0 v1) s (ix2 f d) = ((S f d + ∑ j, B f j * V j d : ℝ) : EReal) := by
  pointwise [st, incr, keys, k0_pay123, k0_pay124]
  simp only [hb, hv, hv', hS, mul_zero, Finset.sum_const_zero, zero_add, ← EReal.coe_mul, ← coe_sum, ← EReal.coe_add]

theorem put32_val (x : FVec Ideal S192x128 .f32) (f : Fin 192) (d : Fin 128) : put32 x (ix4 0 0 f d) = x (ix2 f d) := by pointwise [put32]
theorem put16_val (x : FVec Ideal S192x128 .f32) (f : Fin 192) (d : Fin 128) : put16 x (ix4 0 0 f d) = x (ix2 f d) := by pointwise [put16]
theorem rest_val (x : FVec Ideal S192x128 .f32) (X : Fin 192 → Fin 128 → ℝ) (hx : ∀ f d, x (ix2 f d) = ((X f d : ℝ) : EReal)) (f : Fin 192) (d : Fin 128) :
    rest x (ix2 f d) = 0 := by
  pointwise [rest]
  rw [hx, sub_coe]
theorem rest_rest_val (x : FVec Ideal S192x128 .f32) (X : Fin 192 → Fin 128 → ℝ) (hx : ∀ f d, x (ix2 f d) = ((X f d : ℝ) : EReal)) (f : Fin 192) (d : Fin 128) :
    rest (rest x) (ix2 f d) = 0 := by
  pointwise [rest]
  rw [hx, sub_coe, sub_zero]

/-- The flag of a row and a token of a pair of heads: the row is that of the token's head. -/
theorem z_cond (p : Fin 2) (r : Fin 4) (l : Fin 256) :
    IntOp.cmpi CmpIPredicate.eq (IntOp.subi (BitVec.ofNat 32 r.val) (BitVec.ofNat 32 (2 * p.val)))
      (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 128#32 0#32)) (Scalar.extui (Scalar.cmpi CmpIPredicate.slt 128#32 0#32))))
          (IntOp.cmpi CmpIPredicate.ne (IntOp.remsi ArithUnit.vector (BitVec.ofNat 32 l.val) 128#32) 0#32))
        (IntOp.subi (IntOp.divsi ArithUnit.vector (BitVec.ofNat 32 l.val) 128#32) 1#32)
        (IntOp.divsi ArithUnit.vector (BitVec.ofNat 32 l.val) 128#32))
      = if r.val = 2 * p.val + l.val / 128 then 1#1 else 0#1 := by
  revert p r l; decide +kernel

theorem zNew_val (v10 v11 : IVec S16x256 32) (h10 : ∀ r l, v10 (ix2 r l) = BitVec.ofNat 32 r.val) (h11 : ∀ r l, v11 (ix2 r l) = BitVec.ofNat 32 l.val)
    (zr : Fin 4 → Fin 192 → ℝ) (z : Vec Ideal S1x4x192 .f32) (a b a' b' : Vec Ideal S1x1x192x128 .bf16) (A : Fin 4 → Fin 192 → Fin 128 → ℝ)
    (hz : ∀ r f, z (ix3 0 r f) = ((zr r f : ℝ) : EReal)) (ha : ∀ f i, a (ix4 0 0 f i) = ((A 0 f i : ℝ) : EReal))
    (hb : ∀ f i, b (ix4 0 0 f i) = ((A 1 f i : ℝ) : EReal)) (ha' : ∀ f i, a' (ix4 0 0 f i) = ((A 2 f i : ℝ) : EReal))
    (hb' : ∀ f i, b' (ix4 0 0 f i) = ((A 3 f i : ℝ) : EReal)) (r : Fin 4) (f : Fin 192) :
    zNew v10 v11 z (keys a b) (keys a' b') (ix3 0 r f) = ((zr r f + ∑ j, A r f j : ℝ) : EReal) := by
  pointwise [zNew, keys, k0_pay123, k0_pay180, k0_pay99, k0_pay140, k0_pay138, k0_pay139, k0_pay176, k0_pay177, k0_pay178, k0_pay179]
  simp only [h10, h11, hz, ha, hb, ha', hb']
  have c0 := fun l => z_cond 0 r l
  have c1 := fun l => z_cond 1 r l
  simp only [Fin.val_zero, Fin.val_one, mul_zero, mul_one] at c0 c1
  have e0 : ∀ x : Fin 128, x.val / 128 = 0 := fun x => Nat.div_eq_of_lt x.isLt
  have e1 : ∀ x : Fin 128, (128 + x.val) / 128 = 1 := fun x => by omega
  have l0 := fun x : Fin 128 => c0 ⟨x.val, by omega⟩
  have l1 := fun x : Fin 128 => c0 ⟨128 + x.val, by omega⟩
  have l2 := fun x : Fin 128 => c1 ⟨x.val, by omega⟩
  have l3 := fun x : Fin 128 => c1 ⟨128 + x.val, by omega⟩
  simp only [e0, e1] at l0 l1 l2 l3
  simp only [l0, l1, l2, l3]
  have one : ∀ (P : Prop) [Decidable P] (u : EReal), Scalar.select (if P then 1#1 else 0#1) u 0 = if P then u else 0 := by
    intro P _ u; split <;> simp [Scalar.select]
  simp only [one]
  match r with
  | 0 => simp [← coe_sum, ← EReal.coe_add]
  | 1 => simp [← coe_sum, ← EReal.coe_add]
  | 2 => simp [← coe_sum, ← EReal.coe_add]
  | 3 => simp [← coe_sum, ← EReal.coe_add]

/-- The first and the second head's values of a pair. -/
def vlo (x : Vec Ideal S1x128x2x128 .bf16) : FVec Ideal S128x128 .bf16 := k0_pay105 x
def vhi (x : Vec Ideal S1x128x2x128 .bf16) : FVec Ideal S128x128 .bf16 := k0_pay106 x

theorem vlo_val (x : Vec Ideal S1x128x2x128 .bf16) (j d : Fin 128) : vlo x (ix2 j d) = x (ix4 0 j 0 d) := by pointwise [vlo, k0_pay105]
theorem vhi_val (x : Vec Ideal S1x128x2x128 .bf16) (j d : Fin 128) : vhi x (ix2 j d) = x (ix4 0 j 1 d) := by pointwise [vhi, k0_pay106]

end Cert.KernelIdeal.Head

end
-- ==== Proof.TripSt.lean ====
/-
  What a trip of the token loop starts from, read over the reals, and what it has to leave: the state after each of the two
  sub-blocks of 128 tokens, and the results of each.
-/
module

public import proofs.«01_k».proof.Proof.TripRun
public import proofs.«01_k».proof.Proof.Geo
public import proofs.«01_k».proof.Proof.Head

@[expose] public section

noncomputable section

namespace Cert.KernelIdeal.Trip

open Cert.KernelIdeal Cert.KernelIdeal.Gen Cert.KernelIdeal.Geo
open Idealize.ShloMosaic Idealize.ShloMosaic.TcCoe

section Spec
variable (k : Fin k0_t1_loop.trips) (qR kR : Fin 8 → Fin 192 → Fin 512 → ℝ) (vR : Fin 512 → Fin 8 → Fin 128 → ℝ)
  (sR : Fin 8 → Fin 192 → Fin 128 → ℝ) (zR : Fin 8 → Fin 192 → ℝ)

/-- The state before sub-block `n`. -/
def S0 (h : Fin 8) (f : Fin 192) (d : Fin 128) : ℝ := sR h f d
def S1 (h : Fin 8) (f : Fin 192) (d : Fin 128) : ℝ := S0 sR h f d + ∑ j, kR h f (tok k 0 j) * vR (tok k 0 j) h d
def S2 (h : Fin 8) (f : Fin 192) (d : Fin 128) : ℝ := S1 k kR vR sR h f d + ∑ j, kR h f (tok k 1 j) * vR (tok k 1 j) h d
/-- The key sums before sub-block `n`. -/
def Z0 (h : Fin 8) (f : Fin 192) : ℝ := zR h f
def Z1 (h : Fin 8) (f : Fin 192) : ℝ := Z0 zR h f + ∑ j, kR h f (tok k 0 j)
def Z2 (h : Fin 8) (f : Fin 192) : ℝ := Z1 k kR zR h f + ∑ j, kR h f (tok k 1 j)

/-- The causal scores of sub-block `n`. -/
def A (n : Fin 2) (h : Fin 8) (i j : Fin 128) : ℝ := if j ≤ i then ∑ f, qR h f (tok k n i) * kR h f (tok k n j) else 0
/-- The numerator and the denominator of a token of sub-block `n`, from the state `S` and the key sums `Z` before it. -/
def Nm (n : Fin 2) (S : Fin 8 → Fin 192 → Fin 128 → ℝ) (h : Fin 8) (i d : Fin 128) : ℝ :=
  ∑ j, A k qR kR n h i j * vR (tok k n j) h d + ∑ f, qR h f (tok k n i) * S h f d
def Dn (n : Fin 2) (Z : Fin 8 → Fin 192 → ℝ) (h : Fin 8) (i : Fin 128) : ℝ :=
  ∑ j, A k qR kR n h i j + ∑ f, Z h f * qR h f (tok k n i)
def Y0 (h : Fin 8) (i d : Fin 128) : ℝ := Nm k qR kR vR 0 (S0 sR) h i d / Dn k qR kR 0 (Z0 zR) h i
def Y1 (h : Fin 8) (i d : Fin 128) : ℝ := Nm k qR kR vR 1 (S1 k kR vR sR) h i d / Dn k qR kR 1 (Z1 k kR zR) h i
end Spec

/-- The buffers' contents at the start of a trip. -/
structure St (c : Dev nD) (k : Fin k0_t1_loop.trips) (v10 v11 : IVec S16x256 32)
    (arg3 : Memref sig .tc .vmem S1x8x192x512 .bf16) (f3 : Bf (F := Ideal) c arg3)
    (arg4 : Memref sig .tc .vmem S1x8x192x512 .bf16) (f4 : Bf (F := Ideal) c arg4)
    (arg5 : Memref sig .tc .vmem S1x512x8x128 .bf16) (f5 : Bf (F := Ideal) c arg5)
    (arg9 : Memref sig .tc .vmem S1x8x192x128 .f32) (f9 : Bf (F := Ideal) c arg9)
    (arg11 : Memref sig .tc .vmem S8x3x192x128 .bf16) (f11 : Bf (F := Ideal) c arg11)
    (arg12 : Memref sig .tc .vmem S2x4x192 .f32) (f12 : Bf (F := Ideal) c arg12)
    (arg16 : Memref sig .tc .vmem S2x2x2x256x128 .bf16) (f16 : Bf (F := Ideal) c arg16)
    (qR kR : Fin 8 → Fin 192 → Fin 512 → ℝ) (vR : Fin 512 → Fin 8 → Fin 128 → ℝ)
    (sR : Fin 8 → Fin 192 → Fin 128 → ℝ) (zR : Fin 8 → Fin 192 → ℝ) : Prop where
  i10 : ∀ r l, v10 (ix2 r l) = BitVec.ofNat 32 r.val
  i11 : ∀ r l, v11 (ix2 r l) = BitVec.ofNat 32 l.val
  h3 : ∀ h f t, arg3.view.read (Elt Ideal) f3 (ix4 0 h f t) = ((qR h f t : ℝ) : EReal)
  h4 : ∀ h f t, arg4.view.read (Elt Ideal) f4 (ix4 0 h f t) = ((kR h f t : ℝ) : EReal)
  h5 : ∀ t h d, arg5.view.read (Elt Ideal) f5 (ix4 0 t h d) = ((vR t h d : ℝ) : EReal)
  h9 : ∀ h f d, arg9.view.read (Elt Ideal) f9 (ix4 0 h f d) = ((sR h f d : ℝ) : EReal)
  h11 : ∀ h f d, arg11.view.read (Elt Ideal) f11 (ix4 h 0 f d) = ((sR h f d : ℝ) : EReal)
  h11a : ∀ h f d, arg11.view.read (Elt Ideal) f11 (ix4 h 1 f d) = 0
  h11b : ∀ h f d, arg11.view.read (Elt Ideal) f11 (ix4 h 2 f d) = 0
  h12 : ∀ (q : Fin 2) (a : Fin 4) f, arg12.view.read (Elt Ideal) f12 (ix3 q a f) = ((zR ⟨4 * q.val + a.val, by omega⟩ f : ℝ) : EReal)
  h16 : ∀ (q p h : Fin 2) (l : Fin 256) d, l.val / 128 ≠ h.val → arg16.view.read (Elt Ideal) f16 (ix5 q p h l d) = 0
  d0 : ∀ h i, Dn k qR kR 0 (Z0 zR) h i ≠ 0
  d1 : ∀ h i, Dn k qR kR 1 (Z1 k kR zR) h i ≠ 0

end Cert.KernelIdeal.Trip

end
-- ==== Proof.Pack13.lean ====
/-
  The packed blocks of buffer 13 after a trip has filled them.
-/
module

public import proofs.«01_k».proof.Proof.TripRun
public import proofs.«01_k».proof.Proof.Geo

@[expose] public section

set_option maxRecDepth 16384

noncomputable section

namespace Cert.KernelIdeal.Trip

open Cert.KernelIdeal Cert.KernelIdeal.Gen Cert.KernelIdeal.Geo
open Idealize.ShloMosaic Idealize.ShloMosaic.TcCoe

variable (c : Dev nD) (k : Fin k0_t1_loop.trips)
  (arg3 : Memref sig .tc .vmem S1x8x192x512 .bf16) (f3 : Bf (F := Ideal) c arg3)
  (arg13 : Memref sig .tc .vmem S2x4x2x192x128 .bf16) (f13 : Bf (F := Ideal) c arg13)
theorem pqt_0_0_0 (f : Fin 192) (i : Fin 128) :
    arg13.view.read (Elt Ideal) (arg13.view.writes (Elt Ideal) f13 (tripRun.sl.H13_8 c arg3 k f3)) (ix5 ⟨0, by decide⟩ ⟨0, by decide⟩ ⟨0, by decide⟩ f i)
      = arg3.view.read (Elt Ideal) f3 (ix4 0 0 f (tok k 0 i)) := by
  simp only [tripRun.sl.H13_1, tripRun.sl.H13_2, tripRun.sl.H13_3, tripRun.sl.H13_4, tripRun.sl.H13_5, tripRun.sl.H13_6, tripRun.sl.H13_7, tripRun.sl.H13_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w1, tripRun.sl.v61, tripRun.sl.v28]
  exact ld3 arg3 f3 k 0 0 _ (k0_off1_eq k 0) _ f i

theorem pqt_0_0_1 (f : Fin 192) (i : Fin 128) :
    arg13.view.read (Elt Ideal) (arg13.view.writes (Elt Ideal) f13 (tripRun.sl.H13_8 c arg3 k f3)) (ix5 ⟨0, by decide⟩ ⟨0, by decide⟩ ⟨1, by decide⟩ f i)
      = arg3.view.read (Elt Ideal) f3 (ix4 0 0 f (tok k 1 i)) := by
  simp only [tripRun.sl.H13_1, tripRun.sl.H13_2, tripRun.sl.H13_3, tripRun.sl.H13_4, tripRun.sl.H13_5, tripRun.sl.H13_6, tripRun.sl.H13_7, tripRun.sl.H13_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w4, tripRun.sl.v77, tripRun.sl.v32]
  exact ld3 arg3 f3 k 1 0 _ (k0_off1_eq k 1) _ f i

theorem pqt_0_1_0 (f : Fin 192) (i : Fin 128) :
    arg13.view.read (Elt Ideal) (arg13.view.writes (Elt Ideal) f13 (tripRun.sl.H13_8 c arg3 k f3)) (ix5 ⟨0, by decide⟩ ⟨1, by decide⟩ ⟨0, by decide⟩ f i)
      = arg3.view.read (Elt Ideal) f3 (ix4 0 1 f (tok k 0 i)) := by
  simp only [tripRun.sl.H13_1, tripRun.sl.H13_2, tripRun.sl.H13_3, tripRun.sl.H13_4, tripRun.sl.H13_5, tripRun.sl.H13_6, tripRun.sl.H13_7, tripRun.sl.H13_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w7, tripRun.sl.v93, tripRun.sl.v36]
  exact ld3 arg3 f3 k 0 1 _ (k0_off2_eq k 0) _ f i

theorem pqt_0_1_1 (f : Fin 192) (i : Fin 128) :
    arg13.view.read (Elt Ideal) (arg13.view.writes (Elt Ideal) f13 (tripRun.sl.H13_8 c arg3 k f3)) (ix5 ⟨0, by decide⟩ ⟨1, by decide⟩ ⟨1, by decide⟩ f i)
      = arg3.view.read (Elt Ideal) f3 (ix4 0 1 f (tok k 1 i)) := by
  simp only [tripRun.sl.H13_1, tripRun.sl.H13_2, tripRun.sl.H13_3, tripRun.sl.H13_4, tripRun.sl.H13_5, tripRun.sl.H13_6, tripRun.sl.H13_7, tripRun.sl.H13_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w10, tripRun.sl.v109, tripRun.sl.v40]
  exact ld3 arg3 f3 k 1 1 _ (k0_off2_eq k 1) _ f i

theorem pqt_0_2_0 (f : Fin 192) (i : Fin 128) :
    arg13.view.read (Elt Ideal) (arg13.view.writes (Elt Ideal) f13 (tripRun.sl.H13_8 c arg3 k f3)) (ix5 ⟨0, by decide⟩ ⟨2, by decide⟩ ⟨0, by decide⟩ f i)
      = arg3.view.read (Elt Ideal) f3 (ix4 0 2 f (tok k 0 i)) := by
  simp only [tripRun.sl.H13_1, tripRun.sl.H13_2, tripRun.sl.H13_3, tripRun.sl.H13_4, tripRun.sl.H13_5, tripRun.sl.H13_6, tripRun.sl.H13_7, tripRun.sl.H13_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w13, tripRun.sl.v157, tripRun.sl.v124]
  exact ld3 arg3 f3 k 0 2 _ (k0_off3_eq k 0) _ f i

theorem pqt_0_2_1 (f : Fin 192) (i : Fin 128) :
    arg13.view.read (Elt Ideal) (arg13.view.writes (Elt Ideal) f13 (tripRun.sl.H13_8 c arg3 k f3)) (ix5 ⟨0, by decide⟩ ⟨2, by decide⟩ ⟨1, by decide⟩ f i)
      = arg3.view.read (Elt Ideal) f3 (ix4 0 2 f (tok k 1 i)) := by
  simp only [tripRun.sl.H13_1, tripRun.sl.H13_2, tripRun.sl.H13_3, tripRun.sl.H13_4, tripRun.sl.H13_5, tripRun.sl.H13_6, tripRun.sl.H13_7, tripRun.sl.H13_8]
  rw [miss13 _ _ _ _ _ _ _ _ _ _ _ _ _ _ _ _ (by decide)]
  rw [miss13 _ _ _ _ _ _ _ _ _ _ _ _ _ _ _ _ (by decide)]
  rw [hit13]
  pointwise [tripRun.sl.k0_w16, tripRun.sl.v173, tripRun.sl.v128]
  exact ld3 arg3 f3 k 1 2 _ (k0_off3_eq k 1) _ f i

theorem pqt_0_3_0 (f : Fin 192) (i : Fin 128) :
    arg13.view.read (Elt Ideal) (arg13.view.writes (Elt Ideal) f13 (tripRun.sl.H13_8 c arg3 k f3)) (ix5 ⟨0, by decide⟩ ⟨3, by decide⟩ ⟨0, by decide⟩ f i)
      = arg3.view.read (Elt Ideal) f3 (ix4 0 3 f (tok k 0 i)) := by
  simp only [tripRun.sl.H13_1, tripRun.sl.H13_2, tripRun.sl.H13_3, tripRun.sl.H13_4, tripRun.sl.H13_5, tripRun.sl.H13_6, tripRun.sl.H13_7, tripRun.sl.H13_8]
  rw [miss13 _ _ _ _ _ _ _ _ _ _ _ _ _ _ _ _ (by decide)]
  rw [hit13]
  pointwise [tripRun.sl.k0_w19, tripRun.sl.v189, tripRun.sl.v132]
  exact ld3 arg3 f3 k 0 3 _ (k0_off4_eq k 0) _ f i

theorem pqt_0_3_1 (f : Fin 192) (i : Fin 128) :
    arg13.view.read (Elt Ideal) (arg13.view.writes (Elt Ideal) f13 (tripRun.sl.H13_8 c arg3 k f3)) (ix5 ⟨0, by decide⟩ ⟨3, by decide⟩ ⟨1, by decide⟩ f i)
      = arg3.view.read (Elt Ideal) f3 (ix4 0 3 f (tok k 1 i)) := by
  simp only [tripRun.sl.H13_1, tripRun.sl.H13_2, tripRun.sl.H13_3, tripRun.sl.H13_4, tripRun.sl.H13_5, tripRun.sl.H13_6, tripRun.sl.H13_7, tripRun.sl.H13_8]
  rw [hit13]
  pointwise [k0_pay96, tripRun.sl.v136]
  exact ld3 arg3 f3 k 1 3 _ (k0_off4_eq k 1) _ f i

theorem pqt_1_0_0 (f : Fin 192) (i : Fin 128) :
    arg13.view.read (Elt Ideal) (arg13.view.writes (Elt Ideal) (arg13.view.junk) (tripRun.sl.H13_16 c arg3 k f3)) (ix5 ⟨1, by decide⟩ ⟨0, by decide⟩ ⟨0, by decide⟩ f i)
      = arg3.view.read (Elt Ideal) f3 (ix4 0 4 f (tok k 0 i)) := by
  simp only [tripRun.sl.H13_1, tripRun.sl.H13_2, tripRun.sl.H13_3, tripRun.sl.H13_4, tripRun.sl.H13_5, tripRun.sl.H13_6, tripRun.sl.H13_7, tripRun.sl.H13_8, tripRun.sl.H13_9, tripRun.sl.H13_10, tripRun.sl.H13_11, tripRun.sl.H13_12, tripRun.sl.H13_13, tripRun.sl.H13_14, tripRun.sl.H13_15, tripRun.sl.H13_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w37, tripRun.sl.v1375, tripRun.sl.v1342]
  exact ld3 arg3 f3 k 0 4 _ (k0_off10_eq k 0) _ f i

theorem pqt_1_0_1 (f : Fin 192) (i : Fin 128) :
    arg13.view.read (Elt Ideal) (arg13.view.writes (Elt Ideal) (arg13.view.junk) (tripRun.sl.H13_16 c arg3 k f3)) (ix5 ⟨1, by decide⟩ ⟨0, by decide⟩ ⟨1, by decide⟩ f i)
      = arg3.view.read (Elt Ideal) f3 (ix4 0 4 f (tok k 1 i)) := by
  simp only [tripRun.sl.H13_1, tripRun.sl.H13_2, tripRun.sl.H13_3, tripRun.sl.H13_4, tripRun.sl.H13_5, tripRun.sl.H13_6, tripRun.sl.H13_7, tripRun.sl.H13_8, tripRun.sl.H13_9, tripRun.sl.H13_10, tripRun.sl.H13_11, tripRun.sl.H13_12, tripRun.sl.H13_13, tripRun.sl.H13_14, tripRun.sl.H13_15, tripRun.sl.H13_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w40, tripRun.sl.v1391, tripRun.sl.v1346]
  exact ld3 arg3 f3 k 1 4 _ (k0_off10_eq k 1) _ f i

theorem pqt_1_1_0 (f : Fin 192) (i : Fin 128) :
    arg13.view.read (Elt Ideal) (arg13.view.writes (Elt Ideal) (arg13.view.junk) (tripRun.sl.H13_16 c arg3 k f3)) (ix5 ⟨1, by decide⟩ ⟨1, by decide⟩ ⟨0, by decide⟩ f i)
      = arg3.view.read (Elt Ideal) f3 (ix4 0 5 f (tok k 0 i)) := by
  simp only [tripRun.sl.H13_1, tripRun.sl.H13_2, tripRun.sl.H13_3, tripRun.sl.H13_4, tripRun.sl.H13_5, tripRun.sl.H13_6, tripRun.sl.H13_7, tripRun.sl.H13_8, tripRun.sl.H13_9, tripRun.sl.H13_10, tripRun.sl.H13_11, tripRun.sl.H13_12, tripRun.sl.H13_13, tripRun.sl.H13_14, tripRun.sl.H13_15, tripRun.sl.H13_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w43, tripRun.sl.v1407, tripRun.sl.v1350]
  exact ld3 arg3 f3 k 0 5 _ (k0_off11_eq k 0) _ f i

theorem pqt_1_1_1 (f : Fin 192) (i : Fin 128) :
    arg13.view.read (Elt Ideal) (arg13.view.writes (Elt Ideal) (arg13.view.junk) (tripRun.sl.H13_16 c arg3 k f3)) (ix5 ⟨1, by decide⟩ ⟨1, by decide⟩ ⟨1, by decide⟩ f i)
      = arg3.view.read (Elt Ideal) f3 (ix4 0 5 f (tok k 1 i)) := by
  simp only [tripRun.sl.H13_1, tripRun.sl.H13_2, tripRun.sl.H13_3, tripRun.sl.H13_4, tripRun.sl.H13_5, tripRun.sl.H13_6, tripRun.sl.H13_7, tripRun.sl.H13_8, tripRun.sl.H13_9, tripRun.sl.H13_10, tripRun.sl.H13_11, tripRun.sl.H13_12, tripRun.sl.H13_13, tripRun.sl.H13_14, tripRun.sl.H13_15, tripRun.sl.H13_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w46, tripRun.sl.v1423, tripRun.sl.v1354]
  exact ld3 arg3 f3 k 1 5 _ (k0_off11_eq k 1) _ f i

theorem pqt_1_2_0 (f : Fin 192) (i : Fin 128) :
    arg13.view.read (Elt Ideal) (arg13.view.writes (Elt Ideal) (arg13.view.junk) (tripRun.sl.H13_16 c arg3 k f3)) (ix5 ⟨1, by decide⟩ ⟨2, by decide⟩ ⟨0, by decide⟩ f i)
      = arg3.view.read (Elt Ideal) f3 (ix4 0 6 f (tok k 0 i)) := by
  simp only [tripRun.sl.H13_1, tripRun.sl.H13_2, tripRun.sl.H13_3, tripRun.sl.H13_4, tripRun.sl.H13_5, tripRun.sl.H13_6, tripRun.sl.H13_7, tripRun.sl.H13_8, tripRun.sl.H13_9, tripRun.sl.H13_10, tripRun.sl.H13_11, tripRun.sl.H13_12, tripRun.sl.H13_13, tripRun.sl.H13_14, tripRun.sl.H13_15, tripRun.sl.H13_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w49, tripRun.sl.v1471, tripRun.sl.v1438]
  exact ld3 arg3 f3 k 0 6 _ (k0_off12_eq k 0) _ f i

theorem pqt_1_2_1 (f : Fin 192) (i : Fin 128) :
    arg13.view.read (Elt Ideal) (arg13.view.writes (Elt Ideal) (arg13.view.junk) (tripRun.sl.H13_16 c arg3 k f3)) (ix5 ⟨1, by decide⟩ ⟨2, by decide⟩ ⟨1, by decide⟩ f i)
      = arg3.view.read (Elt Ideal) f3 (ix4 0 6 f (tok k 1 i)) := by
  simp only [tripRun.sl.H13_1, tripRun.sl.H13_2, tripRun.sl.H13_3, tripRun.sl.H13_4, tripRun.sl.H13_5, tripRun.sl.H13_6, tripRun.sl.H13_7, tripRun.sl.H13_8, tripRun.sl.H13_9, tripRun.sl.H13_10, tripRun.sl.H13_11, tripRun.sl.H13_12, tripRun.sl.H13_13, tripRun.sl.H13_14, tripRun.sl.H13_15, tripRun.sl.H13_16]
  rw [miss13 _ _ _ _ _ _ _ _ _ _ _ _ _ _ _ _ (by decide)]
  rw [miss13 _ _ _ _ _ _ _ _ _ _ _ _ _ _ _ _ (by decide)]
  rw [hit13]
  pointwise [tripRun.sl.k0_w52, tripRun.sl.v1487, tripRun.sl.v1442]
  exact ld3 arg3 f3 k 1 6 _ (k0_off12_eq k 1) _ f i

theorem pqt_1_3_0 (f : Fin 192) (i : Fin 128) :
    arg13.view.read (Elt Ideal) (arg13.view.writes (Elt Ideal) (arg13.view.junk) (tripRun.sl.H13_16 c arg3 k f3)) (ix5 ⟨1, by decide⟩ ⟨3, by decide⟩ ⟨0, by decide⟩ f i)
      = arg3.view.read (Elt Ideal) f3 (ix4 0 7 f (tok k 0 i)) := by
  simp only [tripRun.sl.H13_1, tripRun.sl.H13_2, tripRun.sl.H13_3, tripRun.sl.H13_4, tripRun.sl.H13_5, tripRun.sl.H13_6, tripRun.sl.H13_7, tripRun.sl.H13_8, tripRun.sl.H13_9, tripRun.sl.H13_10, tripRun.sl.H13_11, tripRun.sl.H13_12, tripRun.sl.H13_13, tripRun.sl.H13_14, tripRun.sl.H13_15, tripRun.sl.H13_16]
  rw [miss13 _ _ _ _ _ _ _ _ _ _ _ _ _ _ _ _ (by decide)]
  rw [hit13]
  pointwise [tripRun.sl.k0_w55, tripRun.sl.v1503, tripRun.sl.v1446]
  exact ld3 arg3 f3 k 0 7 _ (k0_off13_eq k 0) _ f i

theorem pqt_1_3_1 (f : Fin 192) (i : Fin 128) :
    arg13.view.read (Elt Ideal) (arg13.view.writes (Elt Ideal) (arg13.view.junk) (tripRun.sl.H13_16 c arg3 k f3)) (ix5 ⟨1, by decide⟩ ⟨3, by decide⟩ ⟨1, by decide⟩ f i)
      = arg3.view.read (Elt Ideal) f3 (ix4 0 7 f (tok k 1 i)) := by
  simp only [tripRun.sl.H13_1, tripRun.sl.H13_2, tripRun.sl.H13_3, tripRun.sl.H13_4, tripRun.sl.H13_5, tripRun.sl.H13_6, tripRun.sl.H13_7, tripRun.sl.H13_8, tripRun.sl.H13_9, tripRun.sl.H13_10, tripRun.sl.H13_11, tripRun.sl.H13_12, tripRun.sl.H13_13, tripRun.sl.H13_14, tripRun.sl.H13_15, tripRun.sl.H13_16]
  rw [hit13]
  pointwise [k0_pay294, tripRun.sl.v1450]
  exact ld3 arg3 f3 k 1 7 _ (k0_off13_eq k 1) _ f i

end Cert.KernelIdeal.Trip

end
-- ==== Proof.Pack14.lean ====
/-
  The packed blocks of buffer 14 after a trip has filled them.
-/
module

public import proofs.«01_k».proof.Proof.TripRun
public import proofs.«01_k».proof.Proof.Geo

@[expose] public section

set_option maxRecDepth 16384

noncomputable section

namespace Cert.KernelIdeal.Trip

open Cert.KernelIdeal Cert.KernelIdeal.Gen Cert.KernelIdeal.Geo
open Idealize.ShloMosaic Idealize.ShloMosaic.TcCoe

variable (c : Dev nD) (k : Fin k0_t1_loop.trips)
  (arg3 : Memref sig .tc .vmem S1x8x192x512 .bf16) (f3 : Bf (F := Ideal) c arg3)
  (arg14 : Memref sig .tc .vmem S2x4x2x128x192 .bf16) (f14 : Bf (F := Ideal) c arg14)
theorem pq_0_0_0 (f : Fin 192) (i : Fin 128) :
    arg14.view.read (Elt Ideal) (arg14.view.writes (Elt Ideal) f14 (tripRun.sl.H14_8 c arg3 k f3)) (ix5 ⟨0, by decide⟩ ⟨0, by decide⟩ ⟨0, by decide⟩ i f)
      = arg3.view.read (Elt Ideal) f3 (ix4 0 0 f (tok k 0 i)) := by
  simp only [tripRun.sl.H14_1, tripRun.sl.H14_2, tripRun.sl.H14_3, tripRun.sl.H14_4, tripRun.sl.H14_5, tripRun.sl.H14_6, tripRun.sl.H14_7, tripRun.sl.H14_8]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w3, tripRun.sl.v72, tripRun.sl.v67, tripRun.sl.v28]
  exact ld3 arg3 f3 k 0 0 _ (k0_off1_eq k 0) _ f i

theorem pq_0_0_1 (f : Fin 192) (i : Fin 128) :
    arg14.view.read (Elt Ideal) (arg14.view.writes (Elt Ideal) f14 (tripRun.sl.H14_8 c arg3 k f3)) (ix5 ⟨0, by decide⟩ ⟨0, by decide⟩ ⟨1, by decide⟩ i f)
      = arg3.view.read (Elt Ideal) f3 (ix4 0 0 f (tok k 1 i)) := by
  simp only [tripRun.sl.H14_1, tripRun.sl.H14_2, tripRun.sl.H14_3, tripRun.sl.H14_4, tripRun.sl.H14_5, tripRun.sl.H14_6, tripRun.sl.H14_7, tripRun.sl.H14_8]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w6, tripRun.sl.v88, tripRun.sl.v83, tripRun.sl.v32]
  exact ld3 arg3 f3 k 1 0 _ (k0_off1_eq k 1) _ f i

theorem pq_0_1_0 (f : Fin 192) (i : Fin 128) :
    arg14.view.read (Elt Ideal) (arg14.view.writes (Elt Ideal) f14 (tripRun.sl.H14_8 c arg3 k f3)) (ix5 ⟨0, by decide⟩ ⟨1, by decide⟩ ⟨0, by decide⟩ i f)
      = arg3.view.read (Elt Ideal) f3 (ix4 0 1 f (tok k 0 i)) := by
  simp only [tripRun.sl.H14_1, tripRun.sl.H14_2, tripRun.sl.H14_3, tripRun.sl.H14_4, tripRun.sl.H14_5, tripRun.sl.H14_6, tripRun.sl.H14_7, tripRun.sl.H14_8]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w9, tripRun.sl.v104, tripRun.sl.v99, tripRun.sl.v36]
  exact ld3 arg3 f3 k 0 1 _ (k0_off2_eq k 0) _ f i

theorem pq_0_1_1 (f : Fin 192) (i : Fin 128) :
    arg14.view.read (Elt Ideal) (arg14.view.writes (Elt Ideal) f14 (tripRun.sl.H14_8 c arg3 k f3)) (ix5 ⟨0, by decide⟩ ⟨1, by decide⟩ ⟨1, by decide⟩ i f)
      = arg3.view.read (Elt Ideal) f3 (ix4 0 1 f (tok k 1 i)) := by
  simp only [tripRun.sl.H14_1, tripRun.sl.H14_2, tripRun.sl.H14_3, tripRun.sl.H14_4, tripRun.sl.H14_5, tripRun.sl.H14_6, tripRun.sl.H14_7, tripRun.sl.H14_8]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w12, tripRun.sl.v120, tripRun.sl.v115, tripRun.sl.v40]
  exact ld3 arg3 f3 k 1 1 _ (k0_off2_eq k 1) _ f i

theorem pq_0_2_0 (f : Fin 192) (i : Fin 128) :
    arg14.view.read (Elt Ideal) (arg14.view.writes (Elt Ideal) f14 (tripRun.sl.H14_8 c arg3 k f3)) (ix5 ⟨0, by decide⟩ ⟨2, by decide⟩ ⟨0, by decide⟩ i f)
      = arg3.view.read (Elt Ideal) f3 (ix4 0 2 f (tok k 0 i)) := by
  simp only [tripRun.sl.H14_1, tripRun.sl.H14_2, tripRun.sl.H14_3, tripRun.sl.H14_4, tripRun.sl.H14_5, tripRun.sl.H14_6, tripRun.sl.H14_7, tripRun.sl.H14_8]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w15, tripRun.sl.v168, tripRun.sl.v163, tripRun.sl.v124]
  exact ld3 arg3 f3 k 0 2 _ (k0_off3_eq k 0) _ f i

theorem pq_0_2_1 (f : Fin 192) (i : Fin 128) :
    arg14.view.read (Elt Ideal) (arg14.view.writes (Elt Ideal) f14 (tripRun.sl.H14_8 c arg3 k f3)) (ix5 ⟨0, by decide⟩ ⟨2, by decide⟩ ⟨1, by decide⟩ i f)
      = arg3.view.read (Elt Ideal) f3 (ix4 0 2 f (tok k 1 i)) := by
  simp only [tripRun.sl.H14_1, tripRun.sl.H14_2, tripRun.sl.H14_3, tripRun.sl.H14_4, tripRun.sl.H14_5, tripRun.sl.H14_6, tripRun.sl.H14_7, tripRun.sl.H14_8]
  rw [miss14 _ _ _ _ _ _ _ _ _ _ _ _ _ _ _ _ (by decide)]
  rw [miss14 _ _ _ _ _ _ _ _ _ _ _ _ _ _ _ _ (by decide)]
  rw [hit14]
  pointwise [tripRun.sl.k0_w18, tripRun.sl.v184, tripRun.sl.v179, tripRun.sl.v128]
  exact ld3 arg3 f3 k 1 2 _ (k0_off3_eq k 1) _ f i

theorem pq_0_3_0 (f : Fin 192) (i : Fin 128) :
    arg14.view.read (Elt Ideal) (arg14.view.writes (Elt Ideal) f14 (tripRun.sl.H14_8 c arg3 k f3)) (ix5 ⟨0, by decide⟩ ⟨3, by decide⟩ ⟨0, by decide⟩ i f)
      = arg3.view.read (Elt Ideal) f3 (ix4 0 3 f (tok k 0 i)) := by
  simp only [tripRun.sl.H14_1, tripRun.sl.H14_2, tripRun.sl.H14_3, tripRun.sl.H14_4, tripRun.sl.H14_5, tripRun.sl.H14_6, tripRun.sl.H14_7, tripRun.sl.H14_8]
  rw [miss14 _ _ _ _ _ _ _ _ _ _ _ _ _ _ _ _ (by decide)]
  rw [hit14]
  pointwise [tripRun.sl.k0_w21, tripRun.sl.v200, tripRun.sl.v195, tripRun.sl.v132]
  exact ld3 arg3 f3 k 0 3 _ (k0_off4_eq k 0) _ f i

theorem pq_0_3_1 (f : Fin 192) (i : Fin 128) :
    arg14.view.read (Elt Ideal) (arg14.view.writes (Elt Ideal) f14 (tripRun.sl.H14_8 c arg3 k f3)) (ix5 ⟨0, by decide⟩ ⟨3, by decide⟩ ⟨1, by decide⟩ i f)
      = arg3.view.read (Elt Ideal) f3 (ix4 0 3 f (tok k 1 i)) := by
  simp only [tripRun.sl.H14_1, tripRun.sl.H14_2, tripRun.sl.H14_3, tripRun.sl.H14_4, tripRun.sl.H14_5, tripRun.sl.H14_6, tripRun.sl.H14_7, tripRun.sl.H14_8]
  rw [hit14]
  pointwise [k0_pay98, tripRun.sl.v136]
  exact ld3 arg3 f3 k 1 3 _ (k0_off4_eq k 1) _ f i

theorem pq_1_0_0 (f : Fin 192) (i : Fin 128) :
    arg14.view.read (Elt Ideal) (arg14.view.writes (Elt Ideal) (arg14.view.junk) (tripRun.sl.H14_16 c arg3 k f3)) (ix5 ⟨1, by decide⟩ ⟨0, by decide⟩ ⟨0, by decide⟩ i f)
      = arg3.view.read (Elt Ideal) f3 (ix4 0 4 f (tok k 0 i)) := by
  simp only [tripRun.sl.H14_1, tripRun.sl.H14_2, tripRun.sl.H14_3, tripRun.sl.H14_4, tripRun.sl.H14_5, tripRun.sl.H14_6, tripRun.sl.H14_7, tripRun.sl.H14_8, tripRun.sl.H14_9, tripRun.sl.H14_10, tripRun.sl.H14_11, tripRun.sl.H14_12, tripRun.sl.H14_13, tripRun.sl.H14_14, tripRun.sl.H14_15, tripRun.sl.H14_16]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w39, tripRun.sl.v1386, tripRun.sl.v1381, tripRun.sl.v1342]
  exact ld3 arg3 f3 k 0 4 _ (k0_off10_eq k 0) _ f i

theorem pq_1_0_1 (f : Fin 192) (i : Fin 128) :
    arg14.view.read (Elt Ideal) (arg14.view.writes (Elt Ideal) (arg14.view.junk) (tripRun.sl.H14_16 c arg3 k f3)) (ix5 ⟨1, by decide⟩ ⟨0, by decide⟩ ⟨1, by decide⟩ i f)
      = arg3.view.read (Elt Ideal) f3 (ix4 0 4 f (tok k 1 i)) := by
  simp only [tripRun.sl.H14_1, tripRun.sl.H14_2, tripRun.sl.H14_3, tripRun.sl.H14_4, tripRun.sl.H14_5, tripRun.sl.H14_6, tripRun.sl.H14_7, tripRun.sl.H14_8, tripRun.sl.H14_9, tripRun.sl.H14_10, tripRun.sl.H14_11, tripRun.sl.H14_12, tripRun.sl.H14_13, tripRun.sl.H14_14, tripRun.sl.H14_15, tripRun.sl.H14_16]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w42, tripRun.sl.v1402, tripRun.sl.v1397, tripRun.sl.v1346]
  exact ld3 arg3 f3 k 1 4 _ (k0_off10_eq k 1) _ f i

theorem pq_1_1_0 (f : Fin 192) (i : Fin 128) :
    arg14.view.read (Elt Ideal) (arg14.view.writes (Elt Ideal) (arg14.view.junk) (tripRun.sl.H14_16 c arg3 k f3)) (ix5 ⟨1, by decide⟩ ⟨1, by decide⟩ ⟨0, by decide⟩ i f)
      = arg3.view.read (Elt Ideal) f3 (ix4 0 5 f (tok k 0 i)) := by
  simp only [tripRun.sl.H14_1, tripRun.sl.H14_2, tripRun.sl.H14_3, tripRun.sl.H14_4, tripRun.sl.H14_5, tripRun.sl.H14_6, tripRun.sl.H14_7, tripRun.sl.H14_8, tripRun.sl.H14_9, tripRun.sl.H14_10, tripRun.sl.H14_11, tripRun.sl.H14_12, tripRun.sl.H14_13, tripRun.sl.H14_14, tripRun.sl.H14_15, tripRun.sl.H14_16]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w45, tripRun.sl.v1418, tripRun.sl.v1413, tripRun.sl.v1350]
  exact ld3 arg3 f3 k 0 5 _ (k0_off11_eq k 0) _ f i

theorem pq_1_1_1 (f : Fin 192) (i : Fin 128) :
    arg14.view.read (Elt Ideal) (arg14.view.writes (Elt Ideal) (arg14.view.junk) (tripRun.sl.H14_16 c arg3 k f3)) (ix5 ⟨1, by decide⟩ ⟨1, by decide⟩ ⟨1, by decide⟩ i f)
      = arg3.view.read (Elt Ideal) f3 (ix4 0 5 f (tok k 1 i)) := by
  simp only [tripRun.sl.H14_1, tripRun.sl.H14_2, tripRun.sl.H14_3, tripRun.sl.H14_4, tripRun.sl.H14_5, tripRun.sl.H14_6, tripRun.sl.H14_7, tripRun.sl.H14_8, tripRun.sl.H14_9, tripRun.sl.H14_10, tripRun.sl.H14_11, tripRun.sl.H14_12, tripRun.sl.H14_13, tripRun.sl.H14_14, tripRun.sl.H14_15, tripRun.sl.H14_16]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w48, tripRun.sl.v1434, tripRun.sl.v1429, tripRun.sl.v1354]
  exact ld3 arg3 f3 k 1 5 _ (k0_off11_eq k 1) _ f i

theorem pq_1_2_0 (f : Fin 192) (i : Fin 128) :
    arg14.view.read (Elt Ideal) (arg14.view.writes (Elt Ideal) (arg14.view.junk) (tripRun.sl.H14_16 c arg3 k f3)) (ix5 ⟨1, by decide⟩ ⟨2, by decide⟩ ⟨0, by decide⟩ i f)
      = arg3.view.read (Elt Ideal) f3 (ix4 0 6 f (tok k 0 i)) := by
  simp only [tripRun.sl.H14_1, tripRun.sl.H14_2, tripRun.sl.H14_3, tripRun.sl.H14_4, tripRun.sl.H14_5, tripRun.sl.H14_6, tripRun.sl.H14_7, tripRun.sl.H14_8, tripRun.sl.H14_9, tripRun.sl.H14_10, tripRun.sl.H14_11, tripRun.sl.H14_12, tripRun.sl.H14_13, tripRun.sl.H14_14, tripRun.sl.H14_15, tripRun.sl.H14_16]
  rw [miss14 _ _ _ _ _ _ _ _ _ _ _ _ _ _ _ _ (by decide)]
  rw [miss14 _ _ _ _ _ _ _ _ _ _ _ _ _ _ _ _ (by decide)]
  rw [miss14 _ _ _ _ _ _ _ _ _ _ _ _ _ _ _ _ (by decide)]
  rw [hit14]
  pointwise [tripRun.sl.k0_w51, tripRun.sl.v1482, tripRun.sl.v1477, tripRun.sl.v1438]
  exact ld3 arg3 f3 k 0 6 _ (k0_off12_eq k 0) _ f i

theorem pq_1_2_1 (f : Fin 192) (i : Fin 128) :
    arg14.view.read (Elt Ideal) (arg14.view.writes (Elt Ideal) (arg14.view.junk) (tripRun.sl.H14_16 c arg3 k f3)) (ix5 ⟨1, by decide⟩ ⟨2, by decide⟩ ⟨1, by decide⟩ i f)
      = arg3.view.read (Elt Ideal) f3 (ix4 0 6 f (tok k 1 i)) := by
  simp only [tripRun.sl.H14_1, tripRun.sl.H14_2, tripRun.sl.H14_3, tripRun.sl.H14_4, tripRun.sl.H14_5, tripRun.sl.H14_6, tripRun.sl.H14_7, tripRun.sl.H14_8, tripRun.sl.H14_9, tripRun.sl.H14_10, tripRun.sl.H14_11, tripRun.sl.H14_12, tripRun.sl.H14_13, tripRun.sl.H14_14, tripRun.sl.H14_15, tripRun.sl.H14_16]
  rw [miss14 _ _ _ _ _ _ _ _ _ _ _ _ _ _ _ _ (by decide)]
  rw [miss14 _ _ _ _ _ _ _ _ _ _ _ _ _ _ _ _ (by decide)]
  rw [hit14]
  pointwise [tripRun.sl.k0_w54, tripRun.sl.v1498, tripRun.sl.v1493, tripRun.sl.v1442]
  exact ld3 arg3 f3 k 1 6 _ (k0_off12_eq k 1) _ f i

theorem pq_1_3_0 (f : Fin 192) (i : Fin 128) :
    arg14.view.read (Elt Ideal) (arg14.view.writes (Elt Ideal) (arg14.view.junk) (tripRun.sl.H14_16 c arg3 k f3)) (ix5 ⟨1, by decide⟩ ⟨3, by decide⟩ ⟨0, by decide⟩ i f)
      = arg3.view.read (Elt Ideal) f3 (ix4 0 7 f (tok k 0 i)) := by
  simp only [tripRun.sl.H14_1, tripRun.sl.H14_2, tripRun.sl.H14_3, tripRun.sl.H14_4, tripRun.sl.H14_5, tripRun.sl.H14_6, tripRun.sl.H14_7, tripRun.sl.H14_8, tripRun.sl.H14_9, tripRun.sl.H14_10, tripRun.sl.H14_11, tripRun.sl.H14_12, tripRun.sl.H14_13, tripRun.sl.H14_14, tripRun.sl.H14_15, tripRun.sl.H14_16]
  rw [miss14 _ _ _ _ _ _ _ _ _ _ _ _ _ _ _ _ (by decide)]
  rw [hit14]
  pointwise [tripRun.sl.k0_w57, tripRun.sl.v1514, tripRun.sl.v1509, tripRun.sl.v1446]
  exact ld3 arg3 f3 k 0 7 _ (k0_off13_eq k 0) _ f i

theorem pq_1_3_1 (f : Fin 192) (i : Fin 128) :
    arg14.view.read (Elt Ideal) (arg14.view.writes (Elt Ideal) (arg14.view.junk) (tripRun.sl.H14_16 c arg3 k f3)) (ix5 ⟨1, by decide⟩ ⟨3, by decide⟩ ⟨1, by decide⟩ i f)
      = arg3.view.read (Elt Ideal) f3 (ix4 0 7 f (tok k 1 i)) := by
  simp only [tripRun.sl.H14_1, tripRun.sl.H14_2, tripRun.sl.H14_3, tripRun.sl.H14_4, tripRun.sl.H14_5, tripRun.sl.H14_6, tripRun.sl.H14_7, tripRun.sl.H14_8, tripRun.sl.H14_9, tripRun.sl.H14_10, tripRun.sl.H14_11, tripRun.sl.H14_12, tripRun.sl.H14_13, tripRun.sl.H14_14, tripRun.sl.H14_15, tripRun.sl.H14_16]
  rw [hit14]
  pointwise [k0_pay296, tripRun.sl.v1450]
  exact ld3 arg3 f3 k 1 7 _ (k0_off13_eq k 1) _ f i

end Cert.KernelIdeal.Trip

end
-- ==== Proof.Pack15.lean ====
/-
  The packed blocks of buffer 15 after a trip has filled them.
-/
module

public import proofs.«01_k».proof.Proof.TripRun
public import proofs.«01_k».proof.Proof.Geo

@[expose] public section

set_option maxRecDepth 16384

noncomputable section

namespace Cert.KernelIdeal.Trip

open Cert.KernelIdeal Cert.KernelIdeal.Gen Cert.KernelIdeal.Geo
open Idealize.ShloMosaic Idealize.ShloMosaic.TcCoe

variable (c : Dev nD) (k : Fin k0_t1_loop.trips)
  (arg4 : Memref sig .tc .vmem S1x8x192x512 .bf16) (f4 : Bf (F := Ideal) c arg4)
  (arg15 : Memref sig .tc .vmem S2x4x2x192x128 .bf16) (f15 : Bf (F := Ideal) c arg15)
theorem pkt_0_0_0 (f : Fin 192) (i : Fin 128) :
    arg15.view.read (Elt Ideal) (arg15.view.writes (Elt Ideal) f15 (tripRun.sl.H15_8 c arg4 k f4)) (ix5 ⟨0, by decide⟩ ⟨0, by decide⟩ ⟨0, by decide⟩ f i)
      = arg4.view.read (Elt Ideal) f4 (ix4 0 0 f (tok k 0 i)) := by
  simp only [tripRun.sl.H15_1, tripRun.sl.H15_2, tripRun.sl.H15_3, tripRun.sl.H15_4, tripRun.sl.H15_5, tripRun.sl.H15_6, tripRun.sl.H15_7, tripRun.sl.H15_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w2, tripRun.sl.v66, tripRun.sl.v44]
  exact ld3 arg4 f4 k 0 0 _ (k0_off1_eq k 0) _ f i

theorem pkt_0_0_1 (f : Fin 192) (i : Fin 128) :
    arg15.view.read (Elt Ideal) (arg15.view.writes (Elt Ideal) f15 (tripRun.sl.H15_8 c arg4 k f4)) (ix5 ⟨0, by decide⟩ ⟨0, by decide⟩ ⟨1, by decide⟩ f i)
      = arg4.view.read (Elt Ideal) f4 (ix4 0 0 f (tok k 1 i)) := by
  simp only [tripRun.sl.H15_1, tripRun.sl.H15_2, tripRun.sl.H15_3, tripRun.sl.H15_4, tripRun.sl.H15_5, tripRun.sl.H15_6, tripRun.sl.H15_7, tripRun.sl.H15_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w5, tripRun.sl.v82, tripRun.sl.v48]
  exact ld3 arg4 f4 k 1 0 _ (k0_off1_eq k 1) _ f i

theorem pkt_0_1_0 (f : Fin 192) (i : Fin 128) :
    arg15.view.read (Elt Ideal) (arg15.view.writes (Elt Ideal) f15 (tripRun.sl.H15_8 c arg4 k f4)) (ix5 ⟨0, by decide⟩ ⟨1, by decide⟩ ⟨0, by decide⟩ f i)
      = arg4.view.read (Elt Ideal) f4 (ix4 0 1 f (tok k 0 i)) := by
  simp only [tripRun.sl.H15_1, tripRun.sl.H15_2, tripRun.sl.H15_3, tripRun.sl.H15_4, tripRun.sl.H15_5, tripRun.sl.H15_6, tripRun.sl.H15_7, tripRun.sl.H15_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w8, tripRun.sl.v98, tripRun.sl.v52]
  exact ld3 arg4 f4 k 0 1 _ (k0_off2_eq k 0) _ f i

theorem pkt_0_1_1 (f : Fin 192) (i : Fin 128) :
    arg15.view.read (Elt Ideal) (arg15.view.writes (Elt Ideal) f15 (tripRun.sl.H15_8 c arg4 k f4)) (ix5 ⟨0, by decide⟩ ⟨1, by decide⟩ ⟨1, by decide⟩ f i)
      = arg4.view.read (Elt Ideal) f4 (ix4 0 1 f (tok k 1 i)) := by
  simp only [tripRun.sl.H15_1, tripRun.sl.H15_2, tripRun.sl.H15_3, tripRun.sl.H15_4, tripRun.sl.H15_5, tripRun.sl.H15_6, tripRun.sl.H15_7, tripRun.sl.H15_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w11, tripRun.sl.v114, tripRun.sl.v56]
  exact ld3 arg4 f4 k 1 1 _ (k0_off2_eq k 1) _ f i

theorem pkt_0_2_0 (f : Fin 192) (i : Fin 128) :
    arg15.view.read (Elt Ideal) (arg15.view.writes (Elt Ideal) f15 (tripRun.sl.H15_8 c arg4 k f4)) (ix5 ⟨0, by decide⟩ ⟨2, by decide⟩ ⟨0, by decide⟩ f i)
      = arg4.view.read (Elt Ideal) f4 (ix4 0 2 f (tok k 0 i)) := by
  simp only [tripRun.sl.H15_1, tripRun.sl.H15_2, tripRun.sl.H15_3, tripRun.sl.H15_4, tripRun.sl.H15_5, tripRun.sl.H15_6, tripRun.sl.H15_7, tripRun.sl.H15_8]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w14, tripRun.sl.v162, tripRun.sl.v140]
  exact ld3 arg4 f4 k 0 2 _ (k0_off3_eq k 0) _ f i

theorem pkt_0_2_1 (f : Fin 192) (i : Fin 128) :
    arg15.view.read (Elt Ideal) (arg15.view.writes (Elt Ideal) f15 (tripRun.sl.H15_8 c arg4 k f4)) (ix5 ⟨0, by decide⟩ ⟨2, by decide⟩ ⟨1, by decide⟩ f i)
      = arg4.view.read (Elt Ideal) f4 (ix4 0 2 f (tok k 1 i)) := by
  simp only [tripRun.sl.H15_1, tripRun.sl.H15_2, tripRun.sl.H15_3, tripRun.sl.H15_4, tripRun.sl.H15_5, tripRun.sl.H15_6, tripRun.sl.H15_7, tripRun.sl.H15_8]
  rw [miss13 _ _ _ _ _ _ _ _ _ _ _ _ _ _ _ _ (by decide)]
  rw [miss13 _ _ _ _ _ _ _ _ _ _ _ _ _ _ _ _ (by decide)]
  rw [hit13]
  pointwise [tripRun.sl.k0_w17, tripRun.sl.v178, tripRun.sl.v144]
  exact ld3 arg4 f4 k 1 2 _ (k0_off3_eq k 1) _ f i

theorem pkt_0_3_0 (f : Fin 192) (i : Fin 128) :
    arg15.view.read (Elt Ideal) (arg15.view.writes (Elt Ideal) f15 (tripRun.sl.H15_8 c arg4 k f4)) (ix5 ⟨0, by decide⟩ ⟨3, by decide⟩ ⟨0, by decide⟩ f i)
      = arg4.view.read (Elt Ideal) f4 (ix4 0 3 f (tok k 0 i)) := by
  simp only [tripRun.sl.H15_1, tripRun.sl.H15_2, tripRun.sl.H15_3, tripRun.sl.H15_4, tripRun.sl.H15_5, tripRun.sl.H15_6, tripRun.sl.H15_7, tripRun.sl.H15_8]
  rw [miss13 _ _ _ _ _ _ _ _ _ _ _ _ _ _ _ _ (by decide)]
  rw [hit13]
  pointwise [tripRun.sl.k0_w20, tripRun.sl.v194, tripRun.sl.v148]
  exact ld3 arg4 f4 k 0 3 _ (k0_off4_eq k 0) _ f i

theorem pkt_0_3_1 (f : Fin 192) (i : Fin 128) :
    arg15.view.read (Elt Ideal) (arg15.view.writes (Elt Ideal) f15 (tripRun.sl.H15_8 c arg4 k f4)) (ix5 ⟨0, by decide⟩ ⟨3, by decide⟩ ⟨1, by decide⟩ f i)
      = arg4.view.read (Elt Ideal) f4 (ix4 0 3 f (tok k 1 i)) := by
  simp only [tripRun.sl.H15_1, tripRun.sl.H15_2, tripRun.sl.H15_3, tripRun.sl.H15_4, tripRun.sl.H15_5, tripRun.sl.H15_6, tripRun.sl.H15_7, tripRun.sl.H15_8]
  rw [hit13]
  pointwise [k0_pay97, tripRun.sl.v152]
  exact ld3 arg4 f4 k 1 3 _ (k0_off4_eq k 1) _ f i

theorem pkt_1_0_0 (f : Fin 192) (i : Fin 128) :
    arg15.view.read (Elt Ideal) (arg15.view.writes (Elt Ideal) (arg15.view.junk) (tripRun.sl.H15_16 c arg4 k f4)) (ix5 ⟨1, by decide⟩ ⟨0, by decide⟩ ⟨0, by decide⟩ f i)
      = arg4.view.read (Elt Ideal) f4 (ix4 0 4 f (tok k 0 i)) := by
  simp only [tripRun.sl.H15_1, tripRun.sl.H15_2, tripRun.sl.H15_3, tripRun.sl.H15_4, tripRun.sl.H15_5, tripRun.sl.H15_6, tripRun.sl.H15_7, tripRun.sl.H15_8, tripRun.sl.H15_9, tripRun.sl.H15_10, tripRun.sl.H15_11, tripRun.sl.H15_12, tripRun.sl.H15_13, tripRun.sl.H15_14, tripRun.sl.H15_15, tripRun.sl.H15_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w38, tripRun.sl.v1380, tripRun.sl.v1358]
  exact ld3 arg4 f4 k 0 4 _ (k0_off10_eq k 0) _ f i

theorem pkt_1_0_1 (f : Fin 192) (i : Fin 128) :
    arg15.view.read (Elt Ideal) (arg15.view.writes (Elt Ideal) (arg15.view.junk) (tripRun.sl.H15_16 c arg4 k f4)) (ix5 ⟨1, by decide⟩ ⟨0, by decide⟩ ⟨1, by decide⟩ f i)
      = arg4.view.read (Elt Ideal) f4 (ix4 0 4 f (tok k 1 i)) := by
  simp only [tripRun.sl.H15_1, tripRun.sl.H15_2, tripRun.sl.H15_3, tripRun.sl.H15_4, tripRun.sl.H15_5, tripRun.sl.H15_6, tripRun.sl.H15_7, tripRun.sl.H15_8, tripRun.sl.H15_9, tripRun.sl.H15_10, tripRun.sl.H15_11, tripRun.sl.H15_12, tripRun.sl.H15_13, tripRun.sl.H15_14, tripRun.sl.H15_15, tripRun.sl.H15_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w41, tripRun.sl.v1396, tripRun.sl.v1362]
  exact ld3 arg4 f4 k 1 4 _ (k0_off10_eq k 1) _ f i

theorem pkt_1_1_0 (f : Fin 192) (i : Fin 128) :
    arg15.view.read (Elt Ideal) (arg15.view.writes (Elt Ideal) (arg15.view.junk) (tripRun.sl.H15_16 c arg4 k f4)) (ix5 ⟨1, by decide⟩ ⟨1, by decide⟩ ⟨0, by decide⟩ f i)
      = arg4.view.read (Elt Ideal) f4 (ix4 0 5 f (tok k 0 i)) := by
  simp only [tripRun.sl.H15_1, tripRun.sl.H15_2, tripRun.sl.H15_3, tripRun.sl.H15_4, tripRun.sl.H15_5, tripRun.sl.H15_6, tripRun.sl.H15_7, tripRun.sl.H15_8, tripRun.sl.H15_9, tripRun.sl.H15_10, tripRun.sl.H15_11, tripRun.sl.H15_12, tripRun.sl.H15_13, tripRun.sl.H15_14, tripRun.sl.H15_15, tripRun.sl.H15_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w44, tripRun.sl.v1412, tripRun.sl.v1366]
  exact ld3 arg4 f4 k 0 5 _ (k0_off11_eq k 0) _ f i

theorem pkt_1_1_1 (f : Fin 192) (i : Fin 128) :
    arg15.view.read (Elt Ideal) (arg15.view.writes (Elt Ideal) (arg15.view.junk) (tripRun.sl.H15_16 c arg4 k f4)) (ix5 ⟨1, by decide⟩ ⟨1, by decide⟩ ⟨1, by decide⟩ f i)
      = arg4.view.read (Elt Ideal) f4 (ix4 0 5 f (tok k 1 i)) := by
  simp only [tripRun.sl.H15_1, tripRun.sl.H15_2, tripRun.sl.H15_3, tripRun.sl.H15_4, tripRun.sl.H15_5, tripRun.sl.H15_6, tripRun.sl.H15_7, tripRun.sl.H15_8, tripRun.sl.H15_9, tripRun.sl.H15_10, tripRun.sl.H15_11, tripRun.sl.H15_12, tripRun.sl.H15_13, tripRun.sl.H15_14, tripRun.sl.H15_15, tripRun.sl.H15_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w47, tripRun.sl.v1428, tripRun.sl.v1370]
  exact ld3 arg4 f4 k 1 5 _ (k0_off11_eq k 1) _ f i

theorem pkt_1_2_0 (f : Fin 192) (i : Fin 128) :
    arg15.view.read (Elt Ideal) (arg15.view.writes (Elt Ideal) (arg15.view.junk) (tripRun.sl.H15_16 c arg4 k f4)) (ix5 ⟨1, by decide⟩ ⟨2, by decide⟩ ⟨0, by decide⟩ f i)
      = arg4.view.read (Elt Ideal) f4 (ix4 0 6 f (tok k 0 i)) := by
  simp only [tripRun.sl.H15_1, tripRun.sl.H15_2, tripRun.sl.H15_3, tripRun.sl.H15_4, tripRun.sl.H15_5, tripRun.sl.H15_6, tripRun.sl.H15_7, tripRun.sl.H15_8, tripRun.sl.H15_9, tripRun.sl.H15_10, tripRun.sl.H15_11, tripRun.sl.H15_12, tripRun.sl.H15_13, tripRun.sl.H15_14, tripRun.sl.H15_15, tripRun.sl.H15_16]
  rw [miss13 _ _ _ _ _ _ _ _ _ _ _ _ _ _ _ _ (by decide)]
  rw [miss13 _ _ _ _ _ _ _ _ _ _ _ _ _ _ _ _ (by decide)]
  rw [miss13 _ _ _ _ _ _ _ _ _ _ _ _ _ _ _ _ (by decide)]
  rw [hit13]
  pointwise [tripRun.sl.k0_w50, tripRun.sl.v1476, tripRun.sl.v1454]
  exact ld3 arg4 f4 k 0 6 _ (k0_off12_eq k 0) _ f i

theorem pkt_1_2_1 (f : Fin 192) (i : Fin 128) :
    arg15.view.read (Elt Ideal) (arg15.view.writes (Elt Ideal) (arg15.view.junk) (tripRun.sl.H15_16 c arg4 k f4)) (ix5 ⟨1, by decide⟩ ⟨2, by decide⟩ ⟨1, by decide⟩ f i)
      = arg4.view.read (Elt Ideal) f4 (ix4 0 6 f (tok k 1 i)) := by
  simp only [tripRun.sl.H15_1, tripRun.sl.H15_2, tripRun.sl.H15_3, tripRun.sl.H15_4, tripRun.sl.H15_5, tripRun.sl.H15_6, tripRun.sl.H15_7, tripRun.sl.H15_8, tripRun.sl.H15_9, tripRun.sl.H15_10, tripRun.sl.H15_11, tripRun.sl.H15_12, tripRun.sl.H15_13, tripRun.sl.H15_14, tripRun.sl.H15_15, tripRun.sl.H15_16]
  rw [miss13 _ _ _ _ _ _ _ _ _ _ _ _ _ _ _ _ (by decide)]
  rw [miss13 _ _ _ _ _ _ _ _ _ _ _ _ _ _ _ _ (by decide)]
  rw [hit13]
  pointwise [tripRun.sl.k0_w53, tripRun.sl.v1492, tripRun.sl.v1458]
  exact ld3 arg4 f4 k 1 6 _ (k0_off12_eq k 1) _ f i

theorem pkt_1_3_0 (f : Fin 192) (i : Fin 128) :
    arg15.view.read (Elt Ideal) (arg15.view.writes (Elt Ideal) (arg15.view.junk) (tripRun.sl.H15_16 c arg4 k f4)) (ix5 ⟨1, by decide⟩ ⟨3, by decide⟩ ⟨0, by decide⟩ f i)
      = arg4.view.read (Elt Ideal) f4 (ix4 0 7 f (tok k 0 i)) := by
  simp only [tripRun.sl.H15_1, tripRun.sl.H15_2, tripRun.sl.H15_3, tripRun.sl.H15_4, tripRun.sl.H15_5, tripRun.sl.H15_6, tripRun.sl.H15_7, tripRun.sl.H15_8, tripRun.sl.H15_9, tripRun.sl.H15_10, tripRun.sl.H15_11, tripRun.sl.H15_12, tripRun.sl.H15_13, tripRun.sl.H15_14, tripRun.sl.H15_15, tripRun.sl.H15_16]
  rw [miss13 _ _ _ _ _ _ _ _ _ _ _ _ _ _ _ _ (by decide)]
  rw [hit13]
  pointwise [tripRun.sl.k0_w56, tripRun.sl.v1508, tripRun.sl.v1462]
  exact ld3 arg4 f4 k 0 7 _ (k0_off13_eq k 0) _ f i

theorem pkt_1_3_1 (f : Fin 192) (i : Fin 128) :
    arg15.view.read (Elt Ideal) (arg15.view.writes (Elt Ideal) (arg15.view.junk) (tripRun.sl.H15_16 c arg4 k f4)) (ix5 ⟨1, by decide⟩ ⟨3, by decide⟩ ⟨1, by decide⟩ f i)
      = arg4.view.read (Elt Ideal) f4 (ix4 0 7 f (tok k 1 i)) := by
  simp only [tripRun.sl.H15_1, tripRun.sl.H15_2, tripRun.sl.H15_3, tripRun.sl.H15_4, tripRun.sl.H15_5, tripRun.sl.H15_6, tripRun.sl.H15_7, tripRun.sl.H15_8, tripRun.sl.H15_9, tripRun.sl.H15_10, tripRun.sl.H15_11, tripRun.sl.H15_12, tripRun.sl.H15_13, tripRun.sl.H15_14, tripRun.sl.H15_15, tripRun.sl.H15_16]
  rw [hit13]
  pointwise [k0_pay295, tripRun.sl.v1466]
  exact ld3 arg4 f4 k 1 7 _ (k0_off13_eq k 1) _ f i

end Cert.KernelIdeal.Trip

end
-- ==== Proof.Val0.lean ====
/-
  The values of one sub-block: quad 0, sub-block 0, pair 0.
-/
module

public import proofs.«01_k».proof.Proof.TripRun
public import proofs.«01_k».proof.Proof.TripSt
public import proofs.«01_k».proof.Proof.Pack13
public import proofs.«01_k».proof.Proof.Pack14
public import proofs.«01_k».proof.Proof.Pack15
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem v265_val' (i : Fin 128) (f : Fin 192) : (tripRun.sl.v265 c arg3 arg14 k f3 f14) (ix4 0 0 i f) = ((qR 0 f (tok k 0 i) : ℝ) : EReal) := by
  unfold tripRun.sl.v265
  exact (sq14 arg14 _ 0 0 0 (by decide) (by decide) (by decide) _ _ _ _ _ _).trans ((pq_0_0_0 c k arg3 f3 arg14 f14 f i).trans (X.h3 _ _ _))

theorem v269_val (f : Fin 192) (i : Fin 128) : (tripRun.sl.v269 c arg4 arg15 k f4 f15) (ix4 0 0 f i) = ((kR 0 f (tok k 0 i) : ℝ) : EReal) := by
  unfold tripRun.sl.v269
  exact (sq13 arg15 _ 0 0 0 (by decide) (by decide) (by decide) _ _ _ _ _ _).trans ((pkt_0_0_0 c k arg4 f4 arg15 f15 f i).trans (X.h4 _ _ _))

theorem v273_val (f : Fin 192) (d : Fin 128) : (tripRun.sl.v273 c arg11 f11) (ix3 0 f d) = ((S0 sR 0 f d : ℝ) : EReal) := by
  unfold tripRun.sl.v273
  refine (sq11 arg11 _ 0 0 (by decide) (by decide) _ _ _ _ f d).trans ?_
  exact X.h11 _ _ _

theorem v279_val (f : Fin 192) (d : Fin 128) : (tripRun.sl.v279 c arg11 f11) (ix3 0 f d) = 0 := by
  unfold tripRun.sl.v279
  refine (sq11 arg11 _ 0 1 (by decide) (by decide) _ _ _ _ f d).trans ?_
  exact X.h11a _ _ _

theorem v283_val (f : Fin 192) (d : Fin 128) : (tripRun.sl.v283 c arg11 f11) (ix3 0 f d) = 0 := by
  unfold tripRun.sl.v283
  refine (sq11 arg11 _ 0 2 (by decide) (by decide) _ _ _ _ f d).trans ?_
  exact X.h11b _ _ _

theorem v255_val (f : Fin 192) (i : Fin 128) : (tripRun.sl.v255 c arg3 arg13 k f3 f13) (ix4 0 0 f i) = ((qR 0 f (tok k 0 i) : ℝ) : EReal) := by
  unfold tripRun.sl.v255
  exact (sq13 arg13 _ 0 0 0 (by decide) (by decide) (by decide) _ _ _ _ _ _).trans ((pqt_0_0_0 c k arg3 f3 arg13 f13 f i).trans (X.h3 _ _ _))

theorem v259_val (f : Fin 192) (i : Fin 128) : (tripRun.sl.v259 c arg3 arg13 k f3 f13) (ix4 0 0 f i) = ((qR 1 f (tok k 0 i) : ℝ) : EReal) := by
  unfold tripRun.sl.v259
  exact (sq13 arg13 _ 0 1 0 (by decide) (by decide) (by decide) _ _ _ _ _ _).trans ((pqt_0_1_0 c k arg3 f3 arg13 f13 f i).trans (X.h3 _ _ _))

theorem v333_val' (i : Fin 128) (f : Fin 192) : (tripRun.sl.v333 c arg3 arg14 k f3 f14) (ix4 0 0 i f) = ((qR 1 f (tok k 0 i) : ℝ) : EReal) := by
  unfold tripRun.sl.v333
  exact (sq14 arg14 _ 0 1 0 (by decide) (by decide) (by decide) _ _ _ _ _ _).trans ((pq_0_1_0 c k arg3 f3 arg14 f14 f i).trans (X.h3 _ _ _))

theorem v337_val (f : Fin 192) (i : Fin 128) : (tripRun.sl.v337 c arg4 arg15 k f4 f15) (ix4 0 0 f i) = ((kR 1 f (tok k 0 i) : ℝ) : EReal) := by
  unfold tripRun.sl.v337
  exact (sq13 arg15 _ 0 1 0 (by decide) (by decide) (by decide) _ _ _ _ _ _).trans ((pkt_0_1_0 c k arg4 f4 arg15 f15 f i).trans (X.h4 _ _ _))

theorem v341_val (f : Fin 192) (d : Fin 128) : (tripRun.sl.v341 c arg11 f11) (ix3 0 f d) = ((S0 sR 1 f d : ℝ) : EReal) := by
  unfold tripRun.sl.v341
  refine (sq11 arg11 _ 1 0 (by decide) (by decide) _ _ _ _ f d).trans ?_
  exact X.h11 _ _ _

theorem v347_val (f : Fin 192) (d : Fin 128) : (tripRun.sl.v347 c arg11 f11) (ix3 0 f d) = 0 := by
  unfold tripRun.sl.v347
  refine (sq11 arg11 _ 1 1 (by decide) (by decide) _ _ _ _ f d).trans ?_
  exact X.h11a _ _ _

theorem v351_val (f : Fin 192) (d : Fin 128) : (tripRun.sl.v351 c arg11 f11) (ix3 0 f d) = 0 := by
  unfold tripRun.sl.v351
  refine (sq11 arg11 _ 1 2 (by decide) (by decide) _ _ _ _ f d).trans ?_
  exact X.h11b _ _ _

theorem v416_on (j d : Fin 128) : (tripRun.sl.v416 c arg5 arg16 k f5 f16) (ix4 0 0 ⟨j.val, by omega⟩ d) = ((vR (tok k 0 j) 0 d : ℝ) : EReal) := by
  unfold tripRun.sl.v416
  refine (sq16 arg16 _ 0 0 0 (by decide) (by decide) (by decide) _ _ _ _ _ d).trans ?_
  simp only [tripRun.sl.H16_1, tripRun.sl.H16_2]
  rw [miss16 _ _ _ _ _ _ _ _ _ _ _ _ _ _ _ _ _ (.inl (by decide))]
  rw [show (⟨j.val, by omega⟩ : Fin 256) = ⟨0 + j.val, by omega⟩ from Fin.ext (Nat.zero_add _).symm]
  rw [hit16]
  pointwise [k0_pay107, k0_pay105]
  exact (ld5 arg5 f5 k 0 0 _ (k0_off6_eq k) _ j 0 (by decide) d).trans (X.h5 _ _ _)

theorem v416_off (j d : Fin 128) : (tripRun.sl.v416 c arg5 arg16 k f5 f16) (ix4 0 0 ⟨128 + j.val, by omega⟩ d) = 0 := by
  unfold tripRun.sl.v416
  refine (sq16 arg16 _ 0 0 0 (by decide) (by decide) (by decide) _ _ _ _ _ d).trans ?_
  simp only [tripRun.sl.H16_1, tripRun.sl.H16_2]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  exact X.h16 _ _ _ _ _ (by show (128 + j.val) / 128 ≠ 0; omega)

theorem v420_on (j d : Fin 128) : (tripRun.sl.v420 c arg5 arg16 k f5 f16) (ix4 0 0 ⟨128 + j.val, by omega⟩ d) = ((vR (tok k 0 j) 1 d : ℝ) : EReal) := by
  unfold tripRun.sl.v420
  refine (sq16 arg16 _ 0 0 1 (by decide) (by decide) (by decide) _ _ _ _ _ d).trans ?_
  simp only [tripRun.sl.H16_1, tripRun.sl.H16_2]
  rw [hit16]
  pointwise [k0_pay108, k0_pay106]
  exact (ld5 arg5 f5 k 0 0 _ (k0_off6_eq k) _ j 1 (by decide) d).trans (X.h5 _ _ _)

theorem v420_off (j d : Fin 128) : (tripRun.sl.v420 c arg5 arg16 k f5 f16) (ix4 0 0 ⟨j.val, by omega⟩ d) = 0 := by
  unfold tripRun.sl.v420
  refine (sq16 arg16 _ 0 0 1 (by decide) (by decide) (by decide) _ _ _ _ _ d).trans ?_
  simp only [tripRun.sl.H16_1, tripRun.sl.H16_2]
  rw [miss16 _ _ _ _ _ _ _ _ _ _ _ _ _ _ _ _ _ (.inr (by left; show j.val < 128; omega))]
  rw [miss16 _ _ _ _ _ _ _ _ _ _ _ _ _ _ _ _ _ (.inl (by decide))]
  exact X.h16 _ _ _ _ _ (by show (j.val) / 128 ≠ 1; omega)

theorem v447_val (f : Fin 192) (d : Fin 128) : (tripRun.sl.v447 c arg9 f9) (ix4 0 0 f d) = ((S0 sR 1 f d : ℝ) : EReal) := by
  unfold tripRun.sl.v447
  exact (ld9 arg9 _ 1 (by decide) _ f d).trans (X.h9 _ _ _)

theorem st_0_0 (f : Fin 192) (d : Fin 128) : (st 0 slices_S192x256_o0_0_S192x128 (incr (tripRun.sl.v269 c arg4 arg15 k f4 f15) (tripRun.sl.v337 c arg4 arg15 k f4 f15) (tripRun.sl.v416 c arg5 arg16 k f5 f16) (tripRun.sl.v420 c arg5 arg16 k f5 f16)) (View.readAt (Elt Ideal) arg9.view (Rect.unit (s := S1x8x192x128) ![0, 0, 0, 0] S1x1x192x128.size inb_S1x8x192x128_S1x1x192x128_0_0_0_0).toLoadRect f9)) (ix2 f d) = ((S1 k kR vR sR 0 f d : ℝ) : EReal) :=
  incr_val0 (S0 sR 0) (fun j d => vR (tok k 0 j) 0 d) (tripRun.sl.v269 c arg4 arg15 k f4 f15) (tripRun.sl.v337 c arg4 arg15 k f4 f15) (tripRun.sl.v416 c arg5 arg16 k f5 f16) (tripRun.sl.v420 c arg5 arg16 k f5 f16) (fun f j => kR 0 f (tok k 0 j))
    (v269_val X) (v416_on X) (v416_off X) _ (View.readAt (Elt Ideal) arg9.view (Rect.unit (s := S1x8x192x128) ![0, 0, 0, 0] S1x1x192x128.size inb_S1x8x192x128_S1x1x192x128_0_0_0_0).toLoadRect f9) ((fun f d => (ld9 arg9 _ 0 (by decide) _ f d).trans (X.h9 _ _ _))) f d

theorem s_0_0 (f : Fin 192) (d : Fin 128) : ((k0_pay126 (tripRun.sl.r_19 c arg4 arg15 k f4 f15) (tripRun.sl.v416 c arg5 arg16 k f5 f16) (tripRun.sl.v420 c arg5 arg16 k f5 f16) (View.readAt (Elt Ideal) arg9.view (Rect.unit (s := S1x8x192x128) ![0, 0, 0, 0] S1x1x192x128.size inb_S1x8x192x128_S1x1x192x128_0_0_0_0).toLoadRect f9)) : FVec Ideal S1x1x192x128 .f32) (ix4 0 0 f d) = ((S1 k kR vR sR 0 f d : ℝ) : EReal) := by
  refine (congrFun (show ((k0_pay126 (tripRun.sl.r_19 c arg4 arg15 k f4 f15) (tripRun.sl.v416 c arg5 arg16 k f5 f16) (tripRun.sl.v420 c arg5 arg16 k f5 f16) (View.readAt (Elt Ideal) arg9.view (Rect.unit (s := S1x8x192x128) ![0, 0, 0, 0] S1x1x192x128.size inb_S1x8x192x128_S1x1x192x128_0_0_0_0).toLoadRect f9)) : FVec Ideal S1x1x192x128 .f32) = put32 (st 0 slices_S192x256_o0_0_S192x128 (incr (tripRun.sl.v269 c arg4 arg15 k f4 f15) (tripRun.sl.v337 c arg4 arg15 k f4 f15) (tripRun.sl.v416 c arg5 arg16 k f5 f16) (tripRun.sl.v420 c arg5 arg16 k f5 f16)) (View.readAt (Elt Ideal) arg9.view (Rect.unit (s := S1x8x192x128) ![0, 0, 0, 0] S1x1x192x128.size inb_S1x8x192x128_S1x1x192x128_0_0_0_0).toLoadRect f9)) from rfl) _).trans ?_
  rw [put32_val]
  exact st_0_0 X f d

theorem sp_0_0_0 (f : Fin 192) (d : Fin 128) : ((k0_pay129 (tripRun.sl.r_19 c arg4 arg15 k f4 f15) (tripRun.sl.v416 c arg5 arg16 k f5 f16) (tripRun.sl.v420 c arg5 arg16 k f5 f16) (View.readAt (Elt Ideal) arg9.view (Rect.unit (s := S1x8x192x128) ![0, 0, 0, 0] S1x1x192x128.size inb_S1x8x192x128_S1x1x192x128_0_0_0_0).toLoadRect f9)) : FVec Ideal S1x1x192x128 .bf16) (ix4 0 0 f d) = ((S1 k kR vR sR 0 f d : ℝ) : EReal) := by
  refine (congrFun (show ((k0_pay129 (tripRun.sl.r_19 c arg4 arg15 k f4 f15) (tripRun.sl.v416 c arg5 arg16 k f5 f16) (tripRun.sl.v420 c arg5 arg16 k f5 f16) (View.readAt (Elt Ideal) arg9.view (Rect.unit (s := S1x8x192x128) ![0, 0, 0, 0] S1x1x192x128.size inb_S1x8x192x128_S1x1x192x128_0_0_0_0).toLoadRect f9)) : FVec Ideal S1x1x192x128 .bf16) = put16 (st 0 slices_S192x256_o0_0_S192x128 (incr (tripRun.sl.v269 c arg4 arg15 k f4 f15) (tripRun.sl.v337 c arg4 arg15 k f4 f15) (tripRun.sl.v416 c arg5 arg16 k f5 f16) (tripRun.sl.v420 c arg5 arg16 k f5 f16)) (View.readAt (Elt Ideal) arg9.view (Rect.unit (s := S1x8x192x128) ![0, 0, 0, 0] S1x1x192x128.size inb_S1x8x192x128_S1x1x192x128_0_0_0_0).toLoadRect f9)) from rfl) _).trans ?_
  rw [put16_val]
  exact st_0_0 X f d

theorem sp_0_0_1 (f : Fin 192) (d : Fin 128) : ((k0_pay130 (tripRun.sl.r_19 c arg4 arg15 k f4 f15) (tripRun.sl.v416 c arg5 arg16 k f5 f16) (tripRun.sl.v420 c arg5 arg16 k f5 f16) (View.readAt (Elt Ideal) arg9.view (Rect.unit (s := S1x8x192x128) ![0, 0, 0, 0] S1x1x192x128.size inb_S1x8x192x128_S1x1x192x128_0_0_0_0).toLoadRect f9)) : FVec Ideal S1x1x192x128 .bf16) (ix4 0 0 f d) = 0 := by
  refine (congrFun (show ((k0_pay130 (tripRun.sl.r_19 c arg4 arg15 k f4 f15) (tripRun.sl.v416 c arg5 arg16 k f5 f16) (tripRun.sl.v420 c arg5 arg16 k f5 f16) (View.readAt (Elt Ideal) arg9.view (Rect.unit (s := S1x8x192x128) ![0, 0, 0, 0] S1x1x192x128.size inb_S1x8x192x128_S1x1x192x128_0_0_0_0).toLoadRect f9)) : FVec Ideal S1x1x192x128 .bf16) = put16 (rest (st 0 slices_S192x256_o0_0_S192x128 (incr (tripRun.sl.v269 c arg4 arg15 k f4 f15) (tripRun.sl.v337 c arg4 arg15 k f4 f15) (tripRun.sl.v416 c arg5 arg16 k f5 f16) (tripRun.sl.v420 c arg5 arg16 k f5 f16)) (View.readAt (Elt Ideal) arg9.view (Rect.unit (s := S1x8x192x128) ![0, 0, 0, 0] S1x1x192x128.size inb_S1x8x192x128_S1x1x192x128_0_0_0_0).toLoadRect f9))) from rfl) _).trans ?_
  rw [put16_val]
  exact rest_val _ _ (st_0_0 X) f d

theorem sp_0_0_2 (f : Fin 192) (d : Fin 128) : ((k0_pay131 (tripRun.sl.r_21 c arg4 arg5 arg9 arg15 arg16 k f4 f5 f9 f15 f16)) : FVec Ideal S1x1x192x128 .bf16) (ix4 0 0 f d) = 0 := by
  refine (congrFun (show ((k0_pay131 (tripRun.sl.r_21 c arg4 arg5 arg9 arg15 arg16 k f4 f5 f9 f15 f16)) : FVec Ideal S1x1x192x128 .bf16) = put16 (rest (rest (st 0 slices_S192x256_o0_0_S192x128 (incr (tripRun.sl.v269 c arg4 arg15 k f4 f15) (tripRun.sl.v337 c arg4 arg15 k f4 f15) (tripRun.sl.v416 c arg5 arg16 k f5 f16) (tripRun.sl.v420 c arg5 arg16 k f5 f16)) (View.readAt (Elt Ideal) arg9.view (Rect.unit (s := S1x8x192x128) ![0, 0, 0, 0] S1x1x192x128.size inb_S1x8x192x128_S1x1x192x128_0_0_0_0).toLoadRect f9)))) from rfl) _).trans ?_
  rw [put16_val]
  exact rest_rest_val _ _ (st_0_0 X) f d

theorem st_0_1 (f : Fin 192) (d : Fin 128) : (st 128 slices_S192x256_o0_128_S192x128 (incr (tripRun.sl.v269 c arg4 arg15 k f4 f15) (tripRun.sl.v337 c arg4 arg15 k f4 f15) (tripRun.sl.v416 c arg5 arg16 k f5 f16) (tripRun.sl.v420 c arg5 arg16 k f5 f16)) (tripRun.sl.v447 c arg9 f9)) (ix2 f d) = ((S1 k kR vR sR 1 f d : ℝ) : EReal) :=
  incr_val1 (S0 sR 1) (fun j d => vR (tok k 0 j) 1 d) (tripRun.sl.v269 c arg4 arg15 k f4 f15) (tripRun.sl.v337 c arg4 arg15 k f4 f15) (tripRun.sl.v416 c arg5 arg16 k f5 f16) (tripRun.sl.v420 c arg5 arg16 k f5 f16) (fun f j => kR 1 f (tok k 0 j))
    (v337_val X) (v420_on X) (v420_off X) _ (tripRun.sl.v447 c arg9 f9) (v447_val X) f d

theorem s_0_1 (f : Fin 192) (d : Fin 128) : ((k0_pay133 (tripRun.sl.r_20 c arg4 arg5 arg15 arg16 k f4 f5 f15 f16) (tripRun.sl.v447 c arg9 f9)) : FVec Ideal S1x1x192x128 .f32) (ix4 0 0 f d) = ((S1 k kR vR sR 1 f d : ℝ) : EReal) := by
  refine (congrFun (show ((k0_pay133 (tripRun.sl.r_20 c arg4 arg5 arg15 arg16 k f4 f5 f15 f16) (tripRun.sl.v447 c arg9 f9)) : FVec Ideal S1x1x192x128 .f32) = put32 (st 128 slices_S192x256_o0_128_S192x128 (incr (tripRun.sl.v269 c arg4 arg15 k f4 f15) (tripRun.sl.v337 c arg4 arg15 k f4 f15) (tripRun.sl.v416 c arg5 arg16 k f5 f16) (tripRun.sl.v420 c arg5 arg16 k f5 f16)) (tripRun.sl.v447 c arg9 f9)) from rfl) _).trans ?_
  rw [put32_val]
  exact st_0_1 X f d

theorem sp_0_1_0 (f : Fin 192) (d : Fin 128) : ((k0_pay135 (tripRun.sl.r_20 c arg4 arg5 arg15 arg16 k f4 f5 f15 f16) (tripRun.sl.v447 c arg9 f9)) : FVec Ideal S1x1x192x128 .bf16) (ix4 0 0 f d) = ((S1 k kR vR sR 1 f d : ℝ) : EReal) := by
  refine (congrFun (show ((k0_pay135 (tripRun.sl.r_20 c arg4 arg5 arg15 arg16 k f4 f5 f15 f16) (tripRun.sl.v447 c arg9 f9)) : FVec Ideal S1x1x192x128 .bf16) = put16 (st 128 slices_S192x256_o0_128_S192x128 (incr (tripRun.sl.v269 c arg4 arg15 k f4 f15) (tripRun.sl.v337 c arg4 arg15 k f4 f15) (tripRun.sl.v416 c arg5 arg16 k f5 f16) (tripRun.sl.v420 c arg5 arg16 k f5 f16)) (tripRun.sl.v447 c arg9 f9)) from rfl) _).trans ?_
  rw [put16_val]
  exact st_0_1 X f d

theorem sp_0_1_1 (f : Fin 192) (d : Fin 128) : ((k0_pay136 (tripRun.sl.r_20 c arg4 arg5 arg15 arg16 k f4 f5 f15 f16) (tripRun.sl.v447 c arg9 f9)) : FVec Ideal S1x1x192x128 .bf16) (ix4 0 0 f d) = 0 := by
  refine (congrFun (show ((k0_pay136 (tripRun.sl.r_20 c arg4 arg5 arg15 arg16 k f4 f5 f15 f16) (tripRun.sl.v447 c arg9 f9)) : FVec Ideal S1x1x192x128 .bf16) = put16 (rest (st 128 slices_S192x256_o0_128_S192x128 (incr (tripRun.sl.v269 c arg4 arg15 k f4 f15) (tripRun.sl.v337 c arg4 arg15 k f4 f15) (tripRun.sl.v416 c arg5 arg16 k f5 f16) (tripRun.sl.v420 c arg5 arg16 k f5 f16)) (tripRun.sl.v447 c arg9 f9))) from rfl) _).trans ?_
  rw [put16_val]
  exact rest_val _ _ (st_0_1 X) f d

theorem sp_0_1_2 (f : Fin 192) (d : Fin 128) : ((k0_pay137 (tripRun.sl.r_20 c arg4 arg5 arg15 arg16 k f4 f5 f15 f16) (tripRun.sl.v447 c arg9 f9)) : FVec Ideal S1x1x192x128 .bf16) (ix4 0 0 f d) = 0 := by
  refine (congrFun (show ((k0_pay137 (tripRun.sl.r_20 c arg4 arg5 arg15 arg16 k f4 f5 f15 f16) (tripRun.sl.v447 c arg9 f9)) : FVec Ideal S1x1x192x128 .bf16) = put16 (rest (rest (st 128 slices_S192x256_o0_128_S192x128 (incr (tripRun.sl.v269 c arg4 arg15 k f4 f15) (tripRun.sl.v337 c arg4 arg15 k f4 f15) (tripRun.sl.v416 c arg5 arg16 k f5 f16) (tripRun.sl.v420 c arg5 arg16 k f5 f16)) (tripRun.sl.v447 c arg9 f9)))) from rfl) _).trans ?_
  rw [put16_val]
  exact rest_rest_val _ _ (st_0_1 X) f d

theorem q_0_0 (i d : Fin 128) : (quot (sc (tripRun.sl.v265 c arg3 arg14 k f3 f14) (tripRun.sl.v269 c arg4 arg15 k f4 f15) (tripRun.sl.v273 c arg11 f11)) (num (vlo (View.readAt (Elt Ideal) arg5.view (Rect.unit (s := S1x512x8x128) (k0_off6 k) S1x128x2x128.size (k0_off6_inb k)).toLoadRect f5)) (tripRun.sl.v265 c arg3 arg14 k f3 f14) (tripRun.sl.v269 c arg4 arg15 k f4 f15) (tripRun.sl.v273 c arg11 f11) (tripRun.sl.v279 c arg11 f11) (tripRun.sl.v283 c arg11 f11)) (dRow (denT (View.readAt (Elt Ideal) arg12.view (Rect.unit (s := S2x4x192) ![0, 0, 0] S1x4x192.size inb_S2x4x192_S1x4x192_0_0_0).toLoadRect f12) (tripRun.sl.v255 c arg3 arg13 k f3 f13) (tripRun.sl.v259 c arg3 arg13 k f3 f13)) 0 4 8 0 slices_S16x256_o0_0_S16x128 slices_S16x128_o0_0_S1x128 slices_S16x128_o4_0_S1x128 slices_S16x128_o8_0_S1x128)) (ix2 i d) = ((Y0 k qR kR vR sR zR 0 i d : ℝ) : EReal) :=
  quot_val _ _ _ (A k qR kR 0 0) (Nm k qR kR vR 0 (S0 sR) 0) (fun i => ∑ f, Z0 zR 0 f * qR 0 f (tok k 0 i))
    (sc_val (fun i f => qR 0 f (tok k 0 i)) (fun f j => kR 0 f (tok k 0 j)) _ _ _ (v265_val' X) (v269_val X))
    (num_val (fun i f => qR 0 f (tok k 0 i)) (fun f j => kR 0 f (tok k 0 j)) (S0 sR 0) (fun j d => vR (tok k 0 j) 0 d) _ _ _ _ _ _
      (fun j d => (vlo_val _ j d).trans ((ld5 arg5 f5 k 0 0 _ (k0_off6_eq k) _ j 0 (by decide) d).trans (X.h5 _ _ _)))
      (v265_val' X) (v269_val X) (v273_val X) (v279_val X) (v283_val X))
    (den0 (fun r f => Z0 zR ⟨0 + r.val, by omega⟩ f) _ _ _ (fun f i => qR 0 f (tok k 0 i)) (fun f i => qR 1 f (tok k 0 i))
      ((fun a f => (ld12 arg12 _ 0 (by decide) _ a f).trans (X.h12 _ _ _))) (v255_val X) (v259_val X) 0 4 8 _ _ _ _ (by decide) (by decide) (by decide) (by decide))
    i d (X.d0 _ _)

theorem q_0_1 (i d : Fin 128) : (quot (sc (tripRun.sl.v333 c arg3 arg14 k f3 f14) (tripRun.sl.v337 c arg4 arg15 k f4 f15) (tripRun.sl.v341 c arg11 f11)) (num (vhi (View.readAt (Elt Ideal) arg5.view (Rect.unit (s := S1x512x8x128) (k0_off6 k) S1x128x2x128.size (k0_off6_inb k)).toLoadRect f5)) (tripRun.sl.v333 c arg3 arg14 k f3 f14) (tripRun.sl.v337 c arg4 arg15 k f4 f15) (tripRun.sl.v341 c arg11 f11) (tripRun.sl.v347 c arg11 f11) (tripRun.sl.v351 c arg11 f11)) (dRow (denT (View.readAt (Elt Ideal) arg12.view (Rect.unit (s := S2x4x192) ![0, 0, 0] S1x4x192.size inb_S2x4x192_S1x4x192_0_0_0).toLoadRect f12) (tripRun.sl.v255 c arg3 arg13 k f3 f13) (tripRun.sl.v259 c arg3 arg13 k f3 f13)) 1 5 9 128 slices_S16x256_o0_128_S16x128 slices_S16x128_o1_0_S1x128 slices_S16x128_o5_0_S1x128 slices_S16x128_o9_0_S1x128)) (ix2 i d) = ((Y0 k qR kR vR sR zR 1 i d : ℝ) : EReal) :=
  quot_val _ _ _ (A k qR kR 0 1) (Nm k qR kR vR 0 (S0 sR) 1) (fun i => ∑ f, Z0 zR 1 f * qR 1 f (tok k 0 i))
    (sc_val (fun i f => qR 1 f (tok k 0 i)) (fun f j => kR 1 f (tok k 0 j)) _ _ _ (v333_val' X) (v337_val X))
    (num_val (fun i f => qR 1 f (tok k 0 i)) (fun f j => kR 1 f (tok k 0 j)) (S0 sR 1) (fun j d => vR (tok k 0 j) 1 d) _ _ _ _ _ _
      (fun j d => (vhi_val _ j d).trans ((ld5 arg5 f5 k 0 0 _ (k0_off6_eq k) _ j 1 (by decide) d).trans (X.h5 _ _ _)))
      (v333_val' X) (v337_val X) (v341_val X) (v347_val X) (v351_val X))
    (den1 (fun r f => Z0 zR ⟨0 + r.val, by omega⟩ f) _ _ _ (fun f i => qR 0 f (tok k 0 i)) (fun f i => qR 1 f (tok k 0 i))
      ((fun a f => (ld12 arg12 _ 0 (by decide) _ a f).trans (X.h12 _ _ _))) (v255_val X) (v259_val X) 1 5 9 _ _ _ _ (by decide) (by decide) (by decide) (by decide))
    i d (X.d0 _ _)

theorem y_0 (i : Fin 128) (a : Fin 2) (d : Fin 128) : ((k0_pay122 k0_pay7 (tripRun.sl.r_13 c arg3 arg4 arg5 arg11 arg12 arg13 arg14 arg15 k f3 f4 f5 f11 f12 f13 f14 f15) (tripRun.sl.r_16 c arg3 arg4 arg11 arg14 arg15 k f3 f4 f11 f14 f15) (tripRun.sl.r_17 c arg3 arg4 arg5 arg11 arg14 arg15 k f3 f4 f5 f11 f14 f15) (tripRun.sl.r_18 c arg3 arg12 arg13 k f3 f12 f13) k0_pay121) : Vec Ideal S1x128x2x128 .bf16) (ix4 0 i a d) = ((Y0 k qR kR vR sR zR ⟨0 + a.val, by omega⟩ i d : ℝ) : EReal) := by
  refine (congrFun (show ((k0_pay122 k0_pay7 (tripRun.sl.r_13 c arg3 arg4 arg5 arg11 arg12 arg13 arg14 arg15 k f3 f4 f5 f11 f12 f13 f14 f15) (tripRun.sl.r_16 c arg3 arg4 arg11 arg14 arg15 k f3 f4 f11 f14 f15) (tripRun.sl.r_17 c arg3 arg4 arg5 arg11 arg14 arg15 k f3 f4 f5 f11 f14 f15) (tripRun.sl.r_18 c arg3 arg12 arg13 k f3 f12 f13) k0_pay121) : Vec Ideal S1x128x2x128 .bf16) = pairUp (quot (sc (tripRun.sl.v265 c arg3 arg14 k f3 f14) (tripRun.sl.v269 c arg4 arg15 k f4 f15) (tripRun.sl.v273 c arg11 f11)) (num (vlo (View.readAt (Elt Ideal) arg5.view (Rect.unit (s := S1x512x8x128) (k0_off6 k) S1x128x2x128.size (k0_off6_inb k)).toLoadRect f5)) (tripRun.sl.v265 c arg3 arg14 k f3 f14) (tripRun.sl.v269 c arg4 arg15 k f4 f15) (tripRun.sl.v273 c arg11 f11) (tripRun.sl.v279 c arg11 f11) (tripRun.sl.v283 c arg11 f11)) (dRow (denT (View.readAt (Elt Ideal) arg12.view (Rect.unit (s := S2x4x192) ![0, 0, 0] S1x4x192.size inb_S2x4x192_S1x4x192_0_0_0).toLoadRect f12) (tripRun.sl.v255 c arg3 arg13 k f3 f13) (tripRun.sl.v259 c arg3 arg13 k f3 f13)) 0 4 8 0 slices_S16x256_o0_0_S16x128 slices_S16x128_o0_0_S1x128 slices_S16x128_o4_0_S1x128 slices_S16x128_o8_0_S1x128)) (quot (sc (tripRun.sl.v333 c arg3 arg14 k f3 f14) (tripRun.sl.v337 c arg4 arg15 k f4 f15) (tripRun.sl.v341 c arg11 f11)) (num (vhi (View.readAt (Elt Ideal) arg5.view (Rect.unit (s := S1x512x8x128) (k0_off6 k) S1x128x2x128.size (k0_off6_inb k)).toLoadRect f5)) (tripRun.sl.v333 c arg3 arg14 k f3 f14) (tripRun.sl.v337 c arg4 arg15 k f4 f15) (tripRun.sl.v341 c arg11 f11) (tripRun.sl.v347 c arg11 f11) (tripRun.sl.v351 c arg11 f11)) (dRow (denT (View.readAt (Elt Ideal) arg12.view (Rect.unit (s := S2x4x192) ![0, 0, 0] S1x4x192.size inb_S2x4x192_S1x4x192_0_0_0).toLoadRect f12) (tripRun.sl.v255 c arg3 arg13 k f3 f13) (tripRun.sl.v259 c arg3 arg13 k f3 f13)) 1 5 9 128 slices_S16x256_o0_128_S16x128 slices_S16x128_o1_0_S1x128 slices_S16x128_o5_0_S1x128 slices_S16x128_o9_0_S1x128)) from rfl) _).trans ?_
  rw [pairUp_val]
  match a with
  | 0 => exact q_0_0 X i d
  | 1 => exact q_0_1 X i d

end Cert.KernelIdeal.Trip

end
-- ==== Proof.Val1.lean ====
/-
  The values of one sub-block: quad 0, sub-block 0, pair 1.
-/
module

public import proofs.«01_k».proof.Proof.TripRun
public import proofs.«01_k».proof.Proof.TripSt
public import proofs.«01_k».proof.Proof.Pack13
public import proofs.«01_k».proof.Proof.Pack14
public import proofs.«01_k».proof.Proof.Pack15
public import proofs.«01_k».proof.Proof.Val0
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem v525_val (f : Fin 192) (i : Fin 128) : (tripRun.sl.v525 c arg3 arg13 k f3 f13) (ix4 0 0 f i) = ((qR 2 f (tok k 0 i) : ℝ) : EReal) := by
  unfold tripRun.sl.v525
  exact (sq13 arg13 _ 0 2 0 (by decide) (by decide) (by decide) _ _ _ _ _ _).trans ((pqt_0_2_0 c k arg3 f3 arg13 f13 f i).trans (X.h3 _ _ _))

theorem v529_val (f : Fin 192) (i : Fin 128) : (tripRun.sl.v529 c arg3 arg13 k f3 f13) (ix4 0 0 f i) = ((qR 3 f (tok k 0 i) : ℝ) : EReal) := by
  unfold tripRun.sl.v529
  exact (sq13 arg13 _ 0 3 0 (by decide) (by decide) (by decide) _ _ _ _ _ _).trans ((pqt_0_3_0 c k arg3 f3 arg13 f13 f i).trans (X.h3 _ _ _))

theorem v535_val' (i : Fin 128) (f : Fin 192) : (tripRun.sl.v535 c arg3 arg14 k f3 f14) (ix4 0 0 i f) = ((qR 2 f (tok k 0 i) : ℝ) : EReal) := by
  unfold tripRun.sl.v535
  exact (sq14 arg14 _ 0 2 0 (by decide) (by decide) (by decide) _ _ _ _ _ _).trans ((pq_0_2_0 c k arg3 f3 arg14 f14 f i).trans (X.h3 _ _ _))

theorem v539_val (f : Fin 192) (i : Fin 128) : (tripRun.sl.v539 c arg4 arg15 k f4 f15) (ix4 0 0 f i) = ((kR 2 f (tok k 0 i) : ℝ) : EReal) := by
  unfold tripRun.sl.v539
  exact (sq13 arg15 _ 0 2 0 (by decide) (by decide) (by decide) _ _ _ _ _ _).trans ((pkt_0_2_0 c k arg4 f4 arg15 f15 f i).trans (X.h4 _ _ _))

theorem v543_val (f : Fin 192) (d : Fin 128) : (tripRun.sl.v543 c arg4 arg5 arg9 arg11 arg15 arg16 k f4 f5 f9 f11 f15 f16) (ix3 0 f d) = ((S0 sR 2 f d : ℝ) : EReal) := by
  unfold tripRun.sl.v543
  refine (sq11 arg11 _ 2 0 (by decide) (by decide) _ _ _ _ f d).trans ?_
  simp only [tripRun.sl.H11_2, tripRun.sl.H11_6]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11 _ _ _

theorem v549_val (f : Fin 192) (d : Fin 128) : (tripRun.sl.v549 c arg4 arg5 arg9 arg11 arg15 arg16 k f4 f5 f9 f11 f15 f16) (ix3 0 f d) = 0 := by
  unfold tripRun.sl.v549
  refine (sq11 arg11 _ 2 1 (by decide) (by decide) _ _ _ _ f d).trans ?_
  simp only [tripRun.sl.H11_2, tripRun.sl.H11_6]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11a _ _ _

theorem v553_val (f : Fin 192) (d : Fin 128) : (tripRun.sl.v553 c arg4 arg5 arg9 arg11 arg15 arg16 k f4 f5 f9 f11 f15 f16) (ix3 0 f d) = 0 := by
  unfold tripRun.sl.v553
  refine (sq11 arg11 _ 2 2 (by decide) (by decide) _ _ _ _ f d).trans ?_
  simp only [tripRun.sl.H11_2, tripRun.sl.H11_6]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11b _ _ _

theorem v603_val' (i : Fin 128) (f : Fin 192) : (tripRun.sl.v603 c arg3 arg14 k f3 f14) (ix4 0 0 i f) = ((qR 3 f (tok k 0 i) : ℝ) : EReal) := by
  unfold tripRun.sl.v603
  exact (sq14 arg14 _ 0 3 0 (by decide) (by decide) (by decide) _ _ _ _ _ _).trans ((pq_0_3_0 c k arg3 f3 arg14 f14 f i).trans (X.h3 _ _ _))

theorem v607_val (f : Fin 192) (i : Fin 128) : (tripRun.sl.v607 c arg4 arg15 k f4 f15) (ix4 0 0 f i) = ((kR 3 f (tok k 0 i) : ℝ) : EReal) := by
  unfold tripRun.sl.v607
  exact (sq13 arg15 _ 0 3 0 (by decide) (by decide) (by decide) _ _ _ _ _ _).trans ((pkt_0_3_0 c k arg4 f4 arg15 f15 f i).trans (X.h4 _ _ _))

theorem v611_val (f : Fin 192) (d : Fin 128) : (tripRun.sl.v611 c arg4 arg5 arg9 arg11 arg15 arg16 k f4 f5 f9 f11 f15 f16) (ix3 0 f d) = ((S0 sR 3 f d : ℝ) : EReal) := by
  unfold tripRun.sl.v611
  refine (sq11 arg11 _ 3 0 (by decide) (by decide) _ _ _ _ f d).trans ?_
  simp only [tripRun.sl.H11_2, tripRun.sl.H11_6]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11 _ _ _

theorem v617_val (f : Fin 192) (d : Fin 128) : (tripRun.sl.v617 c arg4 arg5 arg9 arg11 arg15 arg16 k f4 f5 f9 f11 f15 f16) (ix3 0 f d) = 0 := by
  unfold tripRun.sl.v617
  refine (sq11 arg11 _ 3 1 (by decide) (by decide) _ _ _ _ f d).trans ?_
  simp only [tripRun.sl.H11_2, tripRun.sl.H11_6]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11a _ _ _

theorem v621_val (f : Fin 192) (d : Fin 128) : (tripRun.sl.v621 c arg4 arg5 arg9 arg11 arg15 arg16 k f4 f5 f9 f11 f15 f16) (ix3 0 f d) = 0 := by
  unfold tripRun.sl.v621
  refine (sq11 arg11 _ 3 2 (by decide) (by decide) _ _ _ _ f d).trans ?_
  simp only [tripRun.sl.H11_2, tripRun.sl.H11_6]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11b _ _ _

theorem v686_on (j d : Fin 128) : (tripRun.sl.v686 c arg5 arg16 k f5 f16) (ix4 0 0 ⟨j.val, by omega⟩ d) = ((vR (tok k 0 j) 2 d : ℝ) : EReal) := by
  unfold tripRun.sl.v686
  refine (sq16 arg16 _ 0 1 0 (by decide) (by decide) (by decide) _ _ _ _ _ d).trans ?_
  simp only [tripRun.sl.H16_1, tripRun.sl.H16_2, tripRun.sl.H16_3, tripRun.sl.H16_4]
  rw [miss16 _ _ _ _ _ _ _ _ _ _ _ _ _ _ _ _ _ (.inl (by decide))]
  rw [show (⟨j.val, by omega⟩ : Fin 256) = ⟨0 + j.val, by omega⟩ from Fin.ext (Nat.zero_add _).symm]
  rw [hit16]
  pointwise [k0_pay143, tripRun.sl.r_23, k0_pay141]
  exact (ld5 arg5 f5 k 0 2 _ (k0_off7_eq k) _ j 0 (by decide) d).trans (X.h5 _ _ _)

theorem v686_off (j d : Fin 128) : (tripRun.sl.v686 c arg5 arg16 k f5 f16) (ix4 0 0 ⟨128 + j.val, by omega⟩ d) = 0 := by
  unfold tripRun.sl.v686
  refine (sq16 arg16 _ 0 1 0 (by decide) (by decide) (by decide) _ _ _ _ _ d).trans ?_
  simp only [tripRun.sl.H16_1, tripRun.sl.H16_2, tripRun.sl.H16_3, tripRun.sl.H16_4]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (128 + j.val) / 128 ≠ 0; omega)

theorem v690_on (j d : Fin 128) : (tripRun.sl.v690 c arg5 arg16 k f5 f16) (ix4 0 0 ⟨128 + j.val, by omega⟩ d) = ((vR (tok k 0 j) 3 d : ℝ) : EReal) := by
  unfold tripRun.sl.v690
  refine (sq16 arg16 _ 0 1 1 (by decide) (by decide) (by decide) _ _ _ _ _ d).trans ?_
  simp only [tripRun.sl.H16_1, tripRun.sl.H16_2, tripRun.sl.H16_3, tripRun.sl.H16_4]
  rw [hit16]
  pointwise [k0_pay144, tripRun.sl.r_24, k0_pay142]
  exact (ld5 arg5 f5 k 0 2 _ (k0_off7_eq k) _ j 1 (by decide) d).trans (X.h5 _ _ _)

theorem v690_off (j d : Fin 128) : (tripRun.sl.v690 c arg5 arg16 k f5 f16) (ix4 0 0 ⟨j.val, by omega⟩ d) = 0 := by
  unfold tripRun.sl.v690
  refine (sq16 arg16 _ 0 1 1 (by decide) (by decide) (by decide) _ _ _ _ _ d).trans ?_
  simp only [tripRun.sl.H16_1, tripRun.sl.H16_2, tripRun.sl.H16_3, tripRun.sl.H16_4]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (j.val) / 128 ≠ 1; omega)

theorem v694_val (f : Fin 192) (d : Fin 128) : (tripRun.sl.v694 c arg9 f9) (ix4 0 0 f d) = ((S0 sR 2 f d : ℝ) : EReal) := by
  unfold tripRun.sl.v694
  exact (ld9 arg9 _ 2 (by decide) _ f d).trans (X.h9 _ _ _)

theorem v717_val (f : Fin 192) (d : Fin 128) : (tripRun.sl.v717 c arg9 f9) (ix4 0 0 f d) = ((S0 sR 3 f d : ℝ) : EReal) := by
  unfold tripRun.sl.v717
  exact (ld9 arg9 _ 3 (by decide) _ f d).trans (X.h9 _ _ _)

theorem st_1_2 (f : Fin 192) (d : Fin 128) : (st 0 slices_S192x256_o0_0_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v694 c arg9 f9)) (ix2 f d) = ((S1 k kR vR sR 2 f d : ℝ) : EReal) :=
  incr_val0 (S0 sR 2) (fun j d => vR (tok k 0 j) 2 d) (tripRun.sl.v539 c arg4 arg15 k f4 f15) (tripRun.sl.v607 c arg4 arg15 k f4 f15) (tripRun.sl.v686 c arg5 arg16 k f5 f16) (tripRun.sl.v690 c arg5 arg16 k f5 f16) (fun f j => kR 2 f (tok k 0 j))
    (v539_val X) (v686_on X) (v686_off X) _ (tripRun.sl.v694 c arg9 f9) (v694_val X) f d

theorem s_1_2 (f : Fin 192) (d : Fin 128) : ((k0_pay164 (tripRun.sl.r_37 c arg4 arg5 arg15 arg16 k f4 f5 f15 f16) (tripRun.sl.r_38 c arg9 f9)) : FVec Ideal S1x1x192x128 .f32) (ix4 0 0 f d) = ((S1 k kR vR sR 2 f d : ℝ) : EReal) := by
  refine (congrFun (show ((k0_pay164 (tripRun.sl.r_37 c arg4 arg5 arg15 arg16 k f4 f5 f15 f16) (tripRun.sl.r_38 c arg9 f9)) : FVec Ideal S1x1x192x128 .f32) = put32 (st 0 slices_S192x256_o0_0_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v694 c arg9 f9)) from rfl) _).trans ?_
  rw [put32_val]
  exact st_1_2 X f d

theorem sp_1_2_0 (f : Fin 192) (d : Fin 128) : ((k0_pay166 (tripRun.sl.r_37 c arg4 arg5 arg15 arg16 k f4 f5 f15 f16) (tripRun.sl.r_38 c arg9 f9)) : FVec Ideal S1x1x192x128 .bf16) (ix4 0 0 f d) = ((S1 k kR vR sR 2 f d : ℝ) : EReal) := by
  refine (congrFun (show ((k0_pay166 (tripRun.sl.r_37 c arg4 arg5 arg15 arg16 k f4 f5 f15 f16) (tripRun.sl.r_38 c arg9 f9)) : FVec Ideal S1x1x192x128 .bf16) = put16 (st 0 slices_S192x256_o0_0_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v694 c arg9 f9)) from rfl) _).trans ?_
  rw [put16_val]
  exact st_1_2 X f d

theorem sp_1_2_1 (f : Fin 192) (d : Fin 128) : ((k0_pay167 (tripRun.sl.r_37 c arg4 arg5 arg15 arg16 k f4 f5 f15 f16) (tripRun.sl.r_38 c arg9 f9)) : FVec Ideal S1x1x192x128 .bf16) (ix4 0 0 f d) = 0 := by
  refine (congrFun (show ((k0_pay167 (tripRun.sl.r_37 c arg4 arg5 arg15 arg16 k f4 f5 f15 f16) (tripRun.sl.r_38 c arg9 f9)) : FVec Ideal S1x1x192x128 .bf16) = put16 (rest (st 0 slices_S192x256_o0_0_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v694 c arg9 f9))) from rfl) _).trans ?_
  rw [put16_val]
  exact rest_val _ _ (st_1_2 X) f d

theorem sp_1_2_2 (f : Fin 192) (d : Fin 128) : ((k0_pay168 (tripRun.sl.r_37 c arg4 arg5 arg15 arg16 k f4 f5 f15 f16) (tripRun.sl.r_38 c arg9 f9)) : FVec Ideal S1x1x192x128 .bf16) (ix4 0 0 f d) = 0 := by
  refine (congrFun (show ((k0_pay168 (tripRun.sl.r_37 c arg4 arg5 arg15 arg16 k f4 f5 f15 f16) (tripRun.sl.r_38 c arg9 f9)) : FVec Ideal S1x1x192x128 .bf16) = put16 (rest (rest (st 0 slices_S192x256_o0_0_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v694 c arg9 f9)))) from rfl) _).trans ?_
  rw [put16_val]
  exact rest_rest_val _ _ (st_1_2 X) f d

theorem st_1_3 (f : Fin 192) (d : Fin 128) : (st 128 slices_S192x256_o0_128_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v717 c arg9 f9)) (ix2 f d) = ((S1 k kR vR sR 3 f d : ℝ) : EReal) :=
  incr_val1 (S0 sR 3) (fun j d => vR (tok k 0 j) 3 d) (tripRun.sl.v539 c arg4 arg15 k f4 f15) (tripRun.sl.v607 c arg4 arg15 k f4 f15) (tripRun.sl.v686 c arg5 arg16 k f5 f16) (tripRun.sl.v690 c arg5 arg16 k f5 f16) (fun f j => kR 3 f (tok k 0 j))
    (v607_val X) (v690_on X) (v690_off X) _ (tripRun.sl.v717 c arg9 f9) (v717_val X) f d

theorem s_1_3 (f : Fin 192) (d : Fin 128) : ((k0_pay170 (tripRun.sl.r_37 c arg4 arg5 arg15 arg16 k f4 f5 f15 f16) (tripRun.sl.v717 c arg9 f9)) : FVec Ideal S1x1x192x128 .f32) (ix4 0 0 f d) = ((S1 k kR vR sR 3 f d : ℝ) : EReal) := by
  refine (congrFun (show ((k0_pay170 (tripRun.sl.r_37 c arg4 arg5 arg15 arg16 k f4 f5 f15 f16) (tripRun.sl.v717 c arg9 f9)) : FVec Ideal S1x1x192x128 .f32) = put32 (st 128 slices_S192x256_o0_128_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v717 c arg9 f9)) from rfl) _).trans ?_
  rw [put32_val]
  exact st_1_3 X f d

theorem sp_1_3_0 (f : Fin 192) (d : Fin 128) : ((k0_pay173 (tripRun.sl.r_39 c arg4 arg5 arg9 arg15 arg16 k f4 f5 f9 f15 f16)) : FVec Ideal S1x1x192x128 .bf16) (ix4 0 0 f d) = ((S1 k kR vR sR 3 f d : ℝ) : EReal) := by
  refine (congrFun (show ((k0_pay173 (tripRun.sl.r_39 c arg4 arg5 arg9 arg15 arg16 k f4 f5 f9 f15 f16)) : FVec Ideal S1x1x192x128 .bf16) = put16 (st 128 slices_S192x256_o0_128_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v717 c arg9 f9)) from rfl) _).trans ?_
  rw [put16_val]
  exact st_1_3 X f d

theorem sp_1_3_1 (f : Fin 192) (d : Fin 128) : ((k0_pay174 (tripRun.sl.r_40 c arg4 arg5 arg9 arg15 arg16 k f4 f5 f9 f15 f16)) : FVec Ideal S1x1x192x128 .bf16) (ix4 0 0 f d) = 0 := by
  refine (congrFun (show ((k0_pay174 (tripRun.sl.r_40 c arg4 arg5 arg9 arg15 arg16 k f4 f5 f9 f15 f16)) : FVec Ideal S1x1x192x128 .bf16) = put16 (rest (st 128 slices_S192x256_o0_128_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v717 c arg9 f9))) from rfl) _).trans ?_
  rw [put16_val]
  exact rest_val _ _ (st_1_3 X) f d

theorem sp_1_3_2 (f : Fin 192) (d : Fin 128) : ((k0_pay175 (tripRun.sl.r_40 c arg4 arg5 arg9 arg15 arg16 k f4 f5 f9 f15 f16)) : FVec Ideal S1x1x192x128 .bf16) (ix4 0 0 f d) = 0 := by
  refine (congrFun (show ((k0_pay175 (tripRun.sl.r_40 c arg4 arg5 arg9 arg15 arg16 k f4 f5 f9 f15 f16)) : FVec Ideal S1x1x192x128 .bf16) = put16 (rest (rest (st 128 slices_S192x256_o0_128_S192x128 (incr (tripRun.sl.v539 c arg4 arg15 k f4 f15) (tripRun.sl.v607 c arg4 arg15 k f4 f15) (tripRun.sl.v686 c arg5 arg16 k f5 f16) (tripRun.sl.v690 c arg5 arg16 k f5 f16)) (tripRun.sl.v717 c arg9 f9)))) from rfl) _).trans ?_
  rw [put16_val]
  exact rest_rest_val _ _ (st_1_3 X) f d

theorem q_1_2 (i d : Fin 128) : (quot (sc (tripRun.sl.v535 c arg3 arg14 k f3 f14) (tripRun.sl.v539 c arg4 arg15 k f4 f15) (tripRun.sl.v543 c arg4 arg5 arg9 arg11 arg15 arg16 k f4 f5 f9 f11 f15 f16)) (num (vlo (View.readAt (Elt Ideal) arg5.view (Rect.unit (s := S1x512x8x128) (k0_off7 k) S1x128x2x128.size (k0_off7_inb k)).toLoadRect f5)) (tripRun.sl.v535 c arg3 arg14 k f3 f14) (tripRun.sl.v539 c arg4 arg15 k f4 f15) (tripRun.sl.v543 c arg4 arg5 arg9 arg11 arg15 arg16 k f4 f5 f9 f11 f15 f16) (tripRun.sl.v549 c arg4 arg5 arg9 arg11 arg15 arg16 k f4 f5 f9 f11 f15 f16) (tripRun.sl.v553 c arg4 arg5 arg9 arg11 arg15 arg16 k f4 f5 f9 f11 f15 f16)) (dRow (denT (View.readAt (Elt Ideal) arg12.view (Rect.unit (s := S2x4x192) ![0, 0, 0] S1x4x192.size inb_S2x4x192_S1x4x192_0_0_0).toLoadRect f12) (tripRun.sl.v525 c arg3 arg13 k f3 f13) (tripRun.sl.v529 c arg3 arg13 k f3 f13)) 2 6 10 0 slices_S16x256_o0_0_S16x128 slices_S16x128_o2_0_S1x128 slices_S16x128_o6_0_S1x128 slices_S16x128_o10_0_S1x128)) (ix2 i d) = ((Y0 k qR kR vR sR zR 2 i d : ℝ) : EReal) :=
  quot_val _ _ _ (A k qR kR 0 2) (Nm k qR kR vR 0 (S0 sR) 2) (fun i => ∑ f, Z0 zR 2 f * qR 2 f (tok k 0 i))
    (sc_val (fun i f => qR 2 f (tok k 0 i)) (fun f j => kR 2 f (tok k 0 j)) _ _ _ (v535_val' X) (v539_val X))
    (num_val (fun i f => qR 2 f (tok k 0 i)) (fun f j => kR 2 f (tok k 0 j)) (S0 sR 2) (fun j d => vR (tok k 0 j) 2 d) _ _ _ _ _ _
      (fun j d => (vlo_val _ j d).trans ((ld5 arg5 f5 k 0 2 _ (k0_off7_eq k) _ j 0 (by decide) d).trans (X.h5 _ _ _)))
      (v535_val' X) (v539_val X) (v543_val X) (v549_val X) (v553_val X))
    (den0 (fun r f => Z0 zR ⟨0 + r.val, by omega⟩ f) _ _ _ (fun f i => qR 2 f (tok k 0 i)) (fun f i => qR 3 f (tok k 0 i))
      ((fun a f => (ld12 arg12 _ 0 (by decide) _ a f).trans (X.h12 _ _ _))) (v525_val X) (v529_val X) 2 6 10 _ _ _ _ (by decide) (by decide) (by decide) (by decide))
    i d (X.d0 _ _)

theorem q_1_3 (i d : Fin 128) : (quot (sc (tripRun.sl.v603 c arg3 arg14 k f3 f14) (tripRun.sl.v607 c arg4 arg15 k f4 f15) (tripRun.sl.v611 c arg4 arg5 arg9 arg11 arg15 arg16 k f4 f5 f9 f11 f15 f16)) (num (vhi (View.readAt (Elt Ideal) arg5.view (Rect.unit (s := S1x512x8x128) (k0_off7 k) S1x128x2x128.size (k0_off7_inb k)).toLoadRect f5)) (tripRun.sl.v603 c arg3 arg14 k f3 f14) (tripRun.sl.v607 c arg4 arg15 k f4 f15) (tripRun.sl.v611 c arg4 arg5 arg9 arg11 arg15 arg16 k f4 f5 f9 f11 f15 f16) (tripRun.sl.v617 c arg4 arg5 arg9 arg11 arg15 arg16 k f4 f5 f9 f11 f15 f16) (tripRun.sl.v621 c arg4 arg5 arg9 arg11 arg15 arg16 k f4 f5 f9 f11 f15 f16)) (dRow (denT (View.readAt (Elt Ideal) arg12.view (Rect.unit (s := S2x4x192) ![0, 0, 0] S1x4x192.size inb_S2x4x192_S1x4x192_0_0_0).toLoadRect f12) (tripRun.sl.v525 c arg3 arg13 k f3 f13) (tripRun.sl.v529 c arg3 arg13 k f3 f13)) 3 7 11 128 slices_S16x256_o0_128_S16x128 slices_S16x128_o3_0_S1x128 slices_S16x128_o7_0_S1x128 slices_S16x128_o11_0_S1x128)) (ix2 i d) = ((Y0 k qR kR vR sR zR 3 i d : ℝ) : EReal) :=
  quot_val _ _ _ (A k qR kR 0 3) (Nm k qR kR vR 0 (S0 sR) 3) (fun i => ∑ f, Z0 zR 3 f * qR 3 f (tok k 0 i))
    (sc_val (fun i f => qR 3 f (tok k 0 i)) (fun f j => kR 3 f (tok k 0 j)) _ _ _ (v603_val' X) (v607_val X))
    (num_val (fun i f => qR 3 f (tok k 0 i)) (fun f j => kR 3 f (tok k 0 j)) (S0 sR 3) (fun j d => vR (tok k 0 j) 3 d) _ _ _ _ _ _
      (fun j d => (vhi_val _ j d).trans ((ld5 arg5 f5 k 0 2 _ (k0_off7_eq k) _ j 1 (by decide) d).trans (X.h5 _ _ _)))
      (v603_val' X) (v607_val X) (v611_val X) (v617_val X) (v621_val X))
    (den1 (fun r f => Z0 zR ⟨0 + r.val, by omega⟩ f) _ _ _ (fun f i => qR 2 f (tok k 0 i)) (fun f i => qR 3 f (tok k 0 i))
      ((fun a f => (ld12 arg12 _ 0 (by decide) _ a f).trans (X.h12 _ _ _))) (v525_val X) (v529_val X) 3 7 11 _ _ _ _ (by decide) (by decide) (by decide) (by decide))
    i d (X.d0 _ _)

theorem y_1 (i : Fin 128) (a : Fin 2) (d : Fin 128) : ((k0_pay159 k0_pay7 k0_pay8 (tripRun.sl.r_24 c arg5 k f5) (tripRun.sl.r_25 c arg3 arg12 arg13 k f3 f12 f13) (tripRun.sl.r_29 c arg3 arg4 arg5 arg9 arg11 arg12 arg13 arg14 arg15 arg16 k f3 f4 f5 f9 f11 f12 f13 f14 f15 f16) (tripRun.sl.r_30 c arg3 arg4 arg5 arg9 arg11 arg14 arg15 arg16 k f3 f4 f5 f9 f11 f14 f15 f16) (tripRun.sl.r_31 c arg3 arg4 arg5 arg9 arg11 arg14 arg15 arg16 k f3 f4 f5 f9 f11 f14 f15 f16) (tripRun.sl.r_32 c arg3 arg4 arg5 arg9 arg11 arg14 arg15 arg16 k f3 f4 f5 f9 f11 f14 f15 f16) (tripRun.sl.r_33 c arg3 arg4 arg5 arg9 arg11 arg14 arg15 arg16 k f3 f4 f5 f9 f11 f14 f15 f16) (tripRun.sl.r_34 c arg3 arg4 arg5 arg9 arg11 arg14 arg15 arg16 k f3 f4 f5 f9 f11 f14 f15 f16) (tripRun.sl.r_35 c arg3 arg4 arg5 arg9 arg11 arg14 arg15 arg16 k f3 f4 f5 f9 f11 f14 f15 f16)) : Vec Ideal S1x128x2x128 .bf16) (ix4 0 i a d) = ((Y0 k qR kR vR sR zR ⟨2 + a.val, by omega⟩ i d : ℝ) : EReal) := by
  refine (congrFun (show ((k0_pay159 k0_pay7 k0_pay8 (tripRun.sl.r_24 c arg5 k f5) (tripRun.sl.r_25 c arg3 arg12 arg13 k f3 f12 f13) (tripRun.sl.r_29 c arg3 arg4 arg5 arg9 arg11 arg12 arg13 arg14 arg15 arg16 k f3 f4 f5 f9 f11 f12 f13 f14 f15 f16) (tripRun.sl.r_30 c arg3 arg4 arg5 arg9 arg11 arg14 arg15 arg16 k f3 f4 f5 f9 f11 f14 f15 f16) (tripRun.sl.r_31 c arg3 arg4 arg5 arg9 arg11 arg14 arg15 arg16 k f3 f4 f5 f9 f11 f14 f15 f16) (tripRun.sl.r_32 c arg3 arg4 arg5 arg9 arg11 arg14 arg15 arg16 k f3 f4 f5 f9 f11 f14 f15 f16) (tripRun.sl.r_33 c arg3 arg4 arg5 arg9 arg11 arg14 arg15 arg16 k f3 f4 f5 f9 f11 f14 f15 f16) (tripRun.sl.r_34 c arg3 arg4 arg5 arg9 arg11 arg14 arg15 arg16 k f3 f4 f5 f9 f11 f14 f15 f16) (tripRun.sl.r_35 c arg3 arg4 arg5 arg9 arg11 arg14 arg15 arg16 k f3 f4 f5 f9 f11 f14 f15 f16)) : Vec Ideal S1x128x2x128 .bf16) = pairUp (quot (sc (tripRun.sl.v535 c arg3 arg14 k f3 f14) (tripRun.sl.v539 c arg4 arg15 k f4 f15) (tripRun.sl.v543 c arg4 arg5 arg9 arg11 arg15 arg16 k f4 f5 f9 f11 f15 f16)) (num (vlo (View.readAt (Elt Ideal) arg5.view (Rect.unit (s := S1x512x8x128) (k0_off7 k) S1x128x2x128.size (k0_off7_inb k)).toLoadRect f5)) (tripRun.sl.v535 c arg3 arg14 k f3 f14) (tripRun.sl.v539 c arg4 arg15 k f4 f15) (tripRun.sl.v543 c arg4 arg5 arg9 arg11 arg15 arg16 k f4 f5 f9 f11 f15 f16) (tripRun.sl.v549 c arg4 arg5 arg9 arg11 arg15 arg16 k f4 f5 f9 f11 f15 f16) (tripRun.sl.v553 c arg4 arg5 arg9 arg11 arg15 arg16 k f4 f5 f9 f11 f15 f16)) (dRow (denT (View.readAt (Elt Ideal) arg12.view (Rect.unit (s := S2x4x192) ![0, 0, 0] S1x4x192.size inb_S2x4x192_S1x4x192_0_0_0).toLoadRect f12) (tripRun.sl.v525 c arg3 arg13 k f3 f13) (tripRun.sl.v529 c arg3 arg13 k f3 f13)) 2 6 10 0 slices_S16x256_o0_0_S16x128 slices_S16x128_o2_0_S1x128 slices_S16x128_o6_0_S1x128 slices_S16x128_o10_0_S1x128)) (quot (sc (tripRun.sl.v603 c arg3 arg14 k f3 f14) (tripRun.sl.v607 c arg4 arg15 k f4 f15) (tripRun.sl.v611 c arg4 arg5 arg9 arg11 arg15 arg16 k f4 f5 f9 f11 f15 f16)) (num (vhi (View.readAt (Elt Ideal) arg5.view (Rect.unit (s := S1x512x8x128) (k0_off7 k) S1x128x2x128.size (k0_off7_inb k)).toLoadRect f5)) (tripRun.sl.v603 c arg3 arg14 k f3 f14) (tripRun.sl.v607 c arg4 arg15 k f4 f15) (tripRun.sl.v611 c arg4 arg5 arg9 arg11 arg15 arg16 k f4 f5 f9 f11 f15 f16) (tripRun.sl.v617 c arg4 arg5 arg9 arg11 arg15 arg16 k f4 f5 f9 f11 f15 f16) (tripRun.sl.v621 c arg4 arg5 arg9 arg11 arg15 arg16 k f4 f5 f9 f11 f15 f16)) (dRow (denT (View.readAt (Elt Ideal) arg12.view (Rect.unit (s := S2x4x192) ![0, 0, 0] S1x4x192.size inb_S2x4x192_S1x4x192_0_0_0).toLoadRect f12) (tripRun.sl.v525 c arg3 arg13 k f3 f13) (tripRun.sl.v529 c arg3 arg13 k f3 f13)) 3 7 11 128 slices_S16x256_o0_128_S16x128 slices_S16x128_o3_0_S1x128 slices_S16x128_o7_0_S1x128 slices_S16x128_o11_0_S1x128)) from rfl) _).trans ?_
  rw [pairUp_val]
  match a with
  | 0 => exact q_1_2 X i d
  | 1 => exact q_1_3 X i d

theorem z_0_0 (r : Fin 4) (f : Fin 192) : ((k0_pay180 (tripRun.sl.r c arg12 f12) (tripRun.sl.r_22 c arg4 arg15 v10 v11 k f4 f15) (tripRun.sl.r_36 c arg4 arg15 k f4 f15) (k0_pay176 v10) (k0_pay177 v11) (k0_pay178 v11) k0_pay179) : FVec Ideal S1x4x192 .f32) (ix3 0 r f) = ((Z1 k kR zR ⟨0 + r.val, by omega⟩ f : ℝ) : EReal) := by
  refine (congrFun (show ((k0_pay180 (tripRun.sl.r c arg12 f12) (tripRun.sl.r_22 c arg4 arg15 v10 v11 k f4 f15) (tripRun.sl.r_36 c arg4 arg15 k f4 f15) (k0_pay176 v10) (k0_pay177 v11) (k0_pay178 v11) k0_pay179) : FVec Ideal S1x4x192 .f32) = zNew v10 v11 (View.readAt (Elt Ideal) arg12.view (Rect.unit (s := S2x4x192) ![0, 0, 0] S1x4x192.size inb_S2x4x192_S1x4x192_0_0_0).toLoadRect f12) (keys (tripRun.sl.v269 c arg4 arg15 k f4 f15) (tripRun.sl.v337 c arg4 arg15 k f4 f15)) (keys (tripRun.sl.v539 c arg4 arg15 k f4 f15) (tripRun.sl.v607 c arg4 arg15 k f4 f15)) from rfl) _).trans ?_
  exact zNew_val v10 v11 X.i10 X.i11 (fun r f => Z0 zR ⟨0 + r.val, by omega⟩ f) _ _ _ _ _ (fun r f j => kR ⟨0 + r.val, by omega⟩ f (tok k 0 j))
    ((fun a f => (ld12 arg12 _ 0 (by decide) _ a f).trans (X.h12 _ _ _))) (v269_val X) (v337_val X) (v539_val X) (v607_val X) r f

end Cert.KernelIdeal.Trip

end
-- ==== Proof.Val2.lean ====
/-
  The values of one sub-block: quad 0, sub-block 1, pair 0.
-/
module

public import proofs.«01_k».proof.Proof.TripRun
public import proofs.«01_k».proof.Proof.TripSt
public import proofs.«01_k».proof.Proof.Pack13
public import proofs.«01_k».proof.Proof.Pack14
public import proofs.«01_k».proof.Proof.Pack15
public import proofs.«01_k».proof.Proof.Val0
public import proofs.«01_k».proof.Proof.Val1
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem v778_val (a : Fin 4) (f : Fin 192) : (tripRun.sl.v778 c arg4 arg12 arg15 v10 v11 k f4 f12 f15) (ix3 0 a f) = ((Z1 k kR zR ⟨0 + a.val, by omega⟩ f : ℝ) : EReal) := by
  unfold tripRun.sl.v778
  unfold View.readCov
  refine (ld12 arg12 _ 0 (by decide) _ a f).trans ?_
  simp only [tripRun.sl.H12_1]
  rw [hit12]
  exact z_0_0 X a f

theorem v816_val (f : Fin 192) (i : Fin 128) : (tripRun.sl.v816 c arg3 arg13 k f3 f13) (ix4 0 0 f i) = ((qR 0 f (tok k 1 i) : ℝ) : EReal) := by
  unfold tripRun.sl.v816
  exact (sq13 arg13 _ 0 0 1 (by decide) (by decide) (by decide) _ _ _ _ _ _).trans ((pqt_0_0_1 c k arg3 f3 arg13 f13 f i).trans (X.h3 _ _ _))

theorem v820_val (f : Fin 192) (i : Fin 128) : (tripRun.sl.v820 c arg3 arg13 k f3 f13) (ix4 0 0 f i) = ((qR 1 f (tok k 1 i) : ℝ) : EReal) := by
  unfold tripRun.sl.v820
  exact (sq13 arg13 _ 0 1 1 (by decide) (by decide) (by decide) _ _ _ _ _ _).trans ((pqt_0_1_1 c k arg3 f3 arg13 f13 f i).trans (X.h3 _ _ _))

theorem v826_val' (i : Fin 128) (f : Fin 192) : (tripRun.sl.v826 c arg3 arg14 k f3 f14) (ix4 0 0 i f) = ((qR 0 f (tok k 1 i) : ℝ) : EReal) := by
  unfold tripRun.sl.v826
  exact (sq14 arg14 _ 0 0 1 (by decide) (by decide) (by decide) _ _ _ _ _ _).trans ((pq_0_0_1 c k arg3 f3 arg14 f14 f i).trans (X.h3 _ _ _))

theorem v830_val (f : Fin 192) (i : Fin 128) : (tripRun.sl.v830 c arg4 arg15 k f4 f15) (ix4 0 0 f i) = ((kR 0 f (tok k 1 i) : ℝ) : EReal) := by
  unfold tripRun.sl.v830
  exact (sq13 arg15 _ 0 0 1 (by decide) (by decide) (by decide) _ _ _ _ _ _).trans ((pkt_0_0_1 c k arg4 f4 arg15 f15 f i).trans (X.h4 _ _ _))

theorem v834_val (f : Fin 192) (d : Fin 128) : (tripRun.sl.v834 c arg4 arg5 arg9 arg11 arg15 arg16 k f4 f5 f9 f11 f15 f16) (ix3 0 f d) = ((S1 k kR vR sR 0 f d : ℝ) : EReal) := by
  unfold tripRun.sl.v834
  refine (sq11 arg11 _ 0 0 (by decide) (by decide) _ _ _ _ f d).trans ?_
  simp only [tripRun.sl.H11_2, tripRun.sl.H11_6, tripRun.sl.H11_9, tripRun.sl.H11_12]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_0_0_0 X f d

theorem v840_val (f : Fin 192) (d : Fin 128) : (tripRun.sl.v840 c arg4 arg5 arg9 arg11 arg15 arg16 k f4 f5 f9 f11 f15 f16) (ix3 0 f d) = 0 := by
  unfold tripRun.sl.v840
  refine (sq11 arg11 _ 0 1 (by decide) (by decide) _ _ _ _ f d).trans ?_
  simp only [tripRun.sl.H11_2, tripRun.sl.H11_6, tripRun.sl.H11_9, tripRun.sl.H11_12]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_0_0_1 X f d

theorem v844_val (f : Fin 192) (d : Fin 128) : (tripRun.sl.v844 c arg4 arg5 arg9 arg11 arg15 arg16 k f4 f5 f9 f11 f15 f16) (ix3 0 f d) = 0 := by
  unfold tripRun.sl.v844
  refine (sq11 arg11 _ 0 2 (by decide) (by decide) _ _ _ _ f d).trans ?_
  simp only [tripRun.sl.H11_2, tripRun.sl.H11_6, tripRun.sl.H11_9, tripRun.sl.H11_12]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_0_0_2 X f d

theorem v894_val' (i : Fin 128) (f : Fin 192) : (tripRun.sl.v894 c arg3 arg14 k f3 f14) (ix4 0 0 i f) = ((qR 1 f (tok k 1 i) : ℝ) : EReal) := by
  unfold tripRun.sl.v894
  exact (sq14 arg14 _ 0 1 1 (by decide) (by decide) (by decide) _ _ _ _ _ _).trans ((pq_0_1_1 c k arg3 f3 arg14 f14 f i).trans (X.h3 _ _ _))

theorem v898_val (f : Fin 192) (i : Fin 128) : (tripRun.sl.v898 c arg4 arg15 k f4 f15) (ix4 0 0 f i) = ((kR 1 f (tok k 1 i) : ℝ) : EReal) := by
  unfold tripRun.sl.v898
  exact (sq13 arg15 _ 0 1 1 (by decide) (by decide) (by decide) _ _ _ _ _ _).trans ((pkt_0_1_1 c k arg4 f4 arg15 f15 f i).trans (X.h4 _ _ _))

theorem v902_val (f : Fin 192) (d : Fin 128) : (tripRun.sl.v902 c arg4 arg5 arg9 arg11 arg15 arg16 k f4 f5 f9 f11 f15 f16) (ix3 0 f d) = ((S1 k kR vR sR 1 f d : ℝ) : EReal) := by
  unfold tripRun.sl.v902
  refine (sq11 arg11 _ 1 0 (by decide) (by decide) _ _ _ _ f d).trans ?_
  simp only [tripRun.sl.H11_2, tripRun.sl.H11_6, tripRun.sl.H11_9, tripRun.sl.H11_12]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_0_1_0 X f d

theorem v908_val (f : Fin 192) (d : Fin 128) : (tripRun.sl.v908 c arg4 arg5 arg9 arg11 arg15 arg16 k f4 f5 f9 f11 f15 f16) (ix3 0 f d) = 0 := by
  unfold tripRun.sl.v908
  refine (sq11 arg11 _ 1 1 (by decide) (by decide) _ _ _ _ f d).trans ?_
  simp only [tripRun.sl.H11_2, tripRun.sl.H11_6, tripRun.sl.H11_9, tripRun.sl.H11_12]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_0_1_1 X f d

theorem v912_val (f : Fin 192) (d : Fin 128) : (tripRun.sl.v912 c arg4 arg5 arg9 arg11 arg15 arg16 k f4 f5 f9 f11 f15 f16) (ix3 0 f d) = 0 := by
  unfold tripRun.sl.v912
  refine (sq11 arg11 _ 1 2 (by decide) (by decide) _ _ _ _ f d).trans ?_
  simp only [tripRun.sl.H11_2, tripRun.sl.H11_6, tripRun.sl.H11_9, tripRun.sl.H11_12]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_0_1_2 X f d

theorem v977_on (j d : Fin 128) : (tripRun.sl.v977 c arg5 arg16 k f5 f16) (ix4 0 0 ⟨j.val, by omega⟩ d) = ((vR (tok k 1 j) 0 d : ℝ) : EReal) := by
  unfold tripRun.sl.v977
  refine (sq16 arg16 _ 0 0 0 (by decide) (by decide) (by decide) _ _ _ _ _ d).trans ?_
  simp only [tripRun.sl.H16_1, tripRun.sl.H16_2, tripRun.sl.H16_3, tripRun.sl.H16_4, tripRun.sl.H16_5, tripRun.sl.H16_6]
  rw [miss16 _ _ _ _ _ _ _ _ _ _ _ _ _ _ _ _ _ (.inl (by decide))]
  rw [show (⟨j.val, by omega⟩ : Fin 256) = ⟨0 + j.val, by omega⟩ from Fin.ext (Nat.zero_add _).symm]
  rw [hit16]
  pointwise [k0_pay185, tripRun.sl.r_43, k0_pay183]
  exact (ld5 arg5 f5 k 1 0 _ (k0_off8_eq k) _ j 0 (by decide) d).trans (X.h5 _ _ _)

theorem v977_off (j d : Fin 128) : (tripRun.sl.v977 c arg5 arg16 k f5 f16) (ix4 0 0 ⟨128 + j.val, by omega⟩ d) = 0 := by
  unfold tripRun.sl.v977
  refine (sq16 arg16 _ 0 0 0 (by decide) (by decide) (by decide) _ _ _ _ _ d).trans ?_
  simp only [tripRun.sl.H16_1, tripRun.sl.H16_2, tripRun.sl.H16_3, tripRun.sl.H16_4, tripRun.sl.H16_5, tripRun.sl.H16_6]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  exact X.h16 _ _ _ _ _ (by show (128 + j.val) / 128 ≠ 0; omega)

theorem v981_on (j d : Fin 128) : (tripRun.sl.v981 c arg5 arg16 k f5 f16) (ix4 0 0 ⟨128 + j.val, by omega⟩ d) = ((vR (tok k 1 j) 1 d : ℝ) : EReal) := by
  unfold tripRun.sl.v981
  refine (sq16 arg16 _ 0 0 1 (by decide) (by decide) (by decide) _ _ _ _ _ d).trans ?_
  simp only [tripRun.sl.H16_1, tripRun.sl.H16_2, tripRun.sl.H16_3, tripRun.sl.H16_4, tripRun.sl.H16_5, tripRun.sl.H16_6]
  rw [hit16]
  pointwise [k0_pay186, tripRun.sl.r_44, k0_pay184]
  exact (ld5 arg5 f5 k 1 0 _ (k0_off8_eq k) _ j 1 (by decide) d).trans (X.h5 _ _ _)

theorem v981_off (j d : Fin 128) : (tripRun.sl.v981 c arg5 arg16 k f5 f16) (ix4 0 0 ⟨j.val, by omega⟩ d) = 0 := by
  unfold tripRun.sl.v981
  refine (sq16 arg16 _ 0 0 1 (by decide) (by decide) (by decide) _ _ _ _ _ d).trans ?_
  simp only [tripRun.sl.H16_1, tripRun.sl.H16_2, tripRun.sl.H16_3, tripRun.sl.H16_4, tripRun.sl.H16_5, tripRun.sl.H16_6]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inr (by left; show j.val < 128; omega))]
  rw [miss16 _ _ _ _ _ _ _ _ _ _ _ _ _ _ _ _ _ (.inl (by decide))]
  exact X.h16 _ _ _ _ _ (by show (j.val) / 128 ≠ 1; omega)

theorem v985_val (f : Fin 192) (d : Fin 128) : (tripRun.sl.v985 c arg4 arg5 arg9 arg15 arg16 k f4 f5 f9 f15 f16) (ix4 0 0 f d) = ((S1 k kR vR sR 0 f d : ℝ) : EReal) := by
  unfold tripRun.sl.v985
  unfold View.readCov
  refine (ld9 arg9 _ 0 (by decide) _ f d).trans ?_
  simp only [tripRun.sl.H9_1, tripRun.sl.H9_2, tripRun.sl.H9_4]
  rw [miss9 _ _ _ _ _ _ _ _ _ _ (by decide)]
  rw [miss9 _ _ _ _ _ _ _ _ _ _ (by decide)]
  rw [miss9 _ _ _ _ _ _ _ _ _ _ (by decide)]
  rw [hit9]
  exact s_0_0 X f d

theorem v1008_val (f : Fin 192) (d : Fin 128) : (tripRun.sl.v1008 c arg4 arg5 arg9 arg15 arg16 k f4 f5 f9 f15 f16) (ix4 0 0 f d) = ((S1 k kR vR sR 1 f d : ℝ) : EReal) := by
  unfold tripRun.sl.v1008
  unfold View.readCov
  refine (ld9 arg9 _ 1 (by decide) _ f d).trans ?_
  simp only [tripRun.sl.H9_1, tripRun.sl.H9_2, tripRun.sl.H9_4, tripRun.sl.H9_5]
  rw [miss9 _ _ _ _ _ _ _ _ _ _ (by decide)]
  rw [miss9 _ _ _ _ _ _ _ _ _ _ (by decide)]
  rw [miss9 _ _ _ _ _ _ _ _ _ _ (by decide)]
  rw [hit9]
  exact s_0_1 X f d

theorem st_2_0 (f : Fin 192) (d : Fin 128) : (st 0 slices_S192x256_o0_0_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v985 c arg4 arg5 arg9 arg15 arg16 k f4 f5 f9 f15 f16)) (ix2 f d) = ((S2 k kR vR sR 0 f d : ℝ) : EReal) :=
  incr_val0 (S1 k kR vR sR 0) (fun j d => vR (tok k 1 j) 0 d) (tripRun.sl.v830 c arg4 arg15 k f4 f15) (tripRun.sl.v898 c arg4 arg15 k f4 f15) (tripRun.sl.v977 c arg5 arg16 k f5 f16) (tripRun.sl.v981 c arg5 arg16 k f5 f16) (fun f j => kR 0 f (tok k 1 j))
    (v830_val X) (v977_on X) (v977_off X) _ (tripRun.sl.v985 c arg4 arg5 arg9 arg15 arg16 k f4 f5 f9 f15 f16) (v985_val X) f d

theorem s_2_0 (f : Fin 192) (d : Fin 128) : ((k0_pay200 (tripRun.sl.r_54 c arg4 arg5 arg15 arg16 k f4 f5 f15 f16) (tripRun.sl.v985 c arg4 arg5 arg9 arg15 arg16 k f4 f5 f9 f15 f16)) : FVec Ideal S1x1x192x128 .f32) (ix4 0 0 f d) = ((S2 k kR vR sR 0 f d : ℝ) : EReal) := by
  refine (congrFun (show ((k0_pay200 (tripRun.sl.r_54 c arg4 arg5 arg15 arg16 k f4 f5 f15 f16) (tripRun.sl.v985 c arg4 arg5 arg9 arg15 arg16 k f4 f5 f9 f15 f16)) : FVec Ideal S1x1x192x128 .f32) = put32 (st 0 slices_S192x256_o0_0_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v985 c arg4 arg5 arg9 arg15 arg16 k f4 f5 f9 f15 f16)) from rfl) _).trans ?_
  rw [put32_val]
  exact st_2_0 X f d

theorem sp_2_0_0 (f : Fin 192) (d : Fin 128) : ((k0_pay202 (tripRun.sl.r_54 c arg4 arg5 arg15 arg16 k f4 f5 f15 f16) (tripRun.sl.v985 c arg4 arg5 arg9 arg15 arg16 k f4 f5 f9 f15 f16)) : FVec Ideal S1x1x192x128 .bf16) (ix4 0 0 f d) = ((S2 k kR vR sR 0 f d : ℝ) : EReal) := by
  refine (congrFun (show ((k0_pay202 (tripRun.sl.r_54 c arg4 arg5 arg15 arg16 k f4 f5 f15 f16) (tripRun.sl.v985 c arg4 arg5 arg9 arg15 arg16 k f4 f5 f9 f15 f16)) : FVec Ideal S1x1x192x128 .bf16) = put16 (st 0 slices_S192x256_o0_0_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v985 c arg4 arg5 arg9 arg15 arg16 k f4 f5 f9 f15 f16)) from rfl) _).trans ?_
  rw [put16_val]
  exact st_2_0 X f d

theorem sp_2_0_1 (f : Fin 192) (d : Fin 128) : ((k0_pay203 (tripRun.sl.r_54 c arg4 arg5 arg15 arg16 k f4 f5 f15 f16) (tripRun.sl.v985 c arg4 arg5 arg9 arg15 arg16 k f4 f5 f9 f15 f16)) : FVec Ideal S1x1x192x128 .bf16) (ix4 0 0 f d) = 0 := by
  refine (congrFun (show ((k0_pay203 (tripRun.sl.r_54 c arg4 arg5 arg15 arg16 k f4 f5 f15 f16) (tripRun.sl.v985 c arg4 arg5 arg9 arg15 arg16 k f4 f5 f9 f15 f16)) : FVec Ideal S1x1x192x128 .bf16) = put16 (rest (st 0 slices_S192x256_o0_0_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v985 c arg4 arg5 arg9 arg15 arg16 k f4 f5 f9 f15 f16))) from rfl) _).trans ?_
  rw [put16_val]
  exact rest_val _ _ (st_2_0 X) f d

theorem sp_2_0_2 (f : Fin 192) (d : Fin 128) : ((k0_pay204 (tripRun.sl.r_54 c arg4 arg5 arg15 arg16 k f4 f5 f15 f16) (tripRun.sl.v985 c arg4 arg5 arg9 arg15 arg16 k f4 f5 f9 f15 f16)) : FVec Ideal S1x1x192x128 .bf16) (ix4 0 0 f d) = 0 := by
  refine (congrFun (show ((k0_pay204 (tripRun.sl.r_54 c arg4 arg5 arg15 arg16 k f4 f5 f15 f16) (tripRun.sl.v985 c arg4 arg5 arg9 arg15 arg16 k f4 f5 f9 f15 f16)) : FVec Ideal S1x1x192x128 .bf16) = put16 (rest (rest (st 0 slices_S192x256_o0_0_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v985 c arg4 arg5 arg9 arg15 arg16 k f4 f5 f9 f15 f16)))) from rfl) _).trans ?_
  rw [put16_val]
  exact rest_rest_val _ _ (st_2_0 X) f d

theorem st_2_1 (f : Fin 192) (d : Fin 128) : (st 128 slices_S192x256_o0_128_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v1008 c arg4 arg5 arg9 arg15 arg16 k f4 f5 f9 f15 f16)) (ix2 f d) = ((S2 k kR vR sR 1 f d : ℝ) : EReal) :=
  incr_val1 (S1 k kR vR sR 1) (fun j d => vR (tok k 1 j) 1 d) (tripRun.sl.v830 c arg4 arg15 k f4 f15) (tripRun.sl.v898 c arg4 arg15 k f4 f15) (tripRun.sl.v977 c arg5 arg16 k f5 f16) (tripRun.sl.v981 c arg5 arg16 k f5 f16) (fun f j => kR 1 f (tok k 1 j))
    (v898_val X) (v981_on X) (v981_off X) _ (tripRun.sl.v1008 c arg4 arg5 arg9 arg15 arg16 k f4 f5 f9 f15 f16) (v1008_val X) f d

theorem s_2_1 (f : Fin 192) (d : Fin 128) : ((k0_pay206 (tripRun.sl.r_54 c arg4 arg5 arg15 arg16 k f4 f5 f15 f16) (tripRun.sl.v1008 c arg4 arg5 arg9 arg15 arg16 k f4 f5 f9 f15 f16)) : FVec Ideal S1x1x192x128 .f32) (ix4 0 0 f d) = ((S2 k kR vR sR 1 f d : ℝ) : EReal) := by
  refine (congrFun (show ((k0_pay206 (tripRun.sl.r_54 c arg4 arg5 arg15 arg16 k f4 f5 f15 f16) (tripRun.sl.v1008 c arg4 arg5 arg9 arg15 arg16 k f4 f5 f9 f15 f16)) : FVec Ideal S1x1x192x128 .f32) = put32 (st 128 slices_S192x256_o0_128_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v1008 c arg4 arg5 arg9 arg15 arg16 k f4 f5 f9 f15 f16)) from rfl) _).trans ?_
  rw [put32_val]
  exact st_2_1 X f d

theorem sp_2_1_0 (f : Fin 192) (d : Fin 128) : ((k0_pay208 (tripRun.sl.r_55 c arg4 arg5 arg9 arg15 arg16 k f4 f5 f9 f15 f16)) : FVec Ideal S1x1x192x128 .bf16) (ix4 0 0 f d) = ((S2 k kR vR sR 1 f d : ℝ) : EReal) := by
  refine (congrFun (show ((k0_pay208 (tripRun.sl.r_55 c arg4 arg5 arg9 arg15 arg16 k f4 f5 f9 f15 f16)) : FVec Ideal S1x1x192x128 .bf16) = put16 (st 128 slices_S192x256_o0_128_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v1008 c arg4 arg5 arg9 arg15 arg16 k f4 f5 f9 f15 f16)) from rfl) _).trans ?_
  rw [put16_val]
  exact st_2_1 X f d

theorem sp_2_1_1 (f : Fin 192) (d : Fin 128) : ((k0_pay209 (tripRun.sl.r_55 c arg4 arg5 arg9 arg15 arg16 k f4 f5 f9 f15 f16)) : FVec Ideal S1x1x192x128 .bf16) (ix4 0 0 f d) = 0 := by
  refine (congrFun (show ((k0_pay209 (tripRun.sl.r_55 c arg4 arg5 arg9 arg15 arg16 k f4 f5 f9 f15 f16)) : FVec Ideal S1x1x192x128 .bf16) = put16 (rest (st 128 slices_S192x256_o0_128_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v1008 c arg4 arg5 arg9 arg15 arg16 k f4 f5 f9 f15 f16))) from rfl) _).trans ?_
  rw [put16_val]
  exact rest_val _ _ (st_2_1 X) f d

theorem sp_2_1_2 (f : Fin 192) (d : Fin 128) : ((k0_pay210 (tripRun.sl.r_55 c arg4 arg5 arg9 arg15 arg16 k f4 f5 f9 f15 f16)) : FVec Ideal S1x1x192x128 .bf16) (ix4 0 0 f d) = 0 := by
  refine (congrFun (show ((k0_pay210 (tripRun.sl.r_55 c arg4 arg5 arg9 arg15 arg16 k f4 f5 f9 f15 f16)) : FVec Ideal S1x1x192x128 .bf16) = put16 (rest (rest (st 128 slices_S192x256_o0_128_S192x128 (incr (tripRun.sl.v830 c arg4 arg15 k f4 f15) (tripRun.sl.v898 c arg4 arg15 k f4 f15) (tripRun.sl.v977 c arg5 arg16 k f5 f16) (tripRun.sl.v981 c arg5 arg16 k f5 f16)) (tripRun.sl.v1008 c arg4 arg5 arg9 arg15 arg16 k f4 f5 f9 f15 f16)))) from rfl) _).trans ?_
  rw [put16_val]
  exact rest_rest_val _ _ (st_2_1 X) f d

theorem q_2_0 (i d : Fin 128) : (quot (sc (tripRun.sl.v826 c arg3 arg14 k f3 f14) (tripRun.sl.v830 c arg4 arg15 k f4 f15) (tripRun.sl.v834 c arg4 arg5 arg9 arg11 arg15 arg16 k f4 f5 f9 f11 f15 f16)) (num (vlo (View.readAt (Elt Ideal) arg5.view (Rect.unit (s := S1x512x8x128) (k0_off8 k) S1x128x2x128.size (k0_off8_inb k)).toLoadRect f5)) (tripRun.sl.v826 c arg3 arg14 k f3 f14) (tripRun.sl.v830 c arg4 arg15 k f4 f15) (tripRun.sl.v834 c arg4 arg5 arg9 arg11 arg15 arg16 k f4 f5 f9 f11 f15 f16) (tripRun.sl.v840 c arg4 arg5 arg9 arg11 arg15 arg16 k f4 f5 f9 f11 f15 f16) (tripRun.sl.v844 c arg4 arg5 arg9 arg11 arg15 arg16 k f4 f5 f9 f11 f15 f16)) (dRow (denT (tripRun.sl.v778 c arg4 arg12 arg15 v10 v11 k f4 f12 f15) (tripRun.sl.v816 c arg3 arg13 k f3 f13) (tripRun.sl.v820 c arg3 arg13 k f3 f13)) 0 4 8 0 slices_S16x256_o0_0_S16x128 slices_S16x128_o0_0_S1x128 slices_S16x128_o4_0_S1x128 slices_S16x128_o8_0_S1x128)) (ix2 i d) = ((Y1 k qR kR vR sR zR 0 i d : ℝ) : EReal) :=
  quot_val _ _ _ (A k qR kR 1 0) (Nm k qR kR vR 1 (S1 k kR vR sR) 0) (fun i => ∑ f, Z1 k kR zR 0 f * qR 0 f (tok k 1 i))
    (sc_val (fun i f => qR 0 f (tok k 1 i)) (fun f j => kR 0 f (tok k 1 j)) _ _ _ (v826_val' X) (v830_val X))
    (num_val (fun i f => qR 0 f (tok k 1 i)) (fun f j => kR 0 f (tok k 1 j)) (S1 k kR vR sR 0) (fun j d => vR (tok k 1 j) 0 d) _ _ _ _ _ _
      (fun j d => (vlo_val _ j d).trans ((ld5 arg5 f5 k 1 0 _ (k0_off8_eq k) _ j 0 (by decide) d).trans (X.h5 _ _ _)))
      (v826_val' X) (v830_val X) (v834_val X) (v840_val X) (v844_val X))
    (den0 (fun r f => Z1 k kR zR ⟨0 + r.val, by omega⟩ f) _ _ _ (fun f i => qR 0 f (tok k 1 i)) (fun f i => qR 1 f (tok k 1 i))
      (v778_val X) (v816_val X) (v820_val X) 0 4 8 _ _ _ _ (by decide) (by decide) (by decide) (by decide))
    i d (X.d1 _ _)

theorem q_2_1 (i d : Fin 128) : (quot (sc (tripRun.sl.v894 c arg3 arg14 k f3 f14) (tripRun.sl.v898 c arg4 arg15 k f4 f15) (tripRun.sl.v902 c arg4 arg5 arg9 arg11 arg15 arg16 k f4 f5 f9 f11 f15 f16)) (num (vhi (View.readAt (Elt Ideal) arg5.view (Rect.unit (s := S1x512x8x128) (k0_off8 k) S1x128x2x128.size (k0_off8_inb k)).toLoadRect f5)) (tripRun.sl.v894 c arg3 arg14 k f3 f14) (tripRun.sl.v898 c arg4 arg15 k f4 f15) (tripRun.sl.v902 c arg4 arg5 arg9 arg11 arg15 arg16 k f4 f5 f9 f11 f15 f16) (tripRun.sl.v908 c arg4 arg5 arg9 arg11 arg15 arg16 k f4 f5 f9 f11 f15 f16) (tripRun.sl.v912 c arg4 arg5 arg9 arg11 arg15 arg16 k f4 f5 f9 f11 f15 f16)) (dRow (denT (tripRun.sl.v778 c arg4 arg12 arg15 v10 v11 k f4 f12 f15) (tripRun.sl.v816 c arg3 arg13 k f3 f13) (tripRun.sl.v820 c arg3 arg13 k f3 f13)) 1 5 9 128 slices_S16x256_o0_128_S16x128 slices_S16x128_o1_0_S1x128 slices_S16x128_o5_0_S1x128 slices_S16x128_o9_0_S1x128)) (ix2 i d) = ((Y1 k qR kR vR sR zR 1 i d : ℝ) : EReal) :=
  quot_val _ _ _ (A k qR kR 1 1) (Nm k qR kR vR 1 (S1 k kR vR sR) 1) (fun i => ∑ f, Z1 k kR zR 1 f * qR 1 f (tok k 1 i))
    (sc_val (fun i f => qR 1 f (tok k 1 i)) (fun f j => kR 1 f (tok k 1 j)) _ _ _ (v894_val' X) (v898_val X))
    (num_val (fun i f => qR 1 f (tok k 1 i)) (fun f j => kR 1 f (tok k 1 j)) (S1 k kR vR sR 1) (fun j d => vR (tok k 1 j) 1 d) _ _ _ _ _ _
      (fun j d => (vhi_val _ j d).trans ((ld5 arg5 f5 k 1 0 _ (k0_off8_eq k) _ j 1 (by decide) d).trans (X.h5 _ _ _)))
      (v894_val' X) (v898_val X) (v902_val X) (v908_val X) (v912_val X))
    (den1 (fun r f => Z1 k kR zR ⟨0 + r.val, by omega⟩ f) _ _ _ (fun f i => qR 0 f (tok k 1 i)) (fun f i => qR 1 f (tok k 1 i))
      (v778_val X) (v816_val X) (v820_val X) 1 5 9 _ _ _ _ (by decide) (by decide) (by decide) (by decide))
    i d (X.d1 _ _)

theorem y_2 (i : Fin 128) (a : Fin 2) (d : Fin 128) : ((tripRun.sl.r_52 c arg3 arg4 arg5 arg9 arg11 arg12 arg13 arg14 arg15 arg16 v10 v11 k f3 f4 f5 f9 f11 f12 f13 f14 f15 f16) : Vec Ideal S1x128x2x128 .bf16) (ix4 0 i a d) = ((Y1 k qR kR vR sR zR ⟨0 + a.val, by omega⟩ i d : ℝ) : EReal) := by
  refine (congrFun (show ((tripRun.sl.r_52 c arg3 arg4 arg5 arg9 arg11 arg12 arg13 arg14 arg15 arg16 v10 v11 k f3 f4 f5 f9 f11 f12 f13 f14 f15 f16) : Vec Ideal S1x128x2x128 .bf16) = pairUp (quot (sc (tripRun.sl.v826 c arg3 arg14 k f3 f14) (tripRun.sl.v830 c arg4 arg15 k f4 f15) (tripRun.sl.v834 c arg4 arg5 arg9 arg11 arg15 arg16 k f4 f5 f9 f11 f15 f16)) (num (vlo (View.readAt (Elt Ideal) arg5.view (Rect.unit (s := S1x512x8x128) (k0_off8 k) S1x128x2x128.size (k0_off8_inb k)).toLoadRect f5)) (tripRun.sl.v826 c arg3 arg14 k f3 f14) (tripRun.sl.v830 c arg4 arg15 k f4 f15) (tripRun.sl.v834 c arg4 arg5 arg9 arg11 arg15 arg16 k f4 f5 f9 f11 f15 f16) (tripRun.sl.v840 c arg4 arg5 arg9 arg11 arg15 arg16 k f4 f5 f9 f11 f15 f16) (tripRun.sl.v844 c arg4 arg5 arg9 arg11 arg15 arg16 k f4 f5 f9 f11 f15 f16)) (dRow (denT (tripRun.sl.v778 c arg4 arg12 arg15 v10 v11 k f4 f12 f15) (tripRun.sl.v816 c arg3 arg13 k f3 f13) (tripRun.sl.v820 c arg3 arg13 k f3 f13)) 0 4 8 0 slices_S16x256_o0_0_S16x128 slices_S16x128_o0_0_S1x128 slices_S16x128_o4_0_S1x128 slices_S16x128_o8_0_S1x128)) (quot (sc (tripRun.sl.v894 c arg3 arg14 k f3 f14) (tripRun.sl.v898 c arg4 arg15 k f4 f15) (tripRun.sl.v902 c arg4 arg5 arg9 arg11 arg15 arg16 k f4 f5 f9 f11 f15 f16)) (num (vhi (View.readAt (Elt Ideal) arg5.view (Rect.unit (s := S1x512x8x128) (k0_off8 k) S1x128x2x128.size (k0_off8_inb k)).toLoadRect f5)) (tripRun.sl.v894 c arg3 arg14 k f3 f14) (tripRun.sl.v898 c arg4 arg15 k f4 f15) (tripRun.sl.v902 c arg4 arg5 arg9 arg11 arg15 arg16 k f4 f5 f9 f11 f15 f16) (tripRun.sl.v908 c arg4 arg5 arg9 arg11 arg15 arg16 k f4 f5 f9 f11 f15 f16) (tripRun.sl.v912 c arg4 arg5 arg9 arg11 arg15 arg16 k f4 f5 f9 f11 f15 f16)) (dRow (denT (tripRun.sl.v778 c arg4 arg12 arg15 v10 v11 k f4 f12 f15) (tripRun.sl.v816 c arg3 arg13 k f3 f13) (tripRun.sl.v820 c arg3 arg13 k f3 f13)) 1 5 9 128 slices_S16x256_o0_128_S16x128 slices_S16x128_o1_0_S1x128 slices_S16x128_o5_0_S1x128 slices_S16x128_o9_0_S1x128)) from rfl) _).trans ?_
  rw [pairUp_val]
  match a with
  | 0 => exact q_2_0 X i d
  | 1 => exact q_2_1 X i d

end Cert.KernelIdeal.Trip

end
-- ==== Proof.Val3.lean ====
/-
  The values of one sub-block: quad 0, sub-block 1, pair 1.
-/
module

public import proofs.«01_k».proof.Proof.TripRun
public import proofs.«01_k».proof.Proof.TripSt
public import proofs.«01_k».proof.Proof.Pack13
public import proofs.«01_k».proof.Proof.Pack14
public import proofs.«01_k».proof.Proof.Pack15
public import proofs.«01_k».proof.Proof.Val1
public import proofs.«01_k».proof.Proof.Val2
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem v1086_val (f : Fin 192) (i : Fin 128) : (tripRun.sl.v1086 c arg3 arg13 k f3 f13) (ix4 0 0 f i) = ((qR 2 f (tok k 1 i) : ℝ) : EReal) := by
  unfold tripRun.sl.v1086
  exact (sq13 arg13 _ 0 2 1 (by decide) (by decide) (by decide) _ _ _ _ _ _).trans ((pqt_0_2_1 c k arg3 f3 arg13 f13 f i).trans (X.h3 _ _ _))

theorem v1090_val (f : Fin 192) (i : Fin 128) : (tripRun.sl.v1090 c arg3 arg13 k f3 f13) (ix4 0 0 f i) = ((qR 3 f (tok k 1 i) : ℝ) : EReal) := by
  unfold tripRun.sl.v1090
  exact (sq13 arg13 _ 0 3 1 (by decide) (by decide) (by decide) _ _ _ _ _ _).trans ((pqt_0_3_1 c k arg3 f3 arg13 f13 f i).trans (X.h3 _ _ _))

theorem v1096_val' (i : Fin 128) (f : Fin 192) : (tripRun.sl.v1096 c arg3 arg14 k f3 f14) (ix4 0 0 i f) = ((qR 2 f (tok k 1 i) : ℝ) : EReal) := by
  unfold tripRun.sl.v1096
  exact (sq14 arg14 _ 0 2 1 (by decide) (by decide) (by decide) _ _ _ _ _ _).trans ((pq_0_2_1 c k arg3 f3 arg14 f14 f i).trans (X.h3 _ _ _))

theorem v1110_val (f : Fin 192) (d : Fin 128) : (tripRun.sl.v1110 c arg4 arg5 arg9 arg11 arg15 arg16 k f4 f5 f9 f11 f15 f16) (ix3 0 f d) = 0 := by
  unfold tripRun.sl.v1110
  refine (sq11 arg11 _ 2 1 (by decide) (by decide) _ _ _ _ f d).trans ?_
  simp only [tripRun.sl.H11_2, tripRun.sl.H11_6, tripRun.sl.H11_9, tripRun.sl.H11_12, tripRun.sl.H11_15, tripRun.sl.H11_18]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_1_2_1 X f d

theorem v1114_val (f : Fin 192) (d : Fin 128) : (tripRun.sl.v1114 c arg4 arg5 arg9 arg11 arg15 arg16 k f4 f5 f9 f11 f15 f16) (ix3 0 f d) = 0 := by
  unfold tripRun.sl.v1114
  refine (sq11 arg11 _ 2 2 (by decide) (by decide) _ _ _ _ f d).trans ?_
  simp only [tripRun.sl.H11_2, tripRun.sl.H11_6, tripRun.sl.H11_9, tripRun.sl.H11_12, tripRun.sl.H11_15, tripRun.sl.H11_18]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_1_2_2 X f d

theorem v1100_val (f : Fin 192) (i : Fin 128) : (tripRun.sl.v1100 c arg4 arg15 k f4 f15) (ix4 0 0 f i) = ((kR 2 f (tok k 1 i) : ℝ) : EReal) := by
  unfold tripRun.sl.v1100
  exact (sq13 arg15 _ 0 2 1 (by decide) (by decide) (by decide) _ _ _ _ _ _).trans ((pkt_0_2_1 c k arg4 f4 arg15 f15 f i).trans (X.h4 _ _ _))

theorem v1104_val (f : Fin 192) (d : Fin 128) : (tripRun.sl.v1104 c arg4 arg5 arg9 arg11 arg15 arg16 k f4 f5 f9 f11 f15 f16) (ix3 0 f d) = ((S1 k kR vR sR 2 f d : ℝ) : EReal) := by
  unfold tripRun.sl.v1104
  refine (sq11 arg11 _ 2 0 (by decide) (by decide) _ _ _ _ f d).trans ?_
  simp only [tripRun.sl.H11_2, tripRun.sl.H11_6, tripRun.sl.H11_9, tripRun.sl.H11_12, tripRun.sl.H11_15, tripRun.sl.H11_18]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_1_2_0 X f d

theorem v1164_val' (i : Fin 128) (f : Fin 192) : (tripRun.sl.v1164 c arg3 arg14 k f3 f14) (ix4 0 0 i f) = ((qR 3 f (tok k 1 i) : ℝ) : EReal) := by
  unfold tripRun.sl.v1164
  exact (sq14 arg14 _ 0 3 1 (by decide) (by decide) (by decide) _ _ _ _ _ _).trans ((pq_0_3_1 c k arg3 f3 arg14 f14 f i).trans (X.h3 _ _ _))

theorem v1168_val (f : Fin 192) (i : Fin 128) : (tripRun.sl.v1168 c arg4 arg15 k f4 f15) (ix4 0 0 f i) = ((kR 3 f (tok k 1 i) : ℝ) : EReal) := by
  unfold tripRun.sl.v1168
  exact (sq13 arg15 _ 0 3 1 (by decide) (by decide) (by decide) _ _ _ _ _ _).trans ((pkt_0_3_1 c k arg4 f4 arg15 f15 f i).trans (X.h4 _ _ _))

theorem v1172_val (f : Fin 192) (d : Fin 128) : (tripRun.sl.v1172 c arg4 arg5 arg9 arg11 arg15 arg16 k f4 f5 f9 f11 f15 f16) (ix3 0 f d) = ((S1 k kR vR sR 3 f d : ℝ) : EReal) := by
  unfold tripRun.sl.v1172
  refine (sq11 arg11 _ 3 0 (by decide) (by decide) _ _ _ _ f d).trans ?_
  simp only [tripRun.sl.H11_2, tripRun.sl.H11_6, tripRun.sl.H11_9, tripRun.sl.H11_12, tripRun.sl.H11_15, tripRun.sl.H11_18]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_1_3_0 X f d

theorem v1178_val (f : Fin 192) (d : Fin 128) : (tripRun.sl.v1178 c arg4 arg5 arg9 arg11 arg15 arg16 k f4 f5 f9 f11 f15 f16) (ix3 0 f d) = 0 := by
  unfold tripRun.sl.v1178
  refine (sq11 arg11 _ 3 1 (by decide) (by decide) _ _ _ _ f d).trans ?_
  simp only [tripRun.sl.H11_2, tripRun.sl.H11_6, tripRun.sl.H11_9, tripRun.sl.H11_12, tripRun.sl.H11_15, tripRun.sl.H11_18]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_1_3_1 X f d

theorem v1182_val (f : Fin 192) (d : Fin 128) : (tripRun.sl.v1182 c arg4 arg5 arg9 arg11 arg15 arg16 k f4 f5 f9 f11 f15 f16) (ix3 0 f d) = 0 := by
  unfold tripRun.sl.v1182
  refine (sq11 arg11 _ 3 2 (by decide) (by decide) _ _ _ _ f d).trans ?_
  simp only [tripRun.sl.H11_2, tripRun.sl.H11_6, tripRun.sl.H11_9, tripRun.sl.H11_12, tripRun.sl.H11_15, tripRun.sl.H11_18]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_1_3_2 X f d

theorem v1247_on (j d : Fin 128) : (tripRun.sl.v1247 c arg5 arg16 k f5 f16) (ix4 0 0 ⟨j.val, by omega⟩ d) = ((vR (tok k 1 j) 2 d : ℝ) : EReal) := by
  unfold tripRun.sl.v1247
  refine (sq16 arg16 _ 0 1 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8]
  rw [miss16 _ _ _ _ _ _ _ _ _ _ _ _ _ _ _ _ _ (.inl (by decide))]
  rw [show (⟨j.val, by omega⟩ : Fin 256) = ⟨0 + j.val, by omega⟩ from Fin.ext (Nat.zero_add _).symm]
  rw [hit16]
  pointwise [k0_pay218, k0_pay216]
  exact (ld5 arg5 f5 k 1 2 _ (k0_off9_eq k) _ j 0 (by decide) d).trans (X.h5 _ _ _)

theorem v1247_off (j d : Fin 128) : (tripRun.sl.v1247 c arg5 arg16 k f5 f16) (ix4 0 0 ⟨128 + j.val, by omega⟩ d) = 0 := by
  unfold tripRun.sl.v1247
  refine (sq16 arg16 _ 0 1 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (128 + j.val) / 128 ≠ 0; omega)

theorem v1251_on (j d : Fin 128) : (tripRun.sl.v1251 c arg5 arg16 k f5 f16) (ix4 0 0 ⟨128 + j.val, by omega⟩ d) = ((vR (tok k 1 j) 3 d : ℝ) : EReal) := by
  unfold tripRun.sl.v1251
  refine (sq16 arg16 _ 0 1 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8]
  rw [hit16]
  pointwise [k0_pay219, k0_pay217]
  exact (ld5 arg5 f5 k 1 2 _ (k0_off9_eq k) _ j 1 (by decide) d).trans (X.h5 _ _ _)

theorem v1251_off (j d : Fin 128) : (tripRun.sl.v1251 c arg5 arg16 k f5 f16) (ix4 0 0 ⟨j.val, by omega⟩ d) = 0 := by
  unfold tripRun.sl.v1251
  refine (sq16 arg16 _ 0 1 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (j.val) / 128 ≠ 1; omega)

theorem v1255_val (f : Fin 192) (d : Fin 128) : (tripRun.sl.v1255 c arg4 arg5 arg9 arg15 arg16 k f4 f5 f9 f15 f16) (ix4 0 0 f d) = ((S1 k kR vR sR 2 f d : ℝ) : EReal) := by
  unfold tripRun.sl.v1255
  unfold View.readCov
  refine (ld9 arg9 _ 2 (by decide) _ f d).trans ?_
  simp only [tripRun.sl.H9_1, tripRun.sl.H9_2, tripRun.sl.H9_4, tripRun.sl.H9_5, tripRun.sl.H9_6]
  rw [miss9 _ _ _ _ _ _ _ _ _ _ (by decide)]
  rw [miss9 _ _ _ _ _ _ _ _ _ _ (by decide)]
  rw [miss9 _ _ _ _ _ _ _ _ _ _ (by decide)]
  rw [hit9]
  exact s_1_2 X f d

theorem v1278_val (f : Fin 192) (d : Fin 128) : (tripRun.sl.v1278 c arg4 arg5 arg9 arg15 arg16 k f4 f5 f9 f15 f16) (ix4 0 0 f d) = ((S1 k kR vR sR 3 f d : ℝ) : EReal) := by
  unfold tripRun.sl.v1278
  unfold View.readCov
  refine (ld9 arg9 _ 3 (by decide) _ f d).trans ?_
  simp only [tripRun.sl.H9_1, tripRun.sl.H9_2, tripRun.sl.H9_4, tripRun.sl.H9_5, tripRun.sl.H9_6, tripRun.sl.H9_7]
  rw [miss9 _ _ _ _ _ _ _ _ _ _ (by decide)]
  rw [miss9 _ _ _ _ _ _ _ _ _ _ (by decide)]
  rw [miss9 _ _ _ _ _ _ _ _ _ _ (by decide)]
  rw [hit9]
  exact s_1_3 X f d

theorem st_3_2 (f : Fin 192) (d : Fin 128) : (st 0 slices_S192x256_o0_0_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1255 c arg4 arg5 arg9 arg15 arg16 k f4 f5 f9 f15 f16)) (ix2 f d) = ((S2 k kR vR sR 2 f d : ℝ) : EReal) :=
  incr_val0 (S1 k kR vR sR 2) (fun j d => vR (tok k 1 j) 2 d) (tripRun.sl.v1100 c arg4 arg15 k f4 f15) (tripRun.sl.v1168 c arg4 arg15 k f4 f15) (tripRun.sl.v1247 c arg5 arg16 k f5 f16) (tripRun.sl.v1251 c arg5 arg16 k f5 f16) (fun f j => kR 2 f (tok k 1 j))
    (v1100_val X) (v1247_on X) (v1247_off X) _ (tripRun.sl.v1255 c arg4 arg5 arg9 arg15 arg16 k f4 f5 f9 f15 f16) (v1255_val X) f d

theorem s_3_2 (f : Fin 192) (d : Fin 128) : ((k0_pay240 (tripRun.sl.r_72 c arg4 arg15 k f4 f15) (tripRun.sl.v1168 c arg4 arg15 k f4 f15) (tripRun.sl.v1247 c arg5 arg16 k f5 f16) (tripRun.sl.v1251 c arg5 arg16 k f5 f16) (tripRun.sl.v1255 c arg4 arg5 arg9 arg15 arg16 k f4 f5 f9 f15 f16)) : FVec Ideal S1x1x192x128 .f32) (ix4 0 0 f d) = ((S2 k kR vR sR 2 f d : ℝ) : EReal) := by
  refine (congrFun (show ((k0_pay240 (tripRun.sl.r_72 c arg4 arg15 k f4 f15) (tripRun.sl.v1168 c arg4 arg15 k f4 f15) (tripRun.sl.v1247 c arg5 arg16 k f5 f16) (tripRun.sl.v1251 c arg5 arg16 k f5 f16) (tripRun.sl.v1255 c arg4 arg5 arg9 arg15 arg16 k f4 f5 f9 f15 f16)) : FVec Ideal S1x1x192x128 .f32) = put32 (st 0 slices_S192x256_o0_0_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1255 c arg4 arg5 arg9 arg15 arg16 k f4 f5 f9 f15 f16)) from rfl) _).trans ?_
  rw [put32_val]
  exact st_3_2 X f d

theorem sp_3_2_0 (f : Fin 192) (d : Fin 128) : ((k0_pay245 (tripRun.sl.r_75 c arg4 arg5 arg9 arg15 arg16 k f4 f5 f9 f15 f16)) : FVec Ideal S1x1x192x128 .bf16) (ix4 0 0 f d) = ((S2 k kR vR sR 2 f d : ℝ) : EReal) := by
  refine (congrFun (show ((k0_pay245 (tripRun.sl.r_75 c arg4 arg5 arg9 arg15 arg16 k f4 f5 f9 f15 f16)) : FVec Ideal S1x1x192x128 .bf16) = put16 (st 0 slices_S192x256_o0_0_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1255 c arg4 arg5 arg9 arg15 arg16 k f4 f5 f9 f15 f16)) from rfl) _).trans ?_
  rw [put16_val]
  exact st_3_2 X f d

theorem sp_3_2_1 (f : Fin 192) (d : Fin 128) : ((k0_pay246 (tripRun.sl.r_76 c arg4 arg5 arg9 arg15 arg16 k f4 f5 f9 f15 f16)) : FVec Ideal S1x1x192x128 .bf16) (ix4 0 0 f d) = 0 := by
  refine (congrFun (show ((k0_pay246 (tripRun.sl.r_76 c arg4 arg5 arg9 arg15 arg16 k f4 f5 f9 f15 f16)) : FVec Ideal S1x1x192x128 .bf16) = put16 (rest (st 0 slices_S192x256_o0_0_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1255 c arg4 arg5 arg9 arg15 arg16 k f4 f5 f9 f15 f16))) from rfl) _).trans ?_
  rw [put16_val]
  exact rest_val _ _ (st_3_2 X) f d

theorem sp_3_2_2 (f : Fin 192) (d : Fin 128) : ((k0_pay247 (tripRun.sl.r_77 c arg4 arg5 arg9 arg15 arg16 k f4 f5 f9 f15 f16)) : FVec Ideal S1x1x192x128 .bf16) (ix4 0 0 f d) = 0 := by
  refine (congrFun (show ((k0_pay247 (tripRun.sl.r_77 c arg4 arg5 arg9 arg15 arg16 k f4 f5 f9 f15 f16)) : FVec Ideal S1x1x192x128 .bf16) = put16 (rest (rest (st 0 slices_S192x256_o0_0_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1255 c arg4 arg5 arg9 arg15 arg16 k f4 f5 f9 f15 f16)))) from rfl) _).trans ?_
  rw [put16_val]
  exact rest_rest_val _ _ (st_3_2 X) f d

theorem st_3_3 (f : Fin 192) (d : Fin 128) : (st 128 slices_S192x256_o0_128_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1278 c arg4 arg5 arg9 arg15 arg16 k f4 f5 f9 f15 f16)) (ix2 f d) = ((S2 k kR vR sR 3 f d : ℝ) : EReal) :=
  incr_val1 (S1 k kR vR sR 3) (fun j d => vR (tok k 1 j) 3 d) (tripRun.sl.v1100 c arg4 arg15 k f4 f15) (tripRun.sl.v1168 c arg4 arg15 k f4 f15) (tripRun.sl.v1247 c arg5 arg16 k f5 f16) (tripRun.sl.v1251 c arg5 arg16 k f5 f16) (fun f j => kR 3 f (tok k 1 j))
    (v1168_val X) (v1251_on X) (v1251_off X) _ (tripRun.sl.v1278 c arg4 arg5 arg9 arg15 arg16 k f4 f5 f9 f15 f16) (v1278_val X) f d

theorem s_3_3 (f : Fin 192) (d : Fin 128) : ((k0_pay249 (tripRun.sl.r_74 c arg4 arg5 arg15 arg16 k f4 f5 f15 f16) (tripRun.sl.v1278 c arg4 arg5 arg9 arg15 arg16 k f4 f5 f9 f15 f16)) : FVec Ideal S1x1x192x128 .f32) (ix4 0 0 f d) = ((S2 k kR vR sR 3 f d : ℝ) : EReal) := by
  refine (congrFun (show ((k0_pay249 (tripRun.sl.r_74 c arg4 arg5 arg15 arg16 k f4 f5 f15 f16) (tripRun.sl.v1278 c arg4 arg5 arg9 arg15 arg16 k f4 f5 f9 f15 f16)) : FVec Ideal S1x1x192x128 .f32) = put32 (st 128 slices_S192x256_o0_128_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1278 c arg4 arg5 arg9 arg15 arg16 k f4 f5 f9 f15 f16)) from rfl) _).trans ?_
  rw [put32_val]
  exact st_3_3 X f d

theorem sp_3_3_0 (f : Fin 192) (d : Fin 128) : ((k0_pay252 (tripRun.sl.r_74 c arg4 arg5 arg15 arg16 k f4 f5 f15 f16) (tripRun.sl.v1278 c arg4 arg5 arg9 arg15 arg16 k f4 f5 f9 f15 f16)) : FVec Ideal S1x1x192x128 .bf16) (ix4 0 0 f d) = ((S2 k kR vR sR 3 f d : ℝ) : EReal) := by
  refine (congrFun (show ((k0_pay252 (tripRun.sl.r_74 c arg4 arg5 arg15 arg16 k f4 f5 f15 f16) (tripRun.sl.v1278 c arg4 arg5 arg9 arg15 arg16 k f4 f5 f9 f15 f16)) : FVec Ideal S1x1x192x128 .bf16) = put16 (st 128 slices_S192x256_o0_128_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1278 c arg4 arg5 arg9 arg15 arg16 k f4 f5 f9 f15 f16)) from rfl) _).trans ?_
  rw [put16_val]
  exact st_3_3 X f d

theorem sp_3_3_1 (f : Fin 192) (d : Fin 128) : ((k0_pay253 (tripRun.sl.r_74 c arg4 arg5 arg15 arg16 k f4 f5 f15 f16) (tripRun.sl.v1278 c arg4 arg5 arg9 arg15 arg16 k f4 f5 f9 f15 f16)) : FVec Ideal S1x1x192x128 .bf16) (ix4 0 0 f d) = 0 := by
  refine (congrFun (show ((k0_pay253 (tripRun.sl.r_74 c arg4 arg5 arg15 arg16 k f4 f5 f15 f16) (tripRun.sl.v1278 c arg4 arg5 arg9 arg15 arg16 k f4 f5 f9 f15 f16)) : FVec Ideal S1x1x192x128 .bf16) = put16 (rest (st 128 slices_S192x256_o0_128_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1278 c arg4 arg5 arg9 arg15 arg16 k f4 f5 f9 f15 f16))) from rfl) _).trans ?_
  rw [put16_val]
  exact rest_val _ _ (st_3_3 X) f d

theorem sp_3_3_2 (f : Fin 192) (d : Fin 128) : ((k0_pay254 (tripRun.sl.r_78 c arg4 arg5 arg9 arg15 arg16 k f4 f5 f9 f15 f16)) : FVec Ideal S1x1x192x128 .bf16) (ix4 0 0 f d) = 0 := by
  refine (congrFun (show ((k0_pay254 (tripRun.sl.r_78 c arg4 arg5 arg9 arg15 arg16 k f4 f5 f9 f15 f16)) : FVec Ideal S1x1x192x128 .bf16) = put16 (rest (rest (st 128 slices_S192x256_o0_128_S192x128 (incr (tripRun.sl.v1100 c arg4 arg15 k f4 f15) (tripRun.sl.v1168 c arg4 arg15 k f4 f15) (tripRun.sl.v1247 c arg5 arg16 k f5 f16) (tripRun.sl.v1251 c arg5 arg16 k f5 f16)) (tripRun.sl.v1278 c arg4 arg5 arg9 arg15 arg16 k f4 f5 f9 f15 f16)))) from rfl) _).trans ?_
  rw [put16_val]
  exact rest_rest_val _ _ (st_3_3 X) f d

theorem q_3_2 (i d : Fin 128) : (quot (sc (tripRun.sl.v1096 c arg3 arg14 k f3 f14) (tripRun.sl.v1100 c arg4 arg15 k f4 f15) (tripRun.sl.v1104 c arg4 arg5 arg9 arg11 arg15 arg16 k f4 f5 f9 f11 f15 f16)) (num (vlo (View.readAt (Elt Ideal) arg5.view (Rect.unit (s := S1x512x8x128) (k0_off9 k) S1x128x2x128.size (k0_off9_inb k)).toLoadRect f5)) (tripRun.sl.v1096 c arg3 arg14 k f3 f14) (tripRun.sl.v1100 c arg4 arg15 k f4 f15) (tripRun.sl.v1104 c arg4 arg5 arg9 arg11 arg15 arg16 k f4 f5 f9 f11 f15 f16) (tripRun.sl.v1110 c arg4 arg5 arg9 arg11 arg15 arg16 k f4 f5 f9 f11 f15 f16) (tripRun.sl.v1114 c arg4 arg5 arg9 arg11 arg15 arg16 k f4 f5 f9 f11 f15 f16)) (dRow (denT (tripRun.sl.v778 c arg4 arg12 arg15 v10 v11 k f4 f12 f15) (tripRun.sl.v1086 c arg3 arg13 k f3 f13) (tripRun.sl.v1090 c arg3 arg13 k f3 f13)) 2 6 10 0 slices_S16x256_o0_0_S16x128 slices_S16x128_o2_0_S1x128 slices_S16x128_o6_0_S1x128 slices_S16x128_o10_0_S1x128)) (ix2 i d) = ((Y1 k qR kR vR sR zR 2 i d : ℝ) : EReal) :=
  quot_val _ _ _ (A k qR kR 1 2) (Nm k qR kR vR 1 (S1 k kR vR sR) 2) (fun i => ∑ f, Z1 k kR zR 2 f * qR 2 f (tok k 1 i))
    (sc_val (fun i f => qR 2 f (tok k 1 i)) (fun f j => kR 2 f (tok k 1 j)) _ _ _ (v1096_val' X) (v1100_val X))
    (num_val (fun i f => qR 2 f (tok k 1 i)) (fun f j => kR 2 f (tok k 1 j)) (S1 k kR vR sR 2) (fun j d => vR (tok k 1 j) 2 d) _ _ _ _ _ _
      (fun j d => (vlo_val _ j d).trans ((ld5 arg5 f5 k 1 2 _ (k0_off9_eq k) _ j 0 (by decide) d).trans (X.h5 _ _ _)))
      (v1096_val' X) (v1100_val X) (v1104_val X) (v1110_val X) (v1114_val X))
    (den0 (fun r f => Z1 k kR zR ⟨0 + r.val, by omega⟩ f) _ _ _ (fun f i => qR 2 f (tok k 1 i)) (fun f i => qR 3 f (tok k 1 i))
      (v778_val X) (v1086_val X) (v1090_val X) 2 6 10 _ _ _ _ (by decide) (by decide) (by decide) (by decide))
    i d (X.d1 _ _)

theorem q_3_3 (i d : Fin 128) : (quot (sc (tripRun.sl.v1164 c arg3 arg14 k f3 f14) (tripRun.sl.v1168 c arg4 arg15 k f4 f15) (tripRun.sl.v1172 c arg4 arg5 arg9 arg11 arg15 arg16 k f4 f5 f9 f11 f15 f16)) (num (vhi (View.readAt (Elt Ideal) arg5.view (Rect.unit (s := S1x512x8x128) (k0_off9 k) S1x128x2x128.size (k0_off9_inb k)).toLoadRect f5)) (tripRun.sl.v1164 c arg3 arg14 k f3 f14) (tripRun.sl.v1168 c arg4 arg15 k f4 f15) (tripRun.sl.v1172 c arg4 arg5 arg9 arg11 arg15 arg16 k f4 f5 f9 f11 f15 f16) (tripRun.sl.v1178 c arg4 arg5 arg9 arg11 arg15 arg16 k f4 f5 f9 f11 f15 f16) (tripRun.sl.v1182 c arg4 arg5 arg9 arg11 arg15 arg16 k f4 f5 f9 f11 f15 f16)) (dRow (denT (tripRun.sl.v778 c arg4 arg12 arg15 v10 v11 k f4 f12 f15) (tripRun.sl.v1086 c arg3 arg13 k f3 f13) (tripRun.sl.v1090 c arg3 arg13 k f3 f13)) 3 7 11 128 slices_S16x256_o0_128_S16x128 slices_S16x128_o3_0_S1x128 slices_S16x128_o7_0_S1x128 slices_S16x128_o11_0_S1x128)) (ix2 i d) = ((Y1 k qR kR vR sR zR 3 i d : ℝ) : EReal) :=
  quot_val _ _ _ (A k qR kR 1 3) (Nm k qR kR vR 1 (S1 k kR vR sR) 3) (fun i => ∑ f, Z1 k kR zR 3 f * qR 3 f (tok k 1 i))
    (sc_val (fun i f => qR 3 f (tok k 1 i)) (fun f j => kR 3 f (tok k 1 j)) _ _ _ (v1164_val' X) (v1168_val X))
    (num_val (fun i f => qR 3 f (tok k 1 i)) (fun f j => kR 3 f (tok k 1 j)) (S1 k kR vR sR 3) (fun j d => vR (tok k 1 j) 3 d) _ _ _ _ _ _
      (fun j d => (vhi_val _ j d).trans ((ld5 arg5 f5 k 1 2 _ (k0_off9_eq k) _ j 1 (by decide) d).trans (X.h5 _ _ _)))
      (v1164_val' X) (v1168_val X) (v1172_val X) (v1178_val X) (v1182_val X))
    (den1 (fun r f => Z1 k kR zR ⟨0 + r.val, by omega⟩ f) _ _ _ (fun f i => qR 2 f (tok k 1 i)) (fun f i => qR 3 f (tok k 1 i))
      (v778_val X) (v1086_val X) (v1090_val X) 3 7 11 _ _ _ _ (by decide) (by decide) (by decide) (by decide))
    i d (X.d1 _ _)

theorem y_3 (i : Fin 128) (a : Fin 2) (d : Fin 128) : ((k0_pay235 k0_pay7 (tripRun.sl.r_59 c arg3 arg4 arg12 arg13 arg15 v10 v11 k f3 f4 f12 f13 f15) (tripRun.sl.r_66 c arg3 arg4 arg5 arg9 arg11 arg12 arg13 arg14 arg15 arg16 v10 v11 k f3 f4 f5 f9 f11 f12 f13 f14 f15 f16) (tripRun.sl.r_69 c arg3 arg4 arg5 arg9 arg11 arg14 arg15 arg16 k f3 f4 f5 f9 f11 f14 f15 f16) (tripRun.sl.r_70 c arg3 arg4 arg5 arg9 arg11 arg14 arg15 arg16 k f3 f4 f5 f9 f11 f14 f15 f16) (tripRun.sl.r_71 c arg3 arg4 arg5 arg9 arg11 arg14 arg15 arg16 k f3 f4 f5 f9 f11 f14 f15 f16)) : Vec Ideal S1x128x2x128 .bf16) (ix4 0 i a d) = ((Y1 k qR kR vR sR zR ⟨2 + a.val, by omega⟩ i d : ℝ) : EReal) := by
  refine (congrFun (show ((k0_pay235 k0_pay7 (tripRun.sl.r_59 c arg3 arg4 arg12 arg13 arg15 v10 v11 k f3 f4 f12 f13 f15) (tripRun.sl.r_66 c arg3 arg4 arg5 arg9 arg11 arg12 arg13 arg14 arg15 arg16 v10 v11 k f3 f4 f5 f9 f11 f12 f13 f14 f15 f16) (tripRun.sl.r_69 c arg3 arg4 arg5 arg9 arg11 arg14 arg15 arg16 k f3 f4 f5 f9 f11 f14 f15 f16) (tripRun.sl.r_70 c arg3 arg4 arg5 arg9 arg11 arg14 arg15 arg16 k f3 f4 f5 f9 f11 f14 f15 f16) (tripRun.sl.r_71 c arg3 arg4 arg5 arg9 arg11 arg14 arg15 arg16 k f3 f4 f5 f9 f11 f14 f15 f16)) : Vec Ideal S1x128x2x128 .bf16) = pairUp (quot (sc (tripRun.sl.v1096 c arg3 arg14 k f3 f14) (tripRun.sl.v1100 c arg4 arg15 k f4 f15) (tripRun.sl.v1104 c arg4 arg5 arg9 arg11 arg15 arg16 k f4 f5 f9 f11 f15 f16)) (num (vlo (View.readAt (Elt Ideal) arg5.view (Rect.unit (s := S1x512x8x128) (k0_off9 k) S1x128x2x128.size (k0_off9_inb k)).toLoadRect f5)) (tripRun.sl.v1096 c arg3 arg14 k f3 f14) (tripRun.sl.v1100 c arg4 arg15 k f4 f15) (tripRun.sl.v1104 c arg4 arg5 arg9 arg11 arg15 arg16 k f4 f5 f9 f11 f15 f16) (tripRun.sl.v1110 c arg4 arg5 arg9 arg11 arg15 arg16 k f4 f5 f9 f11 f15 f16) (tripRun.sl.v1114 c arg4 arg5 arg9 arg11 arg15 arg16 k f4 f5 f9 f11 f15 f16)) (dRow (denT (tripRun.sl.v778 c arg4 arg12 arg15 v10 v11 k f4 f12 f15) (tripRun.sl.v1086 c arg3 arg13 k f3 f13) (tripRun.sl.v1090 c arg3 arg13 k f3 f13)) 2 6 10 0 slices_S16x256_o0_0_S16x128 slices_S16x128_o2_0_S1x128 slices_S16x128_o6_0_S1x128 slices_S16x128_o10_0_S1x128)) (quot (sc (tripRun.sl.v1164 c arg3 arg14 k f3 f14) (tripRun.sl.v1168 c arg4 arg15 k f4 f15) (tripRun.sl.v1172 c arg4 arg5 arg9 arg11 arg15 arg16 k f4 f5 f9 f11 f15 f16)) (num (vhi (View.readAt (Elt Ideal) arg5.view (Rect.unit (s := S1x512x8x128) (k0_off9 k) S1x128x2x128.size (k0_off9_inb k)).toLoadRect f5)) (tripRun.sl.v1164 c arg3 arg14 k f3 f14) (tripRun.sl.v1168 c arg4 arg15 k f4 f15) (tripRun.sl.v1172 c arg4 arg5 arg9 arg11 arg15 arg16 k f4 f5 f9 f11 f15 f16) (tripRun.sl.v1178 c arg4 arg5 arg9 arg11 arg15 arg16 k f4 f5 f9 f11 f15 f16) (tripRun.sl.v1182 c arg4 arg5 arg9 arg11 arg15 arg16 k f4 f5 f9 f11 f15 f16)) (dRow (denT (tripRun.sl.v778 c arg4 arg12 arg15 v10 v11 k f4 f12 f15) (tripRun.sl.v1086 c arg3 arg13 k f3 f13) (tripRun.sl.v1090 c arg3 arg13 k f3 f13)) 3 7 11 128 slices_S16x256_o0_128_S16x128 slices_S16x128_o3_0_S1x128 slices_S16x128_o7_0_S1x128 slices_S16x128_o11_0_S1x128)) from rfl) _).trans ?_
  rw [pairUp_val]
  match a with
  | 0 => exact q_3_2 X i d
  | 1 => exact q_3_3 X i d

theorem z_0_1 (r : Fin 4) (f : Fin 192) : ((k0_pay255 v10 v11 (tripRun.sl.r_41 c arg4 arg12 arg15 v10 v11 k f4 f12 f15) (tripRun.sl.r_56 c arg4 arg15 v10 v11 k f4 f15) (tripRun.sl.r_73 c arg4 arg15 k f4 f15)) : FVec Ideal S1x4x192 .f32) (ix3 0 r f) = ((Z2 k kR zR ⟨0 + r.val, by omega⟩ f : ℝ) : EReal) := by
  refine (congrFun (show ((k0_pay255 v10 v11 (tripRun.sl.r_41 c arg4 arg12 arg15 v10 v11 k f4 f12 f15) (tripRun.sl.r_56 c arg4 arg15 v10 v11 k f4 f15) (tripRun.sl.r_73 c arg4 arg15 k f4 f15)) : FVec Ideal S1x4x192 .f32) = zNew v10 v11 (tripRun.sl.v778 c arg4 arg12 arg15 v10 v11 k f4 f12 f15) (keys (tripRun.sl.v830 c arg4 arg15 k f4 f15) (tripRun.sl.v898 c arg4 arg15 k f4 f15)) (keys (tripRun.sl.v1100 c arg4 arg15 k f4 f15) (tripRun.sl.v1168 c arg4 arg15 k f4 f15)) from rfl) _).trans ?_
  exact zNew_val v10 v11 X.i10 X.i11 (fun r f => Z1 k kR zR ⟨0 + r.val, by omega⟩ f) _ _ _ _ _ (fun r f j => kR ⟨0 + r.val, by omega⟩ f (tok k 1 j))
    (v778_val X) (v830_val X) (v898_val X) (v1100_val X) (v1168_val X) r f

end Cert.KernelIdeal.Trip

end
-- ==== Proof.Val4.lean ====
/-
  The values of one sub-block: quad 1, sub-block 0, pair 0.
-/
module

public import proofs.«01_k».proof.Proof.TripRun
public import proofs.«01_k».proof.Proof.TripSt
public import proofs.«01_k».proof.Proof.Pack13
public import proofs.«01_k».proof.Proof.Pack14
public import proofs.«01_k».proof.Proof.Pack15
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem v1579_val' (i : Fin 128) (f : Fin 192) : (tripRun.sl.v1579 c arg3 arg14 k f3) (ix4 0 0 i f) = ((qR 4 f (tok k 0 i) : ℝ) : EReal) := by
  unfold tripRun.sl.v1579
  exact (sq14 arg14 _ 1 0 0 (by decide) (by decide) (by decide) _ _ _ _ _ _).trans ((pq_1_0_0 c k arg3 f3 arg14 f i).trans (X.h3 _ _ _))

theorem v1583_val (f : Fin 192) (i : Fin 128) : (tripRun.sl.v1583 c arg4 arg15 k f4) (ix4 0 0 f i) = ((kR 4 f (tok k 0 i) : ℝ) : EReal) := by
  unfold tripRun.sl.v1583
  exact (sq13 arg15 _ 1 0 0 (by decide) (by decide) (by decide) _ _ _ _ _ _).trans ((pkt_1_0_0 c k arg4 f4 arg15 f i).trans (X.h4 _ _ _))

theorem v1587_val (f : Fin 192) (d : Fin 128) : (tripRun.sl.v1587 c arg4 arg5 arg9 arg11 arg15 arg16 k f4 f5 f9 f11 f15 f16) (ix3 0 f d) = ((S0 sR 4 f d : ℝ) : EReal) := by
  unfold tripRun.sl.v1587
  refine (sq11 arg11 _ 4 0 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11 _ _ _

theorem v1593_val (f : Fin 192) (d : Fin 128) : (tripRun.sl.v1593 c arg4 arg5 arg9 arg11 arg15 arg16 k f4 f5 f9 f11 f15 f16) (ix3 0 f d) = 0 := by
  unfold tripRun.sl.v1593
  refine (sq11 arg11 _ 4 1 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11a _ _ _

theorem v1597_val (f : Fin 192) (d : Fin 128) : (tripRun.sl.v1597 c arg4 arg5 arg9 arg11 arg15 arg16 k f4 f5 f9 f11 f15 f16) (ix3 0 f d) = 0 := by
  unfold tripRun.sl.v1597
  refine (sq11 arg11 _ 4 2 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11b _ _ _

theorem v1531_val (a : Fin 4) (f : Fin 192) : (tripRun.sl.v1531 c arg12 f12) (ix3 0 a f) = ((Z0 zR ⟨4 + a.val, by omega⟩ f : ℝ) : EReal) := by
  unfold tripRun.sl.v1531
  exact (ld12 arg12 _ 1 (by decide) _ a f).trans (X.h12 _ _ _)

theorem v1569_val (f : Fin 192) (i : Fin 128) : (tripRun.sl.v1569 c arg3 arg13 k f3) (ix4 0 0 f i) = ((qR 4 f (tok k 0 i) : ℝ) : EReal) := by
  unfold tripRun.sl.v1569
  exact (sq13 arg13 _ 1 0 0 (by decide) (by decide) (by decide) _ _ _ _ _ _).trans ((pqt_1_0_0 c k arg3 f3 arg13 f i).trans (X.h3 _ _ _))

theorem v1573_val (f : Fin 192) (i : Fin 128) : (tripRun.sl.v1573 c arg3 arg13 k f3) (ix4 0 0 f i) = ((qR 5 f (tok k 0 i) : ℝ) : EReal) := by
  unfold tripRun.sl.v1573
  exact (sq13 arg13 _ 1 1 0 (by decide) (by decide) (by decide) _ _ _ _ _ _).trans ((pqt_1_1_0 c k arg3 f3 arg13 f i).trans (X.h3 _ _ _))

theorem v1647_val' (i : Fin 128) (f : Fin 192) : (tripRun.sl.v1647 c arg3 arg14 k f3) (ix4 0 0 i f) = ((qR 5 f (tok k 0 i) : ℝ) : EReal) := by
  unfold tripRun.sl.v1647
  exact (sq14 arg14 _ 1 1 0 (by decide) (by decide) (by decide) _ _ _ _ _ _).trans ((pq_1_1_0 c k arg3 f3 arg14 f i).trans (X.h3 _ _ _))

theorem v1651_val (f : Fin 192) (i : Fin 128) : (tripRun.sl.v1651 c arg4 arg15 k f4) (ix4 0 0 f i) = ((kR 5 f (tok k 0 i) : ℝ) : EReal) := by
  unfold tripRun.sl.v1651
  exact (sq13 arg15 _ 1 1 0 (by decide) (by decide) (by decide) _ _ _ _ _ _).trans ((pkt_1_1_0 c k arg4 f4 arg15 f i).trans (X.h4 _ _ _))

theorem v1655_val (f : Fin 192) (d : Fin 128) : (tripRun.sl.v1655 c arg4 arg5 arg9 arg11 arg15 arg16 k f4 f5 f9 f11 f15 f16) (ix3 0 f d) = ((S0 sR 5 f d : ℝ) : EReal) := by
  unfold tripRun.sl.v1655
  refine (sq11 arg11 _ 5 0 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11 _ _ _

theorem v1661_val (f : Fin 192) (d : Fin 128) : (tripRun.sl.v1661 c arg4 arg5 arg9 arg11 arg15 arg16 k f4 f5 f9 f11 f15 f16) (ix3 0 f d) = 0 := by
  unfold tripRun.sl.v1661
  refine (sq11 arg11 _ 5 1 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11a _ _ _

theorem v1665_val (f : Fin 192) (d : Fin 128) : (tripRun.sl.v1665 c arg4 arg5 arg9 arg11 arg15 arg16 k f4 f5 f9 f11 f15 f16) (ix3 0 f d) = 0 := by
  unfold tripRun.sl.v1665
  refine (sq11 arg11 _ 5 2 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11b _ _ _

theorem v1730_on (j d : Fin 128) : (tripRun.sl.v1730 c arg5 arg16 k f5 f16) (ix4 0 0 ⟨j.val, by omega⟩ d) = ((vR (tok k 0 j) 4 d : ℝ) : EReal) := by
  unfold tripRun.sl.v1730
  refine (sq16 arg16 _ 1 0 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10]
  rw [miss16 _ _ _ _ _ _ _ _ _ _ _ _ _ _ _ _ _ (.inl (by decide))]
  rw [show (⟨j.val, by omega⟩ : Fin 256) = ⟨0 + j.val, by omega⟩ from Fin.ext (Nat.zero_add _).symm]
  rw [hit16]
  pointwise [tripRun.sl.k0_w61, tripRun.sl.v1561, tripRun.sl.v1550_lo]
  exact (ld5 arg5 f5 k 0 4 _ (k0_off14_eq k) _ j 0 (by decide) d).trans (X.h5 _ _ _)

theorem v1730_off (j d : Fin 128) : (tripRun.sl.v1730 c arg5 arg16 k f5 f16) (ix4 0 0 ⟨128 + j.val, by omega⟩ d) = 0 := by
  unfold tripRun.sl.v1730
  refine (sq16 arg16 _ 1 0 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (128 + j.val) / 128 ≠ 0; omega)

theorem v1734_on (j d : Fin 128) : (tripRun.sl.v1734 c arg5 arg16 k f5 f16) (ix4 0 0 ⟨128 + j.val, by omega⟩ d) = ((vR (tok k 0 j) 5 d : ℝ) : EReal) := by
  unfold tripRun.sl.v1734
  refine (sq16 arg16 _ 1 0 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10]
  rw [hit16]
  pointwise [tripRun.sl.k0_w62, tripRun.sl.v1566, tripRun.sl.v1550_hi]
  exact (ld5 arg5 f5 k 0 4 _ (k0_off14_eq k) _ j 1 (by decide) d).trans (X.h5 _ _ _)

theorem v1734_off (j d : Fin 128) : (tripRun.sl.v1734 c arg5 arg16 k f5 f16) (ix4 0 0 ⟨j.val, by omega⟩ d) = 0 := by
  unfold tripRun.sl.v1734
  refine (sq16 arg16 _ 1 0 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (j.val) / 128 ≠ 1; omega)

theorem v1738_val (f : Fin 192) (d : Fin 128) : (tripRun.sl.v1738 c arg9 f9) (ix4 0 0 f d) = ((S0 sR 4 f d : ℝ) : EReal) := by
  unfold tripRun.sl.v1738
  exact (ld9 arg9 _ 4 (by decide) _ f d).trans (X.h9 _ _ _)

theorem v1761_val (f : Fin 192) (d : Fin 128) : (tripRun.sl.v1761 c arg9 f9) (ix4 0 0 f d) = ((S0 sR 5 f d : ℝ) : EReal) := by
  unfold tripRun.sl.v1761
  exact (ld9 arg9 _ 5 (by decide) _ f d).trans (X.h9 _ _ _)

theorem st_4_4 (f : Fin 192) (d : Fin 128) : (st 0 slices_S192x256_o0_0_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1738 c arg9 f9)) (ix2 f d) = ((S1 k kR vR sR 4 f d : ℝ) : EReal) :=
  incr_val0 (S0 sR 4) (fun j d => vR (tok k 0 j) 4 d) (tripRun.sl.v1583 c arg4 arg15 k f4) (tripRun.sl.v1651 c arg4 arg15 k f4) (tripRun.sl.v1730 c arg5 arg16 k f5 f16) (tripRun.sl.v1734 c arg5 arg16 k f5 f16) (fun f j => kR 4 f (tok k 0 j))
    (v1583_val X) (v1730_on X) (v1730_off X) _ (tripRun.sl.v1738 c arg9 f9) (v1738_val X) f d

theorem s_4_4 (f : Fin 192) (d : Fin 128) : ((k0_pay322 (tripRun.sl.r_92 c arg4 arg15 k f4) (tripRun.sl.r_93 c arg5 arg16 k f5 f16) (tripRun.sl.v1734 c arg5 arg16 k f5 f16) (tripRun.sl.v1738 c arg9 f9)) : FVec Ideal S1x1x192x128 .f32) (ix4 0 0 f d) = ((S1 k kR vR sR 4 f d : ℝ) : EReal) := by
  refine (congrFun (show ((k0_pay322 (tripRun.sl.r_92 c arg4 arg15 k f4) (tripRun.sl.r_93 c arg5 arg16 k f5 f16) (tripRun.sl.v1734 c arg5 arg16 k f5 f16) (tripRun.sl.v1738 c arg9 f9)) : FVec Ideal S1x1x192x128 .f32) = put32 (st 0 slices_S192x256_o0_0_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1738 c arg9 f9)) from rfl) _).trans ?_
  rw [put32_val]
  exact st_4_4 X f d

theorem sp_4_4_0 (f : Fin 192) (d : Fin 128) : ((k0_pay324 (tripRun.sl.r_92 c arg4 arg15 k f4) (tripRun.sl.r_93 c arg5 arg16 k f5 f16) (tripRun.sl.v1734 c arg5 arg16 k f5 f16) (tripRun.sl.v1738 c arg9 f9)) : FVec Ideal S1x1x192x128 .bf16) (ix4 0 0 f d) = ((S1 k kR vR sR 4 f d : ℝ) : EReal) := by
  refine (congrFun (show ((k0_pay324 (tripRun.sl.r_92 c arg4 arg15 k f4) (tripRun.sl.r_93 c arg5 arg16 k f5 f16) (tripRun.sl.v1734 c arg5 arg16 k f5 f16) (tripRun.sl.v1738 c arg9 f9)) : FVec Ideal S1x1x192x128 .bf16) = put16 (st 0 slices_S192x256_o0_0_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1738 c arg9 f9)) from rfl) _).trans ?_
  rw [put16_val]
  exact st_4_4 X f d

theorem sp_4_4_1 (f : Fin 192) (d : Fin 128) : ((k0_pay325 (tripRun.sl.r_92 c arg4 arg15 k f4) (tripRun.sl.r_93 c arg5 arg16 k f5 f16) (tripRun.sl.v1734 c arg5 arg16 k f5 f16) (tripRun.sl.v1738 c arg9 f9)) : FVec Ideal S1x1x192x128 .bf16) (ix4 0 0 f d) = 0 := by
  refine (congrFun (show ((k0_pay325 (tripRun.sl.r_92 c arg4 arg15 k f4) (tripRun.sl.r_93 c arg5 arg16 k f5 f16) (tripRun.sl.v1734 c arg5 arg16 k f5 f16) (tripRun.sl.v1738 c arg9 f9)) : FVec Ideal S1x1x192x128 .bf16) = put16 (rest (st 0 slices_S192x256_o0_0_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1738 c arg9 f9))) from rfl) _).trans ?_
  rw [put16_val]
  exact rest_val _ _ (st_4_4 X) f d

theorem sp_4_4_2 (f : Fin 192) (d : Fin 128) : ((tripRun.sl.r_95 c arg4 arg5 arg9 arg15 arg16 k f4 f5 f9 f16) : FVec Ideal S1x1x192x128 .bf16) (ix4 0 0 f d) = 0 := by
  refine (congrFun (show ((tripRun.sl.r_95 c arg4 arg5 arg9 arg15 arg16 k f4 f5 f9 f16) : FVec Ideal S1x1x192x128 .bf16) = put16 (rest (rest (st 0 slices_S192x256_o0_0_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1738 c arg9 f9)))) from rfl) _).trans ?_
  rw [put16_val]
  exact rest_rest_val _ _ (st_4_4 X) f d

theorem st_4_5 (f : Fin 192) (d : Fin 128) : (st 128 slices_S192x256_o0_128_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1761 c arg9 f9)) (ix2 f d) = ((S1 k kR vR sR 5 f d : ℝ) : EReal) :=
  incr_val1 (S0 sR 5) (fun j d => vR (tok k 0 j) 5 d) (tripRun.sl.v1583 c arg4 arg15 k f4) (tripRun.sl.v1651 c arg4 arg15 k f4) (tripRun.sl.v1730 c arg5 arg16 k f5 f16) (tripRun.sl.v1734 c arg5 arg16 k f5 f16) (fun f j => kR 5 f (tok k 0 j))
    (v1651_val X) (v1734_on X) (v1734_off X) _ (tripRun.sl.v1761 c arg9 f9) (v1761_val X) f d

theorem s_4_5 (f : Fin 192) (d : Fin 128) : ((k0_pay328 (tripRun.sl.r_94 c arg4 arg5 arg15 arg16 k f4 f5 f16) (tripRun.sl.v1761 c arg9 f9)) : FVec Ideal S1x1x192x128 .f32) (ix4 0 0 f d) = ((S1 k kR vR sR 5 f d : ℝ) : EReal) := by
  refine (congrFun (show ((k0_pay328 (tripRun.sl.r_94 c arg4 arg5 arg15 arg16 k f4 f5 f16) (tripRun.sl.v1761 c arg9 f9)) : FVec Ideal S1x1x192x128 .f32) = put32 (st 128 slices_S192x256_o0_128_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1761 c arg9 f9)) from rfl) _).trans ?_
  rw [put32_val]
  exact st_4_5 X f d

theorem sp_4_5_0 (f : Fin 192) (d : Fin 128) : ((k0_pay330 (tripRun.sl.r_94 c arg4 arg5 arg15 arg16 k f4 f5 f16) (tripRun.sl.v1761 c arg9 f9)) : FVec Ideal S1x1x192x128 .bf16) (ix4 0 0 f d) = ((S1 k kR vR sR 5 f d : ℝ) : EReal) := by
  refine (congrFun (show ((k0_pay330 (tripRun.sl.r_94 c arg4 arg5 arg15 arg16 k f4 f5 f16) (tripRun.sl.v1761 c arg9 f9)) : FVec Ideal S1x1x192x128 .bf16) = put16 (st 128 slices_S192x256_o0_128_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1761 c arg9 f9)) from rfl) _).trans ?_
  rw [put16_val]
  exact st_4_5 X f d

theorem sp_4_5_1 (f : Fin 192) (d : Fin 128) : ((k0_pay331 (tripRun.sl.r_94 c arg4 arg5 arg15 arg16 k f4 f5 f16) (tripRun.sl.v1761 c arg9 f9)) : FVec Ideal S1x1x192x128 .bf16) (ix4 0 0 f d) = 0 := by
  refine (congrFun (show ((k0_pay331 (tripRun.sl.r_94 c arg4 arg5 arg15 arg16 k f4 f5 f16) (tripRun.sl.v1761 c arg9 f9)) : FVec Ideal S1x1x192x128 .bf16) = put16 (rest (st 128 slices_S192x256_o0_128_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1761 c arg9 f9))) from rfl) _).trans ?_
  rw [put16_val]
  exact rest_val _ _ (st_4_5 X) f d

theorem sp_4_5_2 (f : Fin 192) (d : Fin 128) : ((k0_pay332 (tripRun.sl.r_94 c arg4 arg5 arg15 arg16 k f4 f5 f16) (tripRun.sl.v1761 c arg9 f9)) : FVec Ideal S1x1x192x128 .bf16) (ix4 0 0 f d) = 0 := by
  refine (congrFun (show ((k0_pay332 (tripRun.sl.r_94 c arg4 arg5 arg15 arg16 k f4 f5 f16) (tripRun.sl.v1761 c arg9 f9)) : FVec Ideal S1x1x192x128 .bf16) = put16 (rest (rest (st 128 slices_S192x256_o0_128_S192x128 (incr (tripRun.sl.v1583 c arg4 arg15 k f4) (tripRun.sl.v1651 c arg4 arg15 k f4) (tripRun.sl.v1730 c arg5 arg16 k f5 f16) (tripRun.sl.v1734 c arg5 arg16 k f5 f16)) (tripRun.sl.v1761 c arg9 f9)))) from rfl) _).trans ?_
  rw [put16_val]
  exact rest_rest_val _ _ (st_4_5 X) f d

theorem q_4_4 (i d : Fin 128) : (quot (sc (tripRun.sl.v1579 c arg3 arg14 k f3) (tripRun.sl.v1583 c arg4 arg15 k f4) (tripRun.sl.v1587 c arg4 arg5 arg9 arg11 arg15 arg16 k f4 f5 f9 f11 f15 f16)) (num (vlo (View.readAt (Elt Ideal) arg5.view (Rect.unit (s := S1x512x8x128) (k0_off14 k) S1x128x2x128.size (k0_off14_inb k)).toLoadRect f5)) (tripRun.sl.v1579 c arg3 arg14 k f3) (tripRun.sl.v1583 c arg4 arg15 k f4) (tripRun.sl.v1587 c arg4 arg5 arg9 arg11 arg15 arg16 k f4 f5 f9 f11 f15 f16) (tripRun.sl.v1593 c arg4 arg5 arg9 arg11 arg15 arg16 k f4 f5 f9 f11 f15 f16) (tripRun.sl.v1597 c arg4 arg5 arg9 arg11 arg15 arg16 k f4 f5 f9 f11 f15 f16)) (dRow (denT (tripRun.sl.v1531 c arg12 f12) (tripRun.sl.v1569 c arg3 arg13 k f3) (tripRun.sl.v1573 c arg3 arg13 k f3)) 0 4 8 0 slices_S16x256_o0_0_S16x128 slices_S16x128_o0_0_S1x128 slices_S16x128_o4_0_S1x128 slices_S16x128_o8_0_S1x128)) (ix2 i d) = ((Y0 k qR kR vR sR zR 4 i d : ℝ) : EReal) :=
  quot_val _ _ _ (A k qR kR 0 4) (Nm k qR kR vR 0 (S0 sR) 4) (fun i => ∑ f, Z0 zR 4 f * qR 4 f (tok k 0 i))
    (sc_val (fun i f => qR 4 f (tok k 0 i)) (fun f j => kR 4 f (tok k 0 j)) _ _ _ (v1579_val' X) (v1583_val X))
    (num_val (fun i f => qR 4 f (tok k 0 i)) (fun f j => kR 4 f (tok k 0 j)) (S0 sR 4) (fun j d => vR (tok k 0 j) 4 d) _ _ _ _ _ _
      (fun j d => (vlo_val _ j d).trans ((ld5 arg5 f5 k 0 4 _ (k0_off14_eq k) _ j 0 (by decide) d).trans (X.h5 _ _ _)))
      (v1579_val' X) (v1583_val X) (v1587_val X) (v1593_val X) (v1597_val X))
    (den0 (fun r f => Z0 zR ⟨4 + r.val, by omega⟩ f) _ _ _ (fun f i => qR 4 f (tok k 0 i)) (fun f i => qR 5 f (tok k 0 i))
      (v1531_val X) (v1569_val X) (v1573_val X) 0 4 8 _ _ _ _ (by decide) (by decide) (by decide) (by decide))
    i d (X.d0 _ _)

theorem q_4_5 (i d : Fin 128) : (quot (sc (tripRun.sl.v1647 c arg3 arg14 k f3) (tripRun.sl.v1651 c arg4 arg15 k f4) (tripRun.sl.v1655 c arg4 arg5 arg9 arg11 arg15 arg16 k f4 f5 f9 f11 f15 f16)) (num (vhi (View.readAt (Elt Ideal) arg5.view (Rect.unit (s := S1x512x8x128) (k0_off14 k) S1x128x2x128.size (k0_off14_inb k)).toLoadRect f5)) (tripRun.sl.v1647 c arg3 arg14 k f3) (tripRun.sl.v1651 c arg4 arg15 k f4) (tripRun.sl.v1655 c arg4 arg5 arg9 arg11 arg15 arg16 k f4 f5 f9 f11 f15 f16) (tripRun.sl.v1661 c arg4 arg5 arg9 arg11 arg15 arg16 k f4 f5 f9 f11 f15 f16) (tripRun.sl.v1665 c arg4 arg5 arg9 arg11 arg15 arg16 k f4 f5 f9 f11 f15 f16)) (dRow (denT (tripRun.sl.v1531 c arg12 f12) (tripRun.sl.v1569 c arg3 arg13 k f3) (tripRun.sl.v1573 c arg3 arg13 k f3)) 1 5 9 128 slices_S16x256_o0_128_S16x128 slices_S16x128_o1_0_S1x128 slices_S16x128_o5_0_S1x128 slices_S16x128_o9_0_S1x128)) (ix2 i d) = ((Y0 k qR kR vR sR zR 5 i d : ℝ) : EReal) :=
  quot_val _ _ _ (A k qR kR 0 5) (Nm k qR kR vR 0 (S0 sR) 5) (fun i => ∑ f, Z0 zR 5 f * qR 5 f (tok k 0 i))
    (sc_val (fun i f => qR 5 f (tok k 0 i)) (fun f j => kR 5 f (tok k 0 j)) _ _ _ (v1647_val' X) (v1651_val X))
    (num_val (fun i f => qR 5 f (tok k 0 i)) (fun f j => kR 5 f (tok k 0 j)) (S0 sR 5) (fun j d => vR (tok k 0 j) 5 d) _ _ _ _ _ _
      (fun j d => (vhi_val _ j d).trans ((ld5 arg5 f5 k 0 4 _ (k0_off14_eq k) _ j 1 (by decide) d).trans (X.h5 _ _ _)))
      (v1647_val' X) (v1651_val X) (v1655_val X) (v1661_val X) (v1665_val X))
    (den1 (fun r f => Z0 zR ⟨4 + r.val, by omega⟩ f) _ _ _ (fun f i => qR 4 f (tok k 0 i)) (fun f i => qR 5 f (tok k 0 i))
      (v1531_val X) (v1569_val X) (v1573_val X) 1 5 9 _ _ _ _ (by decide) (by decide) (by decide) (by decide))
    i d (X.d0 _ _)

theorem y_4 (i : Fin 128) (a : Fin 2) (d : Fin 128) : ((k0_pay317 (tripRun.sl.r_86 c arg3 arg4 arg5 arg9 arg11 arg12 arg13 arg14 arg15 arg16 k f3 f4 f5 f9 f11 f12 f15 f16) (tripRun.sl.r_90 c arg3 arg4 arg5 arg9 arg11 arg14 arg15 arg16 k f3 f4 f5 f9 f11 f15 f16) (tripRun.sl.r_91 c arg3 arg4 arg5 arg9 arg11 arg12 arg13 arg14 arg15 arg16 k f3 f4 f5 f9 f11 f12 f15 f16) tripRun.sl.cst_1642) : Vec Ideal S1x128x2x128 .bf16) (ix4 0 i a d) = ((Y0 k qR kR vR sR zR ⟨4 + a.val, by omega⟩ i d : ℝ) : EReal) := by
  refine (congrFun (show ((k0_pay317 (tripRun.sl.r_86 c arg3 arg4 arg5 arg9 arg11 arg12 arg13 arg14 arg15 arg16 k f3 f4 f5 f9 f11 f12 f15 f16) (tripRun.sl.r_90 c arg3 arg4 arg5 arg9 arg11 arg14 arg15 arg16 k f3 f4 f5 f9 f11 f15 f16) (tripRun.sl.r_91 c arg3 arg4 arg5 arg9 arg11 arg12 arg13 arg14 arg15 arg16 k f3 f4 f5 f9 f11 f12 f15 f16) tripRun.sl.cst_1642) : Vec Ideal S1x128x2x128 .bf16) = pairUp (quot (sc (tripRun.sl.v1579 c arg3 arg14 k f3) (tripRun.sl.v1583 c arg4 arg15 k f4) (tripRun.sl.v1587 c arg4 arg5 arg9 arg11 arg15 arg16 k f4 f5 f9 f11 f15 f16)) (num (vlo (View.readAt (Elt Ideal) arg5.view (Rect.unit (s := S1x512x8x128) (k0_off14 k) S1x128x2x128.size (k0_off14_inb k)).toLoadRect f5)) (tripRun.sl.v1579 c arg3 arg14 k f3) (tripRun.sl.v1583 c arg4 arg15 k f4) (tripRun.sl.v1587 c arg4 arg5 arg9 arg11 arg15 arg16 k f4 f5 f9 f11 f15 f16) (tripRun.sl.v1593 c arg4 arg5 arg9 arg11 arg15 arg16 k f4 f5 f9 f11 f15 f16) (tripRun.sl.v1597 c arg4 arg5 arg9 arg11 arg15 arg16 k f4 f5 f9 f11 f15 f16)) (dRow (denT (tripRun.sl.v1531 c arg12 f12) (tripRun.sl.v1569 c arg3 arg13 k f3) (tripRun.sl.v1573 c arg3 arg13 k f3)) 0 4 8 0 slices_S16x256_o0_0_S16x128 slices_S16x128_o0_0_S1x128 slices_S16x128_o4_0_S1x128 slices_S16x128_o8_0_S1x128)) (quot (sc (tripRun.sl.v1647 c arg3 arg14 k f3) (tripRun.sl.v1651 c arg4 arg15 k f4) (tripRun.sl.v1655 c arg4 arg5 arg9 arg11 arg15 arg16 k f4 f5 f9 f11 f15 f16)) (num (vhi (View.readAt (Elt Ideal) arg5.view (Rect.unit (s := S1x512x8x128) (k0_off14 k) S1x128x2x128.size (k0_off14_inb k)).toLoadRect f5)) (tripRun.sl.v1647 c arg3 arg14 k f3) (tripRun.sl.v1651 c arg4 arg15 k f4) (tripRun.sl.v1655 c arg4 arg5 arg9 arg11 arg15 arg16 k f4 f5 f9 f11 f15 f16) (tripRun.sl.v1661 c arg4 arg5 arg9 arg11 arg15 arg16 k f4 f5 f9 f11 f15 f16) (tripRun.sl.v1665 c arg4 arg5 arg9 arg11 arg15 arg16 k f4 f5 f9 f11 f15 f16)) (dRow (denT (tripRun.sl.v1531 c arg12 f12) (tripRun.sl.v1569 c arg3 arg13 k f3) (tripRun.sl.v1573 c arg3 arg13 k f3)) 1 5 9 128 slices_S16x256_o0_128_S16x128 slices_S16x128_o1_0_S1x128 slices_S16x128_o5_0_S1x128 slices_S16x128_o9_0_S1x128)) from rfl) _).trans ?_
  rw [pairUp_val]
  match a with
  | 0 => exact q_4_4 X i d
  | 1 => exact q_4_5 X i d

end Cert.KernelIdeal.Trip

end
-- ==== Proof.Val5.lean ====
/-
  The values of one sub-block: quad 1, sub-block 0, pair 1.
-/
module

public import proofs.«01_k».proof.Proof.TripRun
public import proofs.«01_k».proof.Proof.TripSt
public import proofs.«01_k».proof.Proof.Pack13
public import proofs.«01_k».proof.Proof.Pack14
public import proofs.«01_k».proof.Proof.Pack15
public import proofs.«01_k».proof.Proof.Val4
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem v1839_val (f : Fin 192) (i : Fin 128) : (tripRun.sl.v1839 c arg3 arg13 k f3) (ix4 0 0 f i) = ((qR 6 f (tok k 0 i) : ℝ) : EReal) := by
  unfold tripRun.sl.v1839
  exact (sq13 arg13 _ 1 2 0 (by decide) (by decide) (by decide) _ _ _ _ _ _).trans ((pqt_1_2_0 c k arg3 f3 arg13 f i).trans (X.h3 _ _ _))

theorem v1843_val (f : Fin 192) (i : Fin 128) : (tripRun.sl.v1843 c arg3 arg13 k f3) (ix4 0 0 f i) = ((qR 7 f (tok k 0 i) : ℝ) : EReal) := by
  unfold tripRun.sl.v1843
  exact (sq13 arg13 _ 1 3 0 (by decide) (by decide) (by decide) _ _ _ _ _ _).trans ((pqt_1_3_0 c k arg3 f3 arg13 f i).trans (X.h3 _ _ _))

theorem v1849_val' (i : Fin 128) (f : Fin 192) : (tripRun.sl.v1849 c arg3 arg14 k f3) (ix4 0 0 i f) = ((qR 6 f (tok k 0 i) : ℝ) : EReal) := by
  unfold tripRun.sl.v1849
  exact (sq14 arg14 _ 1 2 0 (by decide) (by decide) (by decide) _ _ _ _ _ _).trans ((pq_1_2_0 c k arg3 f3 arg14 f i).trans (X.h3 _ _ _))

theorem v1853_val (f : Fin 192) (i : Fin 128) : (tripRun.sl.v1853 c arg4 arg15 k f4) (ix4 0 0 f i) = ((kR 6 f (tok k 0 i) : ℝ) : EReal) := by
  unfold tripRun.sl.v1853
  exact (sq13 arg15 _ 1 2 0 (by decide) (by decide) (by decide) _ _ _ _ _ _).trans ((pkt_1_2_0 c k arg4 f4 arg15 f i).trans (X.h4 _ _ _))

theorem v1857_val (f : Fin 192) (d : Fin 128) : (tripRun.sl.v1857 c arg4 arg5 arg9 arg11 arg15 arg16 k f4 f5 f9 f11 f15 f16) (ix3 0 f d) = ((S0 sR 6 f d : ℝ) : EReal) := by
  unfold tripRun.sl.v1857
  refine (sq11 arg11 _ 6 0 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11 _ _ _

theorem v1863_val (f : Fin 192) (d : Fin 128) : (tripRun.sl.v1863 c arg4 arg5 arg9 arg11 arg15 arg16 k f4 f5 f9 f11 f15 f16) (ix3 0 f d) = 0 := by
  unfold tripRun.sl.v1863
  refine (sq11 arg11 _ 6 1 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11a _ _ _

theorem v1867_val (f : Fin 192) (d : Fin 128) : (tripRun.sl.v1867 c arg4 arg5 arg9 arg11 arg15 arg16 k f4 f5 f9 f11 f15 f16) (ix3 0 f d) = 0 := by
  unfold tripRun.sl.v1867
  refine (sq11 arg11 _ 6 2 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11b _ _ _

theorem v1917_val' (i : Fin 128) (f : Fin 192) : (tripRun.sl.v1917 c arg3 arg14 k f3) (ix4 0 0 i f) = ((qR 7 f (tok k 0 i) : ℝ) : EReal) := by
  unfold tripRun.sl.v1917
  exact (sq14 arg14 _ 1 3 0 (by decide) (by decide) (by decide) _ _ _ _ _ _).trans ((pq_1_3_0 c k arg3 f3 arg14 f i).trans (X.h3 _ _ _))

theorem v1921_val (f : Fin 192) (i : Fin 128) : (tripRun.sl.v1921 c arg4 arg15 k f4) (ix4 0 0 f i) = ((kR 7 f (tok k 0 i) : ℝ) : EReal) := by
  unfold tripRun.sl.v1921
  exact (sq13 arg15 _ 1 3 0 (by decide) (by decide) (by decide) _ _ _ _ _ _).trans ((pkt_1_3_0 c k arg4 f4 arg15 f i).trans (X.h4 _ _ _))

theorem v1925_val (f : Fin 192) (d : Fin 128) : (tripRun.sl.v1925 c arg4 arg5 arg9 arg11 arg15 arg16 k f4 f5 f9 f11 f15 f16) (ix3 0 f d) = ((S0 sR 7 f d : ℝ) : EReal) := by
  unfold tripRun.sl.v1925
  refine (sq11 arg11 _ 7 0 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11 _ _ _

theorem v1931_val (f : Fin 192) (d : Fin 128) : (tripRun.sl.v1931 c arg4 arg5 arg9 arg11 arg15 arg16 k f4 f5 f9 f11 f15 f16) (ix3 0 f d) = 0 := by
  unfold tripRun.sl.v1931
  refine (sq11 arg11 _ 7 1 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11a _ _ _

theorem v1935_val (f : Fin 192) (d : Fin 128) : (tripRun.sl.v1935 c arg4 arg5 arg9 arg11 arg15 arg16 k f4 f5 f9 f11 f15 f16) (ix3 0 f d) = 0 := by
  unfold tripRun.sl.v1935
  refine (sq11 arg11 _ 7 2 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  exact X.h11b _ _ _

theorem v2000_on (j d : Fin 128) : (tripRun.sl.v2000 c arg5 arg16 k f5 f16) (ix4 0 0 ⟨j.val, by omega⟩ d) = ((vR (tok k 0 j) 6 d : ℝ) : EReal) := by
  unfold tripRun.sl.v2000
  refine (sq16 arg16 _ 1 1 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12]
  rw [miss16 _ _ _ _ _ _ _ _ _ _ _ _ _ _ _ _ _ (.inl (by decide))]
  rw [show (⟨j.val, by omega⟩ : Fin 256) = ⟨0 + j.val, by omega⟩ from Fin.ext (Nat.zero_add _).symm]
  rw [hit16]
  pointwise [tripRun.sl.r_99, k0_pay340, k0_pay338]
  exact (ld5 arg5 f5 k 0 6 _ (k0_off15_eq k) _ j 0 (by decide) d).trans (X.h5 _ _ _)

theorem v2000_off (j d : Fin 128) : (tripRun.sl.v2000 c arg5 arg16 k f5 f16) (ix4 0 0 ⟨128 + j.val, by omega⟩ d) = 0 := by
  unfold tripRun.sl.v2000
  refine (sq16 arg16 _ 1 1 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (128 + j.val) / 128 ≠ 0; omega)

theorem v2004_on (j d : Fin 128) : (tripRun.sl.v2004 c arg5 arg16 k f5 f16) (ix4 0 0 ⟨128 + j.val, by omega⟩ d) = ((vR (tok k 0 j) 7 d : ℝ) : EReal) := by
  unfold tripRun.sl.v2004
  refine (sq16 arg16 _ 1 1 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12]
  rw [hit16]
  pointwise [k0_pay341, tripRun.sl.r_98, k0_pay339]
  exact (ld5 arg5 f5 k 0 6 _ (k0_off15_eq k) _ j 1 (by decide) d).trans (X.h5 _ _ _)

theorem v2004_off (j d : Fin 128) : (tripRun.sl.v2004 c arg5 arg16 k f5 f16) (ix4 0 0 ⟨j.val, by omega⟩ d) = 0 := by
  unfold tripRun.sl.v2004
  refine (sq16 arg16 _ 1 1 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (j.val) / 128 ≠ 1; omega)

theorem v2008_val (f : Fin 192) (d : Fin 128) : (tripRun.sl.v2008 c arg9 f9) (ix4 0 0 f d) = ((S0 sR 6 f d : ℝ) : EReal) := by
  unfold tripRun.sl.v2008
  exact (ld9 arg9 _ 6 (by decide) _ f d).trans (X.h9 _ _ _)

theorem v2031_val (f : Fin 192) (d : Fin 128) : (tripRun.sl.v2031 c arg9 f9) (ix4 0 0 f d) = ((S0 sR 7 f d : ℝ) : EReal) := by
  unfold tripRun.sl.v2031
  exact (ld9 arg9 _ 7 (by decide) _ f d).trans (X.h9 _ _ _)

theorem st_5_6 (f : Fin 192) (d : Fin 128) : (st 0 slices_S192x256_o0_0_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2008 c arg9 f9)) (ix2 f d) = ((S1 k kR vR sR 6 f d : ℝ) : EReal) :=
  incr_val0 (S0 sR 6) (fun j d => vR (tok k 0 j) 6 d) (tripRun.sl.v1853 c arg4 arg15 k f4) (tripRun.sl.v1921 c arg4 arg15 k f4) (tripRun.sl.v2000 c arg5 arg16 k f5 f16) (tripRun.sl.v2004 c arg5 arg16 k f5 f16) (fun f j => kR 6 f (tok k 0 j))
    (v1853_val X) (v2000_on X) (v2000_off X) _ (tripRun.sl.v2008 c arg9 f9) (v2008_val X) f d

theorem s_5_6 (f : Fin 192) (d : Fin 128) : ((k0_pay362 (tripRun.sl.r_117 c arg4 arg5 arg9 arg15 arg16 k f4 f5 f9 f16)) : FVec Ideal S1x1x192x128 .f32) (ix4 0 0 f d) = ((S1 k kR vR sR 6 f d : ℝ) : EReal) := by
  refine (congrFun (show ((k0_pay362 (tripRun.sl.r_117 c arg4 arg5 arg9 arg15 arg16 k f4 f5 f9 f16)) : FVec Ideal S1x1x192x128 .f32) = put32 (st 0 slices_S192x256_o0_0_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2008 c arg9 f9)) from rfl) _).trans ?_
  rw [put32_val]
  exact st_5_6 X f d

theorem sp_5_6_0 (f : Fin 192) (d : Fin 128) : ((k0_pay364 (tripRun.sl.r_117 c arg4 arg5 arg9 arg15 arg16 k f4 f5 f9 f16)) : FVec Ideal S1x1x192x128 .bf16) (ix4 0 0 f d) = ((S1 k kR vR sR 6 f d : ℝ) : EReal) := by
  refine (congrFun (show ((k0_pay364 (tripRun.sl.r_117 c arg4 arg5 arg9 arg15 arg16 k f4 f5 f9 f16)) : FVec Ideal S1x1x192x128 .bf16) = put16 (st 0 slices_S192x256_o0_0_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2008 c arg9 f9)) from rfl) _).trans ?_
  rw [put16_val]
  exact st_5_6 X f d

theorem sp_5_6_1 (f : Fin 192) (d : Fin 128) : ((k0_pay365 (tripRun.sl.r_117 c arg4 arg5 arg9 arg15 arg16 k f4 f5 f9 f16)) : FVec Ideal S1x1x192x128 .bf16) (ix4 0 0 f d) = 0 := by
  refine (congrFun (show ((k0_pay365 (tripRun.sl.r_117 c arg4 arg5 arg9 arg15 arg16 k f4 f5 f9 f16)) : FVec Ideal S1x1x192x128 .bf16) = put16 (rest (st 0 slices_S192x256_o0_0_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2008 c arg9 f9))) from rfl) _).trans ?_
  rw [put16_val]
  exact rest_val _ _ (st_5_6 X) f d

theorem sp_5_6_2 (f : Fin 192) (d : Fin 128) : ((k0_pay366 (tripRun.sl.r_117 c arg4 arg5 arg9 arg15 arg16 k f4 f5 f9 f16)) : FVec Ideal S1x1x192x128 .bf16) (ix4 0 0 f d) = 0 := by
  refine (congrFun (show ((k0_pay366 (tripRun.sl.r_117 c arg4 arg5 arg9 arg15 arg16 k f4 f5 f9 f16)) : FVec Ideal S1x1x192x128 .bf16) = put16 (rest (rest (st 0 slices_S192x256_o0_0_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2008 c arg9 f9)))) from rfl) _).trans ?_
  rw [put16_val]
  exact rest_rest_val _ _ (st_5_6 X) f d

theorem st_5_7 (f : Fin 192) (d : Fin 128) : (st 128 slices_S192x256_o0_128_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2031 c arg9 f9)) (ix2 f d) = ((S1 k kR vR sR 7 f d : ℝ) : EReal) :=
  incr_val1 (S0 sR 7) (fun j d => vR (tok k 0 j) 7 d) (tripRun.sl.v1853 c arg4 arg15 k f4) (tripRun.sl.v1921 c arg4 arg15 k f4) (tripRun.sl.v2000 c arg5 arg16 k f5 f16) (tripRun.sl.v2004 c arg5 arg16 k f5 f16) (fun f j => kR 7 f (tok k 0 j))
    (v1921_val X) (v2004_on X) (v2004_off X) _ (tripRun.sl.v2031 c arg9 f9) (v2031_val X) f d

theorem s_5_7 (f : Fin 192) (d : Fin 128) : ((k0_pay368 (tripRun.sl.r_116 c arg4 arg5 arg15 arg16 k f4 f5 f16) (tripRun.sl.v2031 c arg9 f9)) : FVec Ideal S1x1x192x128 .f32) (ix4 0 0 f d) = ((S1 k kR vR sR 7 f d : ℝ) : EReal) := by
  refine (congrFun (show ((k0_pay368 (tripRun.sl.r_116 c arg4 arg5 arg15 arg16 k f4 f5 f16) (tripRun.sl.v2031 c arg9 f9)) : FVec Ideal S1x1x192x128 .f32) = put32 (st 128 slices_S192x256_o0_128_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2031 c arg9 f9)) from rfl) _).trans ?_
  rw [put32_val]
  exact st_5_7 X f d

theorem sp_5_7_0 (f : Fin 192) (d : Fin 128) : ((k0_pay373 (tripRun.sl.r_118 c arg4 arg5 arg9 arg15 arg16 k f4 f5 f9 f16)) : FVec Ideal S1x1x192x128 .bf16) (ix4 0 0 f d) = ((S1 k kR vR sR 7 f d : ℝ) : EReal) := by
  refine (congrFun (show ((k0_pay373 (tripRun.sl.r_118 c arg4 arg5 arg9 arg15 arg16 k f4 f5 f9 f16)) : FVec Ideal S1x1x192x128 .bf16) = put16 (st 128 slices_S192x256_o0_128_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2031 c arg9 f9)) from rfl) _).trans ?_
  rw [put16_val]
  exact st_5_7 X f d

theorem sp_5_7_1 (f : Fin 192) (d : Fin 128) : ((k0_pay374 (tripRun.sl.r_119 c arg4 arg5 arg9 arg15 arg16 k f4 f5 f9 f16)) : FVec Ideal S1x1x192x128 .bf16) (ix4 0 0 f d) = 0 := by
  refine (congrFun (show ((k0_pay374 (tripRun.sl.r_119 c arg4 arg5 arg9 arg15 arg16 k f4 f5 f9 f16)) : FVec Ideal S1x1x192x128 .bf16) = put16 (rest (st 128 slices_S192x256_o0_128_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2031 c arg9 f9))) from rfl) _).trans ?_
  rw [put16_val]
  exact rest_val _ _ (st_5_7 X) f d

theorem sp_5_7_2 (f : Fin 192) (d : Fin 128) : ((k0_pay375 (tripRun.sl.r_120 c arg4 arg5 arg9 arg15 arg16 k f4 f5 f9 f16)) : FVec Ideal S1x1x192x128 .bf16) (ix4 0 0 f d) = 0 := by
  refine (congrFun (show ((k0_pay375 (tripRun.sl.r_120 c arg4 arg5 arg9 arg15 arg16 k f4 f5 f9 f16)) : FVec Ideal S1x1x192x128 .bf16) = put16 (rest (rest (st 128 slices_S192x256_o0_128_S192x128 (incr (tripRun.sl.v1853 c arg4 arg15 k f4) (tripRun.sl.v1921 c arg4 arg15 k f4) (tripRun.sl.v2000 c arg5 arg16 k f5 f16) (tripRun.sl.v2004 c arg5 arg16 k f5 f16)) (tripRun.sl.v2031 c arg9 f9)))) from rfl) _).trans ?_
  rw [put16_val]
  exact rest_rest_val _ _ (st_5_7 X) f d

theorem q_5_6 (i d : Fin 128) : (quot (sc (tripRun.sl.v1849 c arg3 arg14 k f3) (tripRun.sl.v1853 c arg4 arg15 k f4) (tripRun.sl.v1857 c arg4 arg5 arg9 arg11 arg15 arg16 k f4 f5 f9 f11 f15 f16)) (num (vlo (View.readAt (Elt Ideal) arg5.view (Rect.unit (s := S1x512x8x128) (k0_off15 k) S1x128x2x128.size (k0_off15_inb k)).toLoadRect f5)) (tripRun.sl.v1849 c arg3 arg14 k f3) (tripRun.sl.v1853 c arg4 arg15 k f4) (tripRun.sl.v1857 c arg4 arg5 arg9 arg11 arg15 arg16 k f4 f5 f9 f11 f15 f16) (tripRun.sl.v1863 c arg4 arg5 arg9 arg11 arg15 arg16 k f4 f5 f9 f11 f15 f16) (tripRun.sl.v1867 c arg4 arg5 arg9 arg11 arg15 arg16 k f4 f5 f9 f11 f15 f16)) (dRow (denT (tripRun.sl.v1531 c arg12 f12) (tripRun.sl.v1839 c arg3 arg13 k f3) (tripRun.sl.v1843 c arg3 arg13 k f3)) 2 6 10 0 slices_S16x256_o0_0_S16x128 slices_S16x128_o2_0_S1x128 slices_S16x128_o6_0_S1x128 slices_S16x128_o10_0_S1x128)) (ix2 i d) = ((Y0 k qR kR vR sR zR 6 i d : ℝ) : EReal) :=
  quot_val _ _ _ (A k qR kR 0 6) (Nm k qR kR vR 0 (S0 sR) 6) (fun i => ∑ f, Z0 zR 6 f * qR 6 f (tok k 0 i))
    (sc_val (fun i f => qR 6 f (tok k 0 i)) (fun f j => kR 6 f (tok k 0 j)) _ _ _ (v1849_val' X) (v1853_val X))
    (num_val (fun i f => qR 6 f (tok k 0 i)) (fun f j => kR 6 f (tok k 0 j)) (S0 sR 6) (fun j d => vR (tok k 0 j) 6 d) _ _ _ _ _ _
      (fun j d => (vlo_val _ j d).trans ((ld5 arg5 f5 k 0 6 _ (k0_off15_eq k) _ j 0 (by decide) d).trans (X.h5 _ _ _)))
      (v1849_val' X) (v1853_val X) (v1857_val X) (v1863_val X) (v1867_val X))
    (den0 (fun r f => Z0 zR ⟨4 + r.val, by omega⟩ f) _ _ _ (fun f i => qR 6 f (tok k 0 i)) (fun f i => qR 7 f (tok k 0 i))
      (v1531_val X) (v1839_val X) (v1843_val X) 2 6 10 _ _ _ _ (by decide) (by decide) (by decide) (by decide))
    i d (X.d0 _ _)

theorem q_5_7 (i d : Fin 128) : (quot (sc (tripRun.sl.v1917 c arg3 arg14 k f3) (tripRun.sl.v1921 c arg4 arg15 k f4) (tripRun.sl.v1925 c arg4 arg5 arg9 arg11 arg15 arg16 k f4 f5 f9 f11 f15 f16)) (num (vhi (View.readAt (Elt Ideal) arg5.view (Rect.unit (s := S1x512x8x128) (k0_off15 k) S1x128x2x128.size (k0_off15_inb k)).toLoadRect f5)) (tripRun.sl.v1917 c arg3 arg14 k f3) (tripRun.sl.v1921 c arg4 arg15 k f4) (tripRun.sl.v1925 c arg4 arg5 arg9 arg11 arg15 arg16 k f4 f5 f9 f11 f15 f16) (tripRun.sl.v1931 c arg4 arg5 arg9 arg11 arg15 arg16 k f4 f5 f9 f11 f15 f16) (tripRun.sl.v1935 c arg4 arg5 arg9 arg11 arg15 arg16 k f4 f5 f9 f11 f15 f16)) (dRow (denT (tripRun.sl.v1531 c arg12 f12) (tripRun.sl.v1839 c arg3 arg13 k f3) (tripRun.sl.v1843 c arg3 arg13 k f3)) 3 7 11 128 slices_S16x256_o0_128_S16x128 slices_S16x128_o3_0_S1x128 slices_S16x128_o7_0_S1x128 slices_S16x128_o11_0_S1x128)) (ix2 i d) = ((Y0 k qR kR vR sR zR 7 i d : ℝ) : EReal) :=
  quot_val _ _ _ (A k qR kR 0 7) (Nm k qR kR vR 0 (S0 sR) 7) (fun i => ∑ f, Z0 zR 7 f * qR 7 f (tok k 0 i))
    (sc_val (fun i f => qR 7 f (tok k 0 i)) (fun f j => kR 7 f (tok k 0 j)) _ _ _ (v1917_val' X) (v1921_val X))
    (num_val (fun i f => qR 7 f (tok k 0 i)) (fun f j => kR 7 f (tok k 0 j)) (S0 sR 7) (fun j d => vR (tok k 0 j) 7 d) _ _ _ _ _ _
      (fun j d => (vhi_val _ j d).trans ((ld5 arg5 f5 k 0 6 _ (k0_off15_eq k) _ j 1 (by decide) d).trans (X.h5 _ _ _)))
      (v1917_val' X) (v1921_val X) (v1925_val X) (v1931_val X) (v1935_val X))
    (den1 (fun r f => Z0 zR ⟨4 + r.val, by omega⟩ f) _ _ _ (fun f i => qR 6 f (tok k 0 i)) (fun f i => qR 7 f (tok k 0 i))
      (v1531_val X) (v1839_val X) (v1843_val X) 3 7 11 _ _ _ _ (by decide) (by decide) (by decide) (by decide))
    i d (X.d0 _ _)

theorem y_5 (i : Fin 128) (a : Fin 2) (d : Fin 128) : ((k0_pay358 k0_pay7 k0_pay8 (tripRun.sl.r_98 c arg5 k f5) (tripRun.sl.r_100 c arg3 arg12 arg13 k f3 f12) (tripRun.sl.r_107 c arg3 arg4 arg5 arg9 arg11 arg12 arg13 arg14 arg15 arg16 k f3 f4 f5 f9 f11 f12 f15 f16) (tripRun.sl.r_109 c arg3 arg4 arg5 arg9 arg11 arg14 arg15 arg16 k f3 f4 f5 f9 f11 f15 f16) (tripRun.sl.r_110 c arg3 arg4 arg5 arg9 arg11 arg14 arg15 arg16 k f3 f4 f5 f9 f11 f15 f16) (tripRun.sl.r_111 c arg3 arg4 arg5 arg9 arg11 arg14 arg15 arg16 k f3 f4 f5 f9 f11 f15 f16) (tripRun.sl.r_112 c arg3 arg4 arg5 arg9 arg11 arg14 arg15 arg16 k f3 f4 f5 f9 f11 f15 f16) (tripRun.sl.r_113 c arg3 arg4 arg5 arg9 arg11 arg14 arg15 arg16 k f3 f4 f5 f9 f11 f15 f16) (tripRun.sl.r_114 c arg3 arg4 arg5 arg9 arg11 arg14 arg15 arg16 k f3 f4 f5 f9 f11 f15 f16) 64#32) : Vec Ideal S1x128x2x128 .bf16) (ix4 0 i a d) = ((Y0 k qR kR vR sR zR ⟨6 + a.val, by omega⟩ i d : ℝ) : EReal) := by
  refine (congrFun (show ((k0_pay358 k0_pay7 k0_pay8 (tripRun.sl.r_98 c arg5 k f5) (tripRun.sl.r_100 c arg3 arg12 arg13 k f3 f12) (tripRun.sl.r_107 c arg3 arg4 arg5 arg9 arg11 arg12 arg13 arg14 arg15 arg16 k f3 f4 f5 f9 f11 f12 f15 f16) (tripRun.sl.r_109 c arg3 arg4 arg5 arg9 arg11 arg14 arg15 arg16 k f3 f4 f5 f9 f11 f15 f16) (tripRun.sl.r_110 c arg3 arg4 arg5 arg9 arg11 arg14 arg15 arg16 k f3 f4 f5 f9 f11 f15 f16) (tripRun.sl.r_111 c arg3 arg4 arg5 arg9 arg11 arg14 arg15 arg16 k f3 f4 f5 f9 f11 f15 f16) (tripRun.sl.r_112 c arg3 arg4 arg5 arg9 arg11 arg14 arg15 arg16 k f3 f4 f5 f9 f11 f15 f16) (tripRun.sl.r_113 c arg3 arg4 arg5 arg9 arg11 arg14 arg15 arg16 k f3 f4 f5 f9 f11 f15 f16) (tripRun.sl.r_114 c arg3 arg4 arg5 arg9 arg11 arg14 arg15 arg16 k f3 f4 f5 f9 f11 f15 f16) 64#32) : Vec Ideal S1x128x2x128 .bf16) = pairUp (quot (sc (tripRun.sl.v1849 c arg3 arg14 k f3) (tripRun.sl.v1853 c arg4 arg15 k f4) (tripRun.sl.v1857 c arg4 arg5 arg9 arg11 arg15 arg16 k f4 f5 f9 f11 f15 f16)) (num (vlo (View.readAt (Elt Ideal) arg5.view (Rect.unit (s := S1x512x8x128) (k0_off15 k) S1x128x2x128.size (k0_off15_inb k)).toLoadRect f5)) (tripRun.sl.v1849 c arg3 arg14 k f3) (tripRun.sl.v1853 c arg4 arg15 k f4) (tripRun.sl.v1857 c arg4 arg5 arg9 arg11 arg15 arg16 k f4 f5 f9 f11 f15 f16) (tripRun.sl.v1863 c arg4 arg5 arg9 arg11 arg15 arg16 k f4 f5 f9 f11 f15 f16) (tripRun.sl.v1867 c arg4 arg5 arg9 arg11 arg15 arg16 k f4 f5 f9 f11 f15 f16)) (dRow (denT (tripRun.sl.v1531 c arg12 f12) (tripRun.sl.v1839 c arg3 arg13 k f3) (tripRun.sl.v1843 c arg3 arg13 k f3)) 2 6 10 0 slices_S16x256_o0_0_S16x128 slices_S16x128_o2_0_S1x128 slices_S16x128_o6_0_S1x128 slices_S16x128_o10_0_S1x128)) (quot (sc (tripRun.sl.v1917 c arg3 arg14 k f3) (tripRun.sl.v1921 c arg4 arg15 k f4) (tripRun.sl.v1925 c arg4 arg5 arg9 arg11 arg15 arg16 k f4 f5 f9 f11 f15 f16)) (num (vhi (View.readAt (Elt Ideal) arg5.view (Rect.unit (s := S1x512x8x128) (k0_off15 k) S1x128x2x128.size (k0_off15_inb k)).toLoadRect f5)) (tripRun.sl.v1917 c arg3 arg14 k f3) (tripRun.sl.v1921 c arg4 arg15 k f4) (tripRun.sl.v1925 c arg4 arg5 arg9 arg11 arg15 arg16 k f4 f5 f9 f11 f15 f16) (tripRun.sl.v1931 c arg4 arg5 arg9 arg11 arg15 arg16 k f4 f5 f9 f11 f15 f16) (tripRun.sl.v1935 c arg4 arg5 arg9 arg11 arg15 arg16 k f4 f5 f9 f11 f15 f16)) (dRow (denT (tripRun.sl.v1531 c arg12 f12) (tripRun.sl.v1839 c arg3 arg13 k f3) (tripRun.sl.v1843 c arg3 arg13 k f3)) 3 7 11 128 slices_S16x256_o0_128_S16x128 slices_S16x128_o3_0_S1x128 slices_S16x128_o7_0_S1x128 slices_S16x128_o11_0_S1x128)) from rfl) _).trans ?_
  rw [pairUp_val]
  match a with
  | 0 => exact q_5_6 X i d
  | 1 => exact q_5_7 X i d

theorem z_1_0 (r : Fin 4) (f : Fin 192) : ((k0_pay378 (tripRun.sl.r_79 c arg12 f12) (tripRun.sl.r_96 c arg4 arg15 v10 v11 k f4) (tripRun.sl.r_115 c arg4 arg15 k f4) (k0_pay376 v10 v11) tripRun.sl.cst k0_pay377) : FVec Ideal S1x4x192 .f32) (ix3 0 r f) = ((Z1 k kR zR ⟨4 + r.val, by omega⟩ f : ℝ) : EReal) := by
  refine (congrFun (show ((k0_pay378 (tripRun.sl.r_79 c arg12 f12) (tripRun.sl.r_96 c arg4 arg15 v10 v11 k f4) (tripRun.sl.r_115 c arg4 arg15 k f4) (k0_pay376 v10 v11) tripRun.sl.cst k0_pay377) : FVec Ideal S1x4x192 .f32) = zNew v10 v11 (tripRun.sl.v1531 c arg12 f12) (keys (tripRun.sl.v1583 c arg4 arg15 k f4) (tripRun.sl.v1651 c arg4 arg15 k f4)) (keys (tripRun.sl.v1853 c arg4 arg15 k f4) (tripRun.sl.v1921 c arg4 arg15 k f4)) from rfl) _).trans ?_
  exact zNew_val v10 v11 X.i10 X.i11 (fun r f => Z0 zR ⟨4 + r.val, by omega⟩ f) _ _ _ _ _ (fun r f j => kR ⟨4 + r.val, by omega⟩ f (tok k 0 j))
    (v1531_val X) (v1583_val X) (v1651_val X) (v1853_val X) (v1921_val X) r f

end Cert.KernelIdeal.Trip

end
-- ==== Proof.Val6.lean ====
/-
  The values of one sub-block: quad 1, sub-block 1, pair 0.
-/
module

public import proofs.«01_k».proof.Proof.TripRun
public import proofs.«01_k».proof.Proof.TripSt
public import proofs.«01_k».proof.Proof.Pack13
public import proofs.«01_k».proof.Proof.Pack14
public import proofs.«01_k».proof.Proof.Pack15
public import proofs.«01_k».proof.Proof.Val4
public import proofs.«01_k».proof.Proof.Val5
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem v2092_val (a : Fin 4) (f : Fin 192) : (tripRun.sl.v2092 c arg4 arg12 arg15 v10 v11 k f4 f12 f15) (ix3 0 a f) = ((Z1 k kR zR ⟨4 + a.val, by omega⟩ f : ℝ) : EReal) := by
  unfold tripRun.sl.v2092
  unfold View.readCov
  refine (ld12 arg12 _ 1 (by decide) _ a f).trans ?_
  simp only [tripRun.sl.H12_1, tripRun.sl.H12_2, tripRun.sl.H12_3]
  rw [hit12]
  exact z_1_0 X a f

theorem v2130_val (f : Fin 192) (i : Fin 128) : (tripRun.sl.v2130 c arg3 arg13 k f3) (ix4 0 0 f i) = ((qR 4 f (tok k 1 i) : ℝ) : EReal) := by
  unfold tripRun.sl.v2130
  exact (sq13 arg13 _ 1 0 1 (by decide) (by decide) (by decide) _ _ _ _ _ _).trans ((pqt_1_0_1 c k arg3 f3 arg13 f i).trans (X.h3 _ _ _))

theorem v2134_val (f : Fin 192) (i : Fin 128) : (tripRun.sl.v2134 c arg3 arg13 k f3) (ix4 0 0 f i) = ((qR 5 f (tok k 1 i) : ℝ) : EReal) := by
  unfold tripRun.sl.v2134
  exact (sq13 arg13 _ 1 1 1 (by decide) (by decide) (by decide) _ _ _ _ _ _).trans ((pqt_1_1_1 c k arg3 f3 arg13 f i).trans (X.h3 _ _ _))

theorem v2140_val' (i : Fin 128) (f : Fin 192) : (tripRun.sl.v2140 c arg3 arg14 k f3) (ix4 0 0 i f) = ((qR 4 f (tok k 1 i) : ℝ) : EReal) := by
  unfold tripRun.sl.v2140
  exact (sq14 arg14 _ 1 0 1 (by decide) (by decide) (by decide) _ _ _ _ _ _).trans ((pq_1_0_1 c k arg3 f3 arg14 f i).trans (X.h3 _ _ _))

theorem v2144_val (f : Fin 192) (i : Fin 128) : (tripRun.sl.v2144 c arg4 arg15 k f4) (ix4 0 0 f i) = ((kR 4 f (tok k 1 i) : ℝ) : EReal) := by
  unfold tripRun.sl.v2144
  exact (sq13 arg15 _ 1 0 1 (by decide) (by decide) (by decide) _ _ _ _ _ _).trans ((pkt_1_0_1 c k arg4 f4 arg15 f i).trans (X.h4 _ _ _))

theorem v2148_val (f : Fin 192) (d : Fin 128) : (tripRun.sl.v2148 c arg4 arg5 arg9 arg11 arg15 arg16 k f4 f5 f9 f15 f16) (ix3 0 f d) = ((S1 k kR vR sR 4 f d : ℝ) : EReal) := by
  unfold tripRun.sl.v2148
  refine (sq11 arg11 _ 4 0 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_4_4_0 X f d

theorem v2154_val (f : Fin 192) (d : Fin 128) : (tripRun.sl.v2154 c arg4 arg5 arg9 arg11 arg15 arg16 k f4 f5 f9 f15 f16) (ix3 0 f d) = 0 := by
  unfold tripRun.sl.v2154
  refine (sq11 arg11 _ 4 1 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_4_4_1 X f d

theorem v2158_val (f : Fin 192) (d : Fin 128) : (tripRun.sl.v2158 c arg4 arg5 arg9 arg11 arg15 arg16 k f4 f5 f9 f15 f16) (ix3 0 f d) = 0 := by
  unfold tripRun.sl.v2158
  refine (sq11 arg11 _ 4 2 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_4_4_2 X f d

theorem v2208_val' (i : Fin 128) (f : Fin 192) : (tripRun.sl.v2208 c arg3 arg14 k f3) (ix4 0 0 i f) = ((qR 5 f (tok k 1 i) : ℝ) : EReal) := by
  unfold tripRun.sl.v2208
  exact (sq14 arg14 _ 1 1 1 (by decide) (by decide) (by decide) _ _ _ _ _ _).trans ((pq_1_1_1 c k arg3 f3 arg14 f i).trans (X.h3 _ _ _))

theorem v2212_val (f : Fin 192) (i : Fin 128) : (tripRun.sl.v2212 c arg4 arg15 k f4) (ix4 0 0 f i) = ((kR 5 f (tok k 1 i) : ℝ) : EReal) := by
  unfold tripRun.sl.v2212
  exact (sq13 arg15 _ 1 1 1 (by decide) (by decide) (by decide) _ _ _ _ _ _).trans ((pkt_1_1_1 c k arg4 f4 arg15 f i).trans (X.h4 _ _ _))

theorem v2216_val (f : Fin 192) (d : Fin 128) : (tripRun.sl.v2216 c arg4 arg5 arg9 arg11 arg15 arg16 k f4 f5 f9 f15 f16) (ix3 0 f d) = ((S1 k kR vR sR 5 f d : ℝ) : EReal) := by
  unfold tripRun.sl.v2216
  refine (sq11 arg11 _ 5 0 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_4_5_0 X f d

theorem v2222_val (f : Fin 192) (d : Fin 128) : (tripRun.sl.v2222 c arg4 arg5 arg9 arg11 arg15 arg16 k f4 f5 f9 f15 f16) (ix3 0 f d) = 0 := by
  unfold tripRun.sl.v2222
  refine (sq11 arg11 _ 5 1 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_4_5_1 X f d

theorem v2226_val (f : Fin 192) (d : Fin 128) : (tripRun.sl.v2226 c arg4 arg5 arg9 arg11 arg15 arg16 k f4 f5 f9 f15 f16) (ix3 0 f d) = 0 := by
  unfold tripRun.sl.v2226
  refine (sq11 arg11 _ 5 2 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_4_5_2 X f d

theorem v2291_on (j d : Fin 128) : (tripRun.sl.v2291 c arg5 arg16 k f5 f16) (ix4 0 0 ⟨j.val, by omega⟩ d) = ((vR (tok k 1 j) 4 d : ℝ) : EReal) := by
  unfold tripRun.sl.v2291
  refine (sq16 arg16 _ 1 0 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12, tripRun.sl.H16_13, tripRun.sl.H16_14]
  rw [miss16 _ _ _ _ _ _ _ _ _ _ _ _ _ _ _ _ _ (.inl (by decide))]
  rw [show (⟨j.val, by omega⟩ : Fin 256) = ⟨0 + j.val, by omega⟩ from Fin.ext (Nat.zero_add _).symm]
  rw [hit16]
  pointwise [k0_pay383, tripRun.sl.r_123, k0_pay381]
  exact (ld5 arg5 f5 k 1 4 _ (k0_off16_eq k) _ j 0 (by decide) d).trans (X.h5 _ _ _)

theorem v2291_off (j d : Fin 128) : (tripRun.sl.v2291 c arg5 arg16 k f5 f16) (ix4 0 0 ⟨128 + j.val, by omega⟩ d) = 0 := by
  unfold tripRun.sl.v2291
  refine (sq16 arg16 _ 1 0 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12, tripRun.sl.H16_13, tripRun.sl.H16_14]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (128 + j.val) / 128 ≠ 0; omega)

theorem v2295_on (j d : Fin 128) : (tripRun.sl.v2295 c arg5 arg16 k f5 f16) (ix4 0 0 ⟨128 + j.val, by omega⟩ d) = ((vR (tok k 1 j) 5 d : ℝ) : EReal) := by
  unfold tripRun.sl.v2295
  refine (sq16 arg16 _ 1 0 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12, tripRun.sl.H16_13, tripRun.sl.H16_14]
  rw [hit16]
  pointwise [k0_pay384, tripRun.sl.r_124, k0_pay382]
  exact (ld5 arg5 f5 k 1 4 _ (k0_off16_eq k) _ j 1 (by decide) d).trans (X.h5 _ _ _)

theorem v2295_off (j d : Fin 128) : (tripRun.sl.v2295 c arg5 arg16 k f5 f16) (ix4 0 0 ⟨j.val, by omega⟩ d) = 0 := by
  unfold tripRun.sl.v2295
  refine (sq16 arg16 _ 1 0 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12, tripRun.sl.H16_13, tripRun.sl.H16_14]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (j.val) / 128 ≠ 1; omega)

theorem v2299_val (f : Fin 192) (d : Fin 128) : (tripRun.sl.v2299 c arg4 arg5 arg9 arg15 arg16 k f4 f5 f9 f15 f16) (ix4 0 0 f d) = ((S1 k kR vR sR 4 f d : ℝ) : EReal) := by
  unfold tripRun.sl.v2299
  unfold View.readCov
  refine (ld9 arg9 _ 4 (by decide) _ f d).trans ?_
  simp only [tripRun.sl.H9_1, tripRun.sl.H9_2, tripRun.sl.H9_4, tripRun.sl.H9_5, tripRun.sl.H9_6, tripRun.sl.H9_7, tripRun.sl.H9_8, tripRun.sl.H9_9, tripRun.sl.H9_10, tripRun.sl.H9_12]
  rw [miss9 _ _ _ _ _ _ _ _ _ _ (by decide)]
  rw [miss9 _ _ _ _ _ _ _ _ _ _ (by decide)]
  rw [miss9 _ _ _ _ _ _ _ _ _ _ (by decide)]
  rw [hit9]
  exact s_4_4 X f d

theorem v2322_val (f : Fin 192) (d : Fin 128) : (tripRun.sl.v2322 c arg4 arg5 arg9 arg15 arg16 k f4 f5 f9 f15 f16) (ix4 0 0 f d) = ((S1 k kR vR sR 5 f d : ℝ) : EReal) := by
  unfold tripRun.sl.v2322
  unfold View.readCov
  refine (ld9 arg9 _ 5 (by decide) _ f d).trans ?_
  simp only [tripRun.sl.H9_1, tripRun.sl.H9_2, tripRun.sl.H9_4, tripRun.sl.H9_5, tripRun.sl.H9_6, tripRun.sl.H9_7, tripRun.sl.H9_8, tripRun.sl.H9_9, tripRun.sl.H9_10, tripRun.sl.H9_12, tripRun.sl.H9_13]
  rw [miss9 _ _ _ _ _ _ _ _ _ _ (by decide)]
  rw [miss9 _ _ _ _ _ _ _ _ _ _ (by decide)]
  rw [miss9 _ _ _ _ _ _ _ _ _ _ (by decide)]
  rw [hit9]
  exact s_4_5 X f d

theorem st_6_4 (f : Fin 192) (d : Fin 128) : (st 0 slices_S192x256_o0_0_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2299 c arg4 arg5 arg9 arg15 arg16 k f4 f5 f9 f15 f16)) (ix2 f d) = ((S2 k kR vR sR 4 f d : ℝ) : EReal) :=
  incr_val0 (S1 k kR vR sR 4) (fun j d => vR (tok k 1 j) 4 d) (tripRun.sl.v2144 c arg4 arg15 k f4) (tripRun.sl.v2212 c arg4 arg15 k f4) (tripRun.sl.v2291 c arg5 arg16 k f5 f16) (tripRun.sl.v2295 c arg5 arg16 k f5 f16) (fun f j => kR 4 f (tok k 1 j))
    (v2144_val X) (v2291_on X) (v2291_off X) _ (tripRun.sl.v2299 c arg4 arg5 arg9 arg15 arg16 k f4 f5 f9 f15 f16) (v2299_val X) f d

theorem s_6_4 (f : Fin 192) (d : Fin 128) : ((k0_pay403 (tripRun.sl.r_140 c arg4 arg5 arg9 arg15 arg16 k f4 f5 f9 f15 f16)) : FVec Ideal S1x1x192x128 .f32) (ix4 0 0 f d) = ((S2 k kR vR sR 4 f d : ℝ) : EReal) := by
  refine (congrFun (show ((k0_pay403 (tripRun.sl.r_140 c arg4 arg5 arg9 arg15 arg16 k f4 f5 f9 f15 f16)) : FVec Ideal S1x1x192x128 .f32) = put32 (st 0 slices_S192x256_o0_0_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2299 c arg4 arg5 arg9 arg15 arg16 k f4 f5 f9 f15 f16)) from rfl) _).trans ?_
  rw [put32_val]
  exact st_6_4 X f d

theorem sp_6_4_0 (f : Fin 192) (d : Fin 128) : ((k0_pay405 (tripRun.sl.r_140 c arg4 arg5 arg9 arg15 arg16 k f4 f5 f9 f15 f16)) : FVec Ideal S1x1x192x128 .bf16) (ix4 0 0 f d) = ((S2 k kR vR sR 4 f d : ℝ) : EReal) := by
  refine (congrFun (show ((k0_pay405 (tripRun.sl.r_140 c arg4 arg5 arg9 arg15 arg16 k f4 f5 f9 f15 f16)) : FVec Ideal S1x1x192x128 .bf16) = put16 (st 0 slices_S192x256_o0_0_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2299 c arg4 arg5 arg9 arg15 arg16 k f4 f5 f9 f15 f16)) from rfl) _).trans ?_
  rw [put16_val]
  exact st_6_4 X f d

theorem sp_6_4_1 (f : Fin 192) (d : Fin 128) : ((k0_pay406 (tripRun.sl.r_140 c arg4 arg5 arg9 arg15 arg16 k f4 f5 f9 f15 f16)) : FVec Ideal S1x1x192x128 .bf16) (ix4 0 0 f d) = 0 := by
  refine (congrFun (show ((k0_pay406 (tripRun.sl.r_140 c arg4 arg5 arg9 arg15 arg16 k f4 f5 f9 f15 f16)) : FVec Ideal S1x1x192x128 .bf16) = put16 (rest (st 0 slices_S192x256_o0_0_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2299 c arg4 arg5 arg9 arg15 arg16 k f4 f5 f9 f15 f16))) from rfl) _).trans ?_
  rw [put16_val]
  exact rest_val _ _ (st_6_4 X) f d

theorem sp_6_4_2 (f : Fin 192) (d : Fin 128) : ((k0_pay407 (tripRun.sl.r_140 c arg4 arg5 arg9 arg15 arg16 k f4 f5 f9 f15 f16)) : FVec Ideal S1x1x192x128 .bf16) (ix4 0 0 f d) = 0 := by
  refine (congrFun (show ((k0_pay407 (tripRun.sl.r_140 c arg4 arg5 arg9 arg15 arg16 k f4 f5 f9 f15 f16)) : FVec Ideal S1x1x192x128 .bf16) = put16 (rest (rest (st 0 slices_S192x256_o0_0_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2299 c arg4 arg5 arg9 arg15 arg16 k f4 f5 f9 f15 f16)))) from rfl) _).trans ?_
  rw [put16_val]
  exact rest_rest_val _ _ (st_6_4 X) f d

theorem st_6_5 (f : Fin 192) (d : Fin 128) : (st 128 slices_S192x256_o0_128_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2322 c arg4 arg5 arg9 arg15 arg16 k f4 f5 f9 f15 f16)) (ix2 f d) = ((S2 k kR vR sR 5 f d : ℝ) : EReal) :=
  incr_val1 (S1 k kR vR sR 5) (fun j d => vR (tok k 1 j) 5 d) (tripRun.sl.v2144 c arg4 arg15 k f4) (tripRun.sl.v2212 c arg4 arg15 k f4) (tripRun.sl.v2291 c arg5 arg16 k f5 f16) (tripRun.sl.v2295 c arg5 arg16 k f5 f16) (fun f j => kR 5 f (tok k 1 j))
    (v2212_val X) (v2295_on X) (v2295_off X) _ (tripRun.sl.v2322 c arg4 arg5 arg9 arg15 arg16 k f4 f5 f9 f15 f16) (v2322_val X) f d

theorem s_6_5 (f : Fin 192) (d : Fin 128) : ((k0_pay409 (tripRun.sl.r_139 c arg4 arg5 arg15 arg16 k f4 f5 f16) (tripRun.sl.v2322 c arg4 arg5 arg9 arg15 arg16 k f4 f5 f9 f15 f16)) : FVec Ideal S1x1x192x128 .f32) (ix4 0 0 f d) = ((S2 k kR vR sR 5 f d : ℝ) : EReal) := by
  refine (congrFun (show ((k0_pay409 (tripRun.sl.r_139 c arg4 arg5 arg15 arg16 k f4 f5 f16) (tripRun.sl.v2322 c arg4 arg5 arg9 arg15 arg16 k f4 f5 f9 f15 f16)) : FVec Ideal S1x1x192x128 .f32) = put32 (st 128 slices_S192x256_o0_128_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2322 c arg4 arg5 arg9 arg15 arg16 k f4 f5 f9 f15 f16)) from rfl) _).trans ?_
  rw [put32_val]
  exact st_6_5 X f d

theorem sp_6_5_0 (f : Fin 192) (d : Fin 128) : ((k0_pay414 (tripRun.sl.r_141 c arg4 arg5 arg9 arg15 arg16 k f4 f5 f9 f15 f16)) : FVec Ideal S1x1x192x128 .bf16) (ix4 0 0 f d) = ((S2 k kR vR sR 5 f d : ℝ) : EReal) := by
  refine (congrFun (show ((k0_pay414 (tripRun.sl.r_141 c arg4 arg5 arg9 arg15 arg16 k f4 f5 f9 f15 f16)) : FVec Ideal S1x1x192x128 .bf16) = put16 (st 128 slices_S192x256_o0_128_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2322 c arg4 arg5 arg9 arg15 arg16 k f4 f5 f9 f15 f16)) from rfl) _).trans ?_
  rw [put16_val]
  exact st_6_5 X f d

theorem sp_6_5_1 (f : Fin 192) (d : Fin 128) : ((k0_pay415 (tripRun.sl.r_142 c arg4 arg5 arg9 arg15 arg16 k f4 f5 f9 f15 f16)) : FVec Ideal S1x1x192x128 .bf16) (ix4 0 0 f d) = 0 := by
  refine (congrFun (show ((k0_pay415 (tripRun.sl.r_142 c arg4 arg5 arg9 arg15 arg16 k f4 f5 f9 f15 f16)) : FVec Ideal S1x1x192x128 .bf16) = put16 (rest (st 128 slices_S192x256_o0_128_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2322 c arg4 arg5 arg9 arg15 arg16 k f4 f5 f9 f15 f16))) from rfl) _).trans ?_
  rw [put16_val]
  exact rest_val _ _ (st_6_5 X) f d

theorem sp_6_5_2 (f : Fin 192) (d : Fin 128) : ((k0_pay416 (tripRun.sl.r_143 c arg4 arg5 arg9 arg15 arg16 k f4 f5 f9 f15 f16)) : FVec Ideal S1x1x192x128 .bf16) (ix4 0 0 f d) = 0 := by
  refine (congrFun (show ((k0_pay416 (tripRun.sl.r_143 c arg4 arg5 arg9 arg15 arg16 k f4 f5 f9 f15 f16)) : FVec Ideal S1x1x192x128 .bf16) = put16 (rest (rest (st 128 slices_S192x256_o0_128_S192x128 (incr (tripRun.sl.v2144 c arg4 arg15 k f4) (tripRun.sl.v2212 c arg4 arg15 k f4) (tripRun.sl.v2291 c arg5 arg16 k f5 f16) (tripRun.sl.v2295 c arg5 arg16 k f5 f16)) (tripRun.sl.v2322 c arg4 arg5 arg9 arg15 arg16 k f4 f5 f9 f15 f16)))) from rfl) _).trans ?_
  rw [put16_val]
  exact rest_rest_val _ _ (st_6_5 X) f d

theorem q_6_4 (i d : Fin 128) : (quot (sc (tripRun.sl.v2140 c arg3 arg14 k f3) (tripRun.sl.v2144 c arg4 arg15 k f4) (tripRun.sl.v2148 c arg4 arg5 arg9 arg11 arg15 arg16 k f4 f5 f9 f15 f16)) (num (vlo (View.readAt (Elt Ideal) arg5.view (Rect.unit (s := S1x512x8x128) (k0_off16 k) S1x128x2x128.size (k0_off16_inb k)).toLoadRect f5)) (tripRun.sl.v2140 c arg3 arg14 k f3) (tripRun.sl.v2144 c arg4 arg15 k f4) (tripRun.sl.v2148 c arg4 arg5 arg9 arg11 arg15 arg16 k f4 f5 f9 f15 f16) (tripRun.sl.v2154 c arg4 arg5 arg9 arg11 arg15 arg16 k f4 f5 f9 f15 f16) (tripRun.sl.v2158 c arg4 arg5 arg9 arg11 arg15 arg16 k f4 f5 f9 f15 f16)) (dRow (denT (tripRun.sl.v2092 c arg4 arg12 arg15 v10 v11 k f4 f12 f15) (tripRun.sl.v2130 c arg3 arg13 k f3) (tripRun.sl.v2134 c arg3 arg13 k f3)) 0 4 8 0 slices_S16x256_o0_0_S16x128 slices_S16x128_o0_0_S1x128 slices_S16x128_o4_0_S1x128 slices_S16x128_o8_0_S1x128)) (ix2 i d) = ((Y1 k qR kR vR sR zR 4 i d : ℝ) : EReal) :=
  quot_val _ _ _ (A k qR kR 1 4) (Nm k qR kR vR 1 (S1 k kR vR sR) 4) (fun i => ∑ f, Z1 k kR zR 4 f * qR 4 f (tok k 1 i))
    (sc_val (fun i f => qR 4 f (tok k 1 i)) (fun f j => kR 4 f (tok k 1 j)) _ _ _ (v2140_val' X) (v2144_val X))
    (num_val (fun i f => qR 4 f (tok k 1 i)) (fun f j => kR 4 f (tok k 1 j)) (S1 k kR vR sR 4) (fun j d => vR (tok k 1 j) 4 d) _ _ _ _ _ _
      (fun j d => (vlo_val _ j d).trans ((ld5 arg5 f5 k 1 4 _ (k0_off16_eq k) _ j 0 (by decide) d).trans (X.h5 _ _ _)))
      (v2140_val' X) (v2144_val X) (v2148_val X) (v2154_val X) (v2158_val X))
    (den0 (fun r f => Z1 k kR zR ⟨4 + r.val, by omega⟩ f) _ _ _ (fun f i => qR 4 f (tok k 1 i)) (fun f i => qR 5 f (tok k 1 i))
      (v2092_val X) (v2130_val X) (v2134_val X) 0 4 8 _ _ _ _ (by decide) (by decide) (by decide) (by decide))
    i d (X.d1 _ _)

theorem q_6_5 (i d : Fin 128) : (quot (sc (tripRun.sl.v2208 c arg3 arg14 k f3) (tripRun.sl.v2212 c arg4 arg15 k f4) (tripRun.sl.v2216 c arg4 arg5 arg9 arg11 arg15 arg16 k f4 f5 f9 f15 f16)) (num (vhi (View.readAt (Elt Ideal) arg5.view (Rect.unit (s := S1x512x8x128) (k0_off16 k) S1x128x2x128.size (k0_off16_inb k)).toLoadRect f5)) (tripRun.sl.v2208 c arg3 arg14 k f3) (tripRun.sl.v2212 c arg4 arg15 k f4) (tripRun.sl.v2216 c arg4 arg5 arg9 arg11 arg15 arg16 k f4 f5 f9 f15 f16) (tripRun.sl.v2222 c arg4 arg5 arg9 arg11 arg15 arg16 k f4 f5 f9 f15 f16) (tripRun.sl.v2226 c arg4 arg5 arg9 arg11 arg15 arg16 k f4 f5 f9 f15 f16)) (dRow (denT (tripRun.sl.v2092 c arg4 arg12 arg15 v10 v11 k f4 f12 f15) (tripRun.sl.v2130 c arg3 arg13 k f3) (tripRun.sl.v2134 c arg3 arg13 k f3)) 1 5 9 128 slices_S16x256_o0_128_S16x128 slices_S16x128_o1_0_S1x128 slices_S16x128_o5_0_S1x128 slices_S16x128_o9_0_S1x128)) (ix2 i d) = ((Y1 k qR kR vR sR zR 5 i d : ℝ) : EReal) :=
  quot_val _ _ _ (A k qR kR 1 5) (Nm k qR kR vR 1 (S1 k kR vR sR) 5) (fun i => ∑ f, Z1 k kR zR 5 f * qR 5 f (tok k 1 i))
    (sc_val (fun i f => qR 5 f (tok k 1 i)) (fun f j => kR 5 f (tok k 1 j)) _ _ _ (v2208_val' X) (v2212_val X))
    (num_val (fun i f => qR 5 f (tok k 1 i)) (fun f j => kR 5 f (tok k 1 j)) (S1 k kR vR sR 5) (fun j d => vR (tok k 1 j) 5 d) _ _ _ _ _ _
      (fun j d => (vhi_val _ j d).trans ((ld5 arg5 f5 k 1 4 _ (k0_off16_eq k) _ j 1 (by decide) d).trans (X.h5 _ _ _)))
      (v2208_val' X) (v2212_val X) (v2216_val X) (v2222_val X) (v2226_val X))
    (den1 (fun r f => Z1 k kR zR ⟨4 + r.val, by omega⟩ f) _ _ _ (fun f i => qR 4 f (tok k 1 i)) (fun f i => qR 5 f (tok k 1 i))
      (v2092_val X) (v2130_val X) (v2134_val X) 1 5 9 _ _ _ _ (by decide) (by decide) (by decide) (by decide))
    i d (X.d1 _ _)

theorem y_6 (i : Fin 128) (a : Fin 2) (d : Fin 128) : ((k0_pay399 k0_pay7 k0_pay8 (tripRun.sl.r_124 c arg5 k f5) (tripRun.sl.r_125 c arg3 arg4 arg12 arg13 arg15 v10 v11 k f3 f4 f12 f15) (tripRun.sl.r_131 c arg3 arg4 arg5 arg9 arg11 arg12 arg13 arg14 arg15 arg16 v10 v11 k f3 f4 f5 f9 f12 f15 f16) (tripRun.sl.r_133 c arg3 arg4 arg5 arg9 arg11 arg14 arg15 arg16 k f3 f4 f5 f9 f15 f16) (tripRun.sl.r_134 c arg3 arg4 arg5 arg9 arg11 arg14 arg15 arg16 k f3 f4 f5 f9 f15 f16) (tripRun.sl.r_135 c arg3 arg4 arg5 arg9 arg11 arg14 arg15 arg16 k f3 f4 f5 f9 f15 f16) (tripRun.sl.r_136 c arg3 arg4 arg5 arg9 arg11 arg14 arg15 arg16 k f3 f4 f5 f9 f15 f16) (tripRun.sl.r_137 c arg3 arg4 arg5 arg9 arg11 arg14 arg15 arg16 k f3 f4 f5 f9 f15 f16)) : Vec Ideal S1x128x2x128 .bf16) (ix4 0 i a d) = ((Y1 k qR kR vR sR zR ⟨4 + a.val, by omega⟩ i d : ℝ) : EReal) := by
  refine (congrFun (show ((k0_pay399 k0_pay7 k0_pay8 (tripRun.sl.r_124 c arg5 k f5) (tripRun.sl.r_125 c arg3 arg4 arg12 arg13 arg15 v10 v11 k f3 f4 f12 f15) (tripRun.sl.r_131 c arg3 arg4 arg5 arg9 arg11 arg12 arg13 arg14 arg15 arg16 v10 v11 k f3 f4 f5 f9 f12 f15 f16) (tripRun.sl.r_133 c arg3 arg4 arg5 arg9 arg11 arg14 arg15 arg16 k f3 f4 f5 f9 f15 f16) (tripRun.sl.r_134 c arg3 arg4 arg5 arg9 arg11 arg14 arg15 arg16 k f3 f4 f5 f9 f15 f16) (tripRun.sl.r_135 c arg3 arg4 arg5 arg9 arg11 arg14 arg15 arg16 k f3 f4 f5 f9 f15 f16) (tripRun.sl.r_136 c arg3 arg4 arg5 arg9 arg11 arg14 arg15 arg16 k f3 f4 f5 f9 f15 f16) (tripRun.sl.r_137 c arg3 arg4 arg5 arg9 arg11 arg14 arg15 arg16 k f3 f4 f5 f9 f15 f16)) : Vec Ideal S1x128x2x128 .bf16) = pairUp (quot (sc (tripRun.sl.v2140 c arg3 arg14 k f3) (tripRun.sl.v2144 c arg4 arg15 k f4) (tripRun.sl.v2148 c arg4 arg5 arg9 arg11 arg15 arg16 k f4 f5 f9 f15 f16)) (num (vlo (View.readAt (Elt Ideal) arg5.view (Rect.unit (s := S1x512x8x128) (k0_off16 k) S1x128x2x128.size (k0_off16_inb k)).toLoadRect f5)) (tripRun.sl.v2140 c arg3 arg14 k f3) (tripRun.sl.v2144 c arg4 arg15 k f4) (tripRun.sl.v2148 c arg4 arg5 arg9 arg11 arg15 arg16 k f4 f5 f9 f15 f16) (tripRun.sl.v2154 c arg4 arg5 arg9 arg11 arg15 arg16 k f4 f5 f9 f15 f16) (tripRun.sl.v2158 c arg4 arg5 arg9 arg11 arg15 arg16 k f4 f5 f9 f15 f16)) (dRow (denT (tripRun.sl.v2092 c arg4 arg12 arg15 v10 v11 k f4 f12 f15) (tripRun.sl.v2130 c arg3 arg13 k f3) (tripRun.sl.v2134 c arg3 arg13 k f3)) 0 4 8 0 slices_S16x256_o0_0_S16x128 slices_S16x128_o0_0_S1x128 slices_S16x128_o4_0_S1x128 slices_S16x128_o8_0_S1x128)) (quot (sc (tripRun.sl.v2208 c arg3 arg14 k f3) (tripRun.sl.v2212 c arg4 arg15 k f4) (tripRun.sl.v2216 c arg4 arg5 arg9 arg11 arg15 arg16 k f4 f5 f9 f15 f16)) (num (vhi (View.readAt (Elt Ideal) arg5.view (Rect.unit (s := S1x512x8x128) (k0_off16 k) S1x128x2x128.size (k0_off16_inb k)).toLoadRect f5)) (tripRun.sl.v2208 c arg3 arg14 k f3) (tripRun.sl.v2212 c arg4 arg15 k f4) (tripRun.sl.v2216 c arg4 arg5 arg9 arg11 arg15 arg16 k f4 f5 f9 f15 f16) (tripRun.sl.v2222 c arg4 arg5 arg9 arg11 arg15 arg16 k f4 f5 f9 f15 f16) (tripRun.sl.v2226 c arg4 arg5 arg9 arg11 arg15 arg16 k f4 f5 f9 f15 f16)) (dRow (denT (tripRun.sl.v2092 c arg4 arg12 arg15 v10 v11 k f4 f12 f15) (tripRun.sl.v2130 c arg3 arg13 k f3) (tripRun.sl.v2134 c arg3 arg13 k f3)) 1 5 9 128 slices_S16x256_o0_128_S16x128 slices_S16x128_o1_0_S1x128 slices_S16x128_o5_0_S1x128 slices_S16x128_o9_0_S1x128)) from rfl) _).trans ?_
  rw [pairUp_val]
  match a with
  | 0 => exact q_6_4 X i d
  | 1 => exact q_6_5 X i d

end Cert.KernelIdeal.Trip

end
-- ==== Proof.Val7.lean ====
/-
  The values of one sub-block: quad 1, sub-block 1, pair 1.
-/
module

public import proofs.«01_k».proof.Proof.TripRun
public import proofs.«01_k».proof.Proof.TripSt
public import proofs.«01_k».proof.Proof.Pack13
public import proofs.«01_k».proof.Proof.Pack14
public import proofs.«01_k».proof.Proof.Pack15
public import proofs.«01_k».proof.Proof.Val5
public import proofs.«01_k».proof.Proof.Val6
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem v2410_val' (i : Fin 128) (f : Fin 192) : (tripRun.sl.v2410 c arg3 arg14 k f3) (ix4 0 0 i f) = ((qR 6 f (tok k 1 i) : ℝ) : EReal) := by
  unfold tripRun.sl.v2410
  exact (sq14 arg14 _ 1 2 1 (by decide) (by decide) (by decide) _ _ _ _ _ _).trans ((pq_1_2_1 c k arg3 f3 arg14 f i).trans (X.h3 _ _ _))

theorem v2414_val (f : Fin 192) (i : Fin 128) : (tripRun.sl.v2414 c arg4 arg15 k f4) (ix4 0 0 f i) = ((kR 6 f (tok k 1 i) : ℝ) : EReal) := by
  unfold tripRun.sl.v2414
  exact (sq13 arg15 _ 1 2 1 (by decide) (by decide) (by decide) _ _ _ _ _ _).trans ((pkt_1_2_1 c k arg4 f4 arg15 f i).trans (X.h4 _ _ _))

theorem v2418_val (f : Fin 192) (d : Fin 128) : (tripRun.sl.v2418 c arg4 arg5 arg9 arg11 arg15 arg16 k f4 f5 f9 f15 f16) (ix3 0 f d) = ((S1 k kR vR sR 6 f d : ℝ) : EReal) := by
  unfold tripRun.sl.v2418
  refine (sq11 arg11 _ 6 0 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36, tripRun.sl.H11_39, tripRun.sl.H11_42]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_5_6_0 X f d

theorem v2424_val (f : Fin 192) (d : Fin 128) : (tripRun.sl.v2424 c arg4 arg5 arg9 arg11 arg15 arg16 k f4 f5 f9 f15 f16) (ix3 0 f d) = 0 := by
  unfold tripRun.sl.v2424
  refine (sq11 arg11 _ 6 1 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36, tripRun.sl.H11_39, tripRun.sl.H11_42]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_5_6_1 X f d

theorem v2428_val (f : Fin 192) (d : Fin 128) : (tripRun.sl.v2428 c arg4 arg5 arg9 arg11 arg15 arg16 k f4 f5 f9 f15 f16) (ix3 0 f d) = 0 := by
  unfold tripRun.sl.v2428
  refine (sq11 arg11 _ 6 2 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36, tripRun.sl.H11_39, tripRun.sl.H11_42]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_5_6_2 X f d

theorem v2400_val (f : Fin 192) (i : Fin 128) : (tripRun.sl.v2400 c arg3 arg13 k f3) (ix4 0 0 f i) = ((qR 6 f (tok k 1 i) : ℝ) : EReal) := by
  unfold tripRun.sl.v2400
  exact (sq13 arg13 _ 1 2 1 (by decide) (by decide) (by decide) _ _ _ _ _ _).trans ((pqt_1_2_1 c k arg3 f3 arg13 f i).trans (X.h3 _ _ _))

theorem v2404_val (f : Fin 192) (i : Fin 128) : (tripRun.sl.v2404 c arg3 arg13 k f3) (ix4 0 0 f i) = ((qR 7 f (tok k 1 i) : ℝ) : EReal) := by
  unfold tripRun.sl.v2404
  exact (sq13 arg13 _ 1 3 1 (by decide) (by decide) (by decide) _ _ _ _ _ _).trans ((pqt_1_3_1 c k arg3 f3 arg13 f i).trans (X.h3 _ _ _))

theorem v2478_val' (i : Fin 128) (f : Fin 192) : (tripRun.sl.v2478 c arg3 arg14 k f3) (ix4 0 0 i f) = ((qR 7 f (tok k 1 i) : ℝ) : EReal) := by
  unfold tripRun.sl.v2478
  exact (sq14 arg14 _ 1 3 1 (by decide) (by decide) (by decide) _ _ _ _ _ _).trans ((pq_1_3_1 c k arg3 f3 arg14 f i).trans (X.h3 _ _ _))

theorem v2482_val (f : Fin 192) (i : Fin 128) : (tripRun.sl.v2482 c arg4 arg15 k f4) (ix4 0 0 f i) = ((kR 7 f (tok k 1 i) : ℝ) : EReal) := by
  unfold tripRun.sl.v2482
  exact (sq13 arg15 _ 1 3 1 (by decide) (by decide) (by decide) _ _ _ _ _ _).trans ((pkt_1_3_1 c k arg4 f4 arg15 f i).trans (X.h4 _ _ _))

theorem v2486_val (f : Fin 192) (d : Fin 128) : (tripRun.sl.v2486 c arg4 arg5 arg9 arg11 arg15 arg16 k f4 f5 f9 f15 f16) (ix3 0 f d) = ((S1 k kR vR sR 7 f d : ℝ) : EReal) := by
  unfold tripRun.sl.v2486
  refine (sq11 arg11 _ 7 0 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36, tripRun.sl.H11_39, tripRun.sl.H11_42]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_5_7_0 X f d

theorem v2492_val (f : Fin 192) (d : Fin 128) : (tripRun.sl.v2492 c arg4 arg5 arg9 arg11 arg15 arg16 k f4 f5 f9 f15 f16) (ix3 0 f d) = 0 := by
  unfold tripRun.sl.v2492
  refine (sq11 arg11 _ 7 1 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36, tripRun.sl.H11_39, tripRun.sl.H11_42]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_5_7_1 X f d

theorem v2496_val (f : Fin 192) (d : Fin 128) : (tripRun.sl.v2496 c arg4 arg5 arg9 arg11 arg15 arg16 k f4 f5 f9 f15 f16) (ix3 0 f d) = 0 := by
  unfold tripRun.sl.v2496
  refine (sq11 arg11 _ 7 2 (by decide) (by decide) _ _ _ _ f d).trans ?_
  simp only [tripRun.sl.H11_2, tripRun.sl.H11_6, tripRun.sl.H11_9, tripRun.sl.H11_12, tripRun.sl.H11_15, tripRun.sl.H11_18, tripRun.sl.H11_23, tripRun.sl.H11_24, tripRun.sl.H11_26, tripRun.sl.H11_30, tripRun.sl.H11_33, tripRun.sl.H11_36, tripRun.sl.H11_39, tripRun.sl.H11_42]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_5_7_2 X f d

theorem v2561_on (j d : Fin 128) : (tripRun.sl.v2561 c arg5 arg16 k f5 f16) (ix4 0 0 ⟨j.val, by omega⟩ d) = ((vR (tok k 1 j) 6 d : ℝ) : EReal) := by
  unfold tripRun.sl.v2561
  refine (sq16 arg16 _ 1 1 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12, tripRun.sl.H16_13, tripRun.sl.H16_14, tripRun.sl.H16_15, tripRun.sl.H16_16]
  rw [miss16 _ _ _ _ _ _ _ _ _ _ _ _ _ _ _ _ _ (.inl (by decide))]
  rw [show (⟨j.val, by omega⟩ : Fin 256) = ⟨0 + j.val, by omega⟩ from Fin.ext (Nat.zero_add _).symm]
  rw [hit16]
  pointwise [k0_pay421, k0_pay419]
  exact (ld5 arg5 f5 k 1 6 _ (k0_off17_eq k) _ j 0 (by decide) d).trans (X.h5 _ _ _)

theorem v2561_off (j d : Fin 128) : (tripRun.sl.v2561 c arg5 arg16 k f5 f16) (ix4 0 0 ⟨128 + j.val, by omega⟩ d) = 0 := by
  unfold tripRun.sl.v2561
  refine (sq16 arg16 _ 1 1 0 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12, tripRun.sl.H16_13, tripRun.sl.H16_14, tripRun.sl.H16_15, tripRun.sl.H16_16]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inr (by right; show 0 + 128 ≤ 128 + j.val; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (128 + j.val) / 128 ≠ 0; omega)

theorem v2565_on (j d : Fin 128) : (tripRun.sl.v2565 c arg5 arg16 k f5 f16) (ix4 0 0 ⟨128 + j.val, by omega⟩ d) = ((vR (tok k 1 j) 7 d : ℝ) : EReal) := by
  unfold tripRun.sl.v2565
  refine (sq16 arg16 _ 1 1 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12, tripRun.sl.H16_13, tripRun.sl.H16_14, tripRun.sl.H16_15, tripRun.sl.H16_16]
  rw [hit16]
  pointwise [k0_pay422, k0_pay420]
  exact (ld5 arg5 f5 k 1 6 _ (k0_off17_eq k) _ j 1 (by decide) d).trans (X.h5 _ _ _)

theorem v2565_off (j d : Fin 128) : (tripRun.sl.v2565 c arg5 arg16 k f5 f16) (ix4 0 0 ⟨j.val, by omega⟩ d) = 0 := by
  unfold tripRun.sl.v2565
  refine (sq16 arg16 _ 1 1 1 (by decide) (by decide) (by decide) _ _ _ _ _ d).trans ?_
  simp only [tripRun.sl.H16_1, tripRun.sl.H16_2, tripRun.sl.H16_3, tripRun.sl.H16_4, tripRun.sl.H16_5, tripRun.sl.H16_6, tripRun.sl.H16_7, tripRun.sl.H16_8, tripRun.sl.H16_9, tripRun.sl.H16_10, tripRun.sl.H16_11, tripRun.sl.H16_12, tripRun.sl.H16_13, tripRun.sl.H16_14, tripRun.sl.H16_15, tripRun.sl.H16_16]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inr (by left; show j.val < 128; omega))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  rw [miss16 _ _ _ _ _ _ _ _ _ _ _ _ _ _ _ _ _ (.inl (by decide))]
  exact X.h16 _ _ _ _ _ (by show (j.val) / 128 ≠ 1; omega)

theorem v2569_val (f : Fin 192) (d : Fin 128) : (tripRun.sl.v2569 c arg4 arg5 arg9 arg15 arg16 k f4 f5 f9 f15 f16) (ix4 0 0 f d) = ((S1 k kR vR sR 6 f d : ℝ) : EReal) := by
  unfold tripRun.sl.v2569
  unfold View.readCov
  refine (ld9 arg9 _ 6 (by decide) _ f d).trans ?_
  simp only [tripRun.sl.H9_1, tripRun.sl.H9_2, tripRun.sl.H9_4, tripRun.sl.H9_5, tripRun.sl.H9_6, tripRun.sl.H9_7, tripRun.sl.H9_8, tripRun.sl.H9_9, tripRun.sl.H9_10, tripRun.sl.H9_12, tripRun.sl.H9_13, tripRun.sl.H9_14]
  rw [miss9 _ _ _ _ _ _ _ _ _ _ (by decide)]
  rw [miss9 _ _ _ _ _ _ _ _ _ _ (by decide)]
  rw [miss9 _ _ _ _ _ _ _ _ _ _ (by decide)]
  rw [hit9]
  exact s_5_6 X f d

theorem v2592_val (f : Fin 192) (d : Fin 128) : (tripRun.sl.v2592 c arg4 arg5 arg9 arg15 arg16 k f4 f5 f9 f15 f16) (ix4 0 0 f d) = ((S1 k kR vR sR 7 f d : ℝ) : EReal) := by
  unfold tripRun.sl.v2592
  unfold View.readCov
  refine (ld9 arg9 _ 7 (by decide) _ f d).trans ?_
  simp only [tripRun.sl.H9_1, tripRun.sl.H9_2, tripRun.sl.H9_4, tripRun.sl.H9_5, tripRun.sl.H9_6, tripRun.sl.H9_7, tripRun.sl.H9_8, tripRun.sl.H9_9, tripRun.sl.H9_10, tripRun.sl.H9_12, tripRun.sl.H9_13, tripRun.sl.H9_14, tripRun.sl.H9_15]
  rw [miss9 _ _ _ _ _ _ _ _ _ _ (by decide)]
  rw [miss9 _ _ _ _ _ _ _ _ _ _ (by decide)]
  rw [miss9 _ _ _ _ _ _ _ _ _ _ (by decide)]
  rw [hit9]
  exact s_5_7 X f d

theorem st_7_6 (f : Fin 192) (d : Fin 128) : (st 0 slices_S192x256_o0_0_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2569 c arg4 arg5 arg9 arg15 arg16 k f4 f5 f9 f15 f16)) (ix2 f d) = ((S2 k kR vR sR 6 f d : ℝ) : EReal) :=
  incr_val0 (S1 k kR vR sR 6) (fun j d => vR (tok k 1 j) 6 d) (tripRun.sl.v2414 c arg4 arg15 k f4) (tripRun.sl.v2482 c arg4 arg15 k f4) (tripRun.sl.v2561 c arg5 arg16 k f5 f16) (tripRun.sl.v2565 c arg5 arg16 k f5 f16) (fun f j => kR 6 f (tok k 1 j))
    (v2414_val X) (v2561_on X) (v2561_off X) _ (tripRun.sl.v2569 c arg4 arg5 arg9 arg15 arg16 k f4 f5 f9 f15 f16) (v2569_val X) f d

theorem s_7_6 (f : Fin 192) (d : Fin 128) : ((k0_pay443 (tripRun.sl.r_161 c arg4 arg15 k f4) (tripRun.sl.v2561 c arg5 arg16 k f5 f16) (tripRun.sl.v2565 c arg5 arg16 k f5 f16) (tripRun.sl.v2569 c arg4 arg5 arg9 arg15 arg16 k f4 f5 f9 f15 f16)) : FVec Ideal S1x1x192x128 .f32) (ix4 0 0 f d) = ((S2 k kR vR sR 6 f d : ℝ) : EReal) := by
  refine (congrFun (show ((k0_pay443 (tripRun.sl.r_161 c arg4 arg15 k f4) (tripRun.sl.v2561 c arg5 arg16 k f5 f16) (tripRun.sl.v2565 c arg5 arg16 k f5 f16) (tripRun.sl.v2569 c arg4 arg5 arg9 arg15 arg16 k f4 f5 f9 f15 f16)) : FVec Ideal S1x1x192x128 .f32) = put32 (st 0 slices_S192x256_o0_0_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2569 c arg4 arg5 arg9 arg15 arg16 k f4 f5 f9 f15 f16)) from rfl) _).trans ?_
  rw [put32_val]
  exact st_7_6 X f d

theorem sp_7_6_0 (f : Fin 192) (d : Fin 128) : ((k0_pay447 (tripRun.sl.r_161 c arg4 arg15 k f4) (tripRun.sl.v2561 c arg5 arg16 k f5 f16) (tripRun.sl.v2565 c arg5 arg16 k f5 f16) (tripRun.sl.v2569 c arg4 arg5 arg9 arg15 arg16 k f4 f5 f9 f15 f16)) : FVec Ideal S1x1x192x128 .bf16) (ix4 0 0 f d) = ((S2 k kR vR sR 6 f d : ℝ) : EReal) := by
  refine (congrFun (show ((k0_pay447 (tripRun.sl.r_161 c arg4 arg15 k f4) (tripRun.sl.v2561 c arg5 arg16 k f5 f16) (tripRun.sl.v2565 c arg5 arg16 k f5 f16) (tripRun.sl.v2569 c arg4 arg5 arg9 arg15 arg16 k f4 f5 f9 f15 f16)) : FVec Ideal S1x1x192x128 .bf16) = put16 (st 0 slices_S192x256_o0_0_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2569 c arg4 arg5 arg9 arg15 arg16 k f4 f5 f9 f15 f16)) from rfl) _).trans ?_
  rw [put16_val]
  exact st_7_6 X f d

theorem sp_7_6_1 (f : Fin 192) (d : Fin 128) : ((k0_pay448 (tripRun.sl.r_163 c arg4 arg5 arg9 arg15 arg16 k f4 f5 f9 f15 f16)) : FVec Ideal S1x1x192x128 .bf16) (ix4 0 0 f d) = 0 := by
  refine (congrFun (show ((k0_pay448 (tripRun.sl.r_163 c arg4 arg5 arg9 arg15 arg16 k f4 f5 f9 f15 f16)) : FVec Ideal S1x1x192x128 .bf16) = put16 (rest (st 0 slices_S192x256_o0_0_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2569 c arg4 arg5 arg9 arg15 arg16 k f4 f5 f9 f15 f16))) from rfl) _).trans ?_
  rw [put16_val]
  exact rest_val _ _ (st_7_6 X) f d

theorem sp_7_6_2 (f : Fin 192) (d : Fin 128) : ((k0_pay449 (tripRun.sl.r_164 c arg4 arg5 arg9 arg15 arg16 k f4 f5 f9 f15 f16)) : FVec Ideal S1x1x192x128 .bf16) (ix4 0 0 f d) = 0 := by
  refine (congrFun (show ((k0_pay449 (tripRun.sl.r_164 c arg4 arg5 arg9 arg15 arg16 k f4 f5 f9 f15 f16)) : FVec Ideal S1x1x192x128 .bf16) = put16 (rest (rest (st 0 slices_S192x256_o0_0_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2569 c arg4 arg5 arg9 arg15 arg16 k f4 f5 f9 f15 f16)))) from rfl) _).trans ?_
  rw [put16_val]
  exact rest_rest_val _ _ (st_7_6 X) f d

theorem st_7_7 (f : Fin 192) (d : Fin 128) : (st 128 slices_S192x256_o0_128_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2592 c arg4 arg5 arg9 arg15 arg16 k f4 f5 f9 f15 f16)) (ix2 f d) = ((S2 k kR vR sR 7 f d : ℝ) : EReal) :=
  incr_val1 (S1 k kR vR sR 7) (fun j d => vR (tok k 1 j) 7 d) (tripRun.sl.v2414 c arg4 arg15 k f4) (tripRun.sl.v2482 c arg4 arg15 k f4) (tripRun.sl.v2561 c arg5 arg16 k f5 f16) (tripRun.sl.v2565 c arg5 arg16 k f5 f16) (fun f j => kR 7 f (tok k 1 j))
    (v2482_val X) (v2565_on X) (v2565_off X) _ (tripRun.sl.v2592 c arg4 arg5 arg9 arg15 arg16 k f4 f5 f9 f15 f16) (v2592_val X) f d

theorem s_7_7 (f : Fin 192) (d : Fin 128) : ((k0_pay451 (tripRun.sl.r_162 c arg4 arg5 arg15 arg16 k f4 f5 f16) (tripRun.sl.v2592 c arg4 arg5 arg9 arg15 arg16 k f4 f5 f9 f15 f16)) : FVec Ideal S1x1x192x128 .f32) (ix4 0 0 f d) = ((S2 k kR vR sR 7 f d : ℝ) : EReal) := by
  refine (congrFun (show ((k0_pay451 (tripRun.sl.r_162 c arg4 arg5 arg15 arg16 k f4 f5 f16) (tripRun.sl.v2592 c arg4 arg5 arg9 arg15 arg16 k f4 f5 f9 f15 f16)) : FVec Ideal S1x1x192x128 .f32) = put32 (st 128 slices_S192x256_o0_128_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2592 c arg4 arg5 arg9 arg15 arg16 k f4 f5 f9 f15 f16)) from rfl) _).trans ?_
  rw [put32_val]
  exact st_7_7 X f d

theorem sp_7_7_0 (f : Fin 192) (d : Fin 128) : ((k0_pay453 (tripRun.sl.r_162 c arg4 arg5 arg15 arg16 k f4 f5 f16) (tripRun.sl.v2592 c arg4 arg5 arg9 arg15 arg16 k f4 f5 f9 f15 f16)) : FVec Ideal S1x1x192x128 .bf16) (ix4 0 0 f d) = ((S2 k kR vR sR 7 f d : ℝ) : EReal) := by
  refine (congrFun (show ((k0_pay453 (tripRun.sl.r_162 c arg4 arg5 arg15 arg16 k f4 f5 f16) (tripRun.sl.v2592 c arg4 arg5 arg9 arg15 arg16 k f4 f5 f9 f15 f16)) : FVec Ideal S1x1x192x128 .bf16) = put16 (st 128 slices_S192x256_o0_128_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2592 c arg4 arg5 arg9 arg15 arg16 k f4 f5 f9 f15 f16)) from rfl) _).trans ?_
  rw [put16_val]
  exact st_7_7 X f d

theorem sp_7_7_1 (f : Fin 192) (d : Fin 128) : ((k0_pay454 (tripRun.sl.r_162 c arg4 arg5 arg15 arg16 k f4 f5 f16) (tripRun.sl.v2592 c arg4 arg5 arg9 arg15 arg16 k f4 f5 f9 f15 f16)) : FVec Ideal S1x1x192x128 .bf16) (ix4 0 0 f d) = 0 := by
  refine (congrFun (show ((k0_pay454 (tripRun.sl.r_162 c arg4 arg5 arg15 arg16 k f4 f5 f16) (tripRun.sl.v2592 c arg4 arg5 arg9 arg15 arg16 k f4 f5 f9 f15 f16)) : FVec Ideal S1x1x192x128 .bf16) = put16 (rest (st 128 slices_S192x256_o0_128_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2592 c arg4 arg5 arg9 arg15 arg16 k f4 f5 f9 f15 f16))) from rfl) _).trans ?_
  rw [put16_val]
  exact rest_val _ _ (st_7_7 X) f d

theorem sp_7_7_2 (f : Fin 192) (d : Fin 128) : ((k0_pay455 (tripRun.sl.r_162 c arg4 arg5 arg15 arg16 k f4 f5 f16) (tripRun.sl.v2592 c arg4 arg5 arg9 arg15 arg16 k f4 f5 f9 f15 f16)) : FVec Ideal S1x1x192x128 .bf16) (ix4 0 0 f d) = 0 := by
  refine (congrFun (show ((k0_pay455 (tripRun.sl.r_162 c arg4 arg5 arg15 arg16 k f4 f5 f16) (tripRun.sl.v2592 c arg4 arg5 arg9 arg15 arg16 k f4 f5 f9 f15 f16)) : FVec Ideal S1x1x192x128 .bf16) = put16 (rest (rest (st 128 slices_S192x256_o0_128_S192x128 (incr (tripRun.sl.v2414 c arg4 arg15 k f4) (tripRun.sl.v2482 c arg4 arg15 k f4) (tripRun.sl.v2561 c arg5 arg16 k f5 f16) (tripRun.sl.v2565 c arg5 arg16 k f5 f16)) (tripRun.sl.v2592 c arg4 arg5 arg9 arg15 arg16 k f4 f5 f9 f15 f16)))) from rfl) _).trans ?_
  rw [put16_val]
  exact rest_rest_val _ _ (st_7_7 X) f d

theorem q_7_6 (i d : Fin 128) : (quot (sc (tripRun.sl.v2410 c arg3 arg14 k f3) (tripRun.sl.v2414 c arg4 arg15 k f4) (tripRun.sl.v2418 c arg4 arg5 arg9 arg11 arg15 arg16 k f4 f5 f9 f15 f16)) (num (vlo (View.readAt (Elt Ideal) arg5.view (Rect.unit (s := S1x512x8x128) (k0_off17 k) S1x128x2x128.size (k0_off17_inb k)).toLoadRect f5)) (tripRun.sl.v2410 c arg3 arg14 k f3) (tripRun.sl.v2414 c arg4 arg15 k f4) (tripRun.sl.v2418 c arg4 arg5 arg9 arg11 arg15 arg16 k f4 f5 f9 f15 f16) (tripRun.sl.v2424 c arg4 arg5 arg9 arg11 arg15 arg16 k f4 f5 f9 f15 f16) (tripRun.sl.v2428 c arg4 arg5 arg9 arg11 arg15 arg16 k f4 f5 f9 f15 f16)) (dRow (denT (tripRun.sl.v2092 c arg4 arg12 arg15 v10 v11 k f4 f12 f15) (tripRun.sl.v2400 c arg3 arg13 k f3) (tripRun.sl.v2404 c arg3 arg13 k f3)) 2 6 10 0 slices_S16x256_o0_0_S16x128 slices_S16x128_o2_0_S1x128 slices_S16x128_o6_0_S1x128 slices_S16x128_o10_0_S1x128)) (ix2 i d) = ((Y1 k qR kR vR sR zR 6 i d : ℝ) : EReal) :=
  quot_val _ _ _ (A k qR kR 1 6) (Nm k qR kR vR 1 (S1 k kR vR sR) 6) (fun i => ∑ f, Z1 k kR zR 6 f * qR 6 f (tok k 1 i))
    (sc_val (fun i f => qR 6 f (tok k 1 i)) (fun f j => kR 6 f (tok k 1 j)) _ _ _ (v2410_val' X) (v2414_val X))
    (num_val (fun i f => qR 6 f (tok k 1 i)) (fun f j => kR 6 f (tok k 1 j)) (S1 k kR vR sR 6) (fun j d => vR (tok k 1 j) 6 d) _ _ _ _ _ _
      (fun j d => (vlo_val _ j d).trans ((ld5 arg5 f5 k 1 6 _ (k0_off17_eq k) _ j 0 (by decide) d).trans (X.h5 _ _ _)))
      (v2410_val' X) (v2414_val X) (v2418_val X) (v2424_val X) (v2428_val X))
    (den0 (fun r f => Z1 k kR zR ⟨4 + r.val, by omega⟩ f) _ _ _ (fun f i => qR 6 f (tok k 1 i)) (fun f i => qR 7 f (tok k 1 i))
      (v2092_val X) (v2400_val X) (v2404_val X) 2 6 10 _ _ _ _ (by decide) (by decide) (by decide) (by decide))
    i d (X.d1 _ _)

theorem q_7_7 (i d : Fin 128) : (quot (sc (tripRun.sl.v2478 c arg3 arg14 k f3) (tripRun.sl.v2482 c arg4 arg15 k f4) (tripRun.sl.v2486 c arg4 arg5 arg9 arg11 arg15 arg16 k f4 f5 f9 f15 f16)) (num (vhi (View.readAt (Elt Ideal) arg5.view (Rect.unit (s := S1x512x8x128) (k0_off17 k) S1x128x2x128.size (k0_off17_inb k)).toLoadRect f5)) (tripRun.sl.v2478 c arg3 arg14 k f3) (tripRun.sl.v2482 c arg4 arg15 k f4) (tripRun.sl.v2486 c arg4 arg5 arg9 arg11 arg15 arg16 k f4 f5 f9 f15 f16) (tripRun.sl.v2492 c arg4 arg5 arg9 arg11 arg15 arg16 k f4 f5 f9 f15 f16) (tripRun.sl.v2496 c arg4 arg5 arg9 arg11 arg15 arg16 k f4 f5 f9 f15 f16)) (dRow (denT (tripRun.sl.v2092 c arg4 arg12 arg15 v10 v11 k f4 f12 f15) (tripRun.sl.v2400 c arg3 arg13 k f3) (tripRun.sl.v2404 c arg3 arg13 k f3)) 3 7 11 128 slices_S16x256_o0_128_S16x128 slices_S16x128_o3_0_S1x128 slices_S16x128_o7_0_S1x128 slices_S16x128_o11_0_S1x128)) (ix2 i d) = ((Y1 k qR kR vR sR zR 7 i d : ℝ) : EReal) :=
  quot_val _ _ _ (A k qR kR 1 7) (Nm k qR kR vR 1 (S1 k kR vR sR) 7) (fun i => ∑ f, Z1 k kR zR 7 f * qR 7 f (tok k 1 i))
    (sc_val (fun i f => qR 7 f (tok k 1 i)) (fun f j => kR 7 f (tok k 1 j)) _ _ _ (v2478_val' X) (v2482_val X))
    (num_val (fun i f => qR 7 f (tok k 1 i)) (fun f j => kR 7 f (tok k 1 j)) (S1 k kR vR sR 7) (fun j d => vR (tok k 1 j) 7 d) _ _ _ _ _ _
      (fun j d => (vhi_val _ j d).trans ((ld5 arg5 f5 k 1 6 _ (k0_off17_eq k) _ j 1 (by decide) d).trans (X.h5 _ _ _)))
      (v2478_val' X) (v2482_val X) (v2486_val X) (v2492_val X) (v2496_val X))
    (den1 (fun r f => Z1 k kR zR ⟨4 + r.val, by omega⟩ f) _ _ _ (fun f i => qR 6 f (tok k 1 i)) (fun f i => qR 7 f (tok k 1 i))
      (v2092_val X) (v2400_val X) (v2404_val X) 3 7 11 _ _ _ _ (by decide) (by decide) (by decide) (by decide))
    i d (X.d1 _ _)

theorem y_7 (i : Fin 128) (a : Fin 2) (d : Fin 128) : ((k0_pay439 k0_pay7 (tripRun.sl.r_154 c arg3 arg4 arg5 arg9 arg11 arg12 arg13 arg14 arg15 arg16 v10 v11 k f3 f4 f5 f9 f12 f15 f16) (tripRun.sl.r_157 c arg3 arg4 arg5 arg9 arg11 arg14 arg15 arg16 k f3 f4 f5 f9 f15 f16) (tripRun.sl.r_158 c arg3 arg4 arg5 arg9 arg11 arg14 arg15 arg16 k f3 f4 f5 f9 f15 f16) (tripRun.sl.r_159 c arg3 arg4 arg12 arg13 arg15 v10 v11 k f3 f4 f12 f15) (tripRun.sl.r_160 c arg3 arg4 arg12 arg13 arg15 v10 v11 k f3 f4 f12 f15)) : Vec Ideal S1x128x2x128 .bf16) (ix4 0 i a d) = ((Y1 k qR kR vR sR zR ⟨6 + a.val, by omega⟩ i d : ℝ) : EReal) := by
  refine (congrFun (show ((k0_pay439 k0_pay7 (tripRun.sl.r_154 c arg3 arg4 arg5 arg9 arg11 arg12 arg13 arg14 arg15 arg16 v10 v11 k f3 f4 f5 f9 f12 f15 f16) (tripRun.sl.r_157 c arg3 arg4 arg5 arg9 arg11 arg14 arg15 arg16 k f3 f4 f5 f9 f15 f16) (tripRun.sl.r_158 c arg3 arg4 arg5 arg9 arg11 arg14 arg15 arg16 k f3 f4 f5 f9 f15 f16) (tripRun.sl.r_159 c arg3 arg4 arg12 arg13 arg15 v10 v11 k f3 f4 f12 f15) (tripRun.sl.r_160 c arg3 arg4 arg12 arg13 arg15 v10 v11 k f3 f4 f12 f15)) : Vec Ideal S1x128x2x128 .bf16) = pairUp (quot (sc (tripRun.sl.v2410 c arg3 arg14 k f3) (tripRun.sl.v2414 c arg4 arg15 k f4) (tripRun.sl.v2418 c arg4 arg5 arg9 arg11 arg15 arg16 k f4 f5 f9 f15 f16)) (num (vlo (View.readAt (Elt Ideal) arg5.view (Rect.unit (s := S1x512x8x128) (k0_off17 k) S1x128x2x128.size (k0_off17_inb k)).toLoadRect f5)) (tripRun.sl.v2410 c arg3 arg14 k f3) (tripRun.sl.v2414 c arg4 arg15 k f4) (tripRun.sl.v2418 c arg4 arg5 arg9 arg11 arg15 arg16 k f4 f5 f9 f15 f16) (tripRun.sl.v2424 c arg4 arg5 arg9 arg11 arg15 arg16 k f4 f5 f9 f15 f16) (tripRun.sl.v2428 c arg4 arg5 arg9 arg11 arg15 arg16 k f4 f5 f9 f15 f16)) (dRow (denT (tripRun.sl.v2092 c arg4 arg12 arg15 v10 v11 k f4 f12 f15) (tripRun.sl.v2400 c arg3 arg13 k f3) (tripRun.sl.v2404 c arg3 arg13 k f3)) 2 6 10 0 slices_S16x256_o0_0_S16x128 slices_S16x128_o2_0_S1x128 slices_S16x128_o6_0_S1x128 slices_S16x128_o10_0_S1x128)) (quot (sc (tripRun.sl.v2478 c arg3 arg14 k f3) (tripRun.sl.v2482 c arg4 arg15 k f4) (tripRun.sl.v2486 c arg4 arg5 arg9 arg11 arg15 arg16 k f4 f5 f9 f15 f16)) (num (vhi (View.readAt (Elt Ideal) arg5.view (Rect.unit (s := S1x512x8x128) (k0_off17 k) S1x128x2x128.size (k0_off17_inb k)).toLoadRect f5)) (tripRun.sl.v2478 c arg3 arg14 k f3) (tripRun.sl.v2482 c arg4 arg15 k f4) (tripRun.sl.v2486 c arg4 arg5 arg9 arg11 arg15 arg16 k f4 f5 f9 f15 f16) (tripRun.sl.v2492 c arg4 arg5 arg9 arg11 arg15 arg16 k f4 f5 f9 f15 f16) (tripRun.sl.v2496 c arg4 arg5 arg9 arg11 arg15 arg16 k f4 f5 f9 f15 f16)) (dRow (denT (tripRun.sl.v2092 c arg4 arg12 arg15 v10 v11 k f4 f12 f15) (tripRun.sl.v2400 c arg3 arg13 k f3) (tripRun.sl.v2404 c arg3 arg13 k f3)) 3 7 11 128 slices_S16x256_o0_128_S16x128 slices_S16x128_o3_0_S1x128 slices_S16x128_o7_0_S1x128 slices_S16x128_o11_0_S1x128)) from rfl) _).trans ?_
  rw [pairUp_val]
  match a with
  | 0 => exact q_7_6 X i d
  | 1 => exact q_7_7 X i d

theorem z_1_1 (r : Fin 4) (f : Fin 192) : ((k0_pay9 (tripRun.sl.r_121 c arg4 arg12 arg15 v10 v11 k f4 f12 f15) (tripRun.sl.r_144 c arg4 arg15 v10 v11 k f4) (tripRun.sl.r_161 c arg4 arg15 k f4) (tripRun.sl.r_165 v10) (k0_pay457 v11)) : FVec Ideal S1x4x192 .f32) (ix3 0 r f) = ((Z2 k kR zR ⟨4 + r.val, by omega⟩ f : ℝ) : EReal) := by
  refine (congrFun (show ((k0_pay9 (tripRun.sl.r_121 c arg4 arg12 arg15 v10 v11 k f4 f12 f15) (tripRun.sl.r_144 c arg4 arg15 v10 v11 k f4) (tripRun.sl.r_161 c arg4 arg15 k f4) (tripRun.sl.r_165 v10) (k0_pay457 v11)) : FVec Ideal S1x4x192 .f32) = zNew v10 v11 (tripRun.sl.v2092 c arg4 arg12 arg15 v10 v11 k f4 f12 f15) (keys (tripRun.sl.v2144 c arg4 arg15 k f4) (tripRun.sl.v2212 c arg4 arg15 k f4)) (keys (tripRun.sl.v2414 c arg4 arg15 k f4) (tripRun.sl.v2482 c arg4 arg15 k f4)) from rfl) _).trans ?_
  exact zNew_val v10 v11 X.i10 X.i11 (fun r f => Z1 k kR zR ⟨4 + r.val, by omega⟩ f) _ _ _ _ _ (fun r f j => kR ⟨4 + r.val, by omega⟩ f (tok k 1 j))
    (v2092_val X) (v2144_val X) (v2212_val X) (v2414_val X) (v2482_val X) r f

end Cert.KernelIdeal.Trip

end
-- ==== Proof.TripSem.lean ====
/-
  What a trip of the token loop leaves in every buffer it writes, read at an index.
-/
module

public import proofs.«01_k».proof.Proof.TripRun
public import proofs.«01_k».proof.Proof.Val0
public import proofs.«01_k».proof.Proof.Val1
public import proofs.«01_k».proof.Proof.Val2
public import proofs.«01_k».proof.Proof.Val3
public import proofs.«01_k».proof.Proof.Val4
public import proofs.«01_k».proof.Proof.Val5
public import proofs.«01_k».proof.Proof.Val6
public import proofs.«01_k».proof.Proof.Val7
public import proofs.«01_k».proof.Proof.Geo

@[expose] public section

set_option maxRecDepth 16384

noncomputable section

namespace Cert.KernelIdeal.Trip

open Cert.KernelIdeal Cert.KernelIdeal.Gen Cert.KernelIdeal.Geo
open Cert.KernelIdeal.Head
open Idealize.ShloMosaic Idealize.ShloMosaic.TcCoe

variable {c : Dev nD} {k : Fin k0_t1_loop.trips} {v10 v11 : IVec S16x256 32}
  {arg3 : Memref sig .tc .vmem S1x8x192x512 .bf16} {f3 : Bf (F := Ideal) c arg3}
  {arg4 : Memref sig .tc .vmem S1x8x192x512 .bf16} {f4 : Bf (F := Ideal) c arg4}
  {arg5 : Memref sig .tc .vmem S1x512x8x128 .bf16} {f5 : Bf (F := Ideal) c arg5}
  {arg9 : Memref sig .tc .vmem S1x8x192x128 .f32} {f9 : Bf (F := Ideal) c arg9}
  {arg11 : Memref sig .tc .vmem S8x3x192x128 .bf16} {f11 : Bf (F := Ideal) c arg11}
  {arg12 : Memref sig .tc .vmem S2x4x192 .f32} {f12 : Bf (F := Ideal) c arg12}
  {arg13 : Memref sig .tc .vmem S2x4x2x192x128 .bf16} {f13 : Bf (F := Ideal) c arg13}
  {arg14 : Memref sig .tc .vmem S2x4x2x128x192 .bf16} {f14 : Bf (F := Ideal) c arg14}
  {arg15 : Memref sig .tc .vmem S2x4x2x192x128 .bf16} {f15 : Bf (F := Ideal) c arg15}
  {arg16 : Memref sig .tc .vmem S2x2x2x256x128 .bf16} {f16 : Bf (F := Ideal) c arg16}
  {arg8 : Memref sig .tc .vmem S1x512x8x128 .bf16} {f8 : Bf (F := Ideal) c arg8}
  {qR kR : Fin 8 → Fin 192 → Fin 512 → ℝ} {vR : Fin 512 → Fin 8 → Fin 128 → ℝ}
  {sR : Fin 8 → Fin 192 → Fin 128 → ℝ} {zR : Fin 8 → Fin 192 → ℝ}
  (X : St c k v10 v11 arg3 f3 arg4 f4 arg5 f5 arg9 f9 arg11 f11 arg12 f12 arg16 f16 qR kR vR sR zR)
include X

theorem w9_0 (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 ⟨0, by decide⟩ f d) = ((S2 k kR vR sR 0 f d : ℝ) : EReal) := by
  simp only [tripRun.sl.H9_15, tripRun.sl.H9_14, tripRun.sl.H9_13, tripRun.sl.H9_12, tripRun.sl.H9_10, tripRun.sl.H9_9, tripRun.sl.H9_8, tripRun.sl.H9_7, tripRun.sl.H9_6, tripRun.sl.H9_5, tripRun.sl.H9_4, tripRun.sl.H9_2, tripRun.sl.H9_1]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [hit9]
  exact s_2_0 X f d

theorem w9_1 (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 ⟨1, by decide⟩ f d) = ((S2 k kR vR sR 1 f d : ℝ) : EReal) := by
  simp only [tripRun.sl.H9_15, tripRun.sl.H9_14, tripRun.sl.H9_13, tripRun.sl.H9_12, tripRun.sl.H9_10, tripRun.sl.H9_9, tripRun.sl.H9_8, tripRun.sl.H9_7, tripRun.sl.H9_6, tripRun.sl.H9_5, tripRun.sl.H9_4, tripRun.sl.H9_2, tripRun.sl.H9_1]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [hit9]
  exact s_2_1 X f d

theorem w9_2 (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 ⟨2, by decide⟩ f d) = ((S2 k kR vR sR 2 f d : ℝ) : EReal) := by
  simp only [tripRun.sl.H9_15, tripRun.sl.H9_14, tripRun.sl.H9_13, tripRun.sl.H9_12, tripRun.sl.H9_10, tripRun.sl.H9_9, tripRun.sl.H9_8, tripRun.sl.H9_7, tripRun.sl.H9_6, tripRun.sl.H9_5, tripRun.sl.H9_4, tripRun.sl.H9_2, tripRun.sl.H9_1]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [hit9]
  exact s_3_2 X f d

theorem w9_3 (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 ⟨3, by decide⟩ f d) = ((S2 k kR vR sR 3 f d : ℝ) : EReal) := by
  simp only [tripRun.sl.H9_15, tripRun.sl.H9_14, tripRun.sl.H9_13, tripRun.sl.H9_12, tripRun.sl.H9_10, tripRun.sl.H9_9, tripRun.sl.H9_8, tripRun.sl.H9_7, tripRun.sl.H9_6, tripRun.sl.H9_5, tripRun.sl.H9_4, tripRun.sl.H9_2, tripRun.sl.H9_1]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [miss9 _ _ _ _ _ _ _ _ _ _ (by decide)]
  rw [hit9]
  exact s_3_3 X f d

theorem w9_4 (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 ⟨4, by decide⟩ f d) = ((S2 k kR vR sR 4 f d : ℝ) : EReal) := by
  simp only [tripRun.sl.H9_15, tripRun.sl.H9_14, tripRun.sl.H9_13, tripRun.sl.H9_12, tripRun.sl.H9_10, tripRun.sl.H9_9, tripRun.sl.H9_8, tripRun.sl.H9_7, tripRun.sl.H9_6, tripRun.sl.H9_5, tripRun.sl.H9_4, tripRun.sl.H9_2, tripRun.sl.H9_1]
  rw [miss9 _ _ _ _ _ _ _ _ _ _ (by decide)]
  rw [miss9 _ _ _ _ _ _ _ _ _ _ (by decide)]
  rw [miss9 _ _ _ _ _ _ _ _ _ _ (by decide)]
  rw [hit9]
  exact s_6_4 X f d

theorem w9_5 (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 ⟨5, by decide⟩ f d) = ((S2 k kR vR sR 5 f d : ℝ) : EReal) := by
  simp only [tripRun.sl.H9_15, tripRun.sl.H9_14, tripRun.sl.H9_13, tripRun.sl.H9_12, tripRun.sl.H9_10, tripRun.sl.H9_9, tripRun.sl.H9_8, tripRun.sl.H9_7, tripRun.sl.H9_6, tripRun.sl.H9_5, tripRun.sl.H9_4, tripRun.sl.H9_2, tripRun.sl.H9_1]
  rw [miss9 _ _ _ _ _ _ _ _ _ _ (by decide)]
  rw [miss9 _ _ _ _ _ _ _ _ _ _ (by decide)]
  rw [hit9]
  exact s_6_5 X f d

theorem w9_6 (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 ⟨6, by decide⟩ f d) = ((S2 k kR vR sR 6 f d : ℝ) : EReal) := by
  simp only [tripRun.sl.H9_15, tripRun.sl.H9_14, tripRun.sl.H9_13, tripRun.sl.H9_12, tripRun.sl.H9_10, tripRun.sl.H9_9, tripRun.sl.H9_8, tripRun.sl.H9_7, tripRun.sl.H9_6, tripRun.sl.H9_5, tripRun.sl.H9_4, tripRun.sl.H9_2, tripRun.sl.H9_1]
  rw [miss9 _ _ _ _ _ _ _ _ _ _ (by decide)]
  rw [hit9]
  exact s_7_6 X f d

theorem w9_7 (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 ⟨7, by decide⟩ f d) = ((S2 k kR vR sR 7 f d : ℝ) : EReal) := by
  simp only [tripRun.sl.H9_15, tripRun.sl.H9_14, tripRun.sl.H9_13, tripRun.sl.H9_12, tripRun.sl.H9_10, tripRun.sl.H9_9, tripRun.sl.H9_8, tripRun.sl.H9_7, tripRun.sl.H9_6, tripRun.sl.H9_5, tripRun.sl.H9_4, tripRun.sl.H9_2, tripRun.sl.H9_1]
  rw [hit9]
  exact s_7_7 X f d

theorem w9 (h : Fin 8) (f : Fin 192) (d : Fin 128) : arg9.view.read (Elt Ideal) (arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16)) (ix4 0 h f d) = ((S2 k kR vR sR h f d : ℝ) : EReal) := by
  match h with
  | 0 => exact w9_0 X f d
  | 1 => exact w9_1 X f d
  | 2 => exact w9_2 X f d
  | 3 => exact w9_3 X f d
  | 4 => exact w9_4 X f d
  | 5 => exact w9_5 X f d
  | 6 => exact w9_6 X f d
  | 7 => exact w9_7 X f d

theorem w11_0_0 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨0, by decide⟩ ⟨0, by decide⟩ f d) = ((S2 k kR vR sR 0 f d : ℝ) : EReal) := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_2_0_0 X f d

theorem w11_0_1 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨0, by decide⟩ ⟨1, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_2_0_1 X f d

theorem w11_0_2 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨0, by decide⟩ ⟨2, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_2_0_2 X f d

theorem w11_1_0 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨1, by decide⟩ ⟨0, by decide⟩ f d) = ((S2 k kR vR sR 1 f d : ℝ) : EReal) := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_2_1_0 X f d

theorem w11_1_1 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨1, by decide⟩ ⟨1, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_2_1_1 X f d

theorem w11_1_2 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨1, by decide⟩ ⟨2, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_2_1_2 X f d

theorem w11_2_0 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨2, by decide⟩ ⟨0, by decide⟩ f d) = ((S2 k kR vR sR 2 f d : ℝ) : EReal) := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_3_2_0 X f d

theorem w11_2_1 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨2, by decide⟩ ⟨1, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_3_2_1 X f d

theorem w11_2_2 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨2, by decide⟩ ⟨2, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_3_2_2 X f d

theorem w11_3_0 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨3, by decide⟩ ⟨0, by decide⟩ f d) = ((S2 k kR vR sR 3 f d : ℝ) : EReal) := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_3_3_0 X f d

theorem w11_3_1 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨3, by decide⟩ ⟨1, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_3_3_1 X f d

theorem w11_3_2 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨3, by decide⟩ ⟨2, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_3_3_2 X f d

theorem w11_4_0 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨4, by decide⟩ ⟨0, by decide⟩ f d) = ((S2 k kR vR sR 4 f d : ℝ) : EReal) := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_6_4_0 X f d

theorem w11_4_1 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨4, by decide⟩ ⟨1, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_6_4_1 X f d

theorem w11_4_2 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨4, by decide⟩ ⟨2, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_6_4_2 X f d

theorem w11_5_0 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨5, by decide⟩ ⟨0, by decide⟩ f d) = ((S2 k kR vR sR 5 f d : ℝ) : EReal) := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_6_5_0 X f d

theorem w11_5_1 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨5, by decide⟩ ⟨1, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_6_5_1 X f d

theorem w11_5_2 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨5, by decide⟩ ⟨2, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_6_5_2 X f d

theorem w11_6_0 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨6, by decide⟩ ⟨0, by decide⟩ f d) = ((S2 k kR vR sR 6 f d : ℝ) : EReal) := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_7_6_0 X f d

theorem w11_6_1 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨6, by decide⟩ ⟨1, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_7_6_1 X f d

theorem w11_6_2 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨6, by decide⟩ ⟨2, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [miss11 _ _ _ _ _ _ _ _ _ _ _ _ _ (by decide)]
  rw [hit11]
  exact sp_7_6_2 X f d

theorem w11_7_0 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨7, by decide⟩ ⟨0, by decide⟩ f d) = ((S2 k kR vR sR 7 f d : ℝ) : EReal) := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [miss11 _ _ _ _ _ _ _ _ _ _ _ _ _ (by decide)]
  rw [hit11]
  exact sp_7_7_0 X f d

theorem w11_7_1 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨7, by decide⟩ ⟨1, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [miss11 _ _ _ _ _ _ _ _ _ _ _ _ _ (by decide)]
  rw [hit11]
  exact sp_7_7_1 X f d

theorem w11_7_2 (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 ⟨7, by decide⟩ ⟨2, by decide⟩ f d) = 0 := by
  simp only [tripRun.sl.H11_43, tripRun.sl.H11_42, tripRun.sl.H11_39, tripRun.sl.H11_36, tripRun.sl.H11_33, tripRun.sl.H11_30, tripRun.sl.H11_26, tripRun.sl.H11_24, tripRun.sl.H11_23, tripRun.sl.H11_18, tripRun.sl.H11_15, tripRun.sl.H11_12, tripRun.sl.H11_9, tripRun.sl.H11_6, tripRun.sl.H11_2]
  rw [hit11]
  exact sp_7_7_2 X f d

theorem w11_0 (h : Fin 8) (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 h 0 f d) = ((S2 k kR vR sR h f d : ℝ) : EReal) := by
  match h with
  | 0 => exact w11_0_0 X f d
  | 1 => exact w11_1_0 X f d
  | 2 => exact w11_2_0 X f d
  | 3 => exact w11_3_0 X f d
  | 4 => exact w11_4_0 X f d
  | 5 => exact w11_5_0 X f d
  | 6 => exact w11_6_0 X f d
  | 7 => exact w11_7_0 X f d

theorem w11_1 (h : Fin 8) (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 h 1 f d) = 0 := by
  match h with
  | 0 => exact w11_0_1 X f d
  | 1 => exact w11_1_1 X f d
  | 2 => exact w11_2_1 X f d
  | 3 => exact w11_3_1 X f d
  | 4 => exact w11_4_1 X f d
  | 5 => exact w11_5_1 X f d
  | 6 => exact w11_6_1 X f d
  | 7 => exact w11_7_1 X f d

theorem w11_2 (h : Fin 8) (f : Fin 192) (d : Fin 128) : arg11.view.read (Elt Ideal) (arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16)) (ix4 h 2 f d) = 0 := by
  match h with
  | 0 => exact w11_0_2 X f d
  | 1 => exact w11_1_2 X f d
  | 2 => exact w11_2_2 X f d
  | 3 => exact w11_3_2 X f d
  | 4 => exact w11_4_2 X f d
  | 5 => exact w11_5_2 X f d
  | 6 => exact w11_6_2 X f d
  | 7 => exact w11_7_2 X f d

theorem w12_0 (a : Fin 4) (f : Fin 192) : arg12.view.read (Elt Ideal) (arg12.view.writes (Elt Ideal) f12 (⟨(Rect.unit ![1, 0, 0] S1x4x192.size inb_S2x4x192_S1x4x192_1_0_0), (k0_pay9 (tripRun.sl.r_121 c arg4 arg12 arg15 v10 v11 k f4 f12 f15) (tripRun.sl.r_144 c arg4 arg15 v10 v11 k f4) (tripRun.sl.r_161 c arg4 arg15 k f4) (tripRun.sl.r_165 v10) (k0_pay457 v11))⟩ :: tripRun.sl.H12_3 c arg4 arg12 arg15 v10 v11 k f4 f12 f15)) (ix3 ⟨0, by decide⟩ a f) = ((Z2 k kR zR ⟨0 + a.val, by omega⟩ f : ℝ) : EReal) := by
  simp only [tripRun.sl.H12_3, tripRun.sl.H12_2, tripRun.sl.H12_1]
  rw [miss12 _ _ _ _ _ _ _ _ _ _ (by decide)]
  rw [miss12 _ _ _ _ _ _ _ _ _ _ (by decide)]
  rw [hit12]
  exact z_0_1 X a f

theorem w12_1 (a : Fin 4) (f : Fin 192) : arg12.view.read (Elt Ideal) (arg12.view.writes (Elt Ideal) f12 (⟨(Rect.unit ![1, 0, 0] S1x4x192.size inb_S2x4x192_S1x4x192_1_0_0), (k0_pay9 (tripRun.sl.r_121 c arg4 arg12 arg15 v10 v11 k f4 f12 f15) (tripRun.sl.r_144 c arg4 arg15 v10 v11 k f4) (tripRun.sl.r_161 c arg4 arg15 k f4) (tripRun.sl.r_165 v10) (k0_pay457 v11))⟩ :: tripRun.sl.H12_3 c arg4 arg12 arg15 v10 v11 k f4 f12 f15)) (ix3 ⟨1, by decide⟩ a f) = ((Z2 k kR zR ⟨4 + a.val, by omega⟩ f : ℝ) : EReal) := by
  simp only [tripRun.sl.H12_3, tripRun.sl.H12_2, tripRun.sl.H12_1]
  rw [hit12]
  exact z_1_1 X a f

theorem w12 (q : Fin 2) (a : Fin 4) (f : Fin 192) : arg12.view.read (Elt Ideal) (arg12.view.writes (Elt Ideal) f12 (⟨(Rect.unit ![1, 0, 0] S1x4x192.size inb_S2x4x192_S1x4x192_1_0_0), (k0_pay9 (tripRun.sl.r_121 c arg4 arg12 arg15 v10 v11 k f4 f12 f15) (tripRun.sl.r_144 c arg4 arg15 v10 v11 k f4) (tripRun.sl.r_161 c arg4 arg15 k f4) (tripRun.sl.r_165 v10) (k0_pay457 v11))⟩ :: tripRun.sl.H12_3 c arg4 arg12 arg15 v10 v11 k f4 f12 f15)) (ix3 q a f) = ((Z2 k kR zR ⟨4 * q.val + a.val, by omega⟩ f : ℝ) : EReal) := by
  match q with
  | 0 => exact w12_0 X a f
  | 1 => exact w12_1 X a f

theorem w8_0 (i : Fin 128) (a : Fin 2) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 0 i) ⟨0 + a.val, by omega⟩ d) = ((Y0 k qR kR vR sR zR ⟨0 + a.val, by omega⟩ i d : ℝ) : EReal) := by
  simp only [tripRun.sl.H8_8, tripRun.sl.H8_7, tripRun.sl.H8_6, tripRun.sl.H8_5, tripRun.sl.H8_4, tripRun.sl.H8_3, tripRun.sl.H8_2, tripRun.sl.H8_1]
  rw [miss8 _ _ k 1 6 _ (k0_off17_eq k) _ _ _ _ _ _ (.inr (by show 0 + a.val < 6 ∨ 6 + 2 ≤ 0 + a.val; omega))]
  rw [miss8 _ _ k 1 4 _ (k0_off16_eq k) _ _ _ _ _ _ (.inr (by show 0 + a.val < 4 ∨ 4 + 2 ≤ 0 + a.val; omega))]
  rw [miss8 _ _ k 0 6 _ (k0_off15_eq k) _ _ _ _ _ _ (.inr (by show 0 + a.val < 6 ∨ 6 + 2 ≤ 0 + a.val; omega))]
  rw [miss8 _ _ k 0 4 _ (k0_off14_eq k) _ _ _ _ _ _ (.inr (by show 0 + a.val < 4 ∨ 4 + 2 ≤ 0 + a.val; omega))]
  rw [miss8 _ _ k 1 2 _ (k0_off9_eq k) _ _ _ _ _ _ (.inr (by show 0 + a.val < 2 ∨ 2 + 2 ≤ 0 + a.val; omega))]
  rw [miss8 _ _ k 1 0 _ (k0_off8_eq k) _ _ _ _ _ _ (.inl (by show 256 * k.val + 128 * 0 + i.val < 256 * k.val + 128 * 1 ∨ 256 * k.val + 128 * 1 + 128 ≤ 256 * k.val + 128 * 0 + i.val; omega))]
  rw [miss8 _ _ k 0 2 _ (k0_off7_eq k) _ _ _ _ _ _ (.inr (by show 0 + a.val < 2 ∨ 2 + 2 ≤ 0 + a.val; omega))]
  rw [hit8 _ _ k 0 0 _ (k0_off6_eq k)]
  exact y_0 X i a d

theorem w8_1 (i : Fin 128) (a : Fin 2) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 0 i) ⟨2 + a.val, by omega⟩ d) = ((Y0 k qR kR vR sR zR ⟨2 + a.val, by omega⟩ i d : ℝ) : EReal) := by
  simp only [tripRun.sl.H8_8, tripRun.sl.H8_7, tripRun.sl.H8_6, tripRun.sl.H8_5, tripRun.sl.H8_4, tripRun.sl.H8_3, tripRun.sl.H8_2, tripRun.sl.H8_1]
  rw [miss8 _ _ k 1 6 _ (k0_off17_eq k) _ _ _ _ _ _ (.inr (by show 2 + a.val < 6 ∨ 6 + 2 ≤ 2 + a.val; omega))]
  rw [miss8 _ _ k 1 4 _ (k0_off16_eq k) _ _ _ _ _ _ (.inr (by show 2 + a.val < 4 ∨ 4 + 2 ≤ 2 + a.val; omega))]
  rw [miss8 _ _ k 0 6 _ (k0_off15_eq k) _ _ _ _ _ _ (.inr (by show 2 + a.val < 6 ∨ 6 + 2 ≤ 2 + a.val; omega))]
  rw [miss8 _ _ k 0 4 _ (k0_off14_eq k) _ _ _ _ _ _ (.inr (by show 2 + a.val < 4 ∨ 4 + 2 ≤ 2 + a.val; omega))]
  rw [miss8 _ _ k 1 2 _ (k0_off9_eq k) _ _ _ _ _ _ (.inl (by show 256 * k.val + 128 * 0 + i.val < 256 * k.val + 128 * 1 ∨ 256 * k.val + 128 * 1 + 128 ≤ 256 * k.val + 128 * 0 + i.val; omega))]
  rw [miss8 _ _ k 1 0 _ (k0_off8_eq k) _ _ _ _ _ _ (.inr (by show 2 + a.val < 0 ∨ 0 + 2 ≤ 2 + a.val; omega))]
  rw [hit8 _ _ k 0 2 _ (k0_off7_eq k)]
  exact y_1 X i a d

theorem w8_2 (i : Fin 128) (a : Fin 2) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 1 i) ⟨0 + a.val, by omega⟩ d) = ((Y1 k qR kR vR sR zR ⟨0 + a.val, by omega⟩ i d : ℝ) : EReal) := by
  simp only [tripRun.sl.H8_8, tripRun.sl.H8_7, tripRun.sl.H8_6, tripRun.sl.H8_5, tripRun.sl.H8_4, tripRun.sl.H8_3, tripRun.sl.H8_2, tripRun.sl.H8_1]
  rw [miss8 _ _ k 1 6 _ (k0_off17_eq k) _ _ _ _ _ _ (.inr (by show 0 + a.val < 6 ∨ 6 + 2 ≤ 0 + a.val; omega))]
  rw [miss8 _ _ k 1 4 _ (k0_off16_eq k) _ _ _ _ _ _ (.inr (by show 0 + a.val < 4 ∨ 4 + 2 ≤ 0 + a.val; omega))]
  rw [miss8 _ _ k 0 6 _ (k0_off15_eq k) _ _ _ _ _ _ (.inr (by show 0 + a.val < 6 ∨ 6 + 2 ≤ 0 + a.val; omega))]
  rw [miss8 _ _ k 0 4 _ (k0_off14_eq k) _ _ _ _ _ _ (.inr (by show 0 + a.val < 4 ∨ 4 + 2 ≤ 0 + a.val; omega))]
  rw [miss8 _ _ k 1 2 _ (k0_off9_eq k) _ _ _ _ _ _ (.inr (by show 0 + a.val < 2 ∨ 2 + 2 ≤ 0 + a.val; omega))]
  rw [hit8 _ _ k 1 0 _ (k0_off8_eq k)]
  exact y_2 X i a d

theorem w8_3 (i : Fin 128) (a : Fin 2) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 1 i) ⟨2 + a.val, by omega⟩ d) = ((Y1 k qR kR vR sR zR ⟨2 + a.val, by omega⟩ i d : ℝ) : EReal) := by
  simp only [tripRun.sl.H8_8, tripRun.sl.H8_7, tripRun.sl.H8_6, tripRun.sl.H8_5, tripRun.sl.H8_4, tripRun.sl.H8_3, tripRun.sl.H8_2, tripRun.sl.H8_1]
  rw [miss8 _ _ k 1 6 _ (k0_off17_eq k) _ _ _ _ _ _ (.inr (by show 2 + a.val < 6 ∨ 6 + 2 ≤ 2 + a.val; omega))]
  rw [miss8 _ _ k 1 4 _ (k0_off16_eq k) _ _ _ _ _ _ (.inr (by show 2 + a.val < 4 ∨ 4 + 2 ≤ 2 + a.val; omega))]
  rw [miss8 _ _ k 0 6 _ (k0_off15_eq k) _ _ _ _ _ _ (.inr (by show 2 + a.val < 6 ∨ 6 + 2 ≤ 2 + a.val; omega))]
  rw [miss8 _ _ k 0 4 _ (k0_off14_eq k) _ _ _ _ _ _ (.inr (by show 2 + a.val < 4 ∨ 4 + 2 ≤ 2 + a.val; omega))]
  rw [hit8 _ _ k 1 2 _ (k0_off9_eq k)]
  exact y_3 X i a d

theorem w8_4 (i : Fin 128) (a : Fin 2) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 0 i) ⟨4 + a.val, by omega⟩ d) = ((Y0 k qR kR vR sR zR ⟨4 + a.val, by omega⟩ i d : ℝ) : EReal) := by
  simp only [tripRun.sl.H8_8, tripRun.sl.H8_7, tripRun.sl.H8_6, tripRun.sl.H8_5, tripRun.sl.H8_4, tripRun.sl.H8_3, tripRun.sl.H8_2, tripRun.sl.H8_1]
  rw [miss8 _ _ k 1 6 _ (k0_off17_eq k) _ _ _ _ _ _ (.inr (by show 4 + a.val < 6 ∨ 6 + 2 ≤ 4 + a.val; omega))]
  rw [miss8 _ _ k 1 4 _ (k0_off16_eq k) _ _ _ _ _ _ (.inl (by show 256 * k.val + 128 * 0 + i.val < 256 * k.val + 128 * 1 ∨ 256 * k.val + 128 * 1 + 128 ≤ 256 * k.val + 128 * 0 + i.val; omega))]
  rw [miss8 _ _ k 0 6 _ (k0_off15_eq k) _ _ _ _ _ _ (.inr (by show 4 + a.val < 6 ∨ 6 + 2 ≤ 4 + a.val; omega))]
  rw [hit8 _ _ k 0 4 _ (k0_off14_eq k)]
  exact y_4 X i a d

theorem w8_5 (i : Fin 128) (a : Fin 2) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 0 i) ⟨6 + a.val, by omega⟩ d) = ((Y0 k qR kR vR sR zR ⟨6 + a.val, by omega⟩ i d : ℝ) : EReal) := by
  simp only [tripRun.sl.H8_8, tripRun.sl.H8_7, tripRun.sl.H8_6, tripRun.sl.H8_5, tripRun.sl.H8_4, tripRun.sl.H8_3, tripRun.sl.H8_2, tripRun.sl.H8_1]
  rw [miss8 _ _ k 1 6 _ (k0_off17_eq k) _ _ _ _ _ _ (.inl (by show 256 * k.val + 128 * 0 + i.val < 256 * k.val + 128 * 1 ∨ 256 * k.val + 128 * 1 + 128 ≤ 256 * k.val + 128 * 0 + i.val; omega))]
  rw [miss8 _ _ k 1 4 _ (k0_off16_eq k) _ _ _ _ _ _ (.inr (by show 6 + a.val < 4 ∨ 4 + 2 ≤ 6 + a.val; omega))]
  rw [hit8 _ _ k 0 6 _ (k0_off15_eq k)]
  exact y_5 X i a d

theorem w8_6 (i : Fin 128) (a : Fin 2) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 1 i) ⟨4 + a.val, by omega⟩ d) = ((Y1 k qR kR vR sR zR ⟨4 + a.val, by omega⟩ i d : ℝ) : EReal) := by
  simp only [tripRun.sl.H8_8, tripRun.sl.H8_7, tripRun.sl.H8_6, tripRun.sl.H8_5, tripRun.sl.H8_4, tripRun.sl.H8_3, tripRun.sl.H8_2, tripRun.sl.H8_1]
  rw [miss8 _ _ k 1 6 _ (k0_off17_eq k) _ _ _ _ _ _ (.inr (by show 4 + a.val < 6 ∨ 6 + 2 ≤ 4 + a.val; omega))]
  rw [hit8 _ _ k 1 4 _ (k0_off16_eq k)]
  exact y_6 X i a d

theorem w8_7 (i : Fin 128) (a : Fin 2) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 1 i) ⟨6 + a.val, by omega⟩ d) = ((Y1 k qR kR vR sR zR ⟨6 + a.val, by omega⟩ i d : ℝ) : EReal) := by
  simp only [tripRun.sl.H8_8, tripRun.sl.H8_7, tripRun.sl.H8_6, tripRun.sl.H8_5, tripRun.sl.H8_4, tripRun.sl.H8_3, tripRun.sl.H8_2, tripRun.sl.H8_1]
  rw [hit8 _ _ k 1 6 _ (k0_off17_eq k)]
  exact y_7 X i a d

theorem w8n0 (i : Fin 128) (h : Fin 8) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 0 i) h d) = ((Y0 k qR kR vR sR zR h i d : ℝ) : EReal) := by
  match h with
  | 0 => exact w8_0 X i 0 d
  | 1 => exact w8_0 X i 1 d
  | 2 => exact w8_1 X i 0 d
  | 3 => exact w8_1 X i 1 d
  | 4 => exact w8_4 X i 0 d
  | 5 => exact w8_4 X i 1 d
  | 6 => exact w8_5 X i 0 d
  | 7 => exact w8_5 X i 1 d

theorem w8n1 (i : Fin 128) (h : Fin 8) (d : Fin 128) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 (tok k 1 i) h d) = ((Y1 k qR kR vR sR zR h i d : ℝ) : EReal) := by
  match h with
  | 0 => exact w8_2 X i 0 d
  | 1 => exact w8_2 X i 1 d
  | 2 => exact w8_3 X i 0 d
  | 3 => exact w8_3 X i 1 d
  | 4 => exact w8_6 X i 0 d
  | 5 => exact w8_6 X i 1 d
  | 6 => exact w8_7 X i 0 d
  | 7 => exact w8_7 X i 1 d

omit X in
theorem w8o (t : Fin 512) (h : Fin 8) (d : Fin 128) (ht : t.val < 256 * k.val ∨ 256 * k.val + 256 ≤ t.val) : arg8.view.read (Elt Ideal) (arg8.view.writes (Elt Ideal) f8 (tripRun.sl.H8_8 c arg3 arg4 arg5 arg9 arg11 arg12 arg13 arg14 arg15 arg16 v10 v11 k f3 f4 f5 f9 f11 f12 f13 f14 f15 f16)) (ix4 0 t h d) = arg8.view.read (Elt Ideal) f8 (ix4 0 t h d) := by
  simp only [tripRun.sl.H8_8, tripRun.sl.H8_7, tripRun.sl.H8_6, tripRun.sl.H8_5, tripRun.sl.H8_4, tripRun.sl.H8_3, tripRun.sl.H8_2, tripRun.sl.H8_1]
  rw [miss8 _ _ k 1 6 _ (k0_off17_eq k) _ _ _ _ _ _ (.inl (by omega))]
  rw [miss8 _ _ k 1 4 _ (k0_off16_eq k) _ _ _ _ _ _ (.inl (by omega))]
  rw [miss8 _ _ k 0 6 _ (k0_off15_eq k) _ _ _ _ _ _ (.inl (by omega))]
  rw [miss8 _ _ k 0 4 _ (k0_off14_eq k) _ _ _ _ _ _ (.inl (by omega))]
  rw [miss8 _ _ k 1 2 _ (k0_off9_eq k) _ _ _ _ _ _ (.inl (by omega))]
  rw [miss8 _ _ k 1 0 _ (k0_off8_eq k) _ _ _ _ _ _ (.inl (by omega))]
  rw [miss8 _ _ k 0 2 _ (k0_off7_eq k) _ _ _ _ _ _ (.inl (by omega))]
  rw [miss8 _ _ k 0 0 _ (k0_off6_eq k) _ _ _ _ _ _ (.inl (by omega))]
  rfl

theorem w16 (q p h : Fin 2) (l : Fin 256) (d : Fin 128) (hl : l.val / 128 ≠ h.val) : arg16.view.read (Elt Ideal) (arg16.view.writes (Elt Ideal) f16 (tripRun.sl.H16_16 c arg5 k f5)) (ix5 q p h l d) = 0 := by
  have h0 := X.h16 q p h l d hl
  obtain ⟨q, hq⟩ := q
  obtain ⟨p, hp⟩ := p
  obtain ⟨h, hh⟩ := h
  replace hl : l.val / 128 ≠ h := hl
  simp only [tripRun.sl.H16_16, tripRun.sl.H16_15, tripRun.sl.H16_14, tripRun.sl.H16_13, tripRun.sl.H16_12, tripRun.sl.H16_11, tripRun.sl.H16_10, tripRun.sl.H16_9, tripRun.sl.H16_8, tripRun.sl.H16_7, tripRun.sl.H16_6, tripRun.sl.H16_5, tripRun.sl.H16_4, tripRun.sl.H16_3, tripRun.sl.H16_2, tripRun.sl.H16_1]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  rw [miss16 _ _ _ _ _ _ _ _ _ _ _ _ _ _ _ _ _ (by omega)]
  exact h0

end Cert.KernelIdeal.Trip

end
-- ==== Proof.TripEq.lean ====
/-
  The contents a trip of the token loop leaves, by name.
-/
module

public import proofs.«01_k».proof.Proof.TripRun
public import proofs.«01_k».proof.Proof.Geo

@[expose] public section

set_option maxRecDepth 16384

noncomputable section

namespace Cert.KernelIdeal.Trip

open Cert.KernelIdeal Cert.KernelIdeal.Gen Cert.KernelIdeal.Geo
open Idealize.ShloMosaic Idealize.ShloMosaic.TcCoe

section Body

variable (c : Dev nD) (i : grid0.Coords)
  (arg3 : Memref sig .tc .vmem S1x8x192x512 .bf16) (harg3 : arg3.IsWhole)
  (arg4 : Memref sig .tc .vmem S1x8x192x512 .bf16) (harg4 : arg4.IsWhole)
  (arg5 : Memref sig .tc .vmem S1x512x8x128 .bf16) (harg5 : arg5.IsWhole)
  (arg6 : Memref sig .tc .vmem S1x8x192x128 .f32) (harg6 : arg6.IsWhole)
  (arg7 : Memref sig .tc .vmem S1x8x192 .f32) (harg7 : arg7.IsWhole)
  (arg8 : Memref sig .tc .vmem S1x512x8x128 .bf16) (harg8 : arg8.IsWhole)
  (arg9 : Memref sig .tc .vmem S1x8x192x128 .f32) (harg9 : arg9.IsWhole)
  (arg10 : Memref sig .tc .vmem S1x8x192 .f32) (harg10 : arg10.IsWhole)
  (arg11 : Memref sig .tc .vmem S8x3x192x128 .bf16) (harg11 : arg11.IsWhole)
  (arg12 : Memref sig .tc .vmem S2x4x192 .f32) (harg12 : arg12.IsWhole)
  (arg13 : Memref sig .tc .vmem S2x4x2x192x128 .bf16) (harg13 : arg13.IsWhole)
  (arg14 : Memref sig .tc .vmem S2x4x2x128x192 .bf16) (harg14 : arg14.IsWhole)
  (arg15 : Memref sig .tc .vmem S2x4x2x192x128 .bf16) (harg15 : arg15.IsWhole)
  (arg16 : Memref sig .tc .vmem S2x2x2x256x128 .bf16) (harg16 : arg16.IsWhole)
  (v10 v11 : IVec S16x256 32) (k : Fin k0_t1_loop.trips) (f3 : Bf (F := Ideal) c arg3) (f4 : Bf (F := Ideal) c arg4) (f5 : Bf (F := Ideal) c arg5) (f8 : Bf (F := Ideal) c arg8) (f9 : Bf (F := Ideal) c arg9) (f11 : Bf (F := Ideal) c arg11) (f12 : Bf (F := Ideal) c arg12) (f13 : Bf (F := Ideal) c arg13) (f14 : Bf (F := Ideal) c arg14) (f15 : Bf (F := Ideal) c arg15) (f16 : Bf (F := Ideal) c arg16)

theorem trip8_eq : (tripRun (F := Ideal) c i arg3 harg3 arg4 harg4 arg5 harg5 arg6 harg6 arg7 harg7 arg8 harg8 arg9 harg9 arg10 harg10 arg11 harg11 arg12 harg12 arg13 harg13 arg14 harg14 arg15 harg15 arg16 harg16 v10 v11 k f3 f4 f5 f8 f9 f11 f12 f13 f14 f15 f16).1.1 = arg8.view.writes (Elt Ideal) f8 (tripRun.sl.H8_8 c arg3 arg4 arg5 arg9 arg11 arg12 arg13 arg14 arg15 arg16 v10 v11 k f3 f4 f5 f9 f11 f12 f13 f14 f15 f16) := by
  unfold tripRun
  dsimp only

theorem trip9_eq : (tripRun (F := Ideal) c i arg3 harg3 arg4 harg4 arg5 harg5 arg6 harg6 arg7 harg7 arg8 harg8 arg9 harg9 arg10 harg10 arg11 harg11 arg12 harg12 arg13 harg13 arg14 harg14 arg15 harg15 arg16 harg16 v10 v11 k f3 f4 f5 f8 f9 f11 f12 f13 f14 f15 f16).1.2.1 = arg9.view.writes (Elt Ideal) f9 (⟨(Rect.unit ![0, 7, 0, 0] S1x1x192x128.size inb_S1x8x192x128_S1x1x192x128_0_7_0_0), (k0_pay451 (tripRun.sl.r_162 c arg4 arg5 arg15 arg16 k f4 f5 f16) (tripRun.sl.v2592 c arg4 arg5 arg9 arg15 arg16 k f4 f5 f9 f15 f16))⟩ :: tripRun.sl.H9_15 c arg4 arg5 arg9 arg15 arg16 k f4 f5 f9 f15 f16) := by
  unfold tripRun
  dsimp only

theorem trip11_eq : (tripRun (F := Ideal) c i arg3 harg3 arg4 harg4 arg5 harg5 arg6 harg6 arg7 harg7 arg8 harg8 arg9 harg9 arg10 harg10 arg11 harg11 arg12 harg12 arg13 harg13 arg14 harg14 arg15 harg15 arg16 harg16 v10 v11 k f3 f4 f5 f8 f9 f11 f12 f13 f14 f15 f16).1.2.2.1 = arg11.view.writes (Elt Ideal) arg11.view.junk (⟨(Rect.unit ![7, 2, 0, 0] S1x1x192x128.size inb_S8x3x192x128_S1x1x192x128_7_2_0_0), (k0_pay455 (tripRun.sl.r_162 c arg4 arg5 arg15 arg16 k f4 f5 f16) (tripRun.sl.v2592 c arg4 arg5 arg9 arg15 arg16 k f4 f5 f9 f15 f16))⟩ :: ⟨(Rect.unit ![7, 1, 0, 0] S1x1x192x128.size inb_S8x3x192x128_S1x1x192x128_7_1_0_0), (k0_pay454 (tripRun.sl.r_162 c arg4 arg5 arg15 arg16 k f4 f5 f16) (tripRun.sl.v2592 c arg4 arg5 arg9 arg15 arg16 k f4 f5 f9 f15 f16))⟩ :: ⟨(Rect.unit ![7, 0, 0, 0] S1x1x192x128.size inb_S8x3x192x128_S1x1x192x128_7_0_0_0), (k0_pay453 (tripRun.sl.r_162 c arg4 arg5 arg15 arg16 k f4 f5 f16) (tripRun.sl.v2592 c arg4 arg5 arg9 arg15 arg16 k f4 f5 f9 f15 f16))⟩ :: ⟨(Rect.unit ![6, 2, 0, 0] S1x1x192x128.size inb_S8x3x192x128_S1x1x192x128_6_2_0_0), (k0_pay449 (tripRun.sl.r_164 c arg4 arg5 arg9 arg15 arg16 k f4 f5 f9 f15 f16))⟩ :: ⟨(Rect.unit ![6, 1, 0, 0] S1x1x192x128.size inb_S8x3x192x128_S1x1x192x128_6_1_0_0), (k0_pay448 (tripRun.sl.r_163 c arg4 arg5 arg9 arg15 arg16 k f4 f5 f9 f15 f16))⟩ :: tripRun.sl.H11_43 c arg4 arg5 arg9 arg15 arg16 k f4 f5 f9 f15 f16) := by
  unfold tripRun
  dsimp only

theorem trip12_eq : (tripRun (F := Ideal) c i arg3 harg3 arg4 harg4 arg5 harg5 arg6 harg6 arg7 harg7 arg8 harg8 arg9 harg9 arg10 harg10 arg11 harg11 arg12 harg12 arg13 harg13 arg14 harg14 arg15 harg15 arg16 harg16 v10 v11 k f3 f4 f5 f8 f9 f11 f12 f13 f14 f15 f16).1.2.2.2.1 = arg12.view.writes (Elt Ideal) f12 (⟨(Rect.unit ![1, 0, 0] S1x4x192.size inb_S2x4x192_S1x4x192_1_0_0), (k0_pay9 (tripRun.sl.r_121 c arg4 arg12 arg15 v10 v11 k f4 f12 f15) (tripRun.sl.r_144 c arg4 arg15 v10 v11 k f4) (tripRun.sl.r_161 c arg4 arg15 k f4) (tripRun.sl.r_165 v10) (k0_pay457 v11))⟩ :: tripRun.sl.H12_3 c arg4 arg12 arg15 v10 v11 k f4 f12 f15) := by
  unfold tripRun
  dsimp only

theorem trip16_eq : (tripRun (F := Ideal) c i arg3 harg3 arg4 harg4 arg5 harg5 arg6 harg6 arg7 harg7 arg8 harg8 arg9 harg9 arg10 harg10 arg11 harg11 arg12 harg12 arg13 harg13 arg14 harg14 arg15 harg15 arg16 harg16 v10 v11 k f3 f4 f5 f8 f9 f11 f12 f13 f14 f15 f16).1.2.2.2.2.2.2.2 = arg16.view.writes (Elt Ideal) f16 (tripRun.sl.H16_16 c arg5 k f5) := by
  unfold tripRun
  dsimp only

end Body

end Cert.KernelIdeal.Trip

end
-- ==== Proof.Prefix.lean ====
/-
  Linear attention over a sequence of tokens, stated over the reals: the state and the key sums after any number of tokens,
  the result of each token, and how a block of 128 tokens carries one to the next.
-/
module

public import proofs.«01_k».proof.Proof.TripSt

@[expose] public section

noncomputable section

namespace Cert.KernelIdeal.Trip

open Cert.KernelIdeal Cert.KernelIdeal.Gen Cert.KernelIdeal.Geo
open Idealize.ShloMosaic Idealize.ShloMosaic.TcCoe

/-- The feature maps and the values of the sequence, and the state and key sums it starts from, for eight heads. -/
structure RD where
  q : Fin 8 → ℕ → Fin 192 → ℝ
  k : Fin 8 → ℕ → Fin 192 → ℝ
  v : Fin 8 → ℕ → Fin 128 → ℝ
  s : Fin 8 → Fin 192 → Fin 128 → ℝ
  z : Fin 8 → Fin 192 → ℝ

namespace RD
variable (R : RD)

/-- The state and the key sums after `N` tokens. -/
def S (N : ℕ) (h : Fin 8) (f : Fin 192) (d : Fin 128) : ℝ := R.s h f d + ∑ j ∈ Finset.range N, R.k h j f * R.v h j d
def Z (N : ℕ) (h : Fin 8) (f : Fin 192) : ℝ := R.z h f + ∑ j ∈ Finset.range N, R.k h j f
/-- A score. -/
def sc (h : Fin 8) (i j : ℕ) : ℝ := ∑ f, R.q h i f * R.k h j f
/-- The numerator, the denominator and the result of token `T`. -/
def Num (h : Fin 8) (T : ℕ) (d : Fin 128) : ℝ := ∑ j ∈ Finset.range (T + 1), R.sc h T j * R.v h j d + ∑ f, R.q h T f * R.s h f d
def Den (h : Fin 8) (T : ℕ) : ℝ := ∑ j ∈ Finset.range (T + 1), R.sc h T j + ∑ f, R.z h f * R.q h T f
def Y (h : Fin 8) (T : ℕ) (d : Fin 128) : ℝ := R.Num h T d / R.Den h T

/-- The 512 tokens from `N` on. -/
def qB (N : ℕ) (h : Fin 8) (f : Fin 192) (t : Fin 512) : ℝ := R.q h (N + t.val) f
def kB (N : ℕ) (h : Fin 8) (f : Fin 192) (t : Fin 512) : ℝ := R.k h (N + t.val) f
def vB (N : ℕ) (t : Fin 512) (h : Fin 8) (d : Fin 128) : ℝ := R.v h (N + t.val) d
end RD

theorem sum_block (g : ℕ → ℝ) (N m : ℕ) : ∑ j ∈ Finset.range (N + m), g j = ∑ j ∈ Finset.range N, g j + ∑ j : Fin m, g (N + j.val) := by
  rw [Finset.sum_range_add, Fin.sum_univ_eq_sum_range (fun j => g (N + j)) m]

theorem sum_tri (g : ℕ → ℝ) (i : Fin 128) : ∑ j : Fin 128, (if j ≤ i then g j.val else 0) = ∑ j ∈ Finset.range (i.val + 1), g j := by
  rw [show (∑ j : Fin 128, (if j ≤ i then g j.val else 0)) = ∑ j : Fin 128, (fun n : ℕ => if n ≤ i.val then g n else 0) j.val from rfl,
    Fin.sum_univ_eq_sum_range (fun n : ℕ => if n ≤ i.val then g n else 0) 128]
  refine (Finset.sum_subset (s₁ := Finset.range (i.val + 1)) ?_ ?_).symm.trans (Finset.sum_congr rfl ?_)
  · intro x hx
    have := i.isLt
    simp only [Finset.mem_range] at hx ⊢
    omega
  · intro x _ hx
    simp only [Finset.mem_range] at hx
    rw [if_neg (by omega)]
  · intro x hx
    simp only [Finset.mem_range] at hx
    rw [if_pos (by omega)]

variable (R : RD) (N : ℕ) (k : Fin k0_t1_loop.trips)

theorem tok_add (n : Fin 2) (i : Fin 128) : N + (tok k n i).val = N + (256 * k.val + 128 * n.val) + i.val := by
  show N + (256 * k.val + 128 * n.val + i.val) = _
  omega

theorem S_step (M : ℕ) (h f d) : R.S (M + 128) h f d = R.S M h f d + ∑ j : Fin 128, R.k h (M + j.val) f * R.v h (M + j.val) d := by
  unfold RD.S
  rw [sum_block, add_assoc]

theorem Z_step (M : ℕ) (h f) : R.Z (M + 128) h f = R.Z M h f + ∑ j : Fin 128, R.k h (M + j.val) f := by
  unfold RD.Z
  rw [sum_block, add_assoc]

theorem S1_eq : S1 k (R.kB N) (R.vB N) (R.S (N + 256 * k.val)) = R.S (N + 256 * k.val + 128) := by
  funext h f d
  rw [S_step]
  show R.S (N + 256 * k.val) h f d + ∑ j, R.k h (N + (tok k 0 j).val) f * R.v h (N + (tok k 0 j).val) d = _
  simp only [tok_add, Fin.val_zero, mul_zero, add_zero]

theorem S2_eq : S2 k (R.kB N) (R.vB N) (R.S (N + 256 * k.val)) = R.S (N + 256 * (k.val + 1)) := by
  funext h f d
  rw [show N + 256 * (k.val + 1) = N + 256 * k.val + 128 + 128 by omega, S_step, ← S1_eq]
  show _ + ∑ j, R.k h (N + (tok k 1 j).val) f * R.v h (N + (tok k 1 j).val) d = _
  simp only [tok_add, Fin.val_one, mul_one, Nat.add_assoc]

theorem Z1_eq : Z1 k (R.kB N) (R.Z (N + 256 * k.val)) = R.Z (N + 256 * k.val + 128) := by
  funext h f
  rw [Z_step]
  show R.Z (N + 256 * k.val) h f + ∑ j, R.k h (N + (tok k 0 j).val) f = _
  simp only [tok_add, Fin.val_zero, mul_zero, add_zero]

theorem Z2_eq : Z2 k (R.kB N) (R.Z (N + 256 * k.val)) = R.Z (N + 256 * (k.val + 1)) := by
  funext h f
  rw [show N + 256 * (k.val + 1) = N + 256 * k.val + 128 + 128 by omega, Z_step, ← Z1_eq]
  show _ + ∑ j, R.k h (N + (tok k 1 j).val) f = _
  simp only [tok_add, Fin.val_one, mul_one, Nat.add_assoc]

theorem A_eq (n : Fin 2) (h : Fin 8) (i j : Fin 128) :
    A k (R.qB N) (R.kB N) n h i j = if j ≤ i then R.sc h (N + (256 * k.val + 128 * n.val) + i.val) (N + (256 * k.val + 128 * n.val) + j.val) else 0 := by
  unfold A RD.sc
  show (if j ≤ i then ∑ f, R.q h (N + (tok k n i).val) f * R.k h (N + (tok k n j).val) f else 0) = _
  simp only [tok_add]

theorem Dn_eq (n : Fin 2) (h : Fin 8) (i : Fin 128) :
    Dn k (R.qB N) (R.kB N) n (R.Z (N + (256 * k.val + 128 * n.val))) h i = R.Den h (N + (256 * k.val + 128 * n.val) + i.val) := by
  unfold Dn
  simp only [A_eq]
  show _ + ∑ f, R.Z _ h f * R.q h (N + (tok k n i).val) f = _
  simp only [tok_add]
  generalize N + (256 * k.val + 128 * n.val) = M
  rw [sum_tri (fun x => R.sc h (M + i.val) (M + x)) i]
  unfold RD.Den
  rw [add_assoc M i.val 1, Finset.sum_range_add _ M]
  have : ∑ f, R.Z M h f * R.q h (M + i.val) f = ∑ j ∈ Finset.range M, R.sc h (M + i.val) j + ∑ f, R.z h f * R.q h (M + i.val) f := by
    unfold RD.Z RD.sc
    simp only [add_mul, Finset.sum_add_distrib, Finset.sum_mul]
    rw [Finset.sum_comm, add_comm]
    simp only [mul_comm]
  rw [this]
  ring

theorem Nm_eq (n : Fin 2) (h : Fin 8) (i d : Fin 128) :
    Nm k (R.qB N) (R.kB N) (R.vB N) n (R.S (N + (256 * k.val + 128 * n.val))) h i d = R.Num h (N + (256 * k.val + 128 * n.val) + i.val) d := by
  unfold Nm
  simp only [A_eq]
  show ∑ j, _ * R.v h (N + (tok k n j).val) d + ∑ f, R.q h (N + (tok k n i).val) f * R.S _ h f d = _
  simp only [tok_add]
  generalize N + (256 * k.val + 128 * n.val) = M
  simp only [ite_mul, zero_mul]
  rw [sum_tri (fun x => R.sc h (M + i.val) (M + x) * R.v h (M + x) d) i]
  unfold RD.Num
  rw [add_assoc M i.val 1, Finset.sum_range_add _ M]
  have : ∑ f, R.q h (M + i.val) f * R.S M h f d = ∑ j ∈ Finset.range M, R.sc h (M + i.val) j * R.v h j d + ∑ f, R.q h (M + i.val) f * R.s h f d := by
    unfold RD.S RD.sc
    simp only [mul_add, Finset.sum_add_distrib, Finset.mul_sum, Finset.sum_mul]
    rw [Finset.sum_comm, add_comm]
    simp only [mul_assoc]
  rw [this]
  ring

theorem Y0_eq (h : Fin 8) (i d : Fin 128) :
    Y0 k (R.qB N) (R.kB N) (R.vB N) (R.S (N + 256 * k.val)) (R.Z (N + 256 * k.val)) h i d = R.Y h (N + (tok k 0 i).val) d := by
  have h1 := Nm_eq R N k 0 h i d
  have h2 := Dn_eq R N k 0 h i
  simp only [Fin.val_zero, mul_zero, add_zero] at h1 h2
  unfold Y0 RD.Y
  rw [tok_add]
  simp only [Fin.val_zero, mul_zero, add_zero]
  exact congrArg₂ (· / ·) h1 h2

theorem Y1_eq (h : Fin 8) (i d : Fin 128) :
    Y1 k (R.qB N) (R.kB N) (R.vB N) (R.S (N + 256 * k.val)) (R.Z (N + 256 * k.val)) h i d = R.Y h (N + (tok k 1 i).val) d := by
  have h1 := Nm_eq R N k 1 h i d
  have h2 := Dn_eq R N k 1 h i
  simp only [Fin.val_one, mul_one, ← Nat.add_assoc] at h1 h2
  unfold Y1 RD.Y
  rw [tok_add, S1_eq, Z1_eq]
  simp only [Fin.val_one, mul_one, ← Nat.add_assoc]
  exact congrArg₂ (· / ·) h1 h2

end Cert.KernelIdeal.Trip

end
-- ==== Proof.BodyVal.lean ====
/-
  One grid point of `KernelIdeal`, read over the reals: from the operand blocks and the state after the tokens before this
  block, the token loop leaves the block's results and the state after it.
-/
module

public import proofs.«01_k».proof.Proof.BodyRun
public import proofs.«01_k».proof.Proof.HeadSem
public import proofs.«01_k».proof.Proof.TripSem
public import proofs.«01_k».proof.Proof.TripEq
public import proofs.«01_k».proof.Proof.Prefix

@[expose] public section

set_option maxRecDepth 16384

noncomputable section

namespace Cert.KernelIdeal.Trip

open Cert.KernelIdeal Cert.KernelIdeal.Gen Cert.KernelIdeal.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The operand blocks hold the 512 tokens from `N` on. -/
structure Blk (R : RD) (N : ℕ) (c : Dev nD)
    (arg3 : Memref sig .tc .vmem S1x8x192x512 .bf16) (f3 : Bf (F := Ideal) c arg3)
    (arg4 : Memref sig .tc .vmem S1x8x192x512 .bf16) (f4 : Bf (F := Ideal) c arg4)
    (arg5 : Memref sig .tc .vmem S1x512x8x128 .bf16) (f5 : Bf (F := Ideal) c arg5) : Prop where
  h3 : ∀ h f t, arg3.view.read (Elt Ideal) f3 (ix4 0 h f t) = ((R.qB N h f t : ℝ) : EReal)
  h4 : ∀ h f t, arg4.view.read (Elt Ideal) f4 (ix4 0 h f t) = ((R.kB N h f t : ℝ) : EReal)
  h5 : ∀ t h d, arg5.view.read (Elt Ideal) f5 (ix4 0 t h d) = ((R.vB N t h d : ℝ) : EReal)

/-- The buffers after `M` tokens: the state, its split, the key sums, and the values' buffer zero off its diagonal blocks. -/
structure Mid (R : RD) (M : ℕ) (c : Dev nD)
    (arg9 : Memref sig .tc .vmem S1x8x192x128 .f32) (f9 : Bf (F := Ideal) c arg9)
    (arg11 : Memref sig .tc .vmem S8x3x192x128 .bf16) (f11 : Bf (F := Ideal) c arg11)
    (arg12 : Memref sig .tc .vmem S2x4x192 .f32) (f12 : Bf (F := Ideal) c arg12)
    (arg16 : Memref sig .tc .vmem S2x2x2x256x128 .bf16) (f16 : Bf (F := Ideal) c arg16) : Prop where
  h9 : ∀ h f d, arg9.view.read (Elt Ideal) f9 (ix4 0 h f d) = ((R.S M h f d : ℝ) : EReal)
  h11 : ∀ h f d, arg11.view.read (Elt Ideal) f11 (ix4 h 0 f d) = ((R.S M h f d : ℝ) : EReal)
  h11a : ∀ h f d, arg11.view.read (Elt Ideal) f11 (ix4 h 1 f d) = 0
  h11b : ∀ h f d, arg11.view.read (Elt Ideal) f11 (ix4 h 2 f d) = 0
  h12 : ∀ (q : Fin 2) (a : Fin 4) f, arg12.view.read (Elt Ideal) f12 (ix3 q a f) = ((R.Z M ⟨4 * q.val + a.val, by omega⟩ f : ℝ) : EReal)
  h16 : ∀ (q p h : Fin 2) (l : Fin 256) d, l.val / 128 ≠ h.val → arg16.view.read (Elt Ideal) f16 (ix5 q p h l d) = 0

/-- The first `n` tokens of the block have their results. -/
def Done (R : RD) (N n : ℕ) (c : Dev nD) (arg8 : Memref sig .tc .vmem S1x512x8x128 .bf16) (f8 : Bf (F := Ideal) c arg8) : Prop :=
  ∀ t h d, t.val < n → arg8.view.read (Elt Ideal) f8 (ix4 0 t h d) = ((R.Y h (N + t.val) d : ℝ) : EReal)

section Body

variable {R : RD} {N : ℕ} (D : ∀ h T, R.Den h T ≠ 0)
variable (c : Dev nD) (i : grid0.Coords)
  (arg3 : Memref sig .tc .vmem S1x8x192x512 .bf16) (harg3 : arg3.IsWhole)
  (arg4 : Memref sig .tc .vmem S1x8x192x512 .bf16) (harg4 : arg4.IsWhole)
  (arg5 : Memref sig .tc .vmem S1x512x8x128 .bf16) (harg5 : arg5.IsWhole)
  (arg6 : Memref sig .tc .vmem S1x8x192x128 .f32) (harg6 : arg6.IsWhole)
  (arg7 : Memref sig .tc .vmem S1x8x192 .f32) (harg7 : arg7.IsWhole)
  (arg8 : Memref sig .tc .vmem S1x512x8x128 .bf16) (harg8 : arg8.IsWhole)
  (arg9 : Memref sig .tc .vmem S1x8x192x128 .f32) (harg9 : arg9.IsWhole)
  (arg10 : Memref sig .tc .vmem S1x8x192 .f32) (harg10 : arg10.IsWhole)
  (arg11 : Memref sig .tc .vmem S8x3x192x128 .bf16) (harg11 : arg11.IsWhole)
  (arg12 : Memref sig .tc .vmem S2x4x192 .f32) (harg12 : arg12.IsWhole)
  (arg13 : Memref sig .tc .vmem S2x4x2x192x128 .bf16) (harg13 : arg13.IsWhole)
  (arg14 : Memref sig .tc .vmem S2x4x2x128x192 .bf16) (harg14 : arg14.IsWhole)
  (arg15 : Memref sig .tc .vmem S2x4x2x192x128 .bf16) (harg15 : arg15.IsWhole)
  (arg16 : Memref sig .tc .vmem S2x2x2x256x128 .bf16) (harg16 : arg16.IsWhole)

include D
theorem st_of {k : Fin k0_t1_loop.trips} {f3 : Bf (F := Ideal) c arg3} {f4 : Bf (F := Ideal) c arg4} {f5 : Bf (F := Ideal) c arg5} {f9 : Bf (F := Ideal) c arg9} {f11 : Bf (F := Ideal) c arg11} {f12 : Bf (F := Ideal) c arg12} {f16 : Bf (F := Ideal) c arg16} (B : Blk R N c arg3 f3 arg4 f4 arg5 f5)
    (I : Mid R (N + 256 * k.val) c arg9 f9 arg11 f11 arg12 f12 arg16 f16) :
    St c k rowIx colIx arg3 f3 arg4 f4 arg5 f5 arg9 f9 arg11 f11 arg12 f12 arg16 f16 (R.qB N) (R.kB N) (R.vB N) (R.S (N + 256 * k.val)) (R.Z (N + 256 * k.val)) where
  i10 r l := by pointwise [rowIx]
  i11 r l := by pointwise [colIx]
  h3 := B.h3
  h4 := B.h4
  h5 := B.h5
  h9 := I.h9
  h11 := I.h11
  h11a := I.h11a
  h11b := I.h11b
  h12 := I.h12
  h16 := I.h16
  d0 h i := by
    have h2 := Dn_eq R N k 0 h i
    simp only [Fin.val_zero, mul_zero, add_zero] at h2
    exact h2.trans_ne (D _ _)
  d1 h i := by
    have h2 := Dn_eq R N k 1 h i
    simp only [Fin.val_one, mul_one, ← Nat.add_assoc] at h2
    rw [Z1_eq]
    exact h2.trans_ne (D _ _)

/-- One trip carries the buffers over 256 tokens. -/
theorem mid_step (k : Fin k0_t1_loop.trips) {f3 : Bf (F := Ideal) c arg3} {f4 : Bf (F := Ideal) c arg4} {f5 : Bf (F := Ideal) c arg5} {f9 : Bf (F := Ideal) c arg9} {f11 : Bf (F := Ideal) c arg11} {f12 : Bf (F := Ideal) c arg12} {f16 : Bf (F := Ideal) c arg16} {f8 : Bf (F := Ideal) c arg8} {f13 : Bf (F := Ideal) c arg13} {f14 : Bf (F := Ideal) c arg14} {f15 : Bf (F := Ideal) c arg15} (B : Blk R N c arg3 f3 arg4 f4 arg5 f5)
    (I : Mid R (N + 256 * k.val) c arg9 f9 arg11 f11 arg12 f12 arg16 f16) (J : Done R N (256 * k.val) c arg8 f8) :
    let W := (tripRun (F := Ideal) c i arg3 harg3 arg4 harg4 arg5 harg5 arg6 harg6 arg7 harg7 arg8 harg8 arg9 harg9 arg10 harg10 arg11 harg11 arg12 harg12 arg13 harg13 arg14 harg14 arg15 harg15 arg16 harg16 rowIx colIx k f3 f4 f5 f8 f9 f11 f12 f13 f14 f15 f16).1
    Mid R (N + 256 * (k.val + 1)) c arg9 W.2.1 arg11 W.2.2.1 arg12 W.2.2.2.1 arg16 W.2.2.2.2.2.2.2 ∧ Done R N (256 * (k.val + 1)) c arg8 W.1 := by
  have X := st_of D c arg3 arg4 arg5 arg9 arg11 arg12 arg16 B I
  have hk : k.val < 2 := k.isLt
  refine ⟨⟨?_, ?_, ?_, ?_, ?_, ?_⟩, ?_⟩
  · intro h f d
    rw [← S2_eq]
    rw [trip9_eq]
    exact w9 (f15 := f15) X h f d
  · intro h f d
    rw [← S2_eq]
    rw [trip11_eq]
    exact w11_0 (f15 := f15) X h f d
  · intro h f d
    rw [trip11_eq]
    exact w11_1 (f15 := f15) X h f d
  · intro h f d
    rw [trip11_eq]
    exact w11_2 (f15 := f15) X h f d
  · intro q a f
    rw [← Z2_eq]
    rw [trip12_eq]
    exact w12 (f15 := f15) X q a f
  · intro q p h l d hl
    rw [trip16_eq]
    exact w16 X q p h l d hl
  · intro t h d ht
    rw [trip8_eq]
    by_cases h0 : t.val < 256 * k.val
    · exact (w8o (k := k) t h d (.inl h0)).trans (J t h d h0)
    by_cases h1 : t.val < 256 * k.val + 128
    · obtain ⟨j, rfl⟩ : ∃ j, t = tok k 0 j := ⟨⟨t.val - 256 * k.val, by omega⟩, Fin.ext (by show t.val = 256 * k.val + 128 * 0 + (t.val - 256 * k.val); omega)⟩
      rw [← Y0_eq]
      exact w8n0 X j h d
    · obtain ⟨j, rfl⟩ : ∃ j, t = tok k 1 j := ⟨⟨t.val - 256 * k.val - 128, by omega⟩, Fin.ext (by show t.val = 256 * k.val + 128 * 1 + (t.val - 256 * k.val - 128); omega)⟩
      rw [← Y1_eq]
      exact w8n1 X j h d

omit D in
/-- The key sums as stored after the loop. -/
theorem tail10 {M : ℕ} {f9 : Bf (F := Ideal) c arg9} {f10 : Bf (F := Ideal) c arg10} {f11 : Bf (F := Ideal) c arg11} {f12 : Bf (F := Ideal) c arg12} {f16 : Bf (F := Ideal) c arg16}
    (I : Mid R M c arg9 f9 arg11 f11 arg12 f12 arg16 f16) (h : Fin 8) (f : Fin 192) :
    arg10.view.read (Elt Ideal) (arg10.view.writes (Elt Ideal) f10
      [⟨Rect.unit ![0, 4, 0] S1x4x192.size inb_S1x8x192_S1x4x192_0_4_0, k0_pay11 (arg12.view.readAt (Elt Ideal) (Rect.unit (s := S2x4x192) ![1, 0, 0] S1x4x192.size inb_S2x4x192_S1x4x192_1_0_0).toLoadRect f12)⟩,
        ⟨Rect.unit ![0, 0, 0] S1x4x192.size inb_S1x8x192_S1x4x192_0_0_0, k0_pay10 (arg12.view.readAt (Elt Ideal) (Rect.unit (s := S2x4x192) ![0, 0, 0] S1x4x192.size inb_S2x4x192_S1x4x192_0_0_0).toLoadRect f12)⟩]) (ix3 0 h f)
      = ((R.Z M h f : ℝ) : EReal) := by
  by_cases hh : h.val < 4
  · refine (View.read_writes_cons_unit_of_not_mem _ _ _ _ _ _ rfl 1 (.inl hh)).trans ?_
    refine (View.read_writes_cons_unit_of_mem _ _ _ _ _ _ (ix3 0 ⟨h.val, hh⟩ f) rfl fun x => ?_).trans ?_
    · match x with
      | 0 => rfl
      | 1 => exact (Nat.zero_add _).symm
      | 2 => exact (Nat.zero_add _).symm
    pointwise [k0_pay10]
    exact (ld12 arg12 f12 0 (by decide) _ ⟨h.val, hh⟩ f).trans ((I.h12 0 ⟨h.val, hh⟩ f).trans (congrArg (fun x => ((R.Z M x f : ℝ) : EReal)) (Fin.ext (by show 4 * 0 + h.val = h.val; omega))))
  · refine (View.read_writes_cons_unit_of_mem _ _ _ _ _ _ (ix3 0 ⟨h.val - 4, by omega⟩ f) rfl fun x => ?_).trans ?_
    · match x with
      | 0 => rfl
      | 1 => show h.val = 4 + (h.val - 4); omega
      | 2 => exact (Nat.zero_add _).symm
    pointwise [k0_pay11]
    exact (ld12 arg12 f12 1 (by decide) _ ⟨h.val - 4, by omega⟩ f).trans ((I.h12 1 ⟨h.val - 4, by omega⟩ f).trans (congrArg (fun x => ((R.Z M x f : ℝ) : EReal)) (Fin.ext (by show 4 * 1 + (h.val - 4) = h.val; omega))))

set_option maxHeartbeats 2000000 in
/-- The token loop and the store of the key sums after it. -/
theorem loopTail_wp {f3 : Bf (F := Ideal) c arg3} {f4 : Bf (F := Ideal) c arg4} {f5 : Bf (F := Ideal) c arg5} {f6 : Bf (F := Ideal) c arg6} {f7 : Bf (F := Ideal) c arg7} {f8 : Bf (F := Ideal) c arg8} {f9 : Bf (F := Ideal) c arg9} {f10 : Bf (F := Ideal) c arg10} {f11 : Bf (F := Ideal) c arg11} {f12 : Bf (F := Ideal) c arg12} {f13 : Bf (F := Ideal) c arg13} {f14 : Bf (F := Ideal) c arg14} {f15 : Bf (F := Ideal) c arg15} {f16 : Bf (F := Ideal) c arg16} (B : Blk R N c arg3 f3 arg4 f4 arg5 f5)
    (I : Mid R N c arg9 f9 arg11 f11 arg12 f12 arg16 f16) (K : PUnit → sProp 𝕄) :
    iprop(H c arg3 f3 ∗ H c arg4 f4 ∗ H c arg5 f5 ∗ H c arg8 f8 ∗ H c arg9 f9 ∗ H c arg10 f10 ∗ H c arg11 f11 ∗ H c arg12 f12 ∗ H c arg13 f13 ∗ H c arg14 f14 ∗ H c arg15 f15 ∗ H c arg16 f16 ∗ ((∃ (g8 : Bf (F := Ideal) c arg8) (g9 : Bf (F := Ideal) c arg9) (g10 : Bf (F := Ideal) c arg10) (g11 : Bf (F := Ideal) c arg11) (g12 : Bf (F := Ideal) c arg12) (g13 : Bf (F := Ideal) c arg13) (g14 : Bf (F := Ideal) c arg14) (g15 : Bf (F := Ideal) c arg15) (g16 : Bf (F := Ideal) c arg16), (H c arg3 f3 ∗ H c arg4 f4 ∗ H c arg5 f5 ∗ H c arg8 g8 ∗ H c arg9 g9 ∗ H c arg10 g10 ∗ H c arg11 g11 ∗ H c arg12 g12 ∗ H c arg13 g13 ∗ H c arg14 g14 ∗ H c arg15 g15 ∗ H c arg16 g16) ∗ ⌜Mid R (N + 512) c arg9 g9 arg11 g11 arg12 g12 arg16 g16 ∧ Done R N 512 c arg8 g8 ∧ ∀ h f, arg10.view.read (Elt Ideal) g10 (ix3 0 h f) = ((R.Z (N + 512) h f : ℝ) : EReal)⌝) -∗ K ⟨⟩))
      ⊢ wp frame (wpE (defs₀ (F := Ideal)) Variants.none (c : Thread nD τ) none) Set.univ (loopTail (F := Ideal) i arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H3, H4, H5, H8, H9, H10, H11, H12, H13, H14, H15, H16, Hk⟩
  unfold loopTail
  sl_for (fun n _ => iprop(∃ (g8 : Bf (F := Ideal) c arg8) (g9 : Bf (F := Ideal) c arg9) (g11 : Bf (F := Ideal) c arg11) (g12 : Bf (F := Ideal) c arg12) (g13 : Bf (F := Ideal) c arg13) (g14 : Bf (F := Ideal) c arg14) (g15 : Bf (F := Ideal) c arg15) (g16 : Bf (F := Ideal) c arg16), (H c arg3 f3 ∗ H c arg4 f4 ∗ H c arg5 f5 ∗ H c arg8 g8 ∗ H c arg9 g9 ∗ H c arg11 g11 ∗ H c arg12 g12 ∗ H c arg13 g13 ∗ H c arg14 g14 ∗ H c arg15 g15 ∗ H c arg16 g16) ∗ ⌜Mid R (N + 256 * n) c arg9 g9 arg11 g11 arg12 g12 arg16 g16 ∧ Done R N (256 * n) c arg8 g8⌝)) $$ [H3 H4 H5 H8 H9 H11 H12 H13 H14 H15 H16]
  case region =>
    intro k acc
    iintro ⟨%g8, %g9, %g11, %g12, %g13, %g14, %g15, %g16, HH, %hI⟩
    have hs := mid_step D c i arg3 harg3 arg4 harg4 arg5 harg5 arg6 harg6 arg7 harg7 arg8 harg8 arg9 harg9 arg10 harg10 arg11 harg11 arg12 harg12 arg13 harg13 arg14 harg14 arg15 harg15 arg16 harg16 k (f13 := g13) (f14 := g14) (f15 := g15) B hI.1 hI.2
    have hrun := (tripRun (F := Ideal) c i arg3 harg3 arg4 harg4 arg5 harg5 arg6 harg6 arg7 harg7 arg8 harg8 arg9 harg9 arg10 harg10 arg11 harg11 arg12 harg12 arg13 harg13 arg14 harg14 arg15 harg15 arg16 harg16 rowIx colIx k f3 f4 f5 g8 g9 g11 g12 g13 g14 g15 g16).2
    ihave HW := hrun $$ HH
    iapply (wp_wand_r _ _ _) $$ [HW]
    isplitl [HW]; · iexact HW
    iintro %a HH
    iexists _, _, _, _, _, _, _, _
    isplitl [HH]; · iexact HH
    ipureintro
    exact hs
  · iexists f8, f9, f11, f12, f13, f14, f15, f16
    isplitl
    · isplitl [H3]; · iexact H3
      isplitl [H4]; · iexact H4
      isplitl [H5]; · iexact H5
      isplitl [H8]; · iexact H8
      isplitl [H9]; · iexact H9
      isplitl [H11]; · iexact H11
      isplitl [H12]; · iexact H12
      isplitl [H13]; · iexact H13
      isplitl [H14]; · iexact H14
      isplitl [H15]; · iexact H15
      iexact H16
    ipureintro
    exact ⟨I, fun t h d ht => absurd ht (Nat.not_lt_zero _)⟩
  iintro %a ⟨%g8, %g9, %g11, %g12, %g13, %g14, %g15, %g16, ⟨H3, H4, H5, H8, H9, H11, H12, H13, H14, H15, H16⟩, %hI⟩
  sl_exec
  sl_step
  iapply Hk
  iexists g8, g9, _, g11, g12, g13, g14, g15, g16
  isplitl
  · isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  ipureintro
  refine ⟨hI.1, hI.2, fun h f => ?_⟩
  exact tail10 c arg9 arg10 arg11 arg12 arg16 hI.1 h f

end Body

end Cert.KernelIdeal.Trip

end
-- ==== Proof.BodyOwn.lean ====
/-
  The body of `KernelIdeal` at one grid point, over the contents of its buffers: both at the first token block of a sequence,
  where it sets up the state, and at a later one, where it finds the state the block before left.
-/
module

public import proofs.«01_k».proof.Proof.BodyVal

@[expose] public section

set_option maxRecDepth 16384

noncomputable section

namespace Cert.KernelIdeal.Trip

open Cert.KernelIdeal Cert.KernelIdeal.Gen Cert.KernelIdeal.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The operand blocks hold the 512 tokens from `N` on. -/
structure BlkX (R : RD) (N : ℕ) (X3 : S1x8x192x512.Idx → Elt Ideal .bf16) (X4 : S1x8x192x512.Idx → Elt Ideal .bf16) (X5 : S1x512x8x128.Idx → Elt Ideal .bf16) : Prop where
  h3 : ∀ h f t, X3 (ix4 0 h f t) = ((R.qB N h f t : ℝ) : EReal)
  h4 : ∀ h f t, X4 (ix4 0 h f t) = ((R.kB N h f t : ℝ) : EReal)
  h5 : ∀ t h d, X5 (ix4 0 t h d) = ((R.vB N t h d : ℝ) : EReal)

/-- The scratch buffers after `M` tokens. -/
structure ScrX (R : RD) (M : ℕ) (X11 : S8x3x192x128.Idx → Elt Ideal .bf16) (X12 : S2x4x192.Idx → Elt Ideal .f32) (X16 : S2x2x2x256x128.Idx → Elt Ideal .bf16) : Prop where
  h11 : ∀ h f d, X11 (ix4 h 0 f d) = ((R.S M h f d : ℝ) : EReal)
  h11a : ∀ h f d, X11 (ix4 h 1 f d) = 0
  h11b : ∀ h f d, X11 (ix4 h 2 f d) = 0
  h12 : ∀ (q : Fin 2) (a : Fin 4) f, X12 (ix3 q a f) = ((R.Z M ⟨4 * q.val + a.val, by omega⟩ f : ℝ) : EReal)
  h16 : ∀ (q p h : Fin 2) (l : Fin 256) d, l.val / 128 ≠ h.val → X16 (ix5 q p h l d) = 0

/-- The state and the scratch buffers after `M` tokens. -/
def MidX (R : RD) (M : ℕ) (X9 : S1x8x192x128.Idx → Elt Ideal .f32) (X11 : S8x3x192x128.Idx → Elt Ideal .bf16) (X12 : S2x4x192.Idx → Elt Ideal .f32) (X16 : S2x2x2x256x128.Idx → Elt Ideal .bf16) : Prop :=
  (∀ h f d, X9 (ix4 0 h f d) = ((R.S M h f d : ℝ) : EReal)) ∧ ScrX R M X11 X12 X16

theorem RD.S_zero (R : RD) : R.S 0 = R.s := by funext h f d; simp [RD.S]
theorem RD.Z_zero (R : RD) : R.Z 0 = R.z := by funext h f; simp [RD.Z]

section Body
variable {R : RD} {N : ℕ} (D : ∀ h T, R.Den h T ≠ 0)
variable (c : Dev nD) (i : grid0.Coords)
  (arg3 : Memref sig .tc .vmem S1x8x192x512 .bf16) (harg3 : arg3.IsWhole)
  (arg4 : Memref sig .tc .vmem S1x8x192x512 .bf16) (harg4 : arg4.IsWhole)
  (arg5 : Memref sig .tc .vmem S1x512x8x128 .bf16) (harg5 : arg5.IsWhole)
  (arg6 : Memref sig .tc .vmem S1x8x192x128 .f32) (harg6 : arg6.IsWhole)
  (arg7 : Memref sig .tc .vmem S1x8x192 .f32) (harg7 : arg7.IsWhole)
  (arg8 : Memref sig .tc .vmem S1x512x8x128 .bf16) (harg8 : arg8.IsWhole)
  (arg9 : Memref sig .tc .vmem S1x8x192x128 .f32) (harg9 : arg9.IsWhole)
  (arg10 : Memref sig .tc .vmem S1x8x192 .f32) (harg10 : arg10.IsWhole)
  (arg11 : Memref sig .tc .vmem S8x3x192x128 .bf16) (harg11 : arg11.IsWhole)
  (arg12 : Memref sig .tc .vmem S2x4x192 .f32) (harg12 : arg12.IsWhole)
  (arg13 : Memref sig .tc .vmem S2x4x2x192x128 .bf16) (harg13 : arg13.IsWhole)
  (arg14 : Memref sig .tc .vmem S2x4x2x128x192 .bf16) (harg14 : arg14.IsWhole)
  (arg15 : Memref sig .tc .vmem S2x4x2x192x128 .bf16) (harg15 : arg15.IsWhole)
  (arg16 : Memref sig .tc .vmem S2x2x2x256x128 .bf16) (harg16 : arg16.IsWhole)

theorem headMid {f6 : Bf (F := Ideal) c arg6} {f7 : Bf (F := Ideal) c arg7} {f9 : Bf (F := Ideal) c arg9} {f11 : Bf (F := Ideal) c arg11} {f12 : Bf (F := Ideal) c arg12} {f16 : Bf (F := Ideal) c arg16} (hc : isHead i)
    (h6 : ∀ h f d, arg6.view.read (Elt Ideal) f6 (ix4 0 h f d) = ((R.s h f d : ℝ) : EReal)) (h7 : ∀ h f, arg7.view.read (Elt Ideal) f7 (ix3 0 h f) = ((R.z h f : ℝ) : EReal)) :
    Mid R 0 c arg9 (headRun c i arg3 harg3 arg4 harg4 arg5 harg5 arg6 harg6 arg7 harg7 arg8 harg8 arg9 harg9 arg10 harg10 arg11 harg11 arg12 harg12 arg13 harg13 arg14 harg14 arg15 harg15 arg16 harg16 f6 f7 f9 f11 f12 f16 hc).1.1 arg11 (headRun c i arg3 harg3 arg4 harg4 arg5 harg5 arg6 harg6 arg7 harg7 arg8 harg8 arg9 harg9 arg10 harg10 arg11 harg11 arg12 harg12 arg13 harg13 arg14 harg14 arg15 harg15 arg16 harg16 f6 f7 f9 f11 f12 f16 hc).1.2.1 arg12 (headRun c i arg3 harg3 arg4 harg4 arg5 harg5 arg6 harg6 arg7 harg7 arg8 harg8 arg9 harg9 arg10 harg10 arg11 harg11 arg12 harg12 arg13 harg13 arg14 harg14 arg15 harg15 arg16 harg16 f6 f7 f9 f11 f12 f16 hc).1.2.2.1 arg16 (headRun c i arg3 harg3 arg4 harg4 arg5 harg5 arg6 harg6 arg7 harg7 arg8 harg8 arg9 harg9 arg10 harg10 arg11 harg11 arg12 harg12 arg13 harg13 arg14 harg14 arg15 harg15 arg16 harg16 f6 f7 f9 f11 f12 f16 hc).1.2.2.2 := by
  unfold headRun
  dsimp only
  refine ⟨?_, ?_, ?_, ?_, ?_, ?_⟩
  · rw [RD.S_zero]; exact head9 arg9 h6
  · rw [RD.S_zero]; exact head11_0 arg11 h6
  · exact head11_1 arg11 h6
  · exact head11_2 arg11 h6
  · rw [RD.Z_zero]; exact head12 arg12 h7
  · exact fun q p h l d _ => head16 arg16 q p h l d

include D
set_option maxHeartbeats 2000000 in
theorem body_wp {X3 : S1x8x192x512.Idx → Elt Ideal .bf16} {X4 : S1x8x192x512.Idx → Elt Ideal .bf16} {X5 : S1x512x8x128.Idx → Elt Ideal .bf16} {X6 : S1x8x192x128.Idx → Elt Ideal .f32} {X7 : S1x8x192.Idx → Elt Ideal .f32} {X8 : S1x512x8x128.Idx → Elt Ideal .bf16} {X9 : S1x8x192x128.Idx → Elt Ideal .f32} {X10 : S1x8x192.Idx → Elt Ideal .f32} {X11 : S8x3x192x128.Idx → Elt Ideal .bf16} {X12 : S2x4x192.Idx → Elt Ideal .f32} {X13 : S2x4x2x192x128.Idx → Elt Ideal .bf16} {X14 : S2x4x2x128x192.Idx → Elt Ideal .bf16} {X15 : S2x4x2x192x128.Idx → Elt Ideal .bf16} {X16 : S2x2x2x256x128.Idx → Elt Ideal .bf16}
    (hB : BlkX R N X3 X4 X5) (hN : isHead i → N = 0)
    (h6 : isHead i → ∀ h f d, X6 (ix4 0 h f d) = ((R.s h f d : ℝ) : EReal)) (h7 : isHead i → ∀ h f, X7 (ix3 0 h f) = ((R.z h f : ℝ) : EReal))
    (hM : ¬ isHead i → MidX R N X9 X11 X12 X16) (K : PUnit → sProp 𝕄) :
    iprop((owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16) ∗ ((∃ (Y8 : S1x512x8x128.Idx → Elt Ideal .bf16) (Y9 : S1x8x192x128.Idx → Elt Ideal .f32) (Y10 : S1x8x192.Idx → Elt Ideal .f32) (Y11 : S8x3x192x128.Idx → Elt Ideal .bf16) (Y12 : S2x4x192.Idx → Elt Ideal .f32) (Y13 : S2x4x2x192x128.Idx → Elt Ideal .bf16) (Y14 : S2x4x2x128x192.Idx → Elt Ideal .bf16) (Y15 : S2x4x2x192x128.Idx → Elt Ideal .bf16) (Y16 : S2x2x2x256x128.Idx → Elt Ideal .bf16), (owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15 ∗ owns (c : Thread nD τ) arg16 fullShare Y16) ∗ ⌜MidX R (N + 512) Y9 Y11 Y12 Y16 ∧ (∀ t h d, Y8 (ix4 0 t h d) = ((R.Y h (N + t.val) d : ℝ) : EReal)) ∧ ∀ h f, Y10 (ix3 0 h f) = ((R.Z (N + 512) h f : ℝ) : EReal)⌝) -∗ K ⟨⟩))
      ⊢ wp frame (wpE (defs₀ (F := Ideal)) Variants.none (c : Thread nD τ) none) Set.univ (cc0_hedgehog (F := Ideal) i arg3 harg3 arg4 harg4 arg5 harg5 arg6 harg6 arg7 harg7 arg8 harg8 arg9 harg9 arg10 harg10 arg11 harg11 arg12 harg12 arg13 harg13 arg14 harg14 arg15 harg15 arg16 harg16) K := by
  rw [cc0_hedgehog_eq_skeleton]
  unfold owns
  iintro ⟨⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
  subst e3; subst e4; subst e5; subst e6; subst e7; subst e8; subst e9; subst e10; subst e11; subst e12; subst e13; subst e14; subst e15; subst e16
  by_cases hc : isHead i
  · obtain rfl := hN hc
    iapply (headRun c i arg3 harg3 arg4 harg4 arg5 harg5 arg6 harg6 arg7 harg7 arg8 harg8 arg9 harg9 arg10 harg10 arg11 harg11 arg12 harg12 arg13 harg13 arg14 harg14 arg15 harg15 arg16 harg16 f6 f7 f9 f11 f12 f16 hc).2
    isplitl [H6]; · iexact H6
    isplitl [H7]; · iexact H7
    isplitl [H9]; · iexact H9
    isplitl [H11]; · iexact H11
    isplitl [H12]; · iexact H12
    isplitl [H16]; · iexact H16
    iintro ⟨H6, H7, H9, H11, H12, H16⟩
    iapply (loopTail_wp D c i arg3 harg3 arg4 harg4 arg5 harg5 arg6 harg6 arg7 harg7 arg8 harg8 arg9 harg9 arg10 harg10 arg11 harg11 arg12 harg12 arg13 harg13 arg14 harg14 arg15 harg15 arg16 harg16 (N := 0) (f6 := f6) (f7 := f7) ⟨hB.h3, hB.h4, hB.h5⟩ (headMid c i arg3 harg3 arg4 harg4 arg5 harg5 arg6 harg6 arg7 harg7 arg8 harg8 arg9 harg9 arg10 harg10 arg11 harg11 arg12 harg12 arg13 harg13 arg14 harg14 arg15 harg15 arg16 harg16 (f9 := f9) (f11 := f11) (f12 := f12) (f16 := f16) hc (h6 hc) (h7 hc)) K)
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨%g8, %g9, %g10, %g11, %g12, %g13, %g14, %g15, %g16, ⟨H3, H4, H5, H8, H9, H10, H11, H12, H13, H14, H15, H16⟩, %hI⟩
    iapply Hk
    iexists (arg8.view.read (Elt Ideal) g8), (arg9.view.read (Elt Ideal) g9), (arg10.view.read (Elt Ideal) g10), (arg11.view.read (Elt Ideal) g11), (arg12.view.read (Elt Ideal) g12), (arg13.view.read (Elt Ideal) g13), (arg14.view.read (Elt Ideal) g14), (arg15.view.read (Elt Ideal) g15), (arg16.view.read (Elt Ideal) g16)
    isplitl
    · isplitl [H3]
      · iexists _; isplitr
        · ipureintro; rfl
        iexact H3
      isplitl [H4]
      · iexists _; isplitr
        · ipureintro; rfl
        iexact H4
      isplitl [H5]
      · iexists _; isplitr
        · ipureintro; rfl
        iexact H5
      isplitl [H6]
      · iexists _; isplitr
        · ipureintro; rfl
        iexact H6
      isplitl [H7]
      · iexists _; isplitr
        · ipureintro; rfl
        iexact H7
      isplitl [H8]
      · iexists _; isplitr
        · ipureintro; rfl
        iexact H8
      isplitl [H9]
      · iexists _; isplitr
        · ipureintro; rfl
        iexact H9
      isplitl [H10]
      · iexists _; isplitr
        · ipureintro; rfl
        iexact H10
      isplitl [H11]
      · iexists _; isplitr
        · ipureintro; rfl
        iexact H11
      isplitl [H12]
      · iexists _; isplitr
        · ipureintro; rfl
        iexact H12
      isplitl [H13]
      · iexists _; isplitr
        · ipureintro; rfl
        iexact H13
      isplitl [H14]
      · iexists _; isplitr
        · ipureintro; rfl
        iexact H14
      isplitl [H15]
      · iexists _; isplitr
        · ipureintro; rfl
        iexact H15
      iexists _; isplitr
      · ipureintro; rfl
      iexact H16
    ipureintro
    exact ⟨⟨hI.1.h9, hI.1.h11, hI.1.h11a, hI.1.h11b, hI.1.h12, hI.1.h16⟩, fun t h d => hI.2.1 t h d t.isLt, hI.2.2⟩
  · obtain ⟨m9, m⟩ := hM hc
    iapply (noHead c i arg3 harg3 arg4 harg4 arg5 harg5 arg6 harg6 arg7 harg7 arg8 harg8 arg9 harg9 arg10 harg10 arg11 harg11 arg12 harg12 arg13 harg13 arg14 harg14 arg15 harg15 arg16 harg16 hc K)
    iapply (loopTail_wp D c i arg3 harg3 arg4 harg4 arg5 harg5 arg6 harg6 arg7 harg7 arg8 harg8 arg9 harg9 arg10 harg10 arg11 harg11 arg12 harg12 arg13 harg13 arg14 harg14 arg15 harg15 arg16 harg16 (N := N) (f6 := f6) (f7 := f7) ⟨hB.h3, hB.h4, hB.h5⟩ ⟨m9, m.h11, m.h11a, m.h11b, m.h12, m.h16⟩ K)
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨%g8, %g9, %g10, %g11, %g12, %g13, %g14, %g15, %g16, ⟨H3, H4, H5, H8, H9, H10, H11, H12, H13, H14, H15, H16⟩, %hI⟩
    iapply Hk
    iexists (arg8.view.read (Elt Ideal) g8), (arg9.view.read (Elt Ideal) g9), (arg10.view.read (Elt Ideal) g10), (arg11.view.read (Elt Ideal) g11), (arg12.view.read (Elt Ideal) g12), (arg13.view.read (Elt Ideal) g13), (arg14.view.read (Elt Ideal) g14), (arg15.view.read (Elt Ideal) g15), (arg16.view.read (Elt Ideal) g16)
    isplitl
    · isplitl [H3]
      · iexists _; isplitr
        · ipureintro; rfl
        iexact H3
      isplitl [H4]
      · iexists _; isplitr
        · ipureintro; rfl
        iexact H4
      isplitl [H5]
      · iexists _; isplitr
        · ipureintro; rfl
        iexact H5
      isplitl [H6]
      · iexists _; isplitr
        · ipureintro; rfl
        iexact H6
      isplitl [H7]
      · iexists _; isplitr
        · ipureintro; rfl
        iexact H7
      isplitl [H8]
      · iexists _; isplitr
        · ipureintro; rfl
        iexact H8
      isplitl [H9]
      · iexists _; isplitr
        · ipureintro; rfl
        iexact H9
      isplitl [H10]
      · iexists _; isplitr
        · ipureintro; rfl
        iexact H10
      isplitl [H11]
      · iexists _; isplitr
        · ipureintro; rfl
        iexact H11
      isplitl [H12]
      · iexists _; isplitr
        · ipureintro; rfl
        iexact H12
      isplitl [H13]
      · iexists _; isplitr
        · ipureintro; rfl
        iexact H13
      isplitl [H14]
      · iexists _; isplitr
        · ipureintro; rfl
        iexact H14
      isplitl [H15]
      · iexists _; isplitr
        · ipureintro; rfl
        iexact H15
      iexists _; isplitr
      · ipureintro; rfl
      iexact H16
    ipureintro
    exact ⟨⟨hI.1.h9, hI.1.h11, hI.1.h11a, hI.1.h11b, hI.1.h12, hI.1.h16⟩, fun t h d => hI.2.1 t h d t.isLt, hI.2.2⟩

end Body

end Cert.KernelIdeal.Trip

end
-- ==== Proof.Data.lean ====
/-
  The arguments of `KernelIdeal` as real sequences: what every block the pipeline hands the body holds, by the token and the
  head it comes from.
-/
module

public import proofs.«01_k».proof.Proof.BodyOwn
public import Idealize.ShloMosaic.Lib.Pipeline.ValueKit
public import Idealize.ShloMosaic.Lib.Claim

@[expose] public section

set_option maxRecDepth 16384

noncomputable section

namespace Cert.KernelIdeal.Trip

open Cert.KernelIdeal Cert.KernelIdeal.Gen Cert.KernelIdeal.Geo
open Idealize.ShloMosaic Idealize.ShloMosaic.TcCoe Idealize.ShloMosaic.Tactic

variable (m : (ℓ : Loc nD τ sig) → Buf (Elt Ideal) ℓ) (c : Dev nD)

/-- The five argument arrays. -/
abbrev A0 : S3x4608x56x192.Idx → EReal := m ((c.tc : Thread nD τ).loc main_arg0)
abbrev A1 : S3x4608x56x192.Idx → EReal := m ((c.tc : Thread nD τ).loc main_arg1)
abbrev A2 : S3x4608x56x128.Idx → EReal := m ((c.tc : Thread nD τ).loc main_arg2)
abbrev A3 : S3x56x192x128.Idx → EReal := m ((c.tc : Thread nD τ).loc main_arg3)
abbrev A4 : S3x56x192.Idx → EReal := m ((c.tc : Thread nD τ).loc main_arg4)

/-- Every element of an argument is a real number, those of the feature maps positive and those of the key sums nonnegative. -/
structure Fine : Prop where
  a0 : ∀ x, ∃ r : ℝ, 0 < r ∧ A0 m c x = (r : EReal)
  a1 : ∀ x, ∃ r : ℝ, 0 < r ∧ A1 m c x = (r : EReal)
  a2 : ∀ x, ∃ r : ℝ, A2 m c x = (r : EReal)
  a3 : ∀ x, ∃ r : ℝ, A3 m c x = (r : EReal)
  a4 : ∀ x, ∃ r : ℝ, 0 ≤ r ∧ A4 m c x = (r : EReal)

/-- The sequence of batch `b` for the eight heads from `8 * hb` on. -/
def rd (hb b : ℕ) : RD where
  q h T f := if x : b < 3 ∧ T < 4608 ∧ hb < 7 then (A0 m c (ix4 ⟨b, x.1⟩ ⟨T, x.2.1⟩ ⟨8 * hb + h.val, by omega⟩ f)).toReal else 1
  k h T f := if x : b < 3 ∧ T < 4608 ∧ hb < 7 then (A1 m c (ix4 ⟨b, x.1⟩ ⟨T, x.2.1⟩ ⟨8 * hb + h.val, by omega⟩ f)).toReal else 1
  v h T d := if x : b < 3 ∧ T < 4608 ∧ hb < 7 then (A2 m c (ix4 ⟨b, x.1⟩ ⟨T, x.2.1⟩ ⟨8 * hb + h.val, by omega⟩ d)).toReal else 1
  s h f d := if x : b < 3 ∧ hb < 7 then (A3 m c (ix4 ⟨b, x.1⟩ ⟨8 * hb + h.val, by omega⟩ f d)).toReal else 0
  z h f := if x : b < 3 ∧ hb < 7 then (A4 m c (ix3 ⟨b, x.1⟩ ⟨8 * hb + h.val, by omega⟩ f)).toReal else 0

variable {m c} (F : Fine m c)
include F

theorem rd_q {hb b T : ℕ} (h : Fin 8) (f : Fin 192) (h1 : b < 3) (h2 : T < 4608) (h3 : hb < 7) :
    A0 m c (ix4 ⟨b, h1⟩ ⟨T, h2⟩ ⟨8 * hb + h.val, by omega⟩ f) = (((rd m c hb b).q h T f : ℝ) : EReal) := by
  obtain ⟨r, _, e⟩ := F.a0 (ix4 ⟨b, h1⟩ ⟨T, h2⟩ ⟨8 * hb + h.val, by omega⟩ f)
  simp only [rd, dif_pos (show b < 3 ∧ T < 4608 ∧ hb < 7 from ⟨h1, h2, h3⟩), e, EReal.toReal_coe]

theorem rd_k {hb b T : ℕ} (h : Fin 8) (f : Fin 192) (h1 : b < 3) (h2 : T < 4608) (h3 : hb < 7) :
    A1 m c (ix4 ⟨b, h1⟩ ⟨T, h2⟩ ⟨8 * hb + h.val, by omega⟩ f) = (((rd m c hb b).k h T f : ℝ) : EReal) := by
  obtain ⟨r, _, e⟩ := F.a1 (ix4 ⟨b, h1⟩ ⟨T, h2⟩ ⟨8 * hb + h.val, by omega⟩ f)
  simp only [rd, dif_pos (show b < 3 ∧ T < 4608 ∧ hb < 7 from ⟨h1, h2, h3⟩), e, EReal.toReal_coe]

theorem rd_v {hb b T : ℕ} (h : Fin 8) (d : Fin 128) (h1 : b < 3) (h2 : T < 4608) (h3 : hb < 7) :
    A2 m c (ix4 ⟨b, h1⟩ ⟨T, h2⟩ ⟨8 * hb + h.val, by omega⟩ d) = (((rd m c hb b).v h T d : ℝ) : EReal) := by
  obtain ⟨r, e⟩ := F.a2 (ix4 ⟨b, h1⟩ ⟨T, h2⟩ ⟨8 * hb + h.val, by omega⟩ d)
  simp only [rd, dif_pos (show b < 3 ∧ T < 4608 ∧ hb < 7 from ⟨h1, h2, h3⟩), e, EReal.toReal_coe]

theorem rd_s {hb b : ℕ} (h : Fin 8) (f : Fin 192) (d : Fin 128) (h1 : b < 3) (h3 : hb < 7) :
    A3 m c (ix4 ⟨b, h1⟩ ⟨8 * hb + h.val, by omega⟩ f d) = (((rd m c hb b).s h f d : ℝ) : EReal) := by
  obtain ⟨r, e⟩ := F.a3 (ix4 ⟨b, h1⟩ ⟨8 * hb + h.val, by omega⟩ f d)
  simp only [rd, dif_pos (show b < 3 ∧ hb < 7 from ⟨h1, h3⟩), e, EReal.toReal_coe]

theorem rd_z {hb b : ℕ} (h : Fin 8) (f : Fin 192) (h1 : b < 3) (h3 : hb < 7) :
    A4 m c (ix3 ⟨b, h1⟩ ⟨8 * hb + h.val, by omega⟩ f) = (((rd m c hb b).z h f : ℝ) : EReal) := by
  obtain ⟨r, _, e⟩ := F.a4 (ix3 ⟨b, h1⟩ ⟨8 * hb + h.val, by omega⟩ f)
  simp only [rd, dif_pos (show b < 3 ∧ hb < 7 from ⟨h1, h3⟩), e, EReal.toReal_coe]

theorem q_pos (hb b : ℕ) (h : Fin 8) (T : ℕ) (f : Fin 192) : 0 < (rd m c hb b).q h T f := by
  simp only [rd]
  split
  · rename_i x
    obtain ⟨r, hr, e⟩ := F.a0 (ix4 ⟨b, x.1⟩ ⟨T, x.2.1⟩ ⟨8 * hb + h.val, by omega⟩ f)
    rw [e, EReal.toReal_coe]; exact hr
  · exact one_pos

theorem k_pos (hb b : ℕ) (h : Fin 8) (T : ℕ) (f : Fin 192) : 0 < (rd m c hb b).k h T f := by
  simp only [rd]
  split
  · rename_i x
    obtain ⟨r, hr, e⟩ := F.a1 (ix4 ⟨b, x.1⟩ ⟨T, x.2.1⟩ ⟨8 * hb + h.val, by omega⟩ f)
    rw [e, EReal.toReal_coe]; exact hr
  · exact one_pos

theorem z_nonneg (hb b : ℕ) (h : Fin 8) (f : Fin 192) : 0 ≤ (rd m c hb b).z h f := by
  simp only [rd]
  split
  · rename_i x
    obtain ⟨r, hr, e⟩ := F.a4 (ix3 ⟨b, x.1⟩ ⟨8 * hb + h.val, by omega⟩ f)
    rw [e, EReal.toReal_coe]; exact hr
  · exact le_rfl

/-- No denominator vanishes. -/
theorem den_ne (hb b : ℕ) (h : Fin 8) (T : ℕ) : (rd m c hb b).Den h T ≠ 0 := by
  refine ne_of_gt (add_pos_of_pos_of_nonneg ?_ ?_)
  · refine Finset.sum_pos (fun j _ => Finset.sum_pos (fun f _ => mul_pos (q_pos F hb b h T f) (k_pos F hb b h j f)) ⟨0, Finset.mem_univ _⟩) ⟨0, Finset.mem_range.2 (Nat.succ_pos T)⟩
  · exact Finset.sum_nonneg fun f _ => mul_nonneg (z_nonneg F hb b h f) (q_pos F hb b h T f).le

omit F

theorem co (t : Fin cfg0.N) : (grid0.coords t 0).val = t.val / 27 ∧ (grid0.coords t 1).val = t.val / 9 % 3 ∧ (grid0.coords t 2).val = t.val % 9 :=
  (by decide +kernel : ∀ t : Fin grid0.N, (grid0.coords t 0).val = t.val / 27 ∧ (grid0.coords t 1).val = t.val / 9 % 3 ∧ (grid0.coords t 2).val = t.val % 9) t

theorem idx0 : ∀ t : Fin cfg0.N, win0_0.index t = ![t.val / 9 % 3, t.val / 27, 0, t.val % 9] :=
  (by decide +kernel : ∀ t : Fin grid0.N, win0_0.index t = ![t.val / 9 % 3, t.val / 27, 0, t.val % 9])
theorem idx1 : ∀ t : Fin cfg0.N, win0_1.index t = ![t.val / 9 % 3, t.val / 27, 0, t.val % 9] :=
  (by decide +kernel : ∀ t : Fin grid0.N, win0_1.index t = ![t.val / 9 % 3, t.val / 27, 0, t.val % 9])
theorem idx2 : ∀ t : Fin cfg0.N, win0_2.index t = ![t.val / 9 % 3, t.val % 9, t.val / 27, 0] :=
  (by decide +kernel : ∀ t : Fin grid0.N, win0_2.index t = ![t.val / 9 % 3, t.val % 9, t.val / 27, 0])
theorem idx3 : ∀ t : Fin cfg0.N, win0_3.index t = ![t.val / 9 % 3, t.val / 27, 0, 0] :=
  (by decide +kernel : ∀ t : Fin grid0.N, win0_3.index t = ![t.val / 9 % 3, t.val / 27, 0, 0])
theorem idx4 : ∀ t : Fin cfg0.N, win0_4.index t = ![t.val / 9 % 3, t.val / 27, 0] :=
  (by decide +kernel : ∀ t : Fin grid0.N, win0_4.index t = ![t.val / 9 % 3, t.val / 27, 0])
theorem idx5 : ∀ t : Fin cfg0.N, win0_5.index t = ![t.val / 9 % 3, t.val % 9, t.val / 27, 0] :=
  (by decide +kernel : ∀ t : Fin grid0.N, win0_5.index t = ![t.val / 9 % 3, t.val % 9, t.val / 27, 0])
theorem idx6 : ∀ t : Fin cfg0.N, win0_6.index t = ![t.val / 9 % 3, t.val / 27, 0, 0] :=
  (by decide +kernel : ∀ t : Fin grid0.N, win0_6.index t = ![t.val / 9 % 3, t.val / 27, 0, 0])
theorem idx7 : ∀ t : Fin cfg0.N, win0_7.index t = ![t.val / 9 % 3, t.val / 27, 0] :=
  (by decide +kernel : ∀ t : Fin grid0.N, win0_7.index t = ![t.val / 9 % 3, t.val / 27, 0])

theorem lt_N (t : Fin cfg0.N) : t.val < 189 := lt_of_lt_of_eq t.isLt (by decide)

theorem iblk0_at (t : Fin cfg0.N) (h : Fin 8) (f : Fin 192) (l : Fin 512) :
    iblk m c 0 t (ix4 0 h f l) = A0 m c (ix4 ⟨t.val / 9 % 3, by omega⟩ ⟨512 * (t.val % 9) + l.val, by omega⟩ ⟨8 * (t.val / 27) + h.val, by have := lt_N t; omega⟩ f) := by
  have := lt_N t
  have e : ((cfg0.win 0).blk t).view.emb (ix4 0 h f l) = (ix4 ⟨t.val / 9 % 3, by omega⟩ ⟨8 * (t.val / 27) + h.val, by omega⟩ f ⟨512 * (t.val % 9) + l.val, by omega⟩ : S3x56x192x4608.Idx) := by
    blk_ext [idx0]
  blk_simp [iblk]
  entry_read
  refine (congrArg (transpose S3x56x192x4608 [0, 2, 3, 1] (A0 m c) transposes_S3x4608x56x192_S3x56x192x4608_0_2_3_1) e).trans ?_
  pointwise

theorem iblk1_at (t : Fin cfg0.N) (h : Fin 8) (f : Fin 192) (l : Fin 512) :
    iblk m c 1 t (ix4 0 h f l) = A1 m c (ix4 ⟨t.val / 9 % 3, by omega⟩ ⟨512 * (t.val % 9) + l.val, by omega⟩ ⟨8 * (t.val / 27) + h.val, by have := lt_N t; omega⟩ f) := by
  have := lt_N t
  have e : ((cfg0.win 1).blk t).view.emb (ix4 0 h f l) = (ix4 ⟨t.val / 9 % 3, by omega⟩ ⟨8 * (t.val / 27) + h.val, by omega⟩ f ⟨512 * (t.val % 9) + l.val, by omega⟩ : S3x56x192x4608.Idx) := by
    blk_ext [idx1]
  blk_simp [iblk]
  entry_read
  refine (congrArg (transpose S3x56x192x4608 [0, 2, 3, 1] (A1 m c) transposes_S3x4608x56x192_S3x56x192x4608_0_2_3_1) e).trans ?_
  pointwise

theorem iblk2_at (t : Fin cfg0.N) (h : Fin 8) (d : Fin 128) (l : Fin 512) :
    iblk m c 2 t (ix4 0 l h d) = A2 m c (ix4 ⟨t.val / 9 % 3, by omega⟩ ⟨512 * (t.val % 9) + l.val, by omega⟩ ⟨8 * (t.val / 27) + h.val, by have := lt_N t; omega⟩ d) := by
  have := lt_N t
  blk_ext [iblk, idx2]

theorem iblk3_at (t : Fin cfg0.N) (h : Fin 8) (f : Fin 192) (d : Fin 128) :
    iblk m c 3 t (ix4 0 h f d) = A3 m c (ix4 ⟨t.val / 9 % 3, by omega⟩ ⟨8 * (t.val / 27) + h.val, by have := lt_N t; omega⟩ f d) := by
  have := lt_N t
  blk_ext [iblk, idx3]

theorem iblk4_at (t : Fin cfg0.N) (h : Fin 8) (f : Fin 192) :
    iblk m c 4 t (ix3 0 h f) = A4 m c (ix3 ⟨t.val / 9 % 3, by omega⟩ ⟨8 * (t.val / 27) + h.val, by have := lt_N t; omega⟩ f) := by
  have := lt_N t
  blk_ext [iblk, idx4]

include F

/-- The operand blocks at a point hold the 512 tokens of the point. -/
theorem blk_fine (t : Fin cfg0.N) : BlkX (rd m c (t.val / 27) (t.val / 9 % 3)) (512 * (t.val % 9)) (iblk m c 0 t) (iblk m c 1 t) (iblk m c 2 t) where
  h3 h f l := (iblk0_at t h f l).trans (rd_q F h f (by omega) (by omega) (by have := lt_N t; omega))
  h4 h f l := (iblk1_at t h f l).trans (rd_k F h f (by omega) (by omega) (by have := lt_N t; omega))
  h5 l h d := (iblk2_at t h d l).trans (rd_v F h d (by omega) (by omega) (by have := lt_N t; omega))

theorem s_fine (t : Fin cfg0.N) (h : Fin 8) (f : Fin 192) (d : Fin 128) : iblk m c 3 t (ix4 0 h f d) = (((rd m c (t.val / 27) (t.val / 9 % 3)).s h f d : ℝ) : EReal) :=
  (iblk3_at t h f d).trans (rd_s F h f d (by omega) (by have := lt_N t; omega))

theorem z_fine (t : Fin cfg0.N) (h : Fin 8) (f : Fin 192) : iblk m c 4 t (ix3 0 h f) = (((rd m c (t.val / 27) (t.val / 9 % 3)).z h f : ℝ) : EReal) :=
  (iblk4_at t h f).trans (rd_z F h f (by omega) (by have := lt_N t; omega))

end Cert.KernelIdeal.Trip

end
-- ==== Proof.RunVal.lean ====
/-
  `KernelIdeal` run with named results: at every grid point the body leaves the tokens' results and the state after the
  block, so `main` ends with the arrays these blocks make.
-/
module

public import proofs.«01_k».proof.Proof.Data

@[expose] public section

set_option maxRecDepth 16384

noncomputable section

namespace Cert.KernelIdeal.Trip

open Cert.KernelIdeal Cert.KernelIdeal.Gen Cert.KernelIdeal.Geo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The sequence a grid point works on. -/
abbrev rdAt (c : Dev nD) (n : ℕ) : RD := rd m c (n / 27) (n / 9 % 3)

/-- Before point `n`: the scratch buffers hold the state after the tokens before the point, except at a sequence's start. -/
def PhiN (c : Dev nD) (n : ℕ) : sProp 𝕄 :=
  iprop((∃ (X11 : S8x3x192x128.Idx → Elt Ideal .bf16) (X12 : S2x4x192.Idx → Elt Ideal .f32) (X13 : S2x4x2x192x128.Idx → Elt Ideal .bf16) (X14 : S2x4x2x128x192.Idx → Elt Ideal .bf16) (X15 : S2x4x2x192x128.Idx → Elt Ideal .bf16) (X16 : S2x2x2x256x128.Idx → Elt Ideal .bf16), (owns (c : Thread nD τ) (Memref.whole cc0_scratch0) fullShare X11 ∗ owns (c : Thread nD τ) (Memref.whole cc0_scratch1) fullShare X12 ∗ owns (c : Thread nD τ) (Memref.whole cc0_scratch2) fullShare X13 ∗ owns (c : Thread nD τ) (Memref.whole cc0_scratch3) fullShare X14 ∗ owns (c : Thread nD τ) (Memref.whole cc0_scratch4) fullShare X15 ∗ owns (c : Thread nD τ) (Memref.whole cc0_scratch5) fullShare X16) ∗ ⌜n % 9 ≠ 0 → ScrX (rdAt m c n) (512 * (n % 9)) X11 X12 X16⌝) ∗ ∃ r, prngReg c r)

/-- What the body leaves in the result blocks at point `t`. -/
def out5 (c : Dev nD) (t : Fin cfg0.N) : S1x512x8x128.Idx → Elt Ideal .bf16 := fun x => (((rdAt m c t.val).Y (x 2) (512 * (t.val % 9) + (x 1).val) (x 3) : ℝ) : EReal)
def out6 (c : Dev nD) (t : Fin cfg0.N) : S1x8x192x128.Idx → Elt Ideal .f32 := fun x => (((rdAt m c t.val).S (512 * (t.val % 9) + 512) (x 1) (x 2) (x 3) : ℝ) : EReal)
def out7 (c : Dev nD) (t : Fin cfg0.N) : S1x8x192.Idx → Elt Ideal .f32 := fun x => (((rdAt m c t.val).Z (512 * (t.val % 9) + 512) (x 1) (x 2) : ℝ) : EReal)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
  Φ t := PhiN m c t.val
  q _ := fullShare
  owed _ := 0

theorem dats_A (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem before0_0 (c : Dev nD) (t : Fin cfg0.N) (d) : (dats m 0 c).before 0 t d = iblk m c 0 t :=
  before0_0_of m (dats m 0 c) (dats_A m c 0) (after0_0 m c) t d
theorem before0_1 (c : Dev nD) (t : Fin cfg0.N) (d) : (dats m 0 c).before 1 t d = iblk m c 1 t :=
  before0_1_of m (dats m 0 c) (dats_A m c 1) (after0_1 m c) t d
theorem before0_2 (c : Dev nD) (t : Fin cfg0.N) (d) : (dats m 0 c).before 2 t d = iblk m c 2 t :=
  before0_2_of m (dats m 0 c) (dats_A m c 2) (after0_2 m c) t d
theorem before0_3 (c : Dev nD) (t : Fin cfg0.N) (d) : (dats m 0 c).before 3 t d = iblk m c 3 t :=
  before0_3_of m (dats m 0 c) (dats_A m c 3) (after0_3 m c) t d
theorem before0_4 (c : Dev nD) (t : Fin cfg0.N) (d) : (dats m 0 c).before 4 t d = iblk m c 4 t :=
  before0_4_of m (dats m 0 c) (dats_A m c 4) (after0_4 m c) t d

/-- Past a sequence's start the state block is what the point before left. -/
theorem before0_6 (c : Dev nD) (t : Fin cfg0.N) (ht : t.val % 9 ≠ 0) (d) : (dats m 0 c).before 6 t d = out6 m c ⟨t.val - 1, Nat.lt_of_le_of_lt (Nat.sub_le _ _) t.isLt⟩ := by
  have h0 : t.val ≠ 0 := fun h => ht (by rw [h])
  rw [(dats m 0 c).before_out_kept 6 rfl t h0 ?_ (fun _ => rfl) (fun _ _ => rfl) d, after0_6]
  refine Bool.eq_false_iff.mpr fun h => ?_
  have h8 := (flush0_6 _).mp h
  dsimp only at h8
  omega

theorem Phi_start (c : Dev nD) (t : Fin cfg0.N) : (dats m 0 c).Φ t.castSucc = PhiN m c t.val := by
  dsimp only [dats]; exact Dat.Φ_castSucc (fun n _ => PhiN m c n) t

theorem head_iff : ∀ t : Fin cfg0.N, isHead (grid0.coords t) ↔ t.val % 9 = 0 :=
  (by decide +kernel : ∀ t : Fin grid0.N, isHead (grid0.coords t) ↔ t.val % 9 = 0)

theorem ext4 {n0 n1 n2 n3 : ℕ} {α : Type} (f g : (⟨4, ![n0, n1, n2, n3]⟩ : Shape).Idx → α) (h : ∀ a b c d, f (ix4 a b c d) = g (ix4 a b c d)) : f = g := by
  funext x
  have e : x = ix4 (x 0) (x 1) (x 2) (x 3) := by
    funext a; refine Fin.ext ?_; match a with
    | 0 => rfl
    | 1 => rfl
    | 2 => rfl
    | 3 => rfl
  rw [e]; exact h _ _ _ _
theorem ext3 {n0 n1 n2 : ℕ} {α : Type} (f g : (⟨3, ![n0, n1, n2]⟩ : Shape).Idx → α) (h : ∀ a b c, f (ix3 a b c) = g (ix3 a b c)) : f = g := by
  funext x
  have e : x = ix3 (x 0) (x 1) (x 2) := by
    funext a; refine Fin.ext ?_; match a with
    | 0 => rfl
    | 1 => rfl
    | 2 => rfl
  rw [e]; exact h _ _ _

variable {m}

set_option backward.isDefEq.respectTransparency.types false in
set_option maxHeartbeats 4000000 in
theorem body_obligation (c : Dev nD) (F : Fine m c) : BodyObligation (dats m 0 c) (defs₀ (F := Ideal)) Variants.none () Set.univ := fun t => by
  rw [bigSep_W0, bigSep_W0]
  rw [show defs₀ (F := Ideal) .tc cfg0.body (cfg0.bodyArgs t (cfg0.slots t)) = bodyAt0 t from by unfold defs₀; rw [Defs.onTc_tc]]
  simp only [before0_0, before0_1, before0_2, before0_3, before0_4]
  rw [Phi_start, show (dats m 0 c).Φ t.succ = PhiN m c (t.val + 1) from rfl, show (dats m 0 c).owesAt () t.succ = (dats m 0 c).owesAt () t.castSucc from rfl]
  rw [after0_0, after0_1, after0_2, after0_3, after0_4, after0_5, after0_6, after0_7]
  unfold PhiN
  iintro ⟨⟨⟨%X11, %X12, %X13, %X14, %X15, %X16, ⟨S0, S1, S2, S3, S4, S5⟩, %hΦ⟩, HP⟩, HO, ⟨%d0, W0⟩, ⟨%d1, W1⟩, ⟨%d2, W2⟩, ⟨%d3, W3⟩, ⟨%d4, W4⟩, ⟨%d5, W5⟩, ⟨%d6, W6⟩, ⟨%d7, W7⟩⟩
  unfold bodyAt0
  have hM : ¬ isHead (grid0.coords t) → MidX (rdAt m c t.val) (512 * (t.val % 9)) ((dats m 0 c).before 6 t d6) X11 X12 X16 := fun hc => by
    have ht : t.val % 9 ≠ 0 := fun h => hc ((head_iff t).mpr h)
    refine ⟨fun h f d => ?_, hΦ ht⟩
    rw [before0_6 m c t ht]
    have e1 : (t.val - 1) / 27 = t.val / 27 := by omega
    have e2 : (t.val - 1) / 9 % 3 = t.val / 9 % 3 := by omega
    have e3 : 512 * ((t.val - 1) % 9) + 512 = 512 * (t.val % 9) := by omega
    show (((rd m c ((t.val - 1) / 27) ((t.val - 1) / 9 % 3)).S (512 * ((t.val - 1) % 9) + 512) h f d : ℝ) : EReal) = _
    rw [e1, e2, e3]
  iapply (body_wp (R := rdAt m c t.val) (N := 512 * (t.val % 9)) (den_ne F _ _) c (grid0.coords t) _ _ _ _ _ _ _ _ _ _ _ _ _ _ _ _ _ _ _ _ _ _ _ _ _ _ _ _
    (blk_fine F t) (fun hc => by rw [(head_iff t).mp hc]) (fun _ => s_fine F t) (fun _ => z_fine F t) hM _)
  isplitl [W0 W1 W2 W3 W4 W5 W6 W7 S0 S1 S2 S3 S4 S5]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [S0]; · iexact S0
    isplitl [S1]; · iexact S1
    isplitl [S2]; · iexact S2
    isplitl [S3]; · iexact S3
    isplitl [S4]; · iexact S4
    iexact S5
  iintro ⟨%Y8, %Y9, %Y10, %Y11, %Y12, %Y13, %Y14, %Y15, %Y16, ⟨W0, W1, W2, W3, W4, W5, W6, W7, S0, S1, S2, S3, S4, S5⟩, %hY⟩
  obtain ⟨⟨h9, hS⟩, h8, h10⟩ := hY
  obtain rfl : Y8 = out5 m c t := ext4 _ _ fun a l h d => by rw [Subsingleton.elim a 0]; exact h8 l h d
  obtain rfl : Y9 = out6 m c t := ext4 _ _ fun a h f d => by rw [Subsingleton.elim a 0]; exact h9 h f d
  obtain rfl : Y10 = out7 m c t := ext3 _ _ fun a h f => by rw [Subsingleton.elim a 0]; exact h10 h f
  isplitl [S0 S1 S2 S3 S4 S5 HP]
  · isplitl [S0 S1 S2 S3 S4 S5]
    · iexists Y11, Y12, Y13, Y14, Y15, Y16
      isplitl
      · isplitl [S0]; · iexact S0
        isplitl [S1]; · iexact S1
        isplitl [S2]; · iexact S2
        isplitl [S3]; · iexact S3
        isplitl [S4]; · iexact S4
        iexact S5
      ipureintro
      intro hn
      have e1 : (t.val + 1) / 27 = t.val / 27 := by omega
      have e2 : (t.val + 1) / 9 % 3 = t.val / 9 % 3 := by omega
      have e3 : 512 * ((t.val + 1) % 9) = 512 * (t.val % 9) + 512 := by omega
      unfold rdAt
      rw [e1, e2, e3]
      exact hS
    · iexact HP
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

theorem Phi_in (c : Dev nD) : (Pipeline.ΦA spec0 c : sProp 𝕄) ⊢ PhiN m c 0 := by
  unfold Pipeline.ΦA PhiN
  rw [scopedRest0_eq]
  simp only [owns_whole]
  iintro ⟨⟨⟨%X11, S0⟩, ⟨%X12, S1⟩, ⟨%X13, S2⟩, ⟨%X14, S3⟩, ⟨%X15, S4⟩, ⟨%X16, S5⟩⟩, HP⟩
  isplitl [S0 S1 S2 S3 S4 S5]
  · iexists X11, X12, X13, X14, X15, X16
    isplitl
    · isplitl [S0]; · iexact S0
      isplitl [S1]; · iexact S1
      isplitl [S2]; · iexact S2
      isplitl [S3]; · iexact S3
      isplitl [S4]; · iexact S4
      iexact S5
    ipureintro
    exact fun h => absurd rfl h
  iexact HP

theorem Phi_out (c : Dev nD) (n : ℕ) : PhiN m c n ⊢ (Pipeline.ΦA spec0 c : sProp 𝕄) := by
  unfold Pipeline.ΦA PhiN
  rw [scopedRest0_eq]
  simp only [owns_whole]
  iintro ⟨⟨%X11, %X12, %X13, %X14, %X15, %X16, ⟨S0, S1, S2, S3, S4, S5⟩, %hΦ⟩, HP⟩
  isplitl [S0 S1 S2 S3 S4 S5]
  · isplitl [S0]; · iexists X11; iexact S0
    isplitl [S1]; · iexists X12; iexact S1
    isplitl [S2]; · iexists X13; iexact S2
    isplitl [S3]; · iexists X14; iexact S3
    isplitl [S4]; · iexists X15; iexact S4
    iexists X16; iexact S5
  iexact HP

set_option backward.isDefEq.respectTransparency.types false in
/-- `main` ends with every window's array at what its written-back blocks make of it. -/
theorem run_main (F : ∀ c, Fine m c) : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation c (F c)).loose) (hshare := fun c => (dats m 0 c).share_full fun _ => rfl)
    (howed := fun _ _ => rfl) (V := V m) (hmain := hmain m Variants.none) (hA := fun _ _ => rfl)
    (hin := fun c => Phi_in c) (hout := fun c => Phi_out c _)

end Cert.KernelIdeal.Trip

end
-- ==== Proof.Final.lean ====
/-
  The result arrays of `KernelIdeal`: every element by the sequence, the token and the head it belongs to.
-/
module

public import proofs.«01_k».proof.Proof.RunVal

@[expose] public section

set_option maxRecDepth 16384

noncomputable section

namespace Cert.KernelIdeal.Trip

open Cert.KernelIdeal Cert.KernelIdeal.Gen Cert.KernelIdeal.Geo
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The results, the final states and the final key sums. -/
def G5 : S3x4608x56x128.Idx → EReal := fun x => (((rd m c ((x 2).val / 8) (x 0).val).Y ⟨(x 2).val % 8, Nat.mod_lt _ (by decide)⟩ (x 1).val (x 3) : ℝ) : EReal)
def G6 : S3x56x192x128.Idx → EReal := fun x => (((rd m c ((x 1).val / 8) (x 0).val).S 4608 ⟨(x 1).val % 8, Nat.mod_lt _ (by decide)⟩ (x 2) (x 3) : ℝ) : EReal)
def G7 : S3x56x192.Idx → EReal := fun x => (((rd m c ((x 1).val / 8) (x 0).val).Z 4608 ⟨(x 1).val % 8, Nat.mod_lt _ (by decide)⟩ (x 2) : ℝ) : EReal)

theorem congY {a a' b b' : ℕ} {h h' : Fin 8} {T T' : ℕ} {d d' : Fin 128} (e1 : a = a') (e2 : b = b') (e3 : h.val = h'.val) (e4 : T = T') (e5 : d.val = d'.val) :
    (((rd m c a b).Y h T d : ℝ) : EReal) = (((rd m c a' b').Y h' T' d' : ℝ) : EReal) := by
  obtain rfl := e1; obtain rfl := e2; obtain rfl := Fin.ext e3; obtain rfl := e4; obtain rfl := Fin.ext e5; rfl
theorem congS {a a' b b' : ℕ} {h h' : Fin 8} {T T' : ℕ} {f f' : Fin 192} {d d' : Fin 128} (e1 : a = a') (e2 : b = b') (e3 : h.val = h'.val) (e4 : T = T') (e5 : f.val = f'.val) (e6 : d.val = d'.val) :
    (((rd m c a b).S T h f d : ℝ) : EReal) = (((rd m c a' b').S T' h' f' d' : ℝ) : EReal) := by
  obtain rfl := e1; obtain rfl := e2; obtain rfl := Fin.ext e3; obtain rfl := e4; obtain rfl := Fin.ext e5; obtain rfl := Fin.ext e6; rfl
theorem congZ {a a' b b' : ℕ} {h h' : Fin 8} {T T' : ℕ} {f f' : Fin 192} (e1 : a = a') (e2 : b = b') (e3 : h.val = h'.val) (e4 : T = T') (e5 : f.val = f'.val) :
    (((rd m c a b).Z T h f : ℝ) : EReal) = (((rd m c a' b').Z T' h' f' : ℝ) : EReal) := by
  obtain rfl := e1; obtain rfl := e2; obtain rfl := Fin.ext e3; obtain rfl := e4; obtain rfl := Fin.ext e5; rfl

theorem flush6 : ∀ t, (cfg0.win 6).flush t = true ↔ t.val % 9 = 8 := by decide +kernel
theorem flush7 : ∀ t, (cfg0.win 7).flush t = true ↔ t.val % 9 = 8 := by decide +kernel

theorem final5 : (dats m 0 c).arrAt 5 cfg0.N = G5 m c := by
  refine (dats m 0 c).arrAt_eq_of_covers 5 _ (by decide +kernel) fun t hf (y : S1x512x8x128.Idx) => ?_
  obtain ⟨z, hz⟩ : ∃ z : S3x4608x56x128.Idx, z = ((cfg0.win 5).blk t).view.emb y := ⟨_, rfl⟩
  have e0 : (z 0).val = t.val / 9 % 3 := by
    subst hz
    have h1 : (y 0).val < 1 := (y 0).isLt
    blk_simp [idx5]
  have e1 : (z 1).val = 512 * (t.val % 9) + (y 1).val := by
    subst hz
    blk_simp [idx5]
    omega
  have e2 : (z 2).val = 8 * (t.val / 27) + (y 2).val := by
    subst hz
    blk_simp [idx5]
    omega
  have e3 : (z 3).val = (y 3).val := by
    subst hz
    blk_simp [idx5]
  have h2 : (y 2).val < 8 := (y 2).isLt
  have key : out5 m c t y = G5 m c z := congY m c (by rw [e2]; omega) e0.symm (by dsimp only; rw [e2]; omega) e1.symm e3.symm
  subst hz
  blk_simp
  rw [after0_5]
  exact key

theorem final6 : (dats m 0 c).arrAt 6 cfg0.N = G6 m c := by
  refine (dats m 0 c).arrAt_eq_of_covers 6 _ (by decide +kernel) fun t hf (y : S1x8x192x128.Idx) => ?_
  obtain ⟨z, hz⟩ : ∃ z : S3x56x192x128.Idx, z = ((cfg0.win 6).blk t).view.emb y := ⟨_, rfl⟩
  have e0 : (z 0).val = t.val / 9 % 3 := by
    subst hz
    have h1 : (y 0).val < 1 := (y 0).isLt
    blk_simp [idx6]
  have e1 : (z 1).val = 8 * (t.val / 27) + (y 1).val := by
    subst hz
    blk_simp [idx6]
    omega
  have e2 : (z 2).val = (y 2).val := by
    subst hz
    blk_simp [idx6]
  have e3 : (z 3).val = (y 3).val := by
    subst hz
    blk_simp [idx6]
  have h2 : (y 1).val < 8 := (y 1).isLt
  have h9 : t.val % 9 = 8 := (flush6 t).1 hf
  have key : out6 m c t y = G6 m c z := congS m c (by rw [e1]; omega) e0.symm (by dsimp only; rw [e1]; omega) (by rw [h9]) e2.symm e3.symm
  subst hz
  blk_simp
  rw [after0_6]
  exact key

theorem final7 : (dats m 0 c).arrAt 7 cfg0.N = G7 m c := by
  refine (dats m 0 c).arrAt_eq_of_covers 7 _ (by decide +kernel) fun t hf (y : S1x8x192.Idx) => ?_
  obtain ⟨z, hz⟩ : ∃ z : S3x56x192.Idx, z = ((cfg0.win 7).blk t).view.emb y := ⟨_, rfl⟩
  have e0 : (z 0).val = t.val / 9 % 3 := by
    subst hz
    have h1 : (y 0).val < 1 := (y 0).isLt
    blk_simp [idx7]
  have e1 : (z 1).val = 8 * (t.val / 27) + (y 1).val := by
    subst hz
    blk_simp [idx7]
    omega
  have e2 : (z 2).val = (y 2).val := by
    subst hz
    blk_simp [idx7]
  have h2 : (y 1).val < 8 := (y 1).isLt
  have h9 : t.val % 9 = 8 := (flush7 t).1 hf
  have key : out7 m c t y = G7 m c z := congZ m c (by rw [e1]; omega) e0.symm (by dsimp only; rw [e1]; omega) (by rw [h9]) e2.symm
  subst hz
  blk_simp
  rw [after0_7]
  exact key

end Cert.KernelIdeal.Trip

end
-- ==== Proof.RefVal.lean ====
/-
  The results of `ReferenceIdeal`, index by index, as sums over the whole sequence.
-/
module

public import proofs.«01_k».proof.Proof.Final
public import proofs.«01_k».proof.Proof.Gen.ReferenceIdeal

@[expose] public section

set_option maxRecDepth 16384

noncomputable section

namespace Cert.ReferenceIdeal.Trip

open Cert.ReferenceIdeal Cert.ReferenceIdeal.Gen
open Cert.KernelIdeal.Trip (RD)
open Cert.KernelIdeal.Head (coe_sum)
open Idealize.ShloMosaic Idealize.ShloMosaic.TcCoe Idealize.ShloMosaic.Tactic

variable (a0 a1 : FVec Ideal S3x4608x56x192 .bf16) (a2 : FVec Ideal S3x4608x56x128 .bf16) (a3 : FVec Ideal S3x56x192x128 .f32) (a4 : FVec Ideal S3x56x192 .f32)

def refS : FVec Ideal S3x56x192x128 .f32 :=
  addf a3 (Host.dotGeneral dot_S3x4608x56x192_S3x4608x56x128_S3x56x192x128_1_1_3_3_02_02 none a1 a2)
def refZ : FVec Ideal S3x56x192 .f32 :=
  addf a4 (Host.reduceAdd (extf .f32 a1 bitsLt_bf16_f32) (constant S_ .f32 0x00000000#32) reducesTo_S3x4608x56x192_S3x56x192_d1 h_S_)
/-- The masked scores. -/
def refA : FVec Ideal S3x56x4608x4608 .f32 :=
  select (broadcastInDim S3x56x4608x4608 ![2, 3] bcast_S4608x4608_S3x56x4608x4608_2_3 (cmpi .sge (broadcastInDim S4608x4608 ![0, 1] bcast_S4608x1_S4608x4608_0_1 (broadcastInDim S4608x1 ![0] bcast_S4608_S4608x1_0 (iotaInDim S4608 32 0))) (broadcastInDim S4608x4608 ![0, 1] bcast_S1x4608_S4608x4608_0_1 (broadcastInDim S1x4608 ![1] bcast_S4608_S1x4608_1 (iotaInDim S4608 32 0))))) (Host.dotGeneral dot_S3x4608x56x192_S3x4608x56x192_S3x56x4608x4608_3_3_1_1_02_02 none a0 a1) (broadcastInDim S3x56x4608x4608 ![] bcast_S_S3x56x4608x4608 (id (constant S_ .f32 0x00000000#32)))
def refN (A : FVec Ideal S3x56x4608x4608 .f32) : FVec Ideal S3x4608x56x128 .f32 :=
  addf (transpose S3x4608x56x128 [0, 3, 1, 2] (Host.dotGeneral dot_S3x4608x56x128_S3x56x4608x4608_S3x56x128x4608_1_3_3_2_02_01 none a2 (truncf .bf16 A bitsLt_bf16_f32)) transposes_S3x56x128x4608_S3x4608x56x128_0_3_1_2) (transpose S3x4608x56x128 [0, 3, 1, 2] (Host.dotGeneral dot_S3x56x192x128_S3x4608x56x192_S3x56x128x4608_2_3_3_1_01_02 (some .fp32) a3 (extf .f32 a0 bitsLt_bf16_f32)) transposes_S3x56x128x4608_S3x4608x56x128_0_3_1_2)
def refD (A : FVec Ideal S3x56x4608x4608 .f32) : FVec Ideal S3x4608x56 .f32 :=
  addf (transpose S3x4608x56 [0, 2, 1] (Host.reduceAdd A (constant S_ .f32 0x00000000#32) reducesTo_S3x56x4608x4608_S3x56x4608_d3 h_S_) transposes_S3x56x4608_S3x4608x56_0_2_1) (transpose S3x4608x56 [0, 2, 1] (Host.dotGeneral dot_S3x56x192_S3x4608x56x192_S3x56x4608_2_3_n_1_01_02 (some .fp32) a4 (extf .f32 a0 bitsLt_bf16_f32)) transposes_S3x56x4608_S3x4608x56_0_2_1)
def refY (N : FVec Ideal S3x4608x56x128 .f32) (D : FVec Ideal S3x4608x56 .f32) : FVec Ideal S3x4608x56x128 .bf16 :=
  truncf .bf16 (Host.divf N (broadcastInDim S3x4608x56x128 ![0, 1, 2, 3] bcast_S3x4608x56x1_S3x4608x56x128_0_1_2_3 (broadcastInDim S3x4608x56x1 ![0, 1, 2] bcast_S3x4608x56_S3x4608x56x1_0_1_2 D))) bitsLt_bf16_f32

/-- A sum over the tokens up to one of them. -/
theorem sum_le (g : ℕ → ℝ) (i : Fin 4608) : ∑ j : Fin 4608, (if j.val ≤ i.val then g j.val else 0) = ∑ j ∈ Finset.range (i.val + 1), g j := by
  rw [Fin.sum_univ_eq_sum_range (fun n : ℕ => if n ≤ i.val then g n else 0) 4608]
  refine (Finset.sum_subset (s₁ := Finset.range (i.val + 1)) ?_ ?_).symm.trans (Finset.sum_congr rfl ?_)
  · intro x hx
    have := i.isLt
    simp only [Finset.mem_range] at hx ⊢
    omega
  · intro x _ hx
    simp only [Finset.mem_range] at hx
    rw [if_neg (by omega)]
  · intro x hx
    simp only [Finset.mem_range] at hx
    rw [if_pos (by omega)]

theorem refS_at (b : Fin 3) (H : Fin 56) (f : Fin 192) (d : Fin 128) :
    refS a1 a2 a3 (ix4 b H f d) = a3 (ix4 b H f d) + ∑ k : Fin 4608, a1 (ix4 b k H f) * a2 (ix4 b k H d) := by
  pointwise [refS]
theorem refZ_at (b : Fin 3) (H : Fin 56) (f : Fin 192) :
    refZ a1 a4 (ix3 b H f) = a4 (ix3 b H f) + ∑ k : Fin 4608, a1 (ix4 b k H f) := by
  pointwise [refZ]
theorem refA_at (b : Fin 3) (H : Fin 56) (i j : Fin 4608) :
    refA a0 a1 (ix4 b H i j) = if j.val ≤ i.val then (∑ f : Fin 192, a0 (ix4 b i H f) * a1 (ix4 b j H f)) else 0 := by
  have hi := i.isLt
  have hj := j.isLt
  have e0 : (id (constant (F := Ideal) S_ .f32 0x00000000#32) : FVec Ideal S_ .f32) ix0 = 0 := by
    show constant (F := Ideal) S_ .f32 0x00000000#32 ix0 = 0
    pointwise []
  pointwise [refA]
  rw [e0]
  simp (disch := word_cmp_side) only [hlo_ix]
theorem refN_at (A) (b : Fin 3) (T : Fin 4608) (H : Fin 56) (d : Fin 128) :
    refN a0 a2 a3 A (ix4 b T H d) = ∑ k : Fin 4608, a2 (ix4 b k H d) * A (ix4 b H T k) + ∑ f : Fin 192, a3 (ix4 b H f d) * a0 (ix4 b T H f) := by
  pointwise [refN]
theorem refD_at (A) (b : Fin 3) (T : Fin 4608) (H : Fin 56) :
    refD a0 a4 A (ix3 b T H) = ∑ k : Fin 4608, A (ix4 b H T k) + ∑ f : Fin 192, a4 (ix3 b H f) * a0 (ix4 b T H f) := by
  pointwise [refD]
theorem refY_at (N D) (b : Fin 3) (T : Fin 4608) (H : Fin 56) (d : Fin 128) : refY N D (ix4 b T H d) = Ideal.div (N (ix4 b T H d)) (D (ix3 b T H)) := by
  pointwise [refY]

section
variable {a0 a1 a2 a3 a4} {R : RD} {b : Fin 3} {H : Fin 56} {h : Fin 8}
  (hq : ∀ (T : Fin 4608) f, a0 (ix4 b T H f) = ((R.q h T.val f : ℝ) : EReal)) (hk : ∀ (T : Fin 4608) f, a1 (ix4 b T H f) = ((R.k h T.val f : ℝ) : EReal))
  (hv : ∀ (T : Fin 4608) d, a2 (ix4 b T H d) = ((R.v h T.val d : ℝ) : EReal)) (hs : ∀ f d, a3 (ix4 b H f d) = ((R.s h f d : ℝ) : EReal))
  (hz : ∀ f, a4 (ix3 b H f) = ((R.z h f : ℝ) : EReal))
include hk hv hs in
theorem refS_eq (f : Fin 192) (d : Fin 128) : refS a1 a2 a3 (ix4 b H f d) = ((R.S 4608 h f d : ℝ) : EReal) := by
  rw [refS_at]
  simp only [hk, hv, hs, ← EReal.coe_mul, ← coe_sum, ← EReal.coe_add]
  rw [RD.S, ← Fin.sum_univ_eq_sum_range (fun j => R.k h j f * R.v h j d) 4608]
include hk hz in
theorem refZ_eq (f : Fin 192) : refZ a1 a4 (ix3 b H f) = ((R.Z 4608 h f : ℝ) : EReal) := by
  rw [refZ_at]
  simp only [hk, hz, ← coe_sum, ← EReal.coe_add]
  rw [RD.Z, ← Fin.sum_univ_eq_sum_range (fun j => R.k h j f) 4608]
include hq hk in
theorem refA_eq (i j : Fin 4608) : refA a0 a1 (ix4 b H i j) = (((if j.val ≤ i.val then R.sc h i.val j.val else 0) : ℝ) : EReal) := by
  rw [refA_at]
  by_cases hij : j.val ≤ i.val
  · rw [if_pos hij, if_pos hij]
    simp only [hq, hk, ← EReal.coe_mul, ← coe_sum]
    rfl
  · rw [if_neg hij, if_neg hij, EReal.coe_zero]
include hq hk hv hs in
theorem refN_eq (T : Fin 4608) (d : Fin 128) : refN a0 a2 a3 (refA a0 a1) (ix4 b T H d) = ((R.Num h T.val d : ℝ) : EReal) := by
  rw [refN_at]
  simp only [refA_eq hq hk, hq, hv, hs, ← EReal.coe_mul, ← coe_sum, ← EReal.coe_add]
  rw [RD.Num, ← sum_le (fun j => R.sc h T.val j * R.v h j d) T]
  refine congrArg _ (congrArg₂ (· + ·) (Finset.sum_congr rfl fun j _ => ?_) (Finset.sum_congr rfl fun f _ => mul_comm _ _))
  by_cases hj : j.val ≤ T.val
  · rw [if_pos hj, if_pos hj, mul_comm]
  · rw [if_neg hj, if_neg hj, mul_zero]
include hq hk hz in
theorem refD_eq (T : Fin 4608) : refD a0 a4 (refA a0 a1) (ix3 b T H) = ((R.Den h T.val : ℝ) : EReal) := by
  rw [refD_at]
  simp only [refA_eq hq hk, hq, hz, ← EReal.coe_mul, ← coe_sum, ← EReal.coe_add]
  rw [RD.Den, ← sum_le (fun j => R.sc h T.val j) T]
include hq hk hv hs hz in
theorem refY_eq (T : Fin 4608) (d : Fin 128) (h0 : R.Den h T.val ≠ 0) :
    refY (refN a0 a2 a3 (refA a0 a1)) (refD a0 a4 (refA a0 a1)) (ix4 b T H d) = ((R.Y h T.val d : ℝ) : EReal) := by
  rw [refY_at, refN_eq hq hk hv hs, refD_eq hq hk hz, Ideal.div_coe h0, ← EReal.coe_mul, RD.Y, mul_one_div]
end

end Cert.ReferenceIdeal.Trip

end
-- ==== Proof.Alg.lean ====
/-
  The value claim: under `features`, the three results of `KernelIdeal` and of `ReferenceIdeal` are equal.
-/
module

public import proofs.«01_k».proof.Defs
public import proofs.«01_k».proof.Proof.RefVal
public import proofs.«01_k».proof.Proof.Gen.ReferenceIdeal.Run

@[expose] public section

set_option maxRecDepth 16384

noncomputable section

namespace Cert.Pre_features

theorem facts : Facts where
  bcast_S_S3x4608x56x192 := by decide
  bcast_S_S3x4608x56x128 := by decide
  bcast_S_S3x56x192x128 := by decide
  bcast_S_S3x56x192 := by decide

open Idealize.ShloMosaic Idealize.ShloMosaic.Tactic

/-- An extended real whose absolute value lies below something is a real number. -/
theorem real_of_abs {x c : EReal} (h : max x (-x) < c) : ∃ r : ℝ, x = (r : EReal) := by
  have h1 : x ≠ ⊤ := fun e => by
    subst e
    exact absurd (lt_of_le_of_lt (le_max_left _ _) h) (not_lt.2 le_top)
  have h2 : x ≠ ⊥ := fun e => by
    subst e
    rw [EReal.neg_bot] at h
    exact absurd (lt_of_le_of_lt (le_max_right _ _) h) (not_lt.2 le_top)
  exact ⟨x.toReal, (EReal.coe_toReal h1 h2).symm⟩

theorem of_one {p : Prop} [Decidable p] (h : BitVec.ofBool (decide p) = 1#1) : p := by
  by_contra hp
  rw [decide_eq_false hp] at h
  exact absurd h (by decide)

theorem of_and {p q : Prop} [Decidable p] [Decidable q] (h : IntOp.andi (BitVec.ofBool (decide p)) (BitVec.ofBool (decide q)) = 1#1) : p ∧ q := by
  by_cases hp : p
  · refine ⟨hp, ?_⟩
    by_contra hq
    rw [decide_eq_true hp, decide_eq_false hq] at h
    exact absurd h (by decide)
  · by_cases hq : q
    · rw [decide_eq_false hp, decide_eq_true hq] at h
      exact absurd h (by decide)
    · rw [decide_eq_false hp, decide_eq_false hq] at h
      exact absurd h (by decide)

variable [Facts] (a0 a1 : FVec Ideal S3x4608x56x192 .bf16) (a2 : FVec Ideal S3x4608x56x128 .bf16) (a3 : FVec Ideal S3x56x192x128 .f32) (a4 : FVec Ideal S3x56x192 .f32)

theorem fn_0 (h : (fn (F := Ideal) a0 a1 a2 a3 a4).1 = fun _ => 1#1) (x : S3x4608x56x192.Idx) : ∃ r : ℝ, 0 < r ∧ a0 x = (r : EReal) := by
  have h := congrFun h x
  pointwise [fn, fn_part1] at h
  obtain ⟨h1, h2⟩ := of_and h
  obtain ⟨r, hr⟩ := real_of_abs h2
  rw [hr] at h1
  exact ⟨r, by exact_mod_cast h1, hr⟩
theorem fn_1 (h : (fn (F := Ideal) a0 a1 a2 a3 a4).2.1 = fun _ => 1#1) (x : S3x4608x56x192.Idx) : ∃ r : ℝ, 0 < r ∧ a1 x = (r : EReal) := by
  have h := congrFun h x
  pointwise [fn, fn_part1] at h
  obtain ⟨h1, h2⟩ := of_and h
  obtain ⟨r, hr⟩ := real_of_abs h2
  rw [hr] at h1
  exact ⟨r, by exact_mod_cast h1, hr⟩
theorem fn_2 (h : (fn (F := Ideal) a0 a1 a2 a3 a4).2.2.1 = fun _ => 1#1) (x : S3x4608x56x128.Idx) : ∃ r : ℝ, a2 x = (r : EReal) := by
  have h := congrFun h x
  pointwise [fn, fn_part1] at h
  exact real_of_abs (of_one h)
theorem fn_3 (h : (fn (F := Ideal) a0 a1 a2 a3 a4).2.2.2.1 = fun _ => 1#1) (x : S3x56x192x128.Idx) : ∃ r : ℝ, a3 x = (r : EReal) := by
  have h := congrFun h x
  pointwise [fn, fn_part1] at h
  exact real_of_abs (of_one h)
theorem fn_4 (h : (fn (F := Ideal) a0 a1 a2 a3 a4).2.2.2.2 = fun _ => 1#1) (x : S3x56x192.Idx) : ∃ r : ℝ, 0 ≤ r ∧ a4 x = (r : EReal) := by
  have h := congrFun h x
  pointwise [fn, fn_part1] at h
  obtain ⟨h1, h2⟩ := of_and h
  obtain ⟨r, hr⟩ := real_of_abs h2
  rw [hr] at h1
  exact ⟨r, by exact_mod_cast h1, hr⟩

end Cert.Pre_features

namespace Cert.KernelIdeal.Trip

open Cert.KernelIdeal Cert.KernelIdeal.Gen
open Idealize.ShloMosaic Idealize.ShloMosaic.TcCoe Idealize.ShloMosaic.Tactic
open Idealize.SL.Sem

variable {m : (ℓ : Loc nD τ sig) → Buf (Elt Ideal) ℓ} (ρ : Dev nD → PrngReg) {c : Dev nD}

theorem fine_of (h : @Cert.Pre_KernelIdeal_features Cert.Pre_features.facts m) (c : Dev nD) : Fine m c where
  a0 := @Cert.Pre_features.fn_0 Cert.Pre_features.facts _ _ _ _ _ (h c).1
  a1 := @Cert.Pre_features.fn_1 Cert.Pre_features.facts _ _ _ _ _ (h c).2.1
  a2 := @Cert.Pre_features.fn_2 Cert.Pre_features.facts _ _ _ _ _ (h c).2.2.1
  a3 := @Cert.Pre_features.fn_3 Cert.Pre_features.facts _ _ _ _ _ (h c).2.2.2.1
  a4 := @Cert.Pre_features.fn_4 Cert.Pre_features.facts _ _ _ _ _ (h c).2.2.2.2

/-- The kernel's results. -/
theorem run_results (F : ∀ c, Fine m c) : θ_run defs (onTc (τ := τ) (main (F := Ideal))) ⟨m, fun _ => 0, ρ⟩ (fun r => ∀ c : Dev nD,
      r.2.mem ((c.tc : Thread nD τ).loc main_v2_0) = G5 m c
      ∧ r.2.mem ((c.tc : Thread nD τ).loc main_v2_1) = G6 m c
      ∧ r.2.mem ((c.tc : Thread nD τ).loc main_v2_2) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ (h : Pipeline.FramePost cfgs (dats m) 0 (V m) _) c => ⟨((h c).1 5).trans (final5 m c), ((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((dats_A m c 2).trans (V_main_arg2 m c))),
      ((h c).1 3).trans (((dats m 0 c).arrAt_in 3 rfl _).trans ((dats_A m c 3).trans (V_main_arg3 m c))),
      ((h c).1 4).trans (((dats m 0 c).arrAt_in 4 rfl _).trans ((dats_A m c 4).trans (V_main_arg4 m c)))⟩)
    (run_main ρ F)

theorem head_eq (H : Fin 56) : (⟨8 * (H.val / 8) + H.val % 8, by omega⟩ : Fin 56) = H := Fin.ext (by dsimp only; omega)

variable (F : Fine m c)
include F

/-- The eight-head group's number and the head's place in it. -/
abbrev sub (H : Fin 56) : Fin 8 := ⟨H.val % 8, Nat.mod_lt _ (by decide)⟩

theorem at_q (b : Fin 3) (T : Fin 4608) (H : Fin 56) (f : Fin 192) : A0 m c (ix4 b T H f) = (((rd m c (H.val / 8) b.val).q (sub H) T.val f : ℝ) : EReal) :=
  (congrArg (fun h => A0 m c (ix4 b T h f)) (head_eq H).symm).trans (rd_q F (sub H) f b.isLt T.isLt (by omega))
theorem at_k (b : Fin 3) (T : Fin 4608) (H : Fin 56) (f : Fin 192) : A1 m c (ix4 b T H f) = (((rd m c (H.val / 8) b.val).k (sub H) T.val f : ℝ) : EReal) :=
  (congrArg (fun h => A1 m c (ix4 b T h f)) (head_eq H).symm).trans (rd_k F (sub H) f b.isLt T.isLt (by omega))
theorem at_v (b : Fin 3) (T : Fin 4608) (H : Fin 56) (d : Fin 128) : A2 m c (ix4 b T H d) = (((rd m c (H.val / 8) b.val).v (sub H) T.val d : ℝ) : EReal) :=
  (congrArg (fun h => A2 m c (ix4 b T h d)) (head_eq H).symm).trans (rd_v F (sub H) d b.isLt T.isLt (by omega))
theorem at_s (b : Fin 3) (H : Fin 56) (f : Fin 192) (d : Fin 128) : A3 m c (ix4 b H f d) = (((rd m c (H.val / 8) b.val).s (sub H) f d : ℝ) : EReal) :=
  (congrArg (fun h => A3 m c (ix4 b h f d)) (head_eq H).symm).trans (rd_s F (sub H) f d b.isLt (by omega))
theorem at_z (b : Fin 3) (H : Fin 56) (f : Fin 192) : A4 m c (ix3 b H f) = (((rd m c (H.val / 8) b.val).z (sub H) f : ℝ) : EReal) :=
  (congrArg (fun h => A4 m c (ix3 b h f)) (head_eq H).symm).trans (rd_z F (sub H) f b.isLt (by omega))

open Cert.ReferenceIdeal.Trip in
theorem ref5 : refY (refN (A0 m c) (A2 m c) (A3 m c) (refA (A0 m c) (A1 m c))) (refD (A0 m c) (A4 m c) (refA (A0 m c) (A1 m c))) = G5 m c :=
  ext4 _ _ fun b T H d => refY_eq (at_q F b · H ·) (at_k F b · H ·) (at_v F b · H ·) (at_s F b H · ·) (at_z F b H ·) T d (den_ne F _ _ _ _)
open Cert.ReferenceIdeal.Trip in
theorem ref6 : refS (A1 m c) (A2 m c) (A3 m c) = G6 m c :=
  ext4 _ _ fun b H f d => refS_eq (at_k F b · H ·) (at_v F b · H ·) (at_s F b H · ·) f d
open Cert.ReferenceIdeal.Trip in
theorem ref7 : refZ (A1 m c) (A4 m c) = G7 m c :=
  ext3 _ _ fun b H f => refZ_eq (at_k F b · H ·) (at_z F b H ·) f

end Cert.KernelIdeal.Trip

namespace Cert.Proof

open Idealize.ShloMosaic Idealize.ShloMosaic.TcCoe Idealize.SL.Sem
open Cert.KernelIdeal.Trip

theorem algebraic : @Cert.algebraic_KernelIdeal_ReferenceIdeal_pre_features Cert.KernelIdeal.Gen.facts Cert.ReferenceIdeal.Gen.facts Cert.Pre_features.facts := by
  intro m g m' g' hp hm
  have F := fine_of hp
  refine ⟨fun c => G5 m c, fun c => G6 m c, fun c => G7 m c, run_results g F, ?_⟩
  refine (θ_run Cert.ReferenceIdeal.defs _ _).mono (fun r h c => ?_) (Cert.ReferenceIdeal.Value.run (F := Ideal) m' g')
  obtain ⟨h0, h1, h2, h3, h4⟩ := hm c
  obtain ⟨r0, r1, r2, ha⟩ := h c
  refine ⟨r0.trans ?_, r1.trans ?_, r2.trans ?_, ha⟩
  · rw [h0, h1, h2, h3, h4]
    exact ref5 (F c)
  · rw [h1, h2, h3]
    exact ref6 (F c)
  · rw [h1, h4]
    exact ref7 (F c)

end Cert.Proof

end
-- ==== Proof.lean ====
module

public import proofs.«01_k».proof.Defs
public import proofs.«01_k».proof.Proof.SafeKernelRun
public import proofs.«01_k».proof.Proof.SafeKernelIdealRun
public import proofs.«01_k».proof.Proof.Gen.ReferenceIdeal.Run
public import proofs.«01_k».proof.Proof.Alg
public import Idealize.ShloMosaic.Lib.Bf16Pair

@[expose] public section

noncomputable section

namespace Cert.Proof

open Idealize.ShloMosaic Idealize.SL.Sem

theorem preserves : Cert.preserves_Kernel_KernelIdeal :=
  ⟨IdealRules.truncf_extf.statement _ _ _, IdealRules.truncf_extf.statement _ _ _, IdealRules.bf16_pair.statement _ _,
    IdealRules.bf16_pair.halfStatement _, IdealRules.truncf_extf.statement _ _ _, IdealRules.bf16_pair.packStatement _⟩

theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_features.facts,
    fun m g _ => Cert.Kernel.Safe.quiescent m g, fun m g _ => Cert.KernelIdeal.Safe.quiescent m g, fun m g _ => Cert.KernelIdeal.Safe.quiescent m g,
    reference_frame, fun m g _ => reference_frame m g trivial, preserves, algebraic⟩

end Cert.Proof

end
